-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0))).1 = (fun _ => 1#1)
    ∧ (Cert.Pre_finite_qk.fn (F := Ideal) (m ((c.tc : Thread Cert.AttnIdeal.nD Cert.AttnIdeal.τ).loc Cert.AttnIdeal.main_arg0))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0))).1 = (fun _ => 1#1)
    ∧ (Cert.Pre_finite_qk.fn (F := Ideal) (m ((c.tc : Thread Cert.AttnRefIdeal.nD Cert.AttnRefIdeal.τ).loc Cert.AttnRefIdeal.main_arg0))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_NOut (m : (ℓ : Loc Cert.NOut.nD Cert.NOut.τ Cert.NOut.sig) → Buf (Elt Bits) ℓ) : Prop :=
  True

def Pre_NOutIdeal (m : (ℓ : Loc Cert.NOutIdeal.nD Cert.NOutIdeal.τ Cert.NOutIdeal.sig) → Buf (Elt Ideal) ℓ) : Prop :=
  True

def Pre_NOutRefIdeal (m : (ℓ : Loc Cert.NOutRefIdeal.nD Cert.NOutRefIdeal.τ Cert.NOutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gqkv (m : (ℓ : Loc Cert.Gqkv.nD Cert.Gqkv.τ Cert.Gqkv.sig) → Buf (Elt Bits) ℓ) : Prop :=
  True

def Pre_GqkvIdeal (m : (ℓ : Loc Cert.GqkvIdeal.nD Cert.GqkvIdeal.τ Cert.GqkvIdeal.sig) → Buf (Elt Ideal) ℓ) : Prop :=
  True

def Pre_GqkvRefIdeal (m : (ℓ : Loc Cert.GqkvRefIdeal.nD Cert.GqkvRefIdeal.τ Cert.GqkvRefIdeal.sig) → Buf (Elt Ideal) ℓ) : Prop :=
  True

def Pre_Fseq (m : (ℓ : Loc Cert.Fseq.nD Cert.Fseq.τ Cert.Fseq.sig) → Buf (Elt Bits) ℓ) : Prop :=
  True

def Pre_FseqIdeal (m : (ℓ : Loc Cert.FseqIdeal.nD Cert.FseqIdeal.τ Cert.FseqIdeal.sig) → Buf (Elt Ideal) ℓ) : Prop :=
  True

def Pre_FseqRefIdeal (m : (ℓ : Loc Cert.FseqRefIdeal.nD Cert.FseqRefIdeal.τ Cert.FseqRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_NOut [hNOut : Cert.NOut.Facts] : Prop :=
  ∀ (m : (ℓ : Loc Cert.NOut.nD Cert.NOut.τ Cert.NOut.sig) → Buf (Elt Bits) ℓ) (g : Dev Cert.NOut.nD → PrngReg), Pre_NOut m →
    θ_run (Cert.NOut.defs (F := Bits)) (onTc (τ := Cert.NOut.τ) (Cert.NOut.main (F := Bits))) ⟨m, fun _ => 0, g⟩ (fun r => (∀ c : Dev Cert.NOut.nD,
      r.2.mem ((c.tc : Thread Cert.NOut.nD Cert.NOut.τ).loc Cert.NOut.main_arg0) = m ((c.tc : Thread Cert.NOut.nD Cert.NOut.τ).loc Cert.NOut.main_arg0)
      ∧ r.2.mem ((c.tc : Thread Cert.NOut.nD Cert.NOut.τ).loc Cert.NOut.main_arg1) = m ((c.tc : Thread Cert.NOut.nD Cert.NOut.τ).loc Cert.NOut.main_arg1)
      ∧ r.2.mem ((c.tc : Thread Cert.NOut.nD Cert.NOut.τ).loc Cert.NOut.main_arg2) = m ((c.tc : Thread Cert.NOut.nD Cert.NOut.τ).loc Cert.NOut.main_arg2)
      ∧ r.2.mem ((c.tc : Thread Cert.NOut.nD Cert.NOut.τ).loc Cert.NOut.main_arg3) = m ((c.tc : Thread Cert.NOut.nD Cert.NOut.τ).loc Cert.NOut.main_arg3))
      ∧ r.2.sem = fun _ => 0)

def quiescent_NOutIdeal [hNOutIdeal : Cert.NOutIdeal.Facts] : Prop :=
  ∀ (m : (ℓ : Loc Cert.NOutIdeal.nD Cert.NOutIdeal.τ Cert.NOutIdeal.sig) → Buf (Elt Ideal) ℓ) (g : Dev Cert.NOutIdeal.nD → PrngReg), Pre_NOutIdeal m →
    θ_run (Cert.NOutIdeal.defs (F := Ideal)) (onTc (τ := Cert.NOutIdeal.τ) (Cert.NOutIdeal.main (F := Ideal))) ⟨m, fun _ => 0, g⟩ (fun r => (∀ c : Dev Cert.NOutIdeal.nD,
      r.2.mem ((c.tc : Thread Cert.NOutIdeal.nD Cert.NOutIdeal.τ).loc Cert.NOutIdeal.main_arg0) = m ((c.tc : Thread Cert.NOutIdeal.nD Cert.NOutIdeal.τ).loc Cert.NOutIdeal.main_arg0)
      ∧ r.2.mem ((c.tc : Thread Cert.NOutIdeal.nD Cert.NOutIdeal.τ).loc Cert.NOutIdeal.main_arg1) = m ((c.tc : Thread Cert.NOutIdeal.nD Cert.NOutIdeal.τ).loc Cert.NOutIdeal.main_arg1)
      ∧ r.2.mem ((c.tc : Thread Cert.NOutIdeal.nD Cert.NOutIdeal.τ).loc Cert.NOutIdeal.main_arg2) = m ((c.tc : Thread Cert.NOutIdeal.nD Cert.NOutIdeal.τ).loc Cert.NOutIdeal.main_arg2)
      ∧ r.2.mem ((c.tc : Thread Cert.NOutIdeal.nD Cert.NOutIdeal.τ).loc Cert.NOutIdeal.main_arg3) = m ((c.tc : Thread Cert.NOutIdeal.nD Cert.NOutIdeal.τ).loc Cert.NOutIdeal.main_arg3))
      ∧ r.2.sem = fun _ => 0)

def quiescent_NOutRefIdeal [hNOutRefIdeal : Cert.NOutRefIdeal.Facts] : Prop :=
  ∀ (m : (ℓ : Loc Cert.NOutRefIdeal.nD Cert.NOutRefIdeal.τ Cert.NOutRefIdeal.sig) → Buf (Elt Ideal) ℓ) (g : Dev Cert.NOutRefIdeal.nD → PrngReg), Pre_NOutRefIdeal m →
    θ_run (Cert.NOutRefIdeal.defs (F := Ideal)) (onTc (τ := Cert.NOutRefIdeal.τ) (Cert.NOutRefIdeal.main (F := Ideal))) ⟨m, fun _ => 0, g⟩ (fun r => (∀ c : Dev Cert.NOutRefIdeal.nD,
      r.2.mem ((c.tc : Thread Cert.NOutRefIdeal.nD Cert.NOutRefIdeal.τ).loc Cert.NOutRefIdeal.main_arg0) = m ((c.tc : Thread Cert.NOutRefIdeal.nD Cert.NOutRefIdeal.τ).loc Cert.NOutRefIdeal.main_arg0)
      ∧ r.2.mem ((c.tc : Thread Cert.NOutRefIdeal.nD Cert.NOutRefIdeal.τ).loc Cert.NOutRefIdeal.main_arg1) = m ((c.tc : Thread Cert.NOutRefIdeal.nD Cert.NOutRefIdeal.τ).loc Cert.NOutRefIdeal.main_arg1)
      ∧ r.2.mem ((c.tc : Thread Cert.NOutRefIdeal.nD Cert.NOutRefIdeal.τ).loc Cert.NOutRefIdeal.main_arg2) = m ((c.tc : Thread Cert.NOutRefIdeal.nD Cert.NOutRefIdeal.τ).loc Cert.NOutRefIdeal.main_arg2)
      ∧ r.2.mem ((c.tc : Thread Cert.NOutRefIdeal.nD Cert.NOutRefIdeal.τ).loc Cert.NOutRefIdeal.main_arg3) = m ((c.tc : Thread Cert.NOutRefIdeal.nD Cert.NOutRefIdeal.τ).loc Cert.NOutRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Gqkv [hGqkv : Cert.Gqkv.Facts] : Prop :=
  ∀ (m : (ℓ : Loc Cert.Gqkv.nD Cert.Gqkv.τ Cert.Gqkv.sig) → Buf (Elt Bits) ℓ) (g : Dev Cert.Gqkv.nD → PrngReg), Pre_Gqkv m →
    θ_run (Cert.Gqkv.defs (F := Bits)) (onTc (τ := Cert.Gqkv.τ) (Cert.Gqkv.main (F := Bits))) ⟨m, fun _ => 0, g⟩ (fun r => (∀ c : Dev Cert.Gqkv.nD,
      r.2.mem ((c.tc : Thread Cert.Gqkv.nD Cert.Gqkv.τ).loc Cert.Gqkv.main_arg0) = m ((c.tc : Thread Cert.Gqkv.nD Cert.Gqkv.τ).loc Cert.Gqkv.main_arg0)
      ∧ r.2.mem ((c.tc : Thread Cert.Gqkv.nD Cert.Gqkv.τ).loc Cert.Gqkv.main_arg1) = m ((c.tc : Thread Cert.Gqkv.nD Cert.Gqkv.τ).loc Cert.Gqkv.main_arg1)
      ∧ r.2.mem ((c.tc : Thread Cert.Gqkv.nD Cert.Gqkv.τ).loc Cert.Gqkv.main_arg2) = m ((c.tc : Thread Cert.Gqkv.nD Cert.Gqkv.τ).loc Cert.Gqkv.main_arg2)
      ∧ r.2.mem ((c.tc : Thread Cert.Gqkv.nD Cert.Gqkv.τ).loc Cert.Gqkv.main_arg3) = m ((c.tc : Thread Cert.Gqkv.nD Cert.Gqkv.τ).loc Cert.Gqkv.main_arg3)
      ∧ r.2.mem ((c.tc : Thread Cert.Gqkv.nD Cert.Gqkv.τ).loc Cert.Gqkv.main_arg4) = m ((c.tc : Thread Cert.Gqkv.nD Cert.Gqkv.τ).loc Cert.Gqkv.main_arg4)
      ∧ r.2.mem ((c.tc : Thread Cert.Gqkv.nD Cert.Gqkv.τ).loc Cert.Gqkv.main_arg5) = m ((c.tc : Thread Cert.Gqkv.nD Cert.Gqkv.τ).loc Cert.Gqkv.main_arg5))
      ∧ r.2.sem = fun _ => 0)

def quiescent_GqkvIdeal [hGqkvIdeal : Cert.GqkvIdeal.Facts] : Prop :=
  ∀ (m : (ℓ : Loc Cert.GqkvIdeal.nD Cert.GqkvIdeal.τ Cert.GqkvIdeal.sig) → Buf (Elt Ideal) ℓ) (g : Dev Cert.GqkvIdeal.nD → PrngReg), Pre_GqkvIdeal m →
    θ_run (Cert.GqkvIdeal.defs (F := Ideal)) (onTc (τ := Cert.GqkvIdeal.τ) (Cert.GqkvIdeal.main (F := Ideal))) ⟨m, fun _ => 0, g⟩ (fun r => (∀ c : Dev Cert.GqkvIdeal.nD,
      r.2.mem ((c.tc : Thread Cert.GqkvIdeal.nD Cert.GqkvIdeal.τ).loc Cert.GqkvIdeal.main_arg0) = m ((c.tc : Thread Cert.GqkvIdeal.nD Cert.GqkvIdeal.τ).loc Cert.GqkvIdeal.main_arg0)
      ∧ r.2.mem ((c.tc : Thread Cert.GqkvIdeal.nD Cert.GqkvIdeal.τ).loc Cert.GqkvIdeal.main_arg1) = m ((c.tc : Thread Cert.GqkvIdeal.nD Cert.GqkvIdeal.τ).loc Cert.GqkvIdeal.main_arg1)
      ∧ r.2.mem ((c.tc : Thread Cert.GqkvIdeal.nD Cert.GqkvIdeal.τ).loc Cert.GqkvIdeal.main_arg2) = m ((c.tc : Thread Cert.GqkvIdeal.nD Cert.GqkvIdeal.τ).loc Cert.GqkvIdeal.main_arg2)
      ∧ r.2.mem ((c.tc : Thread Cert.GqkvIdeal.nD Cert.GqkvIdeal.τ).loc Cert.GqkvIdeal.main_arg3) = m ((c.tc : Thread Cert.GqkvIdeal.nD Cert.GqkvIdeal.τ).loc Cert.GqkvIdeal.main_arg3)
      ∧ r.2.mem ((c.tc : Thread Cert.GqkvIdeal.nD Cert.GqkvIdeal.τ).loc Cert.GqkvIdeal.main_arg4) = m ((c.tc : Thread Cert.GqkvIdeal.nD Cert.GqkvIdeal.τ).loc Cert.GqkvIdeal.main_arg4)
      ∧ r.2.mem ((c.tc : Thread Cert.GqkvIdeal.nD Cert.GqkvIdeal.τ).loc Cert.GqkvIdeal.main_arg5) = m ((c.tc : Thread Cert.GqkvIdeal.nD Cert.GqkvIdeal.τ).loc Cert.GqkvIdeal.main_arg5))
      ∧ r.2.sem = fun _ => 0)

def quiescent_GqkvRefIdeal [hGqkvRefIdeal : Cert.GqkvRefIdeal.Facts] : Prop :=
  ∀ (m : (ℓ : Loc Cert.GqkvRefIdeal.nD Cert.GqkvRefIdeal.τ Cert.GqkvRefIdeal.sig) → Buf (Elt Ideal) ℓ) (g : Dev Cert.GqkvRefIdeal.nD → PrngReg), Pre_GqkvRefIdeal m →
    θ_run (Cert.GqkvRefIdeal.defs (F := Ideal)) (onTc (τ := Cert.GqkvRefIdeal.τ) (Cert.GqkvRefIdeal.main (F := Ideal))) ⟨m, fun _ => 0, g⟩ (fun r => (∀ c : Dev Cert.GqkvRefIdeal.nD,
      r.2.mem ((c.tc : Thread Cert.GqkvRefIdeal.nD Cert.GqkvRefIdeal.τ).loc Cert.GqkvRefIdeal.main_arg0) = m ((c.tc : Thread Cert.GqkvRefIdeal.nD Cert.GqkvRefIdeal.τ).loc Cert.GqkvRefIdeal.main_arg0)
      ∧ r.2.mem ((c.tc : Thread Cert.GqkvRefIdeal.nD Cert.GqkvRefIdeal.τ).loc Cert.GqkvRefIdeal.main_arg1) = m ((c.tc : Thread Cert.GqkvRefIdeal.nD Cert.GqkvRefIdeal.τ).loc Cert.GqkvRefIdeal.main_arg1)
      ∧ r.2.mem ((c.tc : Thread Cert.GqkvRefIdeal.nD Cert.GqkvRefIdeal.τ).loc Cert.GqkvRefIdeal.main_arg2) = m ((c.tc : Thread Cert.GqkvRefIdeal.nD Cert.GqkvRefIdeal.τ).loc Cert.GqkvRefIdeal.main_arg2)
      ∧ r.2.mem ((c.tc : Thread Cert.GqkvRefIdeal.nD Cert.GqkvRefIdeal.τ).loc Cert.GqkvRefIdeal.main_arg3) = m ((c.tc : Thread Cert.GqkvRefIdeal.nD Cert.GqkvRefIdeal.τ).loc Cert.GqkvRefIdeal.main_arg3)
      ∧ r.2.mem ((c.tc : Thread Cert.GqkvRefIdeal.nD Cert.GqkvRefIdeal.τ).loc Cert.GqkvRefIdeal.main_arg4) = m ((c.tc : Thread Cert.GqkvRefIdeal.nD Cert.GqkvRefIdeal.τ).loc Cert.GqkvRefIdeal.main_arg4)
      ∧ r.2.mem ((c.tc : Thread Cert.GqkvRefIdeal.nD Cert.GqkvRefIdeal.τ).loc Cert.GqkvRefIdeal.main_arg5) = m ((c.tc : Thread Cert.GqkvRefIdeal.nD Cert.GqkvRefIdeal.τ).loc Cert.GqkvRefIdeal.main_arg5))
      ∧ r.2.sem = fun _ => 0)

def quiescent_Fseq [hFseq : Cert.Fseq.Facts] : Prop :=
  ∀ (m : (ℓ : Loc Cert.Fseq.nD Cert.Fseq.τ Cert.Fseq.sig) → Buf (Elt Bits) ℓ) (g : Dev Cert.Fseq.nD → PrngReg), Pre_Fseq m →
    θ_run (Cert.Fseq.defs (F := Bits)) (onTc (τ := Cert.Fseq.τ) (Cert.Fseq.main (F := Bits))) ⟨m, fun _ => 0, g⟩ (fun r => (∀ c : Dev Cert.Fseq.nD,
      r.2.mem ((c.tc : Thread Cert.Fseq.nD Cert.Fseq.τ).loc Cert.Fseq.main_arg0) = m ((c.tc : Thread Cert.Fseq.nD Cert.Fseq.τ).loc Cert.Fseq.main_arg0)
      ∧ r.2.mem ((c.tc : Thread Cert.Fseq.nD Cert.Fseq.τ).loc Cert.Fseq.main_arg1) = m ((c.tc : Thread Cert.Fseq.nD Cert.Fseq.τ).loc Cert.Fseq.main_arg1)
      ∧ r.2.mem ((c.tc : Thread Cert.Fseq.nD Cert.Fseq.τ).loc Cert.Fseq.main_arg2) = m ((c.tc : Thread Cert.Fseq.nD Cert.Fseq.τ).loc Cert.Fseq.main_arg2)
      ∧ r.2.mem ((c.tc : Thread Cert.Fseq.nD Cert.Fseq.τ).loc Cert.Fseq.main_arg3) = m ((c.tc : Thread Cert.Fseq.nD Cert.Fseq.τ).loc Cert.Fseq.main_arg3)
      ∧ r.2.mem ((c.tc : Thread Cert.Fseq.nD Cert.Fseq.τ).loc Cert.Fseq.main_arg4) = m ((c.tc : Thread Cert.Fseq.nD Cert.Fseq.τ).loc Cert.Fseq.main_arg4))
      ∧ r.2.sem = fun _ => 0)

def quiescent_FseqIdeal [hFseqIdeal : Cert.FseqIdeal.Facts] : Prop :=
  ∀ (m : (ℓ : Loc Cert.FseqIdeal.nD Cert.FseqIdeal.τ Cert.FseqIdeal.sig) → Buf (Elt Ideal) ℓ) (g : Dev Cert.FseqIdeal.nD → PrngReg), Pre_FseqIdeal m →
    θ_run (Cert.FseqIdeal.defs (F := Ideal)) (onTc (τ := Cert.FseqIdeal.τ) (Cert.FseqIdeal.main (F := Ideal))) ⟨m, fun _ => 0, g⟩ (fun r => (∀ c : Dev Cert.FseqIdeal.nD,
      r.2.mem ((c.tc : Thread Cert.FseqIdeal.nD Cert.FseqIdeal.τ).loc Cert.FseqIdeal.main_arg0) = m ((c.tc : Thread Cert.FseqIdeal.nD Cert.FseqIdeal.τ).loc Cert.FseqIdeal.main_arg0)
      ∧ r.2.mem ((c.tc : Thread Cert.FseqIdeal.nD Cert.FseqIdeal.τ).loc Cert.FseqIdeal.main_arg1) = m ((c.tc : Thread Cert.FseqIdeal.nD Cert.FseqIdeal.τ).loc Cert.FseqIdeal.main_arg1)
      ∧ r.2.mem ((c.tc : Thread Cert.FseqIdeal.nD Cert.FseqIdeal.τ).loc Cert.FseqIdeal.main_arg2) = m ((c.tc : Thread Cert.FseqIdeal.nD Cert.FseqIdeal.τ).loc Cert.FseqIdeal.main_arg2)
      ∧ r.2.mem ((c.tc : Thread Cert.FseqIdeal.nD Cert.FseqIdeal.τ).loc Cert.FseqIdeal.main_arg3) = m ((c.tc : Thread Cert.FseqIdeal.nD Cert.FseqIdeal.τ).loc Cert.FseqIdeal.main_arg3)
      ∧ r.2.mem ((c.tc : Thread Cert.FseqIdeal.nD Cert.FseqIdeal.τ).loc Cert.FseqIdeal.main_arg4) = m ((c.tc : Thread Cert.FseqIdeal.nD Cert.FseqIdeal.τ).loc Cert.FseqIdeal.main_arg4))
      ∧ r.2.sem = fun _ => 0)

def quiescent_FseqRefIdeal [hFseqRefIdeal : Cert.FseqRefIdeal.Facts] : Prop :=
  ∀ (m : (ℓ : Loc Cert.FseqRefIdeal.nD Cert.FseqRefIdeal.τ Cert.FseqRefIdeal.sig) → Buf (Elt Ideal) ℓ) (g : Dev Cert.FseqRefIdeal.nD → PrngReg), Pre_FseqRefIdeal m →
    θ_run (Cert.FseqRefIdeal.defs (F := Ideal)) (onTc (τ := Cert.FseqRefIdeal.τ) (Cert.FseqRefIdeal.main (F := Ideal))) ⟨m, fun _ => 0, g⟩ (fun r => (∀ c : Dev Cert.FseqRefIdeal.nD,
      r.2.mem ((c.tc : Thread Cert.FseqRefIdeal.nD Cert.FseqRefIdeal.τ).loc Cert.FseqRefIdeal.main_arg0) = m ((c.tc : Thread Cert.FseqRefIdeal.nD Cert.FseqRefIdeal.τ).loc Cert.FseqRefIdeal.main_arg0)
      ∧ r.2.mem ((c.tc : Thread Cert.FseqRefIdeal.nD Cert.FseqRefIdeal.τ).loc Cert.FseqRefIdeal.main_arg1) = m ((c.tc : Thread Cert.FseqRefIdeal.nD Cert.FseqRefIdeal.τ).loc Cert.FseqRefIdeal.main_arg1)
      ∧ r.2.mem ((c.tc : Thread Cert.FseqRefIdeal.nD Cert.FseqRefIdeal.τ).loc Cert.FseqRefIdeal.main_arg2) = m ((c.tc : Thread Cert.FseqRefIdeal.nD Cert.FseqRefIdeal.τ).loc Cert.FseqRefIdeal.main_arg2)
      ∧ r.2.mem ((c.tc : Thread Cert.FseqRefIdeal.nD Cert.FseqRefIdeal.τ).loc Cert.FseqRefIdeal.main_arg3) = m ((c.tc : Thread Cert.FseqRefIdeal.nD Cert.FseqRefIdeal.τ).loc Cert.FseqRefIdeal.main_arg3)
      ∧ r.2.mem ((c.tc : Thread Cert.FseqRefIdeal.nD Cert.FseqRefIdeal.τ).loc Cert.FseqRefIdeal.main_arg4) = m ((c.tc : Thread Cert.FseqRefIdeal.nD Cert.FseqRefIdeal.τ).loc Cert.FseqRefIdeal.main_arg4))
      ∧ r.2.sem = fun _ => 0)

def preserves_Attn_AttnIdeal : Prop :=
  True

def algebraic_AttnIdeal_AttnRefIdeal_on_latent_rows_pre_finite_qk [hAttnIdeal : Cert.AttnIdeal.Facts] [hAttnRefIdeal : Cert.AttnRefIdeal.Facts] [hPre_finite_qk : Cert.Pre_finite_qk.Facts] [hOn_latent_rows : Cert.On_latent_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![17408, 1024]⟩ : Shape).Idx, (Cert.On_latent_rows.fn (F := Ideal) (m ((c.tc : Thread Cert.AttnIdeal.nD Cert.AttnIdeal.τ).loc Cert.AttnIdeal.main_arg0))) i = 1#1 → r.2.mem ((c.tc : Thread Cert.AttnIdeal.nD Cert.AttnIdeal.τ).loc Cert.AttnIdeal.main_v0) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![17408, 1024]⟩ : Shape).Idx, (Cert.On_latent_rows.fn (F := Ideal) (m ((c.tc : Thread Cert.AttnIdeal.nD Cert.AttnIdeal.τ).loc Cert.AttnIdeal.main_arg0))) i = 1#1 → r.2.mem ((c.tc : Thread Cert.AttnRefIdeal.nD Cert.AttnRefIdeal.τ).loc Cert.AttnRefIdeal.main_v36) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v16)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v16) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v75) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v16)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v16) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v126) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v76) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v8)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v144) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_NOut_NOutIdeal : Prop :=
  True

def algebraic_NOutIdeal_NOutRefIdeal [hNOutIdeal : Cert.NOutIdeal.Facts] [hNOutRefIdeal : Cert.NOutRefIdeal.Facts] : Prop :=
  ∀ (m : (ℓ : Loc Cert.NOutIdeal.nD Cert.NOutIdeal.τ Cert.NOutIdeal.sig) → Buf (Elt Ideal) ℓ) (g : Dev Cert.NOutIdeal.nD → PrngReg)
    (m' : (ℓ : Loc Cert.NOutRefIdeal.nD Cert.NOutRefIdeal.τ Cert.NOutRefIdeal.sig) → Buf (Elt Ideal) ℓ) (g' : Dev Cert.NOutRefIdeal.nD → PrngReg), Pre_NOutIdeal m →
    (∀ c : Dev Cert.NOutIdeal.nD,
      m' ((c.tc : Thread Cert.NOutRefIdeal.nD Cert.NOutRefIdeal.τ).loc Cert.NOutRefIdeal.main_arg0) = m ((c.tc : Thread Cert.NOutIdeal.nD Cert.NOutIdeal.τ).loc Cert.NOutIdeal.main_arg0)
      ∧ m' ((c.tc : Thread Cert.NOutRefIdeal.nD Cert.NOutRefIdeal.τ).loc Cert.NOutRefIdeal.main_arg1) = m ((c.tc : Thread Cert.NOutIdeal.nD Cert.NOutIdeal.τ).loc Cert.NOutIdeal.main_arg1)
      ∧ m' ((c.tc : Thread Cert.NOutRefIdeal.nD Cert.NOutRefIdeal.τ).loc Cert.NOutRefIdeal.main_arg2) = m ((c.tc : Thread Cert.NOutIdeal.nD Cert.NOutIdeal.τ).loc Cert.NOutIdeal.main_arg2)
      ∧ m' ((c.tc : Thread Cert.NOutRefIdeal.nD Cert.NOutRefIdeal.τ).loc Cert.NOutRefIdeal.main_arg3) = m ((c.tc : Thread Cert.NOutIdeal.nD Cert.NOutIdeal.τ).loc Cert.NOutIdeal.main_arg3)) →
    ∃ (v0 : (c : Dev Cert.NOutIdeal.nD) → Buf (Elt Ideal) ((c.tc : Thread Cert.NOutIdeal.nD Cert.NOutIdeal.τ).loc Cert.NOutIdeal.main_v2)),
      θ_run (Cert.NOutIdeal.defs (F := Ideal)) (onTc (τ := Cert.NOutIdeal.τ) (Cert.NOutIdeal.main (F := Ideal))) ⟨m, fun _ => 0, g⟩ (fun r => ∀ c : Dev Cert.NOutIdeal.nD,
          r.2.mem ((c.tc : Thread Cert.NOutIdeal.nD Cert.NOutIdeal.τ).loc Cert.NOutIdeal.main_v2) = v0 c
          ∧ r.2.mem ((c.tc : Thread Cert.NOutIdeal.nD Cert.NOutIdeal.τ).loc Cert.NOutIdeal.main_arg0) = m ((c.tc : Thread Cert.NOutIdeal.nD Cert.NOutIdeal.τ).loc Cert.NOutIdeal.main_arg0)
          ∧ r.2.mem ((c.tc : Thread Cert.NOutIdeal.nD Cert.NOutIdeal.τ).loc Cert.NOutIdeal.main_arg1) = m ((c.tc : Thread Cert.NOutIdeal.nD Cert.NOutIdeal.τ).loc Cert.NOutIdeal.main_arg1)
          ∧ r.2.mem ((c.tc : Thread Cert.NOutIdeal.nD Cert.NOutIdeal.τ).loc Cert.NOutIdeal.main_arg2) = m ((c.tc : Thread Cert.NOutIdeal.nD Cert.NOutIdeal.τ).loc Cert.NOutIdeal.main_arg2)
          ∧ r.2.mem ((c.tc : Thread Cert.NOutIdeal.nD Cert.NOutIdeal.τ).loc Cert.NOutIdeal.main_arg3) = m ((c.tc : Thread Cert.NOutIdeal.nD Cert.NOutIdeal.τ).loc Cert.NOutIdeal.main_arg3))
      ∧ θ_run (Cert.NOutRefIdeal.defs (F := Ideal)) (onTc (τ := Cert.NOutRefIdeal.τ) (Cert.NOutRefIdeal.main (F := Ideal))) ⟨m', fun _ => 0, g'⟩ (fun r => ∀ c : Dev Cert.NOutRefIdeal.nD,
          r.2.mem ((c.tc : Thread Cert.NOutRefIdeal.nD Cert.NOutRefIdeal.τ).loc Cert.NOutRefIdeal.main_v36) = v0 c
          ∧ r.2.mem ((c.tc : Thread Cert.NOutRefIdeal.nD Cert.NOutRefIdeal.τ).loc Cert.NOutRefIdeal.main_arg0) = m' ((c.tc : Thread Cert.NOutRefIdeal.nD Cert.NOutRefIdeal.τ).loc Cert.NOutRefIdeal.main_arg0)
          ∧ r.2.mem ((c.tc : Thread Cert.NOutRefIdeal.nD Cert.NOutRefIdeal.τ).loc Cert.NOutRefIdeal.main_arg1) = m' ((c.tc : Thread Cert.NOutRefIdeal.nD Cert.NOutRefIdeal.τ).loc Cert.NOutRefIdeal.main_arg1)
          ∧ r.2.mem ((c.tc : Thread Cert.NOutRefIdeal.nD Cert.NOutRefIdeal.τ).loc Cert.NOutRefIdeal.main_arg2) = m' ((c.tc : Thread Cert.NOutRefIdeal.nD Cert.NOutRefIdeal.τ).loc Cert.NOutRefIdeal.main_arg2)
          ∧ r.2.mem ((c.tc : Thread Cert.NOutRefIdeal.nD Cert.NOutRefIdeal.τ).loc Cert.NOutRefIdeal.main_arg3) = m' ((c.tc : Thread Cert.NOutRefIdeal.nD Cert.NOutRefIdeal.τ).loc Cert.NOutRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v21) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Gqkv_GqkvIdeal : Prop :=
  True

def algebraic_GqkvIdeal_GqkvRefIdeal [hGqkvIdeal : Cert.GqkvIdeal.Facts] [hGqkvRefIdeal : Cert.GqkvRefIdeal.Facts] : Prop :=
  ∀ (m : (ℓ : Loc Cert.GqkvIdeal.nD Cert.GqkvIdeal.τ Cert.GqkvIdeal.sig) → Buf (Elt Ideal) ℓ) (g : Dev Cert.GqkvIdeal.nD → PrngReg)
    (m' : (ℓ : Loc Cert.GqkvRefIdeal.nD Cert.GqkvRefIdeal.τ Cert.GqkvRefIdeal.sig) → Buf (Elt Ideal) ℓ) (g' : Dev Cert.GqkvRefIdeal.nD → PrngReg), Pre_GqkvIdeal m →
    (∀ c : Dev Cert.GqkvIdeal.nD,
      m' ((c.tc : Thread Cert.GqkvRefIdeal.nD Cert.GqkvRefIdeal.τ).loc Cert.GqkvRefIdeal.main_arg0) = m ((c.tc : Thread Cert.GqkvIdeal.nD Cert.GqkvIdeal.τ).loc Cert.GqkvIdeal.main_arg0)
      ∧ m' ((c.tc : Thread Cert.GqkvRefIdeal.nD Cert.GqkvRefIdeal.τ).loc Cert.GqkvRefIdeal.main_arg1) = m ((c.tc : Thread Cert.GqkvIdeal.nD Cert.GqkvIdeal.τ).loc Cert.GqkvIdeal.main_arg1)
      ∧ m' ((c.tc : Thread Cert.GqkvRefIdeal.nD Cert.GqkvRefIdeal.τ).loc Cert.GqkvRefIdeal.main_arg2) = m ((c.tc : Thread Cert.GqkvIdeal.nD Cert.GqkvIdeal.τ).loc Cert.GqkvIdeal.main_arg2)
      ∧ m' ((c.tc : Thread Cert.GqkvRefIdeal.nD Cert.GqkvRefIdeal.τ).loc Cert.GqkvRefIdeal.main_arg3) = m ((c.tc : Thread Cert.GqkvIdeal.nD Cert.GqkvIdeal.τ).loc Cert.GqkvIdeal.main_arg3)
      ∧ m' ((c.tc : Thread Cert.GqkvRefIdeal.nD Cert.GqkvRefIdeal.τ).loc Cert.GqkvRefIdeal.main_arg4) = m ((c.tc : Thread Cert.GqkvIdeal.nD Cert.GqkvIdeal.τ).loc Cert.GqkvIdeal.main_arg4)
      ∧ m' ((c.tc : Thread Cert.GqkvRefIdeal.nD Cert.GqkvRefIdeal.τ).loc Cert.GqkvRefIdeal.main_arg5) = m ((c.tc : Thread Cert.GqkvIdeal.nD Cert.GqkvIdeal.τ).loc Cert.GqkvIdeal.main_arg5)) →
    ∃ (v0 : (c : Dev Cert.GqkvIdeal.nD) → Buf (Elt Ideal) ((c.tc : Thread Cert.GqkvIdeal.nD Cert.GqkvIdeal.τ).loc Cert.GqkvIdeal.main_v55)),
      θ_run (Cert.GqkvIdeal.defs (F := Ideal)) (onTc (τ := Cert.GqkvIdeal.τ) (Cert.GqkvIdeal.main (F := Ideal))) ⟨m, fun _ => 0, g⟩ (fun r => ∀ c : Dev Cert.GqkvIdeal.nD,
          r.2.mem ((c.tc : Thread Cert.GqkvIdeal.nD Cert.GqkvIdeal.τ).loc Cert.GqkvIdeal.main_v55) = v0 c
          ∧ r.2.mem ((c.tc : Thread Cert.GqkvIdeal.nD Cert.GqkvIdeal.τ).loc Cert.GqkvIdeal.main_arg0) = m ((c.tc : Thread Cert.GqkvIdeal.nD Cert.GqkvIdeal.τ).loc Cert.GqkvIdeal.main_arg0)
          ∧ r.2.mem ((c.tc : Thread Cert.GqkvIdeal.nD Cert.GqkvIdeal.τ).loc Cert.GqkvIdeal.main_arg1) = m ((c.tc : Thread Cert.GqkvIdeal.nD Cert.GqkvIdeal.τ).loc Cert.GqkvIdeal.main_arg1)
          ∧ r.2.mem ((c.tc : Thread Cert.GqkvIdeal.nD Cert.GqkvIdeal.τ).loc Cert.GqkvIdeal.main_arg2) = m ((c.tc : Thread Cert.GqkvIdeal.nD Cert.GqkvIdeal.τ).loc Cert.GqkvIdeal.main_arg2)
          ∧ r.2.mem ((c.tc : Thread Cert.GqkvIdeal.nD Cert.GqkvIdeal.τ).loc Cert.GqkvIdeal.main_arg3) = m ((c.tc : Thread Cert.GqkvIdeal.nD Cert.GqkvIdeal.τ).loc Cert.GqkvIdeal.main_arg3)
          ∧ r.2.mem ((c.tc : Thread Cert.GqkvIdeal.nD Cert.GqkvIdeal.τ).loc Cert.GqkvIdeal.main_arg4) = m ((c.tc : Thread Cert.GqkvIdeal.nD Cert.GqkvIdeal.τ).loc Cert.GqkvIdeal.main_arg4)
          ∧ r.2.mem ((c.tc : Thread Cert.GqkvIdeal.nD Cert.GqkvIdeal.τ).loc Cert.GqkvIdeal.main_arg5) = m ((c.tc : Thread Cert.GqkvIdeal.nD Cert.GqkvIdeal.τ).loc Cert.GqkvIdeal.main_arg5))
      ∧ θ_run (Cert.GqkvRefIdeal.defs (F := Ideal)) (onTc (τ := Cert.GqkvRefIdeal.τ) (Cert.GqkvRefIdeal.main (F := Ideal))) ⟨m', fun _ => 0, g'⟩ (fun r => ∀ c : Dev Cert.GqkvRefIdeal.nD,
          r.2.mem ((c.tc : Thread Cert.GqkvRefIdeal.nD Cert.GqkvRefIdeal.τ).loc Cert.GqkvRefIdeal.main_v193) = v0 c
          ∧ r.2.mem ((c.tc : Thread Cert.GqkvRefIdeal.nD Cert.GqkvRefIdeal.τ).loc Cert.GqkvRefIdeal.main_arg0) = m' ((c.tc : Thread Cert.GqkvRefIdeal.nD Cert.GqkvRefIdeal.τ).loc Cert.GqkvRefIdeal.main_arg0)
          ∧ r.2.mem ((c.tc : Thread Cert.GqkvRefIdeal.nD Cert.GqkvRefIdeal.τ).loc Cert.GqkvRefIdeal.main_arg1) = m' ((c.tc : Thread Cert.GqkvRefIdeal.nD Cert.GqkvRefIdeal.τ).loc Cert.GqkvRefIdeal.main_arg1)
          ∧ r.2.mem ((c.tc : Thread Cert.GqkvRefIdeal.nD Cert.GqkvRefIdeal.τ).loc Cert.GqkvRefIdeal.main_arg2) = m' ((c.tc : Thread Cert.GqkvRefIdeal.nD Cert.GqkvRefIdeal.τ).loc Cert.GqkvRefIdeal.main_arg2)
          ∧ r.2.mem ((c.tc : Thread Cert.GqkvRefIdeal.nD Cert.GqkvRefIdeal.τ).loc Cert.GqkvRefIdeal.main_arg3) = m' ((c.tc : Thread Cert.GqkvRefIdeal.nD Cert.GqkvRefIdeal.τ).loc Cert.GqkvRefIdeal.main_arg3)
          ∧ r.2.mem ((c.tc : Thread Cert.GqkvRefIdeal.nD Cert.GqkvRefIdeal.τ).loc Cert.GqkvRefIdeal.main_arg4) = m' ((c.tc : Thread Cert.GqkvRefIdeal.nD Cert.GqkvRefIdeal.τ).loc Cert.GqkvRefIdeal.main_arg4)
          ∧ r.2.mem ((c.tc : Thread Cert.GqkvRefIdeal.nD Cert.GqkvRefIdeal.τ).loc Cert.GqkvRefIdeal.main_arg5) = m' ((c.tc : Thread Cert.GqkvRefIdeal.nD Cert.GqkvRefIdeal.τ).loc Cert.GqkvRefIdeal.main_arg5))

def preserves_Fseq_FseqIdeal : Prop :=
  True

def algebraic_FseqIdeal_FseqRefIdeal [hFseqIdeal : Cert.FseqIdeal.Facts] [hFseqRefIdeal : Cert.FseqRefIdeal.Facts] : Prop :=
  ∀ (m : (ℓ : Loc Cert.FseqIdeal.nD Cert.FseqIdeal.τ Cert.FseqIdeal.sig) → Buf (Elt Ideal) ℓ) (g : Dev Cert.FseqIdeal.nD → PrngReg)
    (m' : (ℓ : Loc Cert.FseqRefIdeal.nD Cert.FseqRefIdeal.τ Cert.FseqRefIdeal.sig) → Buf (Elt Ideal) ℓ) (g' : Dev Cert.FseqRefIdeal.nD → PrngReg), Pre_FseqIdeal m →
    (∀ c : Dev Cert.FseqIdeal.nD,
      m' ((c.tc : Thread Cert.FseqRefIdeal.nD Cert.FseqRefIdeal.τ).loc Cert.FseqRefIdeal.main_arg0) = m ((c.tc : Thread Cert.FseqIdeal.nD Cert.FseqIdeal.τ).loc Cert.FseqIdeal.main_arg0)
      ∧ m' ((c.tc : Thread Cert.FseqRefIdeal.nD Cert.FseqRefIdeal.τ).loc Cert.FseqRefIdeal.main_arg1) = m ((c.tc : Thread Cert.FseqIdeal.nD Cert.FseqIdeal.τ).loc Cert.FseqIdeal.main_arg1)
      ∧ m' ((c.tc : Thread Cert.FseqRefIdeal.nD Cert.FseqRefIdeal.τ).loc Cert.FseqRefIdeal.main_arg2) = m ((c.tc : Thread Cert.FseqIdeal.nD Cert.FseqIdeal.τ).loc Cert.FseqIdeal.main_arg2)
      ∧ m' ((c.tc : Thread Cert.FseqRefIdeal.nD Cert.FseqRefIdeal.τ).loc Cert.FseqRefIdeal.main_arg3) = m ((c.tc : Thread Cert.FseqIdeal.nD Cert.FseqIdeal.τ).loc Cert.FseqIdeal.main_arg3)
      ∧ m' ((c.tc : Thread Cert.FseqRefIdeal.nD Cert.FseqRefIdeal.τ).loc Cert.FseqRefIdeal.main_arg4) = m ((c.tc : Thread Cert.FseqIdeal.nD Cert.FseqIdeal.τ).loc Cert.FseqIdeal.main_arg4)) →
    ∃ (v0 : (c : Dev Cert.FseqIdeal.nD) → Buf (Elt Ideal) ((c.tc : Thread Cert.FseqIdeal.nD Cert.FseqIdeal.τ).loc Cert.FseqIdeal.main_v2)),
      θ_run (Cert.FseqIdeal.defs (F := Ideal)) (onTc (τ := Cert.FseqIdeal.τ) (Cert.FseqIdeal.main (F := Ideal))) ⟨m, fun _ => 0, g⟩ (fun r => ∀ c : Dev Cert.FseqIdeal.nD,
          r.2.mem ((c.tc : Thread Cert.FseqIdeal.nD Cert.FseqIdeal.τ).loc Cert.FseqIdeal.main_v2) = v0 c
          ∧ r.2.mem ((c.tc : Thread Cert.FseqIdeal.nD Cert.FseqIdeal.τ).loc Cert.FseqIdeal.main_arg0) = m ((c.tc : Thread Cert.FseqIdeal.nD Cert.FseqIdeal.τ).loc Cert.FseqIdeal.main_arg0)
          ∧ r.2.mem ((c.tc : Thread Cert.FseqIdeal.nD Cert.FseqIdeal.τ).loc Cert.FseqIdeal.main_arg1) = m ((c.tc : Thread Cert.FseqIdeal.nD Cert.FseqIdeal.τ).loc Cert.FseqIdeal.main_arg1)
          ∧ r.2.mem ((c.tc : Thread Cert.FseqIdeal.nD Cert.FseqIdeal.τ).loc Cert.FseqIdeal.main_arg2) = m ((c.tc : Thread Cert.FseqIdeal.nD Cert.FseqIdeal.τ).loc Cert.FseqIdeal.main_arg2)
          ∧ r.2.mem ((c.tc : Thread Cert.FseqIdeal.nD Cert.FseqIdeal.τ).loc Cert.FseqIdeal.main_arg3) = m ((c.tc : Thread Cert.FseqIdeal.nD Cert.FseqIdeal.τ).loc Cert.FseqIdeal.main_arg3)
          ∧ r.2.mem ((c.tc : Thread Cert.FseqIdeal.nD Cert.FseqIdeal.τ).loc Cert.FseqIdeal.main_arg4) = m ((c.tc : Thread Cert.FseqIdeal.nD Cert.FseqIdeal.τ).loc Cert.FseqIdeal.main_arg4))
      ∧ θ_run (Cert.FseqRefIdeal.defs (F := Ideal)) (onTc (τ := Cert.FseqRefIdeal.τ) (Cert.FseqRefIdeal.main (F := Ideal))) ⟨m', fun _ => 0, g'⟩ (fun r => ∀ c : Dev Cert.FseqRefIdeal.nD,
          r.2.mem ((c.tc : Thread Cert.FseqRefIdeal.nD Cert.FseqRefIdeal.τ).loc Cert.FseqRefIdeal.main_v35) = v0 c
          ∧ r.2.mem ((c.tc : Thread Cert.FseqRefIdeal.nD Cert.FseqRefIdeal.τ).loc Cert.FseqRefIdeal.main_arg0) = m' ((c.tc : Thread Cert.FseqRefIdeal.nD Cert.FseqRefIdeal.τ).loc Cert.FseqRefIdeal.main_arg0)
          ∧ r.2.mem ((c.tc : Thread Cert.FseqRefIdeal.nD Cert.FseqRefIdeal.τ).loc Cert.FseqRefIdeal.main_arg1) = m' ((c.tc : Thread Cert.FseqRefIdeal.nD Cert.FseqRefIdeal.τ).loc Cert.FseqRefIdeal.main_arg1)
          ∧ r.2.mem ((c.tc : Thread Cert.FseqRefIdeal.nD Cert.FseqRefIdeal.τ).loc Cert.FseqRefIdeal.main_arg2) = m' ((c.tc : Thread Cert.FseqRefIdeal.nD Cert.FseqRefIdeal.τ).loc Cert.FseqRefIdeal.main_arg2)
          ∧ r.2.mem ((c.tc : Thread Cert.FseqRefIdeal.nD Cert.FseqRefIdeal.τ).loc Cert.FseqRefIdeal.main_arg3) = m' ((c.tc : Thread Cert.FseqRefIdeal.nD Cert.FseqRefIdeal.τ).loc Cert.FseqRefIdeal.main_arg3)
          ∧ r.2.mem ((c.tc : Thread Cert.FseqRefIdeal.nD Cert.FseqRefIdeal.τ).loc Cert.FseqRefIdeal.main_arg4) = m' ((c.tc : Thread Cert.FseqRefIdeal.nD Cert.FseqRefIdeal.τ).loc Cert.FseqRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hNOut : Cert.NOut.Facts) (hNOutIdeal : Cert.NOutIdeal.Facts) (hNOutRefIdeal : Cert.NOutRefIdeal.Facts) (hOut : Cert.Out.Facts) (hOutIdeal : Cert.OutIdeal.Facts) (hOutRefIdeal : Cert.OutRefIdeal.Facts) (hGqkv : Cert.Gqkv.Facts) (hGqkvIdeal : Cert.GqkvIdeal.Facts) (hGqkvRefIdeal : Cert.GqkvRefIdeal.Facts) (hFseq : Cert.Fseq.Facts) (hFseqIdeal : Cert.FseqIdeal.Facts) (hFseqRefIdeal : Cert.FseqRefIdeal.Facts) (hPre_finite_qk : Cert.Pre_finite_qk.Facts) (hOn_latent_rows : Cert.On_latent_rows.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_NOut (hNOut := hNOut)
    ∧ quiescent_NOutIdeal (hNOutIdeal := hNOutIdeal)
    ∧ quiescent_NOutRefIdeal (hNOutRefIdeal := hNOutRefIdeal)
    ∧ quiescent_Out (hOut := hOut)
    ∧ quiescent_OutIdeal (hOutIdeal := hOutIdeal)
    ∧ quiescent_OutRefIdeal (hOutRefIdeal := hOutRefIdeal)
    ∧ quiescent_Gqkv (hGqkv := hGqkv)
    ∧ quiescent_GqkvIdeal (hGqkvIdeal := hGqkvIdeal)
    ∧ quiescent_GqkvRefIdeal (hGqkvRefIdeal := hGqkvRefIdeal)
    ∧ quiescent_Fseq (hFseq := hFseq)
    ∧ quiescent_FseqIdeal (hFseqIdeal := hFseqIdeal)
    ∧ quiescent_FseqRefIdeal (hFseqRefIdeal := hFseqRefIdeal)
    ∧ preserves_Attn_AttnIdeal
    ∧ algebraic_AttnIdeal_AttnRefIdeal_on_latent_rows_pre_finite_qk (hAttnIdeal := hAttnIdeal) (hAttnRefIdeal := hAttnRefIdeal) (hPre_finite_qk := hPre_finite_qk) (hOn_latent_rows := hOn_latent_rows)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_NOut_NOutIdeal
    ∧ algebraic_NOutIdeal_NOutRefIdeal (hNOutIdeal := hNOutIdeal) (hNOutRefIdeal := hNOutRefIdeal)
    ∧ preserves_Out_OutIdeal
    ∧ algebraic_OutIdeal_OutRefIdeal (hOutIdeal := hOutIdeal) (hOutRefIdeal := hOutRefIdeal)
    ∧ preserves_Gqkv_GqkvIdeal
    ∧ algebraic_GqkvIdeal_GqkvRefIdeal (hGqkvIdeal := hGqkvIdeal) (hGqkvRefIdeal := hGqkvRefIdeal)
    ∧ preserves_Fseq_FseqIdeal
    ∧ algebraic_FseqIdeal_FseqRefIdeal (hFseqIdeal := hFseqIdeal) (hFseqRefIdeal := hFseqRefIdeal)
-- ==== On_latent_rows.lean ====
abbrev S17408x1536 : Shape := ⟨2, ![17408, 1536]⟩
abbrev S17408x1024 : Shape := ⟨2, ![17408, 1024]⟩
abbrev S_ : Shape := ⟨0, ![]⟩

class Facts : Prop where
  bcast_S_S17408x1024 : S_.BroadcastsInDim S17408x1024 (![] : Fin 0 → Fin S17408x1024.rank)

variable [Facts]

def fn {F : FTy → Type} [FloatOps F] (main_arg0 : FVec F S17408x1536 .bf16) : IVec S17408x1024 1 :=
  let main_v0 : IVec S17408x1024 32 := iotaInDim S17408x1024 32 0
  let main_c : IVec S_ 32 := constantI S_ 32 16384#32
  let main_v1 : IVec S17408x1024 32 := broadcastInDim S17408x1024 ![] bcast_S_S17408x1024 main_c
  let main_v2 : IVec S17408x1024 1 := cmpi .slt main_v0 main_v1
  main_v2
-- ==== Pre_finite_qk.lean ====
abbrev S17408x1536 : Shape := ⟨2, ![17408, 1536]⟩
abbrev S17408x1280 : Shape := ⟨2, ![17408, 1280]⟩
abbrev S_ : Shape := ⟨0, ![]⟩

class Facts : Prop where
  slices_S17408x1536_S17408x1280_0_0 : S17408x1536.Slices ![0, 0] S17408x1280
  bitsLt_bf16_f32 : FTy.bits .bf16 < FTy.bits .f32
  bcast_S_S17408x1280 : S_.BroadcastsInDim S17408x1280 (![] : Fin 0 → Fin S17408x1280.rank)

variable [Facts]

def fn {F : FTy → Type} [FloatOps F] (main_arg0 : FVec F S17408x1536 .bf16) : IVec S17408x1280 1 × IVec S17408x1280 1 :=
  let main_v0 : FVec F S17408x1280 .bf16 := (extractStridedSlice S17408x1280 ![0, 0] · slices_S17408x1536_S17408x1280_0_0) main_arg0
  let main_v1 : FVec F S17408x1280 .f32 := (extf .f32 · bitsLt_bf16_f32) main_v0
  let main_cst : FVec F S_ .f32 := constant S_ .f32 0xFF800000#32
  let main_v2 : FVec F S17408x1280 .f32 := broadcastInDim S17408x1280 ![] bcast_S_S17408x1280 main_cst
  let main_v3 : IVec S17408x1280 1 := cmpf .ogt main_v1 main_v2
  let main_cst_0 : FVec F S_ .f32 := constant S_ .f32 0x7F800000#32
  let main_v4 : FVec F S17408x1280 .f32 := broadcastInDim S17408x1280 ![] bcast_S_S17408x1280 main_cst_0
  let main_v5 : IVec S17408x1280 1 := cmpf .olt main_v1 main_v4
  (main_v3, main_v5)
-- ==== Attn.lean ====
abbrev S17408x1536 : Shape := ⟨2, ![17408, 1536]⟩
abbrev S17408x1024 : Shape := ⟨2, ![17408, 1024]⟩
abbrev S128x512 : Shape := ⟨2, ![128, 512]⟩
abbrev S4096x128 : Shape := ⟨2, ![4096, 128]⟩
abbrev S256x128 : Shape := ⟨2, ![256, 128]⟩
abbrev S1x128 : Shape := ⟨2, ![1, 128]⟩
abbrev S128x128 : Shape := ⟨2, ![128, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S512x256 : Shape := ⟨2, ![512, 256]⟩

abbrev nBuf : Space → Nat
  | .hbm => 2
  | .vmem => 12
  | .smem => 0
  | _ => 0

abbrev bufTy : (tb : Table) → Fin (tcTables nBuf tb) → BufTy
  | .hbm, ⟨0, _⟩ => ⟨S17408x1536, .bf16⟩
  | .hbm, ⟨1, _⟩ => ⟨S17408x1024, .bf16⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S128x512, .bf16⟩
  | .local _ .vmem, ⟨11, _⟩ => ⟨S128x512, .bf16⟩
  | _, _ => ⟨S17408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c10_i32 : BitVec 32 := 10#32
  let v1 : BitVec 32 := Scalar.addi c10_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S17408x1536 : Shape := ⟨2, ![17408, 1536]⟩
abbrev S16384x1536 : Shape := ⟨2, ![16384, 1536]⟩
abbrev S4x4096x1536 : Shape := ⟨3, ![4, 4096, 1536]⟩
abbrev S1024x1536 : Shape := ⟨2, ![1024, 1536]⟩
abbrev S4x256x1536 : Shape := ⟨3, ![4, 256, 1536]⟩
abbrev S4x4096x1024 : Shape := ⟨3, ![4, 4096, 1024]⟩
abbrev S4x4096x2x4x2x64 : Shape := ⟨6, ![4, 4096, 2, 4, 2, 64]⟩
abbrev S4x4096x2x2x4x64 : Shape := ⟨6, ![4, 4096, 2, 2, 4, 64]⟩
abbrev S4x4096x4x4x64 : Shape := ⟨5, ![4, 4096, 4, 4, 64]⟩
abbrev S4x4096x256 : Shape := ⟨3, ![4, 4096, 256]⟩
abbrev S4x256x256 : Shape := ⟨3, ![4, 256, 256]⟩
abbrev S4x4352x256 : Shape := ⟨3, ![4, 4352, 256]⟩
abbrev S4x4352x4x64 : Shape := ⟨4, ![4, 4352, 4, 64]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S16384x1024 : Shape := ⟨2, ![16384, 1024]⟩
abbrev S17408x1024 : Shape := ⟨2, ![17408, 1024]⟩

abbrev nBuf : Space → Nat
  | .hbm => 43
  | .vmem => 0
  | .smem => 0
  | _ => 0

abbrev bufTy : (tb : Table) → Fin (tcTables nBuf tb) → BufTy
  | .hbm, ⟨0, _⟩ => ⟨S17408x1536, .bf16⟩
  | .hbm, ⟨1, _⟩ => ⟨S17408x1536, .f32⟩
  | .hbm, ⟨2, _⟩ => ⟨S16384x1536, .f32⟩
  | .hbm, ⟨3, _⟩ => ⟨S4x4096x1536, .f32⟩
  | .hbm, ⟨4, _⟩ => ⟨S1024x1536, .f32⟩
  | .hbm, ⟨5, _⟩ => ⟨S4x256x1536, .f32⟩
  | .hbm, ⟨6, _⟩ => ⟨S4x4096x1024, .f32⟩
  | .hbm, ⟨7, _⟩ => ⟨S4x4096x2x4x2x64, .f32⟩
  | .hbm, ⟨8, _⟩ => ⟨S4x4096x2x2x4x64, .f32⟩
  | .hbm, ⟨9, _⟩ => ⟨S4x4096x4x4x64, .f32⟩
  | .hbm, ⟨10, _⟩ => ⟨S4x4096x256, .f32⟩
  | .hbm, ⟨11, _⟩ => ⟨S4x256x256, .f32⟩
  | .hbm, ⟨12, _⟩ => ⟨S4x4352x256, .f32⟩
  | .hbm, ⟨13, _⟩ => ⟨S4x4352x4x64, .f32⟩
  | .hbm, ⟨14, _⟩ => ⟨S4x4096x256, .f32⟩
  | .hbm, ⟨15, _⟩ => ⟨S4x256x256, .f32⟩
  | .hbm, ⟨16, _⟩ => ⟨S4x4352x256, .f32⟩
  | .hbm, ⟨17, _⟩ => ⟨S4x4352x4x64, .f32⟩
  | .hbm, ⟨18, _⟩ => ⟨S4x4x4352x4096x4, .f32⟩
  | .hbm, ⟨19, _⟩ => ⟨S4x4x4x4096x4352, .f32⟩
  | .hbm, ⟨20, _⟩ => ⟨S_, .f32⟩
  | .hbm, ⟨21, _⟩ => ⟨S4x4x4x4096, .f32⟩
  | .hbm, ⟨22, _⟩ => ⟨S_, .f32⟩
  | .hbm, ⟨23, _⟩ => ⟨S4x4x4x4096, .f32⟩
  | .hbm, ⟨24, _⟩ => ⟨S4x4x4x4096, .f32⟩
  | .hbm, ⟨25, _⟩ => ⟨S4x4x4x4096x1, .f32⟩
  | .hbm, ⟨26, _⟩ => ⟨S4x4x4x4096x4352, .f32⟩
  | .hbm, ⟨27, _⟩ => ⟨S4x4x4x4096x4352, .f32⟩
  | .hbm, ⟨28, _⟩ => ⟨S4x4x4x4096x4352, .f32⟩
  | .hbm, ⟨29, _⟩ => ⟨S_, .f32⟩
  | .hbm, ⟨30, _⟩ => ⟨S4x4x4x4096, .f32⟩
  | .hbm, ⟨31, _⟩ => ⟨S4x4x4x4096x1, .f32⟩
  | .hbm, ⟨32, _⟩ => ⟨S4x4x4x4096x4352, .f32⟩
  | .hbm, ⟨33, _⟩ => ⟨S4x4x4x4096x4352, .f32⟩
  | .hbm, ⟨34, _⟩ => ⟨S4x4x64x4x4096, .f32⟩
  | .hbm, ⟨35, _⟩ => ⟨S4x4096x4x4x64, .f32⟩
  | .hbm, ⟨36, _⟩ => ⟨S4x4096x2x2x4x64, .f32⟩
  | .hbm, ⟨37, _⟩ => ⟨S4x4096x2x4x2x64, .f32⟩
  | .hbm, ⟨38, _⟩ => ⟨S16384x1024, .f32⟩
  | .hbm, ⟨39, _⟩ => ⟨S16384x1024, .bf16⟩
  | .hbm, ⟨40, _⟩ => ⟨S_, .i32⟩
  | .hbm, ⟨41, _⟩ => ⟨S_, .bf16⟩
  | .hbm, ⟨42, _⟩ => ⟨S17408x1024, .bf16⟩
  | _, _ => ⟨S17408x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_cst : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_c : Ref sig .tc := ⟨.hbm, 40, rfl⟩
abbrev main_call0_v0 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Ffn.lean ====
abbrev S17408x1024 : Shape := ⟨2, ![17408, 1024]⟩
abbrev S5x6144 : Shape := ⟨2, ![5, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S30x1x1024 : Shape := ⟨3, ![30, 1, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S3x11x256 : Shape := ⟨3, ![3, 11, 256]⟩
abbrev S11x3x256 : Shape := ⟨3, ![11, 3, 256]⟩
abbrev S11x1x256 : Shape := ⟨3, ![11, 1, 256]⟩
abbrev S11x256x1024 : Shape := ⟨3, ![11, 256, 1024]⟩
abbrev S1x1024 : Shape := ⟨2, ![1, 1024]⟩
abbrev S16384x1024 : Shape := ⟨2, ![16384, 1024]⟩
abbrev S16x1024 : Shape := ⟨2, ![16, 1024]⟩
abbrev S1024x1024 : Shape := ⟨2, ![1024, 1024]⟩
abbrev S1x1x1024 : Shape := ⟨3, ![1, 1, 1024]⟩
abbrev S1056x1024 : Shape := ⟨2, ![1056, 1024]⟩
abbrev S16 : Shape := ⟨1, ![16]⟩
abbrev S16x1 : Shape := ⟨2, ![16, 1]⟩
abbrev S1024x1 : Shape := ⟨2, ![1024, 1]⟩
abbrev S1x1024x256 : Shape := ⟨3, ![1, 1024, 256]⟩
abbrev S1024x256 : Shape := ⟨2, ![1024, 256]⟩
abbrev S1056x256 : Shape := ⟨2, ![1056, 256]⟩
abbrev S1x3x256 : Shape := ⟨3, ![1, 3, 256]⟩
abbrev S3x256 : Shape := ⟨2, ![3, 256]⟩
abbrev S1x256 : Shape := ⟨2, ![1, 256]⟩
abbrev S1x1x256 : Shape := ⟨3, ![1, 1, 256]⟩
abbrev S1x256x1024 : Shape := ⟨3, ![1, 256, 1024]⟩
abbrev S256x1024 : Shape := ⟨2, ![256, 1024]⟩

abbrev nBuf : Space → Nat
  | .hbm => 25
  | .vmem => 22
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S30x1x1024, .f32⟩
  | .hbm, ⟨9, _⟩ => ⟨S1024x2816, .f32⟩
  | .hbm, ⟨10, _⟩ => ⟨S1024x11x256, .f32⟩
  | .hbm, ⟨11, _⟩ => ⟨S11x1024x256, .f32⟩
  | .hbm, ⟨12, _⟩ => ⟨S11x1024x256, .bf16⟩
  | .hbm, ⟨13, _⟩ => ⟨S1024x2816, .f32⟩
  | .hbm, ⟨14, _⟩ => ⟨S1024x11x256, .f32⟩
  | .hbm, ⟨15, _⟩ => ⟨S11x1024x256, .f32⟩
  | .hbm, ⟨16, _⟩ => ⟨S11x1024x256, .bf16⟩
  | .hbm, ⟨17, _⟩ => ⟨S3x11x256, .f32⟩
  | .hbm, ⟨18, _⟩ => ⟨S11x3x256, .f32⟩
  | .hbm, ⟨19, _⟩ => ⟨S11x1x256, .f32⟩
  | .hbm, ⟨20, _⟩ => ⟨S11x256x1024, .f32⟩
  | .hbm, ⟨21, _⟩ => ⟨S11x256x1024, .bf16⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S11x1024x256, .bf16⟩
  | .local _ .vmem, ⟨14, _⟩ => ⟨S11x1024x256, .bf16⟩
  | .local _ .vmem, ⟨15, _⟩ => ⟨S11x3x256, .f32⟩
  | .local _ .vmem, ⟨16, _⟩ => ⟨S11x1x256, .f32⟩
  | .local _ .vmem, ⟨17, _⟩ => ⟨S11x256x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1056x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnRefIdeal.lean ====
abbrev S17408x1024 : Shape := ⟨2, ![17408, 1024]⟩
abbrev S5x6144 : Shape := ⟨2, ![5, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩

abbrev nBuf : Space → Nat
  | .hbm => 101
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S4x4096x1024, .f32⟩
  | .hbm, ⟨10, _⟩ => ⟨S4x6144, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x5632, .f32⟩
  | .hbm, ⟨42, _⟩ => ⟨S4x4096x2816, .f32⟩
  | .hbm, ⟨43, _⟩ => ⟨S4x4096x2816, .f32⟩
  | .hbm, ⟨44, _⟩ => ⟨S_, .i32⟩
  | .hbm, ⟨45, _⟩ => ⟨S_, .f32⟩
  | .hbm, ⟨46, _⟩ => ⟨S4x4098x2816, .f32⟩
  | .hbm, ⟨47, _⟩ => ⟨S4x4096x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S1x2816, .f32⟩
  | .hbm, ⟨62, _⟩ => ⟨S2816, .f32⟩
  | .hbm, ⟨63, _⟩ => ⟨S1x1x2816, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S1x1x2816, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | .hbm, ⟨100, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_v64 : Ref sig .tc := ⟨.hbm, 87, rfl⟩
abbrev main_cst_4 : Ref sig .tc := ⟨.hbm, 88, rfl⟩
abbrev main_v65 : Ref sig .tc := ⟨.hbm, 89, rfl⟩
abbrev main_v66 : Ref sig .tc := ⟨.hbm, 90, rfl⟩
abbrev main_cst_5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Mid.lean ====
abbrev S17408x1024 : Shape := ⟨2, ![17408, 1024]⟩
abbrev S5x6144 : Shape := ⟨2, ![5, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S30x1x1024 : Shape := ⟨3, ![30, 1, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S3x11x256 : Shape := ⟨3, ![3, 11, 256]⟩
abbrev S11x3x256 : Shape := ⟨3, ![11, 3, 256]⟩
abbrev S11x1x256 : Shape := ⟨3, ![11, 1, 256]⟩
abbrev S11x256x1024 : Shape := ⟨3, ![11, 256, 1024]⟩
abbrev S1x1024 : Shape := ⟨2, ![1, 1024]⟩
abbrev S16x1024 : Shape := ⟨2, ![16, 1024]⟩
abbrev S1024x1024 : Shape := ⟨2, ![1024, 1024]⟩
abbrev S1x1x1024 : Shape := ⟨3, ![1, 1, 1024]⟩
abbrev S1056x1024 : Shape := ⟨2, ![1056, 1024]⟩
abbrev S16 : Shape := ⟨1, ![16]⟩
abbrev S16x1 : Shape := ⟨2, ![16, 1]⟩
abbrev S1024x1 : Shape := ⟨2, ![1024, 1]⟩
abbrev S1x1024x256 : Shape := ⟨3, ![1, 1024, 256]⟩
abbrev S1024x256 : Shape := ⟨2, ![1024, 256]⟩
abbrev S1056x256 : Shape := ⟨2, ![1056, 256]⟩
abbrev S1x3x256 : Shape := ⟨3, ![1, 3, 256]⟩
abbrev S3x256 : Shape := ⟨2, ![3, 256]⟩
abbrev S1x256 : Shape := ⟨2, ![1, 256]⟩
abbrev S1x1x256 : Shape := ⟨3, ![1, 1, 256]⟩
abbrev S1x256x1024 : Shape := ⟨3, ![1, 256, 1024]⟩
abbrev S256x1024 : Shape := ⟨2, ![256, 1024]⟩

abbrev nBuf : Space → Nat
  | .hbm => 25
  | .vmem => 22
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S30x1x1024, .f32⟩
  | .hbm, ⟨9, _⟩ => ⟨S1024x2816, .f32⟩
  | .hbm, ⟨10, _⟩ => ⟨S1024x11x256, .f32⟩
  | .hbm, ⟨11, _⟩ => ⟨S11x1024x256, .f32⟩
  | .hbm, ⟨12, _⟩ => ⟨S11x1024x256, .bf16⟩
  | .hbm, ⟨13, _⟩ => ⟨S1024x2816, .f32⟩
  | .hbm, ⟨14, _⟩ => ⟨S1024x11x256, .f32⟩
  | .hbm, ⟨15, _⟩ => ⟨S11x1024x256, .f32⟩
  | .hbm, ⟨16, _⟩ => ⟨S11x1024x256, .bf16⟩
  | .hbm, ⟨17, _⟩ => ⟨S3x11x256, .f32⟩
  | .hbm, ⟨18, _⟩ => ⟨S11x3x256, .f32⟩
  | .hbm, ⟨19, _⟩ => ⟨S11x1x256, .f32⟩
  | .hbm, ⟨20, _⟩ => ⟨S11x256x1024, .f32⟩
  | .hbm, ⟨21, _⟩ => ⟨S11x256x1024, .bf16⟩
  | .hbm, ⟨22, _⟩ => ⟨S1x1024, .f32⟩
  | .hbm, ⟨23, _⟩ => ⟨S1x1024, .f32⟩
  | .hbm, ⟨24, _⟩ => ⟨S17408x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S11x1024x256, .bf16⟩
  | .local _ .vmem, ⟨14, _⟩ => ⟨S11x1024x256, .bf16⟩
  | .local _ .vmem, ⟨15, _⟩ => ⟨S11x3x256, .f32⟩
  | .local _ .vmem, ⟨16, _⟩ => ⟨S11x1x256, .f32⟩
  | .local _ .vmem, ⟨17, _⟩ => ⟨S11x256x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1056x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MidRefIdeal.lean ====
abbrev S17408x1024 : Shape := ⟨2, ![17408, 1024]⟩
abbrev S5x6144 : Shape := ⟨2, ![5, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S1024x1024 : Shape := ⟨2, ![1024, 1024]⟩
abbrev S4x256x1024 : Shape := ⟨3, ![4, 256, 1024]⟩
abbrev S1x6144 : Shape := ⟨2, ![1, 6144]⟩
abbrev S1x1x6144 : Shape := ⟨3, ![1, 1, 6144]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S4x258x2816 : Shape := ⟨3, ![4, 258, 2816]⟩

abbrev nBuf : Space → Nat
  | .hbm => 163
  | .vmem => 0
  | .smem => 0
  | _ => 0

abbrev hbmTy0_0 (i : Nat) : BufTy := match i % 128 with
  | 0 => ⟨S17408x1024, .f32⟩
  | 1 => ⟨S5x6144, .f32⟩
  | 2 => ⟨S1024, .f32⟩
  | 3 => ⟨S1024x5632, .f32⟩
  | 4 => ⟨S3x2816, .f32⟩
  | 5 => ⟨S2816, .f32⟩
  | 6 => ⟨S2816x1024, .f32⟩
  | 7 => ⟨S1024, .f32⟩
  | 8 => ⟨S16384x1024, .f32⟩
  | 9 => ⟨S4x4096x1024, .f32⟩
  | 10 => ⟨S4x6144, .f32⟩
  | 11 => ⟨S4x1x6144, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S4x1x1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S4x4096x5632, .f32⟩
  | 42 => ⟨S4x4096x2816, .f32⟩
  | 43 => ⟨S4x4096x2816, .f32⟩
  | 44 => ⟨S_, .i32⟩
  | 45 => ⟨S_, .f32⟩
  | 46 => ⟨S4x4098x2816, .f32⟩
  | 47 => ⟨S4x4096x2816, .f32⟩
  | 48 => ⟨S1x2816, .f32⟩
  | 49 => ⟨S2816, .f32⟩
  | 50 => ⟨S1x1x2816, .f32⟩
  | 51 => ⟨S4x4096x2816, .f32⟩
  | 52 => ⟨S4x4096x2816, .f32⟩
  | 53 => ⟨S4x4096x2816, .f32⟩
  | 54 => ⟨S1x2816, .f32⟩
  | 55 => ⟨S2816, .f32⟩
  | 56 => ⟨S1x1x2816, .f32⟩
  | 57 => ⟨S4x4096x2816, .f32⟩
  | 58 => ⟨S4x4096x2816, .f32⟩
  | 59 => ⟨S4x4096x2816, .f32⟩
  | 60 => ⟨S4x4096x2816, .f32⟩
  | 61 => ⟨S1x2816, .f32⟩
  | 62 => ⟨S2816, .f32⟩
  | 63 => ⟨S1x1x2816, .f32⟩
  | 64 => ⟨S4x4096x2816, .f32⟩
  | 65 => ⟨S4x4096x2816, .f32⟩
  | 66 => ⟨S4x4096x2816, .f32⟩
  | 67 => ⟨S1x1x2816, .f32⟩
  | 68 => ⟨S4x4096x2816, .f32⟩
  | 69 => ⟨S4x4096x2816, .f32⟩
  | 70 => ⟨S4x4096x2816, .f32⟩
  | 71 => ⟨S4x4096x2816, .f32⟩
  | 72 => ⟨S_, .f32⟩
  | 73 => ⟨S4x4096x2816, .f32⟩
  | 74 => ⟨S4x4096x2816, .f32⟩
  | 75 => ⟨S_, .f32⟩
  | 76 => ⟨S4x4096x2816, .f32⟩
  | 77 => ⟨S4x4096x2816, .f32⟩
  | 78 => ⟨S4x4096x2816, .f32⟩
  | 79 => ⟨S4x4096x2816, .f32⟩
  | 80 => ⟨S4x4096x1024, .f32⟩
  | 81 => ⟨S4x4096x1024, .f32⟩
  | 82 => ⟨S4x4096x1024, .f32⟩
  | 83 => ⟨S4x4096x1024, .f32⟩
  | 84 => ⟨S1024x1024, .f32⟩
  | 85 => ⟨S4x256x1024, .f32⟩
  | 86 => ⟨S1x6144, .f32⟩
  | 87 => ⟨S1x1x6144, .f32⟩
  | 88 => ⟨S1x1x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S4x256x1024, .f32⟩
  | 95 => ⟨S_, .f32⟩
  | 96 => ⟨S4x256, .f32⟩
  | 97 => ⟨S4x256x1, .f32⟩
  | 98 => ⟨S_, .f32⟩
  | 99 => ⟨S4x256x1, .f32⟩
  | 100 => ⟨S4x256x1, .f32⟩
  | 101 => ⟨S_, .f32⟩
  | 102 => ⟨S4x256x1, .f32⟩
  | 103 => ⟨S4x256x1, .f32⟩
  | 104 => ⟨S4x256x1, .f32⟩
  | 105 => ⟨S4x256x1024, .f32⟩
  | 106 => ⟨S4x256x1024, .f32⟩
  | 107 => ⟨S1x1x1024, .f32⟩
  | 108 => ⟨S4x256x1024, .f32⟩
  | 109 => ⟨S4x256x1024, .f32⟩
  | 110 => ⟨S_, .f32⟩
  | 111 => ⟨S1x1x1024, .f32⟩
  | 112 => ⟨S1x1x1024, .f32⟩
  | 113 => ⟨S4x256x1024, .f32⟩
  | 114 => ⟨S4x256x1024, .f32⟩
  | 115 => ⟨S4x256x1024, .f32⟩
  | 116 => ⟨S4x256x1024, .f32⟩
  | 117 => ⟨S4x256x5632, .f32⟩
  | 118 => ⟨S4x256x2816, .f32⟩
  | 119 => ⟨S4x256x2816, .f32⟩
  | 120 => ⟨S_, .i32⟩
  | 121 => ⟨S_, .f32⟩
  | 122 => ⟨S4x258x2816, .f32⟩
  | 123 => ⟨S4x256x2816, .f32⟩
  | 124 => ⟨S1x2816, .f32⟩
  | 125 => ⟨S2816, .f32⟩
  | 126 => ⟨S1x1x2816, .f32⟩
  | 127 => ⟨S4x256x2816, .f32⟩
  | _ => ⟨S17408x1024, .f32⟩

abbrev hbmTy0_1 (i : Nat) : BufTy := match i % 128 with
  | 0 => ⟨S4x256x2816, .f32⟩
  | 1 => ⟨S4x256x2816, .f32⟩
  | 2 => ⟨S1x2816, .f32⟩
  | 3 => ⟨S2816, .f32⟩
  | 4 => ⟨S1x1x2816, .f32⟩
  | 5 => ⟨S4x256x2816, .f32⟩
  | 6 => ⟨S4x256x2816, .f32⟩
  | 7 => ⟨S4x256x2816, .f32⟩
  | 8 => ⟨S4x256x2816, .f32⟩
  | 9 => ⟨S1x2816, .f32⟩
  | 10 => ⟨S2816, .f32⟩
  | 11 => ⟨S1x1x2816, .f32⟩
  | 12 => ⟨S4x256x2816, .f32⟩
  | 13 => ⟨S4x256x2816, .f32⟩
  | 14 => ⟨S4x256x2816, .f32⟩
  | 15 => ⟨S1x1x2816, .f32⟩
  | 16 => ⟨S4x256x2816, .f32⟩
  | 17 => ⟨S4x256x2816, .f32⟩
  | 18 => ⟨S4x256x2816, .f32⟩
  | 19 => ⟨S4x256x2816, .f32⟩
  | 20 => ⟨S_, .f32⟩
  | 21 => ⟨S4x256x2816, .f32⟩
  | 22 => ⟨S4x256x2816, .f32⟩
  | 23 => ⟨S_, .f32⟩
  | 24 => ⟨S4x256x2816, .f32⟩
  | 25 => ⟨S4x256x2816, .f32⟩
  | 26 => ⟨S4x256x2816, .f32⟩
  | 27 => ⟨S4x256x2816, .f32⟩
  | 28 => ⟨S4x256x1024, .f32⟩
  | 29 => ⟨S4x256x1024, .f32⟩
  | 30 => ⟨S4x256x1024, .f32⟩
  | 31 => ⟨S4x256x1024, .f32⟩
  | 32 => ⟨S16384x1024, .f32⟩
  | 33 => ⟨S1024x1024, .f32⟩
  | 34 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_3 : Ref sig .tc := ⟨.hbm, 95, rfl⟩
abbrev main_v73 : Ref sig .tc := ⟨.hbm, 96, rfl⟩
abbrev main_v74 : Ref sig .tc := ⟨.hbm, 97, rfl⟩
abbrev main_cst_4 : Ref sig .tc := ⟨.hbm, 98, rfl⟩
abbrev main_v75 : Ref sig .tc := ⟨.hbm, 99, rfl⟩
abbrev main_v76 : Ref sig .tc := ⟨.hbm, 100, rfl⟩
abbrev main_cst_5 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_6 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_7 : Ref sig .tc := ⟨.hbm, 120, rfl⟩
abbrev main_call2_v0 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call3_v0 : Ref sig .tc := ⟨.hbm, 146, rfl⟩
abbrev main_call3_v1 : Ref sig .tc := ⟨.hbm, 147, rfl⟩
abbrev main_call3_cst : Ref sig .tc := ⟨.hbm, 148, rfl⟩
abbrev main_call3_v2 : Ref sig .tc := ⟨.hbm, 149, rfl⟩
abbrev main_call3_v3 : Ref sig .tc := ⟨.hbm, 150, rfl⟩
abbrev main_call3_cst_0 : Ref sig .tc := ⟨.hbm, 151, rfl⟩
abbrev main_call3_v4 : Ref sig .tc := ⟨.hbm, 152, rfl⟩
abbrev main_call3_v5 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩

abbrev nD : Nat := 1
abbrev τ : Topo := Topo.v7x

variable {F : FTy → Type} [FloatOps F]
-- ==== Proj.lean ====
abbrev S17408x1024 : Shape := ⟨2, ![17408, 1024]⟩
abbrev S5x6144 : Shape := ⟨2, ![5, 6144]⟩
abbrev S1024 : Shape := ⟨1, ![1024]⟩
abbrev S1024x3072 : Shape := ⟨2, ![1024, 3072]⟩
abbrev S30x1x1024 : Shape := ⟨3, ![30, 1, 1024]⟩
abbrev S1024x1024 : Shape := ⟨2, ![1024, 1024]⟩
abbrev S_ : Shape := ⟨0, ![]⟩
abbrev S1024x2048 : Shape := ⟨2, ![1024, 2048]⟩
abbrev S1x1024 : Shape := ⟨2, ![1, 1024]⟩
abbrev S17408x3072 : Shape := ⟨2, ![17408, 3072]⟩
abbrev S1x1x1024 : Shape := ⟨3, ![1, 1, 1024]⟩
abbrev S1024x1 : Shape := ⟨2, ![1024, 1]⟩
abbrev S1024x512 : Shape := ⟨2, ![1024, 512]⟩

abbrev nBuf : Space → Nat
  | .hbm => 14
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x3072, .f32⟩
  | .hbm, ⟨4, _⟩ => ⟨S30x1x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x3072, .f32⟩
  | .hbm, ⟨11, _⟩ => ⟨S1024x3072, .bf16⟩
  | .hbm, ⟨12, _⟩ => ⟨S1x1024, .f32⟩
  | .hbm, ⟨13, _⟩ => ⟨S17408x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x3072, .bf16⟩
  | .local _ .vmem, ⟨9, _⟩ => ⟨S1024x3072, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S17408x1024 : Shape := ⟨2, ![17408, 1024]⟩
abbrev S5x6144 : Shape := ⟨2, ![5, 6144]⟩
abbrev S1024 : Shape := ⟨1, ![1024]⟩
abbrev S1024x3072 : Shape := ⟨2, ![1024, 3072]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S1024x1024 : Shape := ⟨2, ![1024, 1024]⟩
abbrev S4x256x1024 : Shape := ⟨3, ![4, 256, 1024]⟩
abbrev S1x6144 : Shape := ⟨2, ![1, 6144]⟩
abbrev S1x1x6144 : Shape := ⟨3, ![1, 1, 6144]⟩
abbrev S4x256 : Shape := ⟨2, ![4, 256]⟩
abbrev S4x256x1 : Shape := ⟨3, ![4, 256, 1]⟩
abbrev S4x256x3072 : Shape := ⟨3, ![4, 256, 3072]⟩
abbrev S16384x3072 : Shape := ⟨2, ![16384, 3072]⟩
abbrev S17408x3072 : Shape := ⟨2, ![17408, 3072]⟩

abbrev nBuf : Space → Nat
  | .hbm => 91
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x3072, .f32⟩
  | .hbm, ⟨4, _⟩ => ⟨S16384x1024, .f32⟩
  | .hbm, ⟨5, _⟩ => ⟨S4x4096x1024, .f32⟩
  | .hbm, ⟨6, _⟩ => ⟨S4x6144, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x3072, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S4x4096x3072, .f32⟩
  | .hbm, ⟨45, _⟩ => ⟨S4x4096x3072, .bf16⟩
  | .hbm, ⟨46, _⟩ => ⟨S1024x1024, .f32⟩
  | .hbm, ⟨47, _⟩ => ⟨S4x256x1024, .f32⟩
  | .hbm, ⟨48, _⟩ => ⟨S1x6144, .f32⟩
  | .hbm, ⟨49, _⟩ => ⟨S1x1x6144, .f32⟩
  | .hbm, ⟨50, _⟩ => ⟨S1x1x1024, .f32⟩
  | .hbm, ⟨51, _⟩ => ⟨S1x1x1024, .f32⟩
  | .hbm, ⟨52, _⟩ => ⟨S1x1x1024, .f32⟩
  | .hbm, ⟨53, _⟩ => ⟨S1x1x1024, .f32⟩
  | .hbm, ⟨54, _⟩ => ⟨S1x1x1024, .f32⟩
  | .hbm, ⟨55, _⟩ => ⟨S1x1x1024, .f32⟩
  | .hbm, ⟨56, _⟩ => ⟨S4x256x1024, .f32⟩
  | .hbm, ⟨57, _⟩ => ⟨S_, .f32⟩
  | .hbm, ⟨58, _⟩ => ⟨S4x256, .f32⟩
  | .hbm, ⟨59, _⟩ => ⟨S4x256x1, .f32⟩
  | .hbm, ⟨60, _⟩ => ⟨S_, .f32⟩
  | .hbm, ⟨61, _⟩ => ⟨S4x256x1, .f32⟩
  | .hbm, ⟨62, _⟩ => ⟨S4x256x1, .f32⟩
  | .hbm, ⟨63, _⟩ => ⟨S_, .f32⟩
  | .hbm, ⟨64, _⟩ => ⟨S4x256x1, .f32⟩
  | .hbm, ⟨65, _⟩ => ⟨S4x256x1, .f32⟩
  | .hbm, ⟨66, _⟩ => ⟨S4x256x1, .f32⟩
  | .hbm, ⟨67, _⟩ => ⟨S4x256x1024, .f32⟩
  | .hbm, ⟨68, _⟩ => ⟨S4x256x1024, .f32⟩
  | .hbm, ⟨69, _⟩ => ⟨S1x1x1024, .f32⟩
  | .hbm, ⟨70, _⟩ => ⟨S4x256x1024, .f32⟩
  | .hbm, ⟨71, _⟩ => ⟨S4x256x1024, .f32⟩
  | .hbm, ⟨72, _⟩ => ⟨S_, .f32⟩
  | .hbm, ⟨73, _⟩ => ⟨S1x1x1024, .f32⟩
  | .hbm, ⟨74, _⟩ => ⟨S1x1x1024, .f32⟩
  | .hbm, ⟨75, _⟩ => ⟨S4x256x1024, .f32⟩
  | .hbm, ⟨76, _⟩ => ⟨S4x256x1024, .f32⟩
  | .hbm, ⟨77, _⟩ => ⟨S4x256x1024, .f32⟩
  | .hbm, ⟨78, _⟩ => ⟨S4x256x1024, .f32⟩
  | .hbm, ⟨79, _⟩ => ⟨S4x256x3072, .f32⟩
  | .hbm, ⟨80, _⟩ => ⟨S4x256x1024, .f32⟩
  | .hbm, ⟨81, _⟩ => ⟨S4x256x1024, .f32⟩
  | .hbm, ⟨82, _⟩ => ⟨S4x256x1024, .f32⟩
  | .hbm, ⟨83, _⟩ => ⟨S_, .f32⟩
  | .hbm, ⟨84, _⟩ => ⟨S4x256x1024, .f32⟩
  | .hbm, ⟨85, _⟩ => ⟨S4x256x1024, .f32⟩
  | .hbm, ⟨86, _⟩ => ⟨S4x256x3072, .f32⟩
  | .hbm, ⟨87, _⟩ => ⟨S4x256x3072, .bf16⟩
  | .hbm, ⟨88, _⟩ => ⟨S16384x3072, .bf16⟩
  | .hbm, ⟨89, _⟩ => ⟨S1024x3072, .bf16⟩
  | .hbm, ⟨90, _⟩ => ⟨S17408x3072, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩

abbrev nD : Nat := 1
abbrev τ : Topo := Topo.v7x

variable {F : FTy → Type} [FloatOps F]
-- ==== Gate.lean ====
abbrev S17408x1024 : Shape := ⟨2, ![17408, 1024]⟩
abbrev S5x6144 : Shape := ⟨2, ![5, 6144]⟩
abbrev S1024 : Shape := ⟨1, ![1024]⟩
abbrev S1024x2048 : Shape := ⟨2, ![1024, 2048]⟩
abbrev S4x128x128 : Shape := ⟨3, ![4, 128, 128]⟩
abbrev S4x128 : Shape := ⟨2, ![4, 128]⟩
abbrev S1024x1024 : Shape := ⟨2, ![1024, 1024]⟩
abbrev S30x1x1024 : Shape := ⟨3, ![30, 1, 1024]⟩
abbrev S4x128x1 : Shape := ⟨3, ![4, 128, 1]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 17
  | .vmem => 19
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S4x128x128, .f32⟩
  | .hbm, ⟨6, _⟩ => ⟨S4x128, .f32⟩
  | .hbm, ⟨7, _⟩ => ⟨S1024x1024, .f32⟩
  | .hbm, ⟨8, _⟩ => ⟨S30x1x1024, .f32⟩
  | .hbm, ⟨9, _⟩ => ⟨S4x128x1, .f32⟩
  | .hbm, ⟨10, _⟩ => ⟨S4x128x128, .f32⟩
  | .hbm, ⟨11, _⟩ => ⟨S1x1024, .f32⟩
  | .hbm, ⟨12, _⟩ => ⟨S1024x2048, .bf16⟩
  | .hbm, ⟨13, _⟩ => ⟨S1x1024, .f32⟩
  | .hbm, ⟨14, _⟩ => ⟨S4x128x128, .bf16⟩
  | .hbm, ⟨15, _⟩ => ⟨S1024x1024, .bf16⟩
  | .hbm, ⟨16, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2048, .bf16⟩
  | .local _ .vmem, ⟨10, _⟩ => ⟨S1x1024, .f32⟩
  | .local _ .vmem, ⟨11, _⟩ => ⟨S4x128x128, .bf16⟩
  | .local _ .vmem, ⟨12, _⟩ => ⟨S4x128x128, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateRefIdeal.lean ====
abbrev S17408x1024 : Shape := ⟨2, ![17408, 1024]⟩
abbrev S5x6144 : Shape := ⟨2, ![5, 6144]⟩
abbrev S1024 : Shape := ⟨1, ![1024]⟩
abbrev S1024x2048 : Shape := ⟨2, ![1024, 2048]⟩
abbrev S4x128x128 : Shape := ⟨3, ![4, 128, 128]⟩
abbrev S4x128 : Shape := ⟨2, ![4, 128]⟩
abbrev S1024x1024 : Shape := ⟨2, ![1024, 1024]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x32x128x4x256 : Shape := ⟨5, ![4, 32, 128, 4, 256]⟩
abbrev S4x4x32x256x128 : Shape := ⟨5, ![4, 4, 32, 256, 128]⟩
abbrev S128x4 : Shape := ⟨2, ![128, 4]⟩
abbrev S1x1x128x4x1 : Shape := ⟨5, ![1, 1, 128, 4, 1]⟩
abbrev S4x256x1024 : Shape := ⟨3, ![4, 256, 1024]⟩
abbrev S1x6144 : Shape := ⟨2, ![1, 6144]⟩
abbrev S1x1x6144 : Shape := ⟨3, ![1, 1, 6144]⟩
abbrev S4x256 : Shape := ⟨2, ![4, 256]⟩
abbrev S4x256x1 : Shape := ⟨3, ![4, 256, 1]⟩
abbrev S4x256x2048 : Shape := ⟨3, ![4, 256, 2048]⟩
abbrev S4x2x128x4x256 : Shape := ⟨5, ![4, 2, 128, 4, 256]⟩
abbrev S4x4x2x256x128 : Shape := ⟨5, ![4, 4, 2, 256, 128]⟩

abbrev nBuf : Space → Nat
  | .hbm => 175
  | .vmem => 0
  | .smem => 0
  | _ => 0

abbrev hbmTy0_0 (i : Nat) : BufTy := match i % 128 with
  | 0 => ⟨S17408x1024, .f32⟩
  | 1 => ⟨S5x6144, .f32⟩
  | 2 => ⟨S1024, .f32⟩
  | 3 => ⟨S1024x2048, .f32⟩
  | 4 => ⟨S1024, .f32⟩
  | 5 => ⟨S4x128x128, .f32⟩
  | 6 => ⟨S4x128, .f32⟩
  | 7 => ⟨S1024x1024, .f32⟩
  | 8 => ⟨S16384x1024, .f32⟩
  | 9 => ⟨S4x4096x1024, .f32⟩
  | 10 => ⟨S4x6144, .f32⟩
  | 11 => ⟨S4x1x6144, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S4x1x1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S4x4096x2048, .f32⟩
  | 42 => ⟨S4x4096x2048, .f32⟩
  | 43 => ⟨S4x4096x2048, .f32⟩
  | 44 => ⟨S_, .f32⟩
  | 45 => ⟨S4x4096x2048, .f32⟩
  | 46 => ⟨S4x4096x2048, .f32⟩
  | 47 => ⟨S4x4096x2048, .f32⟩
  | 48 => ⟨S_, .f32⟩
  | 49 => ⟨S4x4096x2048, .f32⟩
  | 50 => ⟨S4x4096x2048, .f32⟩
  | 51 => ⟨S4x4096x2048, .f32⟩
  | 52 => ⟨S_, .f32⟩
  | 53 => ⟨S4x4096x2048, .f32⟩
  | 54 => ⟨S4x4096x2048, .f32⟩
  | 55 => ⟨S_, .f32⟩
  | 56 => ⟨S4x4096x2048, .f32⟩
  | 57 => ⟨S4x4096x2048, .f32⟩
  | 58 => ⟨S4x4096x2048, .f32⟩
  | 59 => ⟨S4x4096x1024, .f32⟩
  | 60 => ⟨S4x4096x1024, .f32⟩
  | 61 => ⟨S4x4096x1024, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S_, .f32⟩
  | 69 => ⟨S4x4096x1, .f32⟩
  | 70 => ⟨S4x4096x1, .f32⟩
  | 71 => ⟨S4x4096x1, .f32⟩
  | 72 => ⟨S4x4096x1024, .f32⟩
  | 73 => ⟨S4x4096x1024, .f32⟩
  | 74 => ⟨S1x1x1024, .f32⟩
  | 75 => ⟨S4x4096x1024, .f32⟩
  | 76 => ⟨S4x4096x1024, .f32⟩
  | 77 => ⟨S4x32x128x4x256, .f32⟩
  | 78 => ⟨S4x4x32x256x128, .f32⟩
  | 79 => ⟨S4x32x128x4x256, .f32⟩
  | 80 => ⟨S128x4, .f32⟩
  | 81 => ⟨S1x1x128x4x1, .f32⟩
  | 82 => ⟨S4x32x128x4x256, .f32⟩
  | 83 => ⟨S4x32x128x4x256, .f32⟩
  | 84 => ⟨S4x4096x1024, .f32⟩
  | 85 => ⟨S4x4096x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S1024x1024, .f32⟩
  | 91 => ⟨S4x256x1024, .f32⟩
  | 92 => ⟨S1x6144, .f32⟩
  | 93 => ⟨S1x1x6144, .f32⟩
  | 94 => ⟨S1x1x1024, .f32⟩
  | 95 => ⟨S1x1x1024, .f32⟩
  | 96 => ⟨S1x1x1024, .f32⟩
  | 97 => ⟨S1x1x1024, .f32⟩
  | 98 => ⟨S1x1x1024, .f32⟩
  | 99 => ⟨S1x1x1024, .f32⟩
  | 100 => ⟨S4x256x1024, .f32⟩
  | 101 => ⟨S_, .f32⟩
  | 102 => ⟨S4x256, .f32⟩
  | 103 => ⟨S4x256x1, .f32⟩
  | 104 => ⟨S_, .f32⟩
  | 105 => ⟨S4x256x1, .f32⟩
  | 106 => ⟨S4x256x1, .f32⟩
  | 107 => ⟨S_, .f32⟩
  | 108 => ⟨S4x256x1, .f32⟩
  | 109 => ⟨S4x256x1, .f32⟩
  | 110 => ⟨S4x256x1, .f32⟩
  | 111 => ⟨S4x256x1024, .f32⟩
  | 112 => ⟨S4x256x1024, .f32⟩
  | 113 => ⟨S1x1x1024, .f32⟩
  | 114 => ⟨S4x256x1024, .f32⟩
  | 115 => ⟨S4x256x1024, .f32⟩
  | 116 => ⟨S_, .f32⟩
  | 117 => ⟨S1x1x1024, .f32⟩
  | 118 => ⟨S1x1x1024, .f32⟩
  | 119 => ⟨S4x256x1024, .f32⟩
  | 120 => ⟨S4x256x1024, .f32⟩
  | 121 => ⟨S4x256x1024, .f32⟩
  | 122 => ⟨S4x256x1024, .f32⟩
  | 123 => ⟨S4x256x2048, .f32⟩
  | 124 => ⟨S4x256x2048, .f32⟩
  | 125 => ⟨S4x256x2048, .f32⟩
  | 126 => ⟨S_, .f32⟩
  | 127 => ⟨S4x256x2048, .f32⟩
  | _ => ⟨S17408x1024, .f32⟩

abbrev hbmTy0_1 (i : Nat) : BufTy := match i % 128 with
  | 0 => ⟨S4x256x2048, .f32⟩
  | 1 => ⟨S4x256x2048, .f32⟩
  | 2 => ⟨S_, .f32⟩
  | 3 => ⟨S4x256x2048, .f32⟩
  | 4 => ⟨S4x256x2048, .f32⟩
  | 5 => ⟨S4x256x2048, .f32⟩
  | 6 => ⟨S_, .f32⟩
  | 7 => ⟨S4x256x2048, .f32⟩
  | 8 => ⟨S4x256x2048, .f32⟩
  | 9 => ⟨S_, .f32⟩
  | 10 => ⟨S4x256x2048, .f32⟩
  | 11 => ⟨S4x256x2048, .f32⟩
  | 12 => ⟨S4x256x2048, .f32⟩
  | 13 => ⟨S4x256x1024, .f32⟩
  | 14 => ⟨S4x256x1024, .f32⟩
  | 15 => ⟨S4x256x1024, .f32⟩
  | 16 => ⟨S_, .f32⟩
  | 17 => ⟨S4x256, .f32⟩
  | 18 => ⟨S4x256x1, .f32⟩
  | 19 => ⟨S_, .f32⟩
  | 20 => ⟨S4x256x1, .f32⟩
  | 21 => ⟨S4x256x1, .f32⟩
  | 22 => ⟨S_, .f32⟩
  | 23 => ⟨S4x256x1, .f32⟩
  | 24 => ⟨S4x256x1, .f32⟩
  | 25 => ⟨S4x256x1, .f32⟩
  | 26 => ⟨S4x256x1024, .f32⟩
  | 27 => ⟨S4x256x1024, .f32⟩
  | 28 => ⟨S1x1x1024, .f32⟩
  | 29 => ⟨S4x256x1024, .f32⟩
  | 30 => ⟨S4x256x1024, .f32⟩
  | 31 => ⟨S4x2x128x4x256, .f32⟩
  | 32 => ⟨S4x4x2x256x128, .f32⟩
  | 33 => ⟨S4x2x128x4x256, .f32⟩
  | 34 => ⟨S128x4, .f32⟩
  | 35 => ⟨S1x1x128x4x1, .f32⟩
  | 36 => ⟨S4x2x128x4x256, .f32⟩
  | 37 => ⟨S4x2x128x4x256, .f32⟩
  | 38 => ⟨S4x256x1024, .f32⟩
  | 39 => ⟨S4x256x1024, .f32⟩
  | 40 => ⟨S4x256x1024, .f32⟩
  | 41 => ⟨S4x256x1024, .f32⟩
  | 42 => ⟨S4x256x1024, .f32⟩
  | 43 => ⟨S4x256x1024, .f32⟩
  | 44 => ⟨S16384x1024, .f32⟩
  | 45 => ⟨S1024x1024, .f32⟩
  | 46 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_14 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_15 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_16 : Ref sig .tc := ⟨.hbm, 134, rfl⟩
abbrev main_v109 : Ref sig .tc := ⟨.hbm, 135, rfl⟩
abbrev main_v110 : Ref sig .tc := ⟨.hbm, 136, rfl⟩
abbrev main_cst_17 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_18 : Ref sig .tc := ⟨.hbm, 144, rfl⟩
abbrev main_v117 : Ref sig .tc := ⟨.hbm, 145, rfl⟩
abbrev main_v118 : Ref sig .tc := ⟨.hbm, 146, rfl⟩
abbrev main_cst_19 : Ref sig .tc := ⟨.hbm, 147, rfl⟩
abbrev main_v119 : Ref sig .tc := ⟨.hbm, 148, rfl⟩
abbrev main_v120 : Ref sig .tc := ⟨.hbm, 149, rfl⟩
abbrev main_cst_20 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩

abbrev nD : Nat := 1
abbrev τ : Topo := Topo.v7x

variable {F : FTy → Type} [FloatOps F]
-- ==== NOut.lean ====
abbrev S17408x1024 : Shape := ⟨2, ![17408, 1024]⟩
abbrev S5x6144 : Shape := ⟨2, ![5, 6144]⟩
abbrev S1024x1024 : Shape := ⟨2, ![1024, 1024]⟩
abbrev S30x1x1024 : Shape := ⟨3, ![30, 1, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S5x6144, .f32⟩
  | .hbm, ⟨3, _⟩ => ⟨S1024x1024, .f32⟩
  | .hbm, ⟨4, _⟩ => ⟨S30x1x1024, .f32⟩
  | .hbm, ⟨5, _⟩ => ⟨S1024x1024, .bf16⟩
  | .hbm, ⟨6, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NOutRefIdeal.lean ====
abbrev S17408x1024 : Shape := ⟨2, ![17408, 1024]⟩
abbrev S5x6144 : Shape := ⟨2, ![5, 6144]⟩
abbrev S1024x1024 : Shape := ⟨2, ![1024, 1024]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S4x256x1024 : Shape := ⟨3, ![4, 256, 1024]⟩
abbrev S1x6144 : Shape := ⟨2, ![1, 6144]⟩
abbrev S1x1x6144 : Shape := ⟨3, ![1, 1, 6144]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S5x6144, .f32⟩
  | .hbm, ⟨3, _⟩ => ⟨S1024x1024, .f32⟩
  | .hbm, ⟨4, _⟩ => ⟨S16384x1024, .f32⟩
  | .hbm, ⟨5, _⟩ => ⟨S4x4096x1024, .f32⟩
  | .hbm, ⟨6, _⟩ => ⟨S16384x1024, .bf16⟩
  | .hbm, ⟨7, _⟩ => ⟨S4x4096x1024, .bf16⟩
  | .hbm, ⟨8, _⟩ => ⟨S4x6144, .f32⟩
  | .hbm, ⟨9, _⟩ => ⟨S4x1x6144, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S1024x1024, .f32⟩
  | .hbm, ⟨22, _⟩ => ⟨S4x256x1024, .f32⟩
  | .hbm, ⟨23, _⟩ => ⟨S1024x1024, .bf16⟩
  | .hbm, ⟨24, _⟩ => ⟨S4x256x1024, .bf16⟩
  | .hbm, ⟨25, _⟩ => ⟨S1x6144, .f32⟩
  | .hbm, ⟨26, _⟩ => ⟨S1x1x6144, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S1x1x1024, .f32⟩
  | .hbm, ⟨31, _⟩ => ⟨S1x1x1024, .f32⟩
  | .hbm, ⟨32, _⟩ => ⟨S1x1x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S16384x1024, .f32⟩
  | .hbm, ⟨39, _⟩ => ⟨S1024x1024, .f32⟩
  | .hbm, ⟨40, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== Out.lean ====
abbrev S17408x1024 : Shape := ⟨2, ![17408, 1024]⟩
abbrev S5x6144 : Shape := ⟨2, ![5, 6144]⟩
abbrev S1024x1024 : Shape := ⟨2, ![1024, 1024]⟩
abbrev S16 : Shape := ⟨1, ![16]⟩
abbrev S30x1x1024 : Shape := ⟨3, ![30, 1, 1024]⟩
abbrev S16x64x1024 : Shape := ⟨3, ![16, 64, 1024]⟩
abbrev S_ : Shape := ⟨0, ![]⟩
abbrev S16x1 : Shape := ⟨2, ![16, 1]⟩
abbrev S1x1x1024 : Shape := ⟨3, ![1, 1, 1024]⟩
abbrev S1x1024 : Shape := ⟨2, ![1, 1024]⟩

abbrev nBuf : Space → Nat
  | .hbm => 17
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S5x6144, .f32⟩
  | .hbm, ⟨3, _⟩ => ⟨S1024x1024, .f32⟩
  | .hbm, ⟨4, _⟩ => ⟨S16, .i32⟩
  | .hbm, ⟨5, _⟩ => ⟨S16, .i1⟩
  | .hbm, ⟨6, _⟩ => ⟨S30x1x1024, .f32⟩
  | .hbm, ⟨7, _⟩ => ⟨S16x64x1024, .f32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x64x1024, .f32⟩
  | .hbm, ⟨14, _⟩ => ⟨S1024x1024, .f32⟩
  | .hbm, ⟨15, _⟩ => ⟨S1024x1024, .bf16⟩
  | .hbm, ⟨16, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S17408x1024 : Shape := ⟨2, ![17408, 1024]⟩
abbrev S5x6144 : Shape := ⟨2, ![5, 6144]⟩
abbrev S1024x1024 : Shape := ⟨2, ![1024, 1024]⟩
abbrev S16384x1024 : Shape := ⟨2, ![16384, 1024]⟩
abbrev S4x4096x2x4x2x64 : Shape := ⟨6, ![4, 4096, 2, 4, 2, 64]⟩
abbrev S4x4096x2x2x4x64 : Shape := ⟨6, ![4, 4096, 2, 2, 4, 64]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S5x6144, .f32⟩
  | .hbm, ⟨3, _⟩ => ⟨S1024x1024, .f32⟩
  | .hbm, ⟨4, _⟩ => ⟨S16384x1024, .bf16⟩
  | .hbm, ⟨5, _⟩ => ⟨S4x4096x2x4x2x64, .bf16⟩
  | .hbm, ⟨6, _⟩ => ⟨S4x4096x2x2x4x64, .bf16⟩
  | .hbm, ⟨7, _⟩ => ⟨S4x4096x1024, .bf16⟩
  | .hbm, ⟨8, _⟩ => ⟨S16384x1024, .f32⟩
  | .hbm, ⟨9, _⟩ => ⟨S4x4096x1024, .f32⟩
  | .hbm, ⟨10, _⟩ => ⟨S4x6144, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S16384x1024, .f32⟩
  | .hbm, ⟨24, _⟩ => ⟨S1024x1024, .f32⟩
  | .hbm, ⟨25, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Gqkv.lean ====
abbrev S17408x1024 : Shape := ⟨2, ![17408, 1024]⟩
abbrev S5x6144 : Shape := ⟨2, ![5, 6144]⟩
abbrev S1024 : Shape := ⟨1, ![1024]⟩
abbrev S1024x1536 : Shape := ⟨2, ![1024, 1536]⟩
abbrev S64 : Shape := ⟨1, ![64]⟩
abbrev S16 : Shape := ⟨1, ![16]⟩
abbrev S30x1x1024 : Shape := ⟨3, ![30, 1, 1024]⟩
abbrev S1024x1024 : Shape := ⟨2, ![1024, 1024]⟩
abbrev S1024x16x64 : Shape := ⟨3, ![1024, 16, 64]⟩
abbrev S_ : Shape := ⟨0, ![]⟩
abbrev S16x1 : Shape := ⟨2, ![16, 1]⟩
abbrev S1024x512 : Shape := ⟨2, ![1024, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x128 : Shape := ⟨2, ![4096, 128]⟩
abbrev S1024x128 : Shape := ⟨2, ![1024, 128]⟩
abbrev S5120x128 : Shape := ⟨2, ![5120, 128]⟩
abbrev S1x1024 : Shape := ⟨2, ![1, 1024]⟩
abbrev S17408x1536 : Shape := ⟨2, ![17408, 1536]⟩
abbrev S1x1x1024 : Shape := ⟨3, ![1, 1, 1024]⟩
abbrev S1024x1 : Shape := ⟨2, ![1024, 1]⟩
abbrev S128x128 : Shape := ⟨2, ![128, 128]⟩
abbrev S1024x256 : Shape := ⟨2, ![1024, 256]⟩

abbrev nBuf : Space → Nat
  | .hbm => 108
  | .vmem => 16
  | .smem => 0
  | _ => 0

abbrev bufTy : (tb : Table) → Fin (tcTables nBuf tb) → BufTy
  | .hbm, ⟨0, _⟩ => ⟨S17408x1024, .f32⟩
  | .hbm, ⟨1, _⟩ => ⟨S5x6144, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S16, .i32⟩
  | .hbm, ⟨7, _⟩ => ⟨S16, .i1⟩
  | .hbm, ⟨8, _⟩ => ⟨S30x1x1024, .f32⟩
  | .hbm, ⟨9, _⟩ => ⟨S1024x1024, .f32⟩
  | .hbm, ⟨10, _⟩ => ⟨S1024x16x64, .f32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S1024x16x64, .f32⟩
  | .hbm, ⟨17, _⟩ => ⟨S1024x1024, .f32⟩
  | .hbm, ⟨18, _⟩ => ⟨S1024x512, .f32⟩
  | .hbm, ⟨19, _⟩ => ⟨S1024x1536, .f32⟩
  | .hbm, ⟨20, _⟩ => ⟨S1024x1536, .bf16⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S_, .i1⟩
  | .hbm, ⟨68, _⟩ => ⟨S4096, .i1⟩
  | .hbm, ⟨69, _⟩ => ⟨S4096, .i1⟩
  | .hbm, ⟨70, _⟩ => ⟨S4096, .i1⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S4096x1, .f32⟩
  | .hbm, ⟨84, _⟩ => ⟨S1x16, .f32⟩
  | .hbm, ⟨85, _⟩ => ⟨S4096x16, .f32⟩
  | .hbm, ⟨86, _⟩ => ⟨S4096x16, .f32⟩
  | .hbm, ⟨87, _⟩ => ⟨S4096x16, .f32⟩
  | .hbm, ⟨88, _⟩ => ⟨S4096x1, .f32⟩
  | .hbm, ⟨89, _⟩ => ⟨S1x16, .f32⟩
  | .hbm, ⟨90, _⟩ => ⟨S4096x16, .f32⟩
  | .hbm, ⟨91, _⟩ => ⟨S4096x16, .f32⟩
  | .hbm, ⟨92, _⟩ => ⟨S4096x16, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S4096x128, .f32⟩
  | .hbm, ⟨97, _⟩ => ⟨S4096x32, .f32⟩
  | .hbm, ⟨98, _⟩ => ⟨S4096x32, .f32⟩
  | .hbm, ⟨99, _⟩ => ⟨S4096x128, .f32⟩
  | .hbm, ⟨100, _⟩ => ⟨S_, .f32⟩
  | .hbm, ⟨101, _⟩ => ⟨S1024x128, .f32⟩
  | .hbm, ⟨102, _⟩ => ⟨S5120x128, .f32⟩
  | .hbm, ⟨103, _⟩ => ⟨S_, .f32⟩
  | .hbm, ⟨104, _⟩ => ⟨S1024x128, .f32⟩
  | .hbm, ⟨105, _⟩ => ⟨S5120x128, .f32⟩
  | .hbm, ⟨106, _⟩ => ⟨S1x1024, .f32⟩
  | .hbm, ⟨107, _⟩ => ⟨S17408x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1536, .bf16⟩
  | .local _ .vmem, ⟨15, _⟩ => ⟨S1024x1536, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v23 : Ref sig .tc := ⟨.hbm, 50, rfl⟩
abbrev main_v24 : Ref sig .tc := ⟨.hbm, 51, rfl⟩
abbrev main_c_3 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_4 : Ref sig .tc := ⟨.hbm, 77, rfl⟩
abbrev main_v29 : Ref sig .tc := ⟨.hbm, 78, rfl⟩
abbrev main_v30 : Ref sig .tc := ⟨.hbm, 79, rfl⟩
abbrev main_cst_5 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_6 : Ref sig .tc := ⟨.hbm, 100, rfl⟩
abbrev main_v50 : Ref sig .tc := ⟨.hbm, 101, rfl⟩
abbrev main_v51 : Ref sig .tc := ⟨.hbm, 102, rfl⟩
abbrev main_cst_7 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1024_i32 : BitVec 32 := 1024#32
  let v0 : BitVec 32 := Scalar.muli arg0 c1024_i32
  let c16384_i32 : BitVec 32 := 16384#32
  let v1 : BitVec 1 := Scalar.cmpi .sge v0 c16384_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c4_i32_3 : BitVec 32 := 4#32
  let v12 : BitVec 32 := Scalar.select v1 c4_i32_3 v11
  let c0_i32_4 : BitVec 32 := 0#32
  let c0_i32_5 : BitVec 32 := 0#32
  ![v12.toNat, c0_i32_4.toNat]

def cc0_transform_8 (i : grid0.Coords) : Fin 2 → Nat :=
  let arg0 : BitVec 32 := BitVec.ofNat 32 (i 0).val
  let c1024_i32 : BitVec 32 := 1024#32
  let v0 : BitVec 32 := Scalar.muli arg0 c1024_i32
  let c16384_i32 : BitVec 32 := 16384#32
  let v1 : BitVec 1 := Scalar.cmpi .sge v0 c16384_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c4_i32_3 : BitVec 32 := 4#32
  let v12 : BitVec 32 := Scalar.select v1 c4_i32_3 v11
  let c0_i32_4 : BitVec 32 := 0#32
  let c0_i32_5 : BitVec 32 := 0#32
  ![v12.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GqkvRefIdeal.lean ====
abbrev S17408x1024 : Shape := ⟨2, ![17408, 1024]⟩
abbrev S5x6144 : Shape := ⟨2, ![5, 6144]⟩
abbrev S1024 : Shape := ⟨1, ![1024]⟩
abbrev S1024x1536 : Shape := ⟨2, ![1024, 1536]⟩
abbrev S64 : Shape := ⟨1, ![64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S16384x1024 : Shape := ⟨2, ![16384, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1536 : Shape := ⟨3, ![4, 4096, 1536]⟩
abbrev S4x4096x256 : Shape := ⟨3, ![4, 4096, 256]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x16x32 : Shape := ⟨4, ![4, 4096, 16, 32]⟩
abbrev S1x4096x1x32 : Shape := ⟨4, ![1, 4096, 1, 32]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S4x4096x4x32 : Shape := ⟨4, ![4, 4096, 4, 32]⟩
abbrev S4x4096x2x2x4x64 : Shape := ⟨6, ![4, 4096, 2, 2, 4, 64]⟩
abbrev S4x4096x2x4x2x64 : Shape := ⟨6, ![4, 4096, 2, 4, 2, 64]⟩
abbrev S16384x256 : Shape := ⟨2, ![16384, 256]⟩
abbrev S16384x1536 : Shape := ⟨2, ![16384, 1536]⟩
abbrev S1024x1024 : Shape := ⟨2, ![1024, 1024]⟩
abbrev S4x256x1024 : Shape := ⟨3, ![4, 256, 1024]⟩
abbrev S1x6144 : Shape := ⟨2, ![1, 6144]⟩
abbrev S1x1x6144 : Shape := ⟨3, ![1, 1, 6144]⟩
abbrev S4x256 : Shape := ⟨2, ![4, 256]⟩
abbrev S4x256x1 : Shape := ⟨3, ![4, 256, 1]⟩
abbrev S4x256x1536 : Shape := ⟨3, ![4, 256, 1536]⟩
abbrev S4x256x256 : Shape := ⟨3, ![4, 256, 256]⟩
abbrev S4x256x16x64 : Shape := ⟨4, ![4, 256, 16, 64]⟩
abbrev S4x256x16 : Shape := ⟨3, ![4, 256, 16]⟩
abbrev S4x256x16x1 : Shape := ⟨4, ![4, 256, 16, 1]⟩
abbrev S4x256x4x64 : Shape := ⟨4, ![4, 256, 4, 64]⟩
abbrev S4x256x4 : Shape := ⟨3, ![4, 256, 4]⟩
abbrev S4x256x4x1 : Shape := ⟨4, ![4, 256, 4, 1]⟩
abbrev S4x256x2x2x4x64 : Shape := ⟨6, ![4, 256, 2, 2, 4, 64]⟩
abbrev S4x256x2x4x2x64 : Shape := ⟨6, ![4, 256, 2, 4, 2, 64]⟩
abbrev S1024x256 : Shape := ⟨2, ![1024, 256]⟩
abbrev S17408x1536 : Shape := ⟨2, ![17408, 1536]⟩

abbrev nBuf : Space → Nat
  | .hbm => 262
  | .vmem => 0
  | .smem => 0
  | _ => 0

abbrev hbmTy0_0 (i : Nat) : BufTy := match i % 128 with
  | 0 => ⟨S17408x1024, .f32⟩
  | 1 => ⟨S5x6144, .f32⟩
  | 2 => ⟨S1024, .f32⟩
  | 3 => ⟨S1024x1536, .f32⟩
  | 4 => ⟨S64, .f32⟩
  | 5 => ⟨S64, .f32⟩
  | 6 => ⟨S4096, .i32⟩
  | 7 => ⟨S_, .i32⟩
  | 8 => ⟨S_, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i1⟩
  | 15 => ⟨S4096, .i32⟩
  | 16 => ⟨S4096, .i32⟩
  | 17 => ⟨S_, .i32⟩
  | 18 => ⟨S4096, .i32⟩
  | 19 => ⟨S4096, .i1⟩
  | 20 => ⟨S4096, .i1⟩
  | 21 => ⟨S_, .i32⟩
  | 22 => ⟨S4096, .i32⟩
  | 23 => ⟨S4096, .i32⟩
  | 24 => ⟨S4096, .i32⟩
  | 25 => ⟨S4096, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S4096, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S4096x1, .f32⟩
  | 58 => ⟨S1x16, .f32⟩
  | 59 => ⟨S4096x16, .f32⟩
  | 60 => ⟨S4096x16, .f32⟩
  | 61 => ⟨S4096x16, .f32⟩
  | 62 => ⟨S4096x1, .f32⟩
  | 63 => ⟨S1x16, .f32⟩
  | 64 => ⟨S4096x16, .f32⟩
  | 65 => ⟨S4096x16, .f32⟩
  | 66 => ⟨S4096x16, .f32⟩
  | 67 => ⟨S4096x32, .f32⟩
  | 68 => ⟨S4096x32, .f32⟩
  | 69 => ⟨S4096x32, .f32⟩
  | 70 => ⟨S16384x1024, .f32⟩
  | 71 => ⟨S4x4096x1024, .f32⟩
  | 72 => ⟨S4x6144, .f32⟩
  | 73 => ⟨S4x1x6144, .f32⟩
  | 74 => ⟨S4x1x1024, .f32⟩
  | 75 => ⟨S4x1x1024, .f32⟩
  | 76 => ⟨S4x1x1024, .f32⟩
  | 77 => ⟨S4x1x1024, .f32⟩
  | 78 => ⟨S4x1x1024, .f32⟩
  | 79 => ⟨S4x1x1024, .f32⟩
  | 80 => ⟨S4x4096x1024, .f32⟩
  | 81 => ⟨S_, .f32⟩
  | 82 => ⟨S4x4096, .f32⟩
  | 83 => ⟨S4x4096x1, .f32⟩
  | 84 => ⟨S_, .f32⟩
  | 85 => ⟨S4x4096x1, .f32⟩
  | 86 => ⟨S4x4096x1, .f32⟩
  | 87 => ⟨S_, .f32⟩
  | 88 => ⟨S4x4096x1, .f32⟩
  | 89 => ⟨S4x4096x1, .f32⟩
  | 90 => ⟨S4x4096x1, .f32⟩
  | 91 => ⟨S4x4096x1024, .f32⟩
  | 92 => ⟨S4x4096x1024, .f32⟩
  | 93 => ⟨S1x1x1024, .f32⟩
  | 94 => ⟨S4x4096x1024, .f32⟩
  | 95 => ⟨S4x4096x1024, .f32⟩
  | 96 => ⟨S_, .f32⟩
  | 97 => ⟨S4x1x1024, .f32⟩
  | 98 => ⟨S4x1x1024, .f32⟩
  | 99 => ⟨S4x4096x1024, .f32⟩
  | 100 => ⟨S4x4096x1024, .f32⟩
  | 101 => ⟨S4x4096x1024, .f32⟩
  | 102 => ⟨S4x4096x1024, .f32⟩
  | 103 => ⟨S4x4096x1536, .f32⟩
  | 104 => ⟨S4x4096x1024, .f32⟩
  | 105 => ⟨S4x4096x256, .f32⟩
  | 106 => ⟨S4x4096x256, .f32⟩
  | 107 => ⟨S4x4096x16x64, .f32⟩
  | 108 => ⟨S4x4096x16x64, .f32⟩
  | 109 => ⟨S_, .f32⟩
  | 110 => ⟨S4x4096x16, .f32⟩
  | 111 => ⟨S4x4096x16x1, .f32⟩
  | 112 => ⟨S_, .f32⟩
  | 113 => ⟨S4x4096x16x1, .f32⟩
  | 114 => ⟨S4x4096x16x1, .f32⟩
  | 115 => ⟨S_, .f32⟩
  | 116 => ⟨S4x4096x16x1, .f32⟩
  | 117 => ⟨S4x4096x16x1, .f32⟩
  | 118 => ⟨S4x4096x16x1, .f32⟩
  | 119 => ⟨S4x4096x16x64, .f32⟩
  | 120 => ⟨S4x4096x16x64, .f32⟩
  | 121 => ⟨S1x1x1x64, .f32⟩
  | 122 => ⟨S4x4096x16x64, .f32⟩
  | 123 => ⟨S4x4096x16x64, .f32⟩
  | 124 => ⟨S4x4096x16x32, .f32⟩
  | 125 => ⟨S4x4096x16x32, .f32⟩
  | 126 => ⟨S1x4096x1x32, .f32⟩
  | 127 => ⟨S1x4096x1x32, .f32⟩
  | _ => ⟨S17408x1024, .f32⟩

abbrev hbmTy0_1 (i : Nat) : BufTy := match i % 128 with
  | 0 => ⟨S4x4096x16x32, .f32⟩
  | 1 => ⟨S4x4096x16x32, .f32⟩
  | 2 => ⟨S4x4096x16x32, .f32⟩
  | 3 => ⟨S4x4096x16x32, .f32⟩
  | 4 => ⟨S4x4096x16x32, .f32⟩
  | 5 => ⟨S4x4096x16x32, .f32⟩
  | 6 => ⟨S4x4096x16x32, .f32⟩
  | 7 => ⟨S4x4096x16x32, .f32⟩
  | 8 => ⟨S4x4096x16x32, .f32⟩
  | 9 => ⟨S4x4096x16x32, .f32⟩
  | 10 => ⟨S4x4096x16x64, .f32⟩
  | 11 => ⟨S4x4096x4x64, .f32⟩
  | 12 => ⟨S4x4096x4x64, .f32⟩
  | 13 => ⟨S_, .f32⟩
  | 14 => ⟨S4x4096x4, .f32⟩
  | 15 => ⟨S4x4096x4x1, .f32⟩
  | 16 => ⟨S_, .f32⟩
  | 17 => ⟨S4x4096x4x1, .f32⟩
  | 18 => ⟨S4x4096x4x1, .f32⟩
  | 19 => ⟨S_, .f32⟩
  | 20 => ⟨S4x4096x4x1, .f32⟩
  | 21 => ⟨S4x4096x4x1, .f32⟩
  | 22 => ⟨S4x4096x4x1, .f32⟩
  | 23 => ⟨S4x4096x4x64, .f32⟩
  | 24 => ⟨S4x4096x4x64, .f32⟩
  | 25 => ⟨S1x1x1x64, .f32⟩
  | 26 => ⟨S4x4096x4x64, .f32⟩
  | 27 => ⟨S4x4096x4x64, .f32⟩
  | 28 => ⟨S4x4096x4x32, .f32⟩
  | 29 => ⟨S4x4096x4x32, .f32⟩
  | 30 => ⟨S1x4096x1x32, .f32⟩
  | 31 => ⟨S1x4096x1x32, .f32⟩
  | 32 => ⟨S4x4096x4x32, .f32⟩
  | 33 => ⟨S4x4096x4x32, .f32⟩
  | 34 => ⟨S4x4096x4x32, .f32⟩
  | 35 => ⟨S4x4096x4x32, .f32⟩
  | 36 => ⟨S4x4096x4x32, .f32⟩
  | 37 => ⟨S4x4096x4x32, .f32⟩
  | 38 => ⟨S4x4096x4x32, .f32⟩
  | 39 => ⟨S4x4096x4x32, .f32⟩
  | 40 => ⟨S4x4096x4x32, .f32⟩
  | 41 => ⟨S4x4096x4x32, .f32⟩
  | 42 => ⟨S4x4096x4x64, .f32⟩
  | 43 => ⟨S_, .f32⟩
  | 44 => ⟨S4x4096x16x64, .f32⟩
  | 45 => ⟨S4x4096x16x64, .f32⟩
  | 46 => ⟨S4x4096x2x2x4x64, .f32⟩
  | 47 => ⟨S4x4096x2x4x2x64, .f32⟩
  | 48 => ⟨S16384x1024, .f32⟩
  | 49 => ⟨S16384x256, .f32⟩
  | 50 => ⟨S16384x256, .f32⟩
  | 51 => ⟨S16384x1536, .f32⟩
  | 52 => ⟨S1024x1024, .f32⟩
  | 53 => ⟨S4x256x1024, .f32⟩
  | 54 => ⟨S1x6144, .f32⟩
  | 55 => ⟨S1x1x6144, .f32⟩
  | 56 => ⟨S1x1x1024, .f32⟩
  | 57 => ⟨S1x1x1024, .f32⟩
  | 58 => ⟨S1x1x1024, .f32⟩
  | 59 => ⟨S1x1x1024, .f32⟩
  | 60 => ⟨S1x1x1024, .f32⟩
  | 61 => ⟨S1x1x1024, .f32⟩
  | 62 => ⟨S4x256x1024, .f32⟩
  | 63 => ⟨S_, .f32⟩
  | 64 => ⟨S4x256, .f32⟩
  | 65 => ⟨S4x256x1, .f32⟩
  | 66 => ⟨S_, .f32⟩
  | 67 => ⟨S4x256x1, .f32⟩
  | 68 => ⟨S4x256x1, .f32⟩
  | 69 => ⟨S_, .f32⟩
  | 70 => ⟨S4x256x1, .f32⟩
  | 71 => ⟨S4x256x1, .f32⟩
  | 72 => ⟨S4x256x1, .f32⟩
  | 73 => ⟨S4x256x1024, .f32⟩
  | 74 => ⟨S4x256x1024, .f32⟩
  | 75 => ⟨S1x1x1024, .f32⟩
  | 76 => ⟨S4x256x1024, .f32⟩
  | 77 => ⟨S4x256x1024, .f32⟩
  | 78 => ⟨S_, .f32⟩
  | 79 => ⟨S1x1x1024, .f32⟩
  | 80 => ⟨S1x1x1024, .f32⟩
  | 81 => ⟨S4x256x1024, .f32⟩
  | 82 => ⟨S4x256x1024, .f32⟩
  | 83 => ⟨S4x256x1024, .f32⟩
  | 84 => ⟨S4x256x1024, .f32⟩
  | 85 => ⟨S4x256x1536, .f32⟩
  | 86 => ⟨S4x256x1024, .f32⟩
  | 87 => ⟨S4x256x256, .f32⟩
  | 88 => ⟨S4x256x256, .f32⟩
  | 89 => ⟨S4x256x16x64, .f32⟩
  | 90 => ⟨S4x256x16x64, .f32⟩
  | 91 => ⟨S_, .f32⟩
  | 92 => ⟨S4x256x16, .f32⟩
  | 93 => ⟨S4x256x16x1, .f32⟩
  | 94 => ⟨S_, .f32⟩
  | 95 => ⟨S4x256x16x1, .f32⟩
  | 96 => ⟨S4x256x16x1, .f32⟩
  | 97 => ⟨S_, .f32⟩
  | 98 => ⟨S4x256x16x1, .f32⟩
  | 99 => ⟨S4x256x16x1, .f32⟩
  | 100 => ⟨S4x256x16x1, .f32⟩
  | 101 => ⟨S4x256x16x64, .f32⟩
  | 102 => ⟨S4x256x16x64, .f32⟩
  | 103 => ⟨S1x1x1x64, .f32⟩
  | 104 => ⟨S4x256x16x64, .f32⟩
  | 105 => ⟨S4x256x16x64, .f32⟩
  | 106 => ⟨S4x256x4x64, .f32⟩
  | 107 => ⟨S4x256x4x64, .f32⟩
  | 108 => ⟨S_, .f32⟩
  | 109 => ⟨S4x256x4, .f32⟩
  | 110 => ⟨S4x256x4x1, .f32⟩
  | 111 => ⟨S_, .f32⟩
  | 112 => ⟨S4x256x4x1, .f32⟩
  | 113 => ⟨S4x256x4x1, .f32⟩
  | 114 => ⟨S_, .f32⟩
  | 115 => ⟨S4x256x4x1, .f32⟩
  | 116 => ⟨S4x256x4x1, .f32⟩
  | 117 => ⟨S4x256x4x1, .f32⟩
  | 118 => ⟨S4x256x4x64, .f32⟩
  | 119 => ⟨S4x256x4x64, .f32⟩
  | 120 => ⟨S1x1x1x64, .f32⟩
  | 121 => ⟨S4x256x4x64, .f32⟩
  | 122 => ⟨S4x256x4x64, .f32⟩
  | 123 => ⟨S_, .f32⟩
  | 124 => ⟨S4x256x16x64, .f32⟩
  | 125 => ⟨S4x256x16x64, .f32⟩
  | 126 => ⟨S4x256x2x2x4x64, .f32⟩
  | 127 => ⟨S4x256x2x4x2x64, .f32⟩
  | _ => ⟨S17408x1024, .f32⟩

abbrev hbmTy0_2 (i : Nat) : BufTy := match i % 128 with
  | 0 => ⟨S1024x1024, .f32⟩
  | 1 => ⟨S1024x256, .f32⟩
  | 2 => ⟨S1024x256, .f32⟩
  | 3 => ⟨S1024x1536, .f32⟩
  | 4 => ⟨S17408x1536, .f32⟩
  | 5 => ⟨S17408x1536, .bf16⟩
  | _ => ⟨S17408x1024, .f32⟩

abbrev hbmTy (i : Nat) : BufTy := match i / 128 with
  | 0 => hbmTy0_0 i
  | 1 => hbmTy0_1 i
  | 2 => hbmTy0_2 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_2 : Ref sig .tc := ⟨.hbm, 81, rfl⟩
abbrev main_v35 : Ref sig .tc := ⟨.hbm, 82, rfl⟩
abbrev main_v36 : Ref sig .tc := ⟨.hbm, 83, rfl⟩
abbrev main_cst_3 : Ref sig .tc := ⟨.hbm, 84, rfl⟩
abbrev main_v37 : Ref sig .tc := ⟨.hbm, 85, rfl⟩
abbrev main_v38 : Ref sig .tc := ⟨.hbm, 86, rfl⟩
abbrev main_cst_4 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_5 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_6 : Ref sig .tc := ⟨.hbm, 109, rfl⟩
abbrev main_v59 : Ref sig .tc := ⟨.hbm, 110, rfl⟩
abbrev main_v60 : Ref sig .tc := ⟨.hbm, 111, rfl⟩
abbrev main_cst_7 : Ref sig .tc := ⟨.hbm, 112, rfl⟩
abbrev main_v61 : Ref sig .tc := ⟨.hbm, 113, rfl⟩
abbrev main_v62 : Ref sig .tc := ⟨.hbm, 114, rfl⟩
abbrev main_cst_8 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_9 : Ref sig .tc := ⟨.hbm, 141, rfl⟩
abbrev main_v88 : Ref sig .tc := ⟨.hbm, 142, rfl⟩
abbrev main_v89 : Ref sig .tc := ⟨.hbm, 143, rfl⟩
abbrev main_cst_10 : Ref sig .tc := ⟨.hbm, 144, rfl⟩
abbrev main_v90 : Ref sig .tc := ⟨.hbm, 145, rfl⟩
abbrev main_v91 : Ref sig .tc := ⟨.hbm, 146, rfl⟩
abbrev main_cst_11 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_12 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_13 : Ref sig .tc := ⟨.hbm, 191, rfl⟩
abbrev main_v134 : Ref sig .tc := ⟨.hbm, 192, rfl⟩
abbrev main_v135 : Ref sig .tc := ⟨.hbm, 193, rfl⟩
abbrev main_cst_14 : Ref sig .tc := ⟨.hbm, 194, rfl⟩
abbrev main_v136 : Ref sig .tc := ⟨.hbm, 195, rfl⟩
abbrev main_v137 : Ref sig .tc := ⟨.hbm, 196, rfl⟩
abbrev main_cst_15 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_16 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_17 : Ref sig .tc := ⟨.hbm, 219, rfl⟩
abbrev main_v158 : Ref sig .tc := ⟨.hbm, 220, rfl⟩
abbrev main_v159 : Ref sig .tc := ⟨.hbm, 221, rfl⟩
abbrev main_cst_18 : Ref sig .tc := ⟨.hbm, 222, rfl⟩
abbrev main_v160 : Ref sig .tc := ⟨.hbm, 223, rfl⟩
abbrev main_v161 : Ref sig .tc := ⟨.hbm, 224, rfl⟩
abbrev main_cst_19 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_20 : Ref sig .tc := ⟨.hbm, 236, rfl⟩
abbrev main_v172 : Ref sig .tc := ⟨.hbm, 237, rfl⟩
abbrev main_v173 : Ref sig .tc := ⟨.hbm, 238, rfl⟩
abbrev main_cst_21 : Ref sig .tc := ⟨.hbm, 239, rfl⟩
abbrev main_v174 : Ref sig .tc := ⟨.hbm, 240, rfl⟩
abbrev main_v175 : Ref sig .tc := ⟨.hbm, 241, rfl⟩
abbrev main_cst_22 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_23 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩

abbrev nD : Nat := 1
abbrev τ : Topo := Topo.v7x

variable {F : FTy → Type} [FloatOps F]
-- ==== Fseq.lean ====
abbrev S17408x1024 : Shape := ⟨2, ![17408, 1024]⟩
abbrev S2x17408x1024 : Shape := ⟨3, ![2, 17408, 1024]⟩
abbrev S2x4096x4096 : Shape := ⟨3, ![2, 4096, 4096]⟩
abbrev S5x6144 : Shape := ⟨2, ![5, 6144]⟩
abbrev S1024x1024 : Shape := ⟨2, ![1024, 1024]⟩
abbrev S30x1x1024 : Shape := ⟨3, ![30, 1, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S2x17408x1024, .bf16⟩
  | .hbm, ⟨2, _⟩ => ⟨S2x4096x4096, .bf16⟩
  | .hbm, ⟨3, _⟩ => ⟨S5x6144, .f32⟩
  | .hbm, ⟨4, _⟩ => ⟨S1024x1024, .f32⟩
  | .hbm, ⟨5, _⟩ => ⟨S30x1x1024, .f32⟩
  | .hbm, ⟨6, _⟩ => ⟨S1024x1024, .bf16⟩
  | .hbm, ⟨7, _⟩ => ⟨S17408x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.muli arg0 c4_i32_4
  let c0_i32_5 : BitVec 32 := 0#32
  let v18 : BitVec 32 := Scalar.addi c0_i32_5 v17
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg2 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_12 : BitVec 32 := 0#32
  let c0_i32_13 : BitVec 32 := 0#32
  ![v16.toNat, v29.toNat, c0_i32_12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FseqRefIdeal.lean ====
abbrev S17408x1024 : Shape := ⟨2, ![17408, 1024]⟩
abbrev S2x17408x1024 : Shape := ⟨3, ![2, 17408, 1024]⟩
abbrev S2x4096x4096 : Shape := ⟨3, ![2, 4096, 4096]⟩
abbrev S5x6144 : Shape := ⟨2, ![5, 6144]⟩
abbrev S1024x1024 : Shape := ⟨2, ![1024, 1024]⟩
abbrev S2x16384x1024 : Shape := ⟨3, ![2, 16384, 1024]⟩
abbrev S2x4x4096x1024 : Shape := ⟨4, ![2, 4, 4096, 1024]⟩
abbrev S1x4096x4096 : Shape := ⟨3, ![1, 4096, 4096]⟩
abbrev S4096x4096 : Shape := ⟨2, ![4096, 4096]⟩
abbrev S1x4x4096x1024 : Shape := ⟨4, ![1, 4, 4096, 1024]⟩
abbrev S4x4096x1024 : Shape := ⟨3, ![4, 4096, 1024]⟩
abbrev S4x1024x4096 : Shape := ⟨3, ![4, 1024, 4096]⟩
abbrev S_ : Shape := ⟨0, ![]⟩
abbrev S16384x1024 : Shape := ⟨2, ![16384, 1024]⟩
abbrev S4x6144 : Shape := ⟨2, ![4, 6144]⟩
abbrev S4x1x6144 : Shape := ⟨3, ![4, 1, 6144]⟩
abbrev S4x1x1024 : Shape := ⟨3, ![4, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x17408x1024, .bf16⟩
  | .hbm, ⟨2, _⟩ => ⟨S2x4096x4096, .bf16⟩
  | .hbm, ⟨3, _⟩ => ⟨S5x6144, .f32⟩
  | .hbm, ⟨4, _⟩ => ⟨S1024x1024, .f32⟩
  | .hbm, ⟨5, _⟩ => ⟨S2x16384x1024, .bf16⟩
  | .hbm, ⟨6, _⟩ => ⟨S2x4x4096x1024, .bf16⟩
  | .hbm, ⟨7, _⟩ => ⟨S2x4x4096x1024, .f32⟩
  | .hbm, ⟨8, _⟩ => ⟨S2x4096x4096, .f32⟩
  | .hbm, ⟨9, _⟩ => ⟨S1x4096x4096, .f32⟩
  | .hbm, ⟨10, _⟩ => ⟨S4096x4096, .f32⟩
  | .hbm, ⟨11, _⟩ => ⟨S1x4x4096x1024, .f32⟩
  | .hbm, ⟨12, _⟩ => ⟨S4x4096x1024, .f32⟩
  | .hbm, ⟨13, _⟩ => ⟨S4x1024x4096, .f32⟩
  | .hbm, ⟨14, _⟩ => ⟨S4x4096x1024, .f32⟩
  | .hbm, ⟨15, _⟩ => ⟨S1x4096x4096, .f32⟩
  | .hbm, ⟨16, _⟩ => ⟨S4096x4096, .f32⟩
  | .hbm, ⟨17, _⟩ => ⟨S1x4x4096x1024, .f32⟩
  | .hbm, ⟨18, _⟩ => ⟨S4x4096x1024, .f32⟩
  | .hbm, ⟨19, _⟩ => ⟨S4x1024x4096, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S16384x1024, .f32⟩
  | .hbm, ⟨26, _⟩ => ⟨S4x4096x1024, .f32⟩
  | .hbm, ⟨27, _⟩ => ⟨S4x6144, .f32⟩
  | .hbm, ⟨28, _⟩ => ⟨S4x1x6144, .f32⟩
  | .hbm, ⟨29, _⟩ => ⟨S4x1x1024, .f32⟩
  | .hbm, ⟨30, _⟩ => ⟨S4x1x1024, .f32⟩
  | .hbm, ⟨31, _⟩ => ⟨S4x1x1024, .f32⟩
  | .hbm, ⟨32, _⟩ => ⟨S4x1x1024, .f32⟩
  | .hbm, ⟨33, _⟩ => ⟨S4x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S16384x1024, .f32⟩
  | .hbm, ⟨40, _⟩ => ⟨S1024x1024, .f32⟩
  | .hbm, ⟨41, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Proof.AttnParts.lean ====
/- The attention body's steps, named: the masked queries, one chunk's scores, the running maximum, the weights, the
   rescaled sum and the quotient. Every generated payload is one of these, or a short composition of them. -/
module

public import proofs.«01_k».proof.Proof.Gen.AttnIdeal.Skeleton
public import Idealize.ShloMosaic.Lib.Pointwise

@[expose] public section

noncomputable section

namespace Cert.AttnIdeal.Parts

open Cert.AttnIdeal Cert.AttnIdeal.Gen Idealize.ShloMosaic Idealize.ShloMosaic.TcCoe

variable {F : FTy → Type} [FloatOps F]

/-- The lane numbers. -/
def lanes : IVec S1x128 32 := iota .tc S1x128 32 [1] iota_S1x128_d1_w32

/-- The lanes of the first kv head of the pair. -/
def sel0 : IVec S1x128 1 := k0_pay2

/-- The lanes of the second kv head of the pair. -/
def sel1 : IVec S1x128 1 := k0_pay39 lanes 64#32 (k0_pay36 lanes) (k0_pay37 lanes) k0_pay38

/-- One query block's lanes of the selected kv head, zero elsewhere. -/
def qmask (sel : IVec S1x128 1) (q : FVec F S128x128 .bf16) : FVec F S128x128 .bf16 :=
  select (broadcastTo S128x128 (shapeCast S1x128 sel shapeCasts_S1x128_S1x128) broadcasts_S1x128_S128x128) q
    (broadcast S128x128 (Scalar.ofBits .bf16 0x0000#16))

/-- The four masked query blocks one under the other. -/
def qcat (sel : IVec S1x128 1) (a b c d : FVec F S128x128 .bf16) : FVec F S512x128 .bf16 :=
  concatenate S512x128 0 [⟨S128x128, qmask sel a⟩, ⟨S128x128, qmask sel b⟩, ⟨S128x128, qmask sel c⟩, ⟨S128x128, qmask sel d⟩]
    concatenates_S128x128_S128x128_S128x128_S128x128_S512x128_d0

/-- The values of the selected lanes, ones elsewhere. -/
def ones512 (sel : IVec S1x128 1) (v : FVec F S512x128 .bf16) : FVec F S512x128 .bf16 :=
  select (broadcastTo S512x128 (shapeCast S1x128 sel shapeCasts_S1x128_S1x128) broadcasts_S1x128_S512x128) v
    (broadcast S512x128 (Scalar.ofBits .bf16 0x3F80#16))

/-- The same for the context's 256 rows. -/
def ones256 (sel : IVec S1x128 1) (v : FVec F S256x128 .bf16) : FVec F S256x128 .bf16 :=
  select (broadcastTo S256x128 (shapeCast S1x128 sel shapeCasts_S1x128_S1x128) broadcasts_S1x128_S256x128) v
    (broadcast S256x128 (Scalar.ofBits .bf16 0x3F80#16))

/-- A chunk's scores. -/
def score512 (qs : FVec F S512x128 .bf16) (k : FVec F S512x128 .bf16) : FVec F S512x512 .f32 :=
  matmul dot_S512x128_S512x128_S512x512_1_1_0_0_n_n none qs k (constant S512x512 .f32 0x00000000#32)

/-- The context's scores. -/
def score256 (qs : FVec F S512x128 .bf16) (k : FVec F S256x128 .bf16) : FVec F S512x256 .f32 :=
  matmul dot_S512x128_S256x128_S512x256_1_1_0_0_n_n none qs k (constant S512x256 .f32 0x00000000#32)

/-- The running maximum after a chunk. -/
def top512 (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)

/-- The running maximum after the context. -/
def top256 (m : FVec F S512x1 .f32) (s : FVec F S512x256 .f32) : FVec F S512x1 .f32 :=
  maximumf m (shapeCast S512x1 (multiReduction .maximumf [1] S512 s 0xFF800000#32 reduces_S512x256_S512 (.inl rfl) rfl)
    shapeCasts_S512_S512x1)

/-- The factor the sum so far is rescaled by. -/
def alpha (m M : FVec F S512x1 .f32) : FVec F S512x1 .f32 := exp (subf m M)

/-- A chunk's scores less the running maximum. -/
def shift512 (s : FVec F S512x512 .f32) (M : FVec F S512x1 .f32) : FVec F S512x512 .f32 :=
  subf s (broadcastTo S512x512 M broadcasts_S512x1_S512x512)

/-- The context's scores less the running maximum. -/
def shift256 (s : FVec F S512x256 .f32) (M : FVec F S512x1 .f32) : FVec F S512x256 .f32 :=
  subf s (broadcastTo S512x256 M broadcasts_S512x1_S512x256)

/-- A chunk's weights. -/
def wt512 (x : FVec F S512x512 .f32) : FVec F S512x512 .bf16 := truncf .bf16 (exp x) bitsLt_bf16_f32

/-- The context's weights. -/
def wt256 (x : FVec F S512x256 .f32) : FVec F S512x256 .bf16 := truncf .bf16 (exp x) bitsLt_bf16_f32

/-- The sum so far, rescaled. -/
def resc (al : FVec F S512x1 .f32) (acc : FVec F S512x128 .f32) : FVec F S512x128 .f32 :=
  mulf (broadcastTo S512x128 al broadcasts_S512x1_S512x128) acc

/-- A chunk's weighted values added. -/
def addp512 (r : FVec F S512x128 .f32) (p : FVec F S512x512 .bf16) (va : FVec F S512x128 .bf16) : FVec F S512x128 .f32 :=
  addf r (matmul dot_S512x512_S512x128_S512x128_1_0_0_1_n_n none p va (constant S512x128 .f32 0x00000000#32))

/-- The context's weighted values added. -/
def addp256 (r : FVec F S512x128 .f32) (p : FVec F S512x256 .bf16) (va : FVec F S256x128 .bf16) : FVec F S512x128 .f32 :=
  addf r (matmul dot_S512x256_S256x128_S512x128_1_0_0_1_n_n none p va (constant S512x128 .f32 0x00000000#32))

/-- The quotient by the sum of the weights, which every lane of the other kv head holds. -/
def quot (sel : IVec S1x128 1) (acc : FVec F S512x128 .f32) : FVec F S512x128 .f32 :=
  divf acc (broadcastTo S512x128 (mulf (shapeCast S512x1 (multiReduction .add [1] S512
      (select (broadcastTo S512x128 (shapeCast S1x128 sel shapeCasts_S1x128_S1x128) broadcasts_S1x128_S512x128)
        (broadcast S512x128 (Scalar.ofBits .f32 0x00000000#32)) acc)
      0x00000000#32 reduces_S512x128_S512 (.inl rfl) rfl) shapeCasts_S512_S512x1)
    (broadcast S512x1 (Scalar.ofBits .f32 0x3C800000#32))) broadcasts_S512x1_S512x128)

/-- What is stored: each lane from the half of its kv head. -/
def pick (a b : FVec F S128x128 .f32) : FVec F S128x128 .bf16 :=
  truncf .bf16 (select (broadcastTo S128x128 (shapeCast S1x128 (cmpi .slt lanes (broadcast S1x128 64#32)) shapeCasts_S1x128_S1x128)
    broadcasts_S1x128_S128x128) a b) bitsLt_bf16_f32

/-- The running state, a maximum and a sum per row. -/
structure St (F : FTy → Type) [FloatOps F] where
  top : FVec F S512x1 .f32
  acc : FVec F S512x128 .f32

/-- Before any key. -/
def st0 : St F := ⟨broadcast S512x1 (Scalar.ofBits .f32 0xFF800000#32), broadcast S512x128 (Scalar.ofBits .f32 0x00000000#32)⟩

/-- After a chunk of 512 keys. -/
def step512 (sel : IVec S1x128 1) (qs : FVec F S512x128 .bf16) (k v : FVec F S512x128 .bf16) (s : St F) : St F :=
  ⟨top512 s.top (score512 qs k),
   addp512 (resc (alpha s.top (top512 s.top (score512 qs k))) s.acc)
    (wt512 (shift512 (score512 qs k) (top512 s.top (score512 qs k)))) (ones512 sel v)⟩

/-- After the context's 256 keys. -/
def step256 (sel : IVec S1x128 1) (qs : FVec F S512x128 .bf16) (k v : FVec F S256x128 .bf16) (s : St F) : St F :=
  ⟨top256 s.top (score256 qs k),
   addp256 (resc (alpha s.top (top256 s.top (score256 qs k))) s.acc)
    (wt256 (shift256 (score256 qs k) (top256 s.top (score256 qs k)))) (ones256 sel v)⟩

/-! ## The payloads -/

theorem pay8_eq :
    k0_pay8 (F := F) = (st0 (F := F)).top := rfl

theorem pay9_eq (v26 : IVec S1x128 1) (v31 : Vec F S128x128 .bf16) (v36 : Vec F S128x128 .bf16) (v37 : Vec F S128x128 .bf16) (v38 : FVec F S128x128 .bf16) (v39 : IVec S1x128 1) (v42 : Vec F S128x128 .bf16) (v50 : Vec F S512x128 .bf16) :
    k0_pay9 v26 v31 v36 v37 v38 v39 v42 v50 = score512 (k0_pay7 v26 v31 v36 v37 v38 v39 v42) v50 := rfl

theorem pay10_eq (v26 : IVec S1x128 1) (v31 : Vec F S128x128 .bf16) (v36 : Vec F S128x128 .bf16) (v37 : Vec F S128x128 .bf16) (v38 : FVec F S128x128 .bf16) (v39 : IVec S1x128 1) (v42 : Vec F S128x128 .bf16) (v50 : Vec F S512x128 .bf16) :
    k0_pay10 v26 v31 v36 v37 v38 v39 v42 v50 = top512 (st0 (F := F)).top (k0_pay9 v26 v31 v36 v37 v38 v39 v42 v50) := rfl

theorem pay11_eq (v26 : IVec S1x128 1) (v31 : Vec F S128x128 .bf16) (v36 : Vec F S128x128 .bf16) (v37 : Vec F S128x128 .bf16) (v38 : FVec F S128x128 .bf16) (v39 : IVec S1x128 1) (v42 : Vec F S128x128 .bf16) (v50 : Vec F S512x128 .bf16) (v51 : Vec F S512x128 .bf16) :
    k0_pay11 v26 v31 v36 v37 v38 v39 v42 v50 v51 = addp512 (resc (alpha (st0 (F := F)).top (k0_pay10 v26 v31 v36 v37 v38 v39 v42 v50)) (st0 (F := F)).acc) (wt512 (shift512 (k0_pay9 v26 v31 v36 v37 v38 v39 v42 v50) (k0_pay10 v26 v31 v36 v37 v38 v39 v42 v50))) (ones512 v26 v51) := rfl

theorem pay12_eq (v26 : IVec S1x128 1) (v71 : Vec F S512x128 .bf16) :
    k0_pay12 v26 v71 = ones512 v26 v71 := rfl

theorem pay13_eq (v26 : IVec S1x128 1) (v31 : Vec F S128x128 .bf16) (v36 : Vec F S128x128 .bf16) (v37 : Vec F S128x128 .bf16) (v38 : FVec F S128x128 .bf16) (v39 : IVec S1x128 1) (v42 : Vec F S128x128 .bf16) (v70 : Vec F S512x128 .bf16) :
    k0_pay13 v26 v31 v36 v37 v38 v39 v42 v70 = score512 (k0_pay7 v26 v31 v36 v37 v38 v39 v42) v70 := rfl

theorem pay14_eq (v26 : IVec S1x128 1) (v31 : Vec F S128x128 .bf16) (v36 : Vec F S128x128 .bf16) (v37 : Vec F S128x128 .bf16) (v38 : FVec F S128x128 .bf16) (v39 : IVec S1x128 1) (v42 : Vec F S128x128 .bf16) (v50 : Vec F S512x128 .bf16) (v70 : Vec F S512x128 .bf16) :
    k0_pay14 v26 v31 v36 v37 v38 v39 v42 v50 v70 = top512 (k0_pay10 v26 v31 v36 v37 v38 v39 v42 v50) (k0_pay13 v26 v31 v36 v37 v38 v39 v42 v70) := rfl

theorem pay15_eq (v47 : FVec F S512x128 .bf16) (v90 : Vec F S512x128 .bf16) :
    k0_pay15 v47 v90 = score512 v47 v90 := rfl

theorem pay16_eq (v47 : FVec F S512x128 .bf16) (v79 : FVec F S512x1 .f32) (v90 : Vec F S512x128 .bf16) :
    k0_pay16 v47 v79 v90 = top512 v79 (k0_pay15 v47 v90) := rfl

theorem pay17_eq (v26 : IVec S1x128 1) (v47 : FVec F S512x128 .bf16) (v59 : FVec F S512x1 .f32) (v69 : FVec F S512x128 .f32) (v75 : Vec F S512x128 .bf16) (v76 : FVec F S512x512 .f32) (v79 : FVec F S512x1 .f32) (v90 : Vec F S512x128 .bf16) (v91 : Vec F S512x128 .bf16) :
    k0_pay17 v26 v47 v59 v69 v75 v76 v79 v90 v91 = addp512 (resc (alpha v79 (k0_pay16 v47 v79 v90)) (addp512 (resc (alpha v59 v79) v69) (wt512 (shift512 v76 v79)) v75)) (wt512 (shift512 (k0_pay15 v47 v90) (k0_pay16 v47 v79 v90))) (ones512 v26 v91) := rfl

theorem pay18_eq (v26 : IVec S1x128 1) (v111 : Vec F S512x128 .bf16) :
    k0_pay18 v26 v111 = ones512 v26 v111 := rfl

theorem pay19_eq (v47 : FVec F S512x128 .bf16) (v110 : Vec F S512x128 .bf16) :
    k0_pay19 v47 v110 = score512 v47 v110 := rfl

theorem pay20_eq (v47 : FVec F S512x128 .bf16) (v79 : FVec F S512x1 .f32) (v90 : Vec F S512x128 .bf16) (v110 : Vec F S512x128 .bf16) :
    k0_pay20 v47 v79 v90 v110 = top512 (k0_pay16 v47 v79 v90) (k0_pay19 v47 v110) := rfl

theorem pay21_eq (v47 : FVec F S512x128 .bf16) (v79 : FVec F S512x1 .f32) (v90 : Vec F S512x128 .bf16) (v110 : Vec F S512x128 .bf16) :
    k0_pay21 v47 v79 v90 v110 = alpha (k0_pay16 v47 v79 v90) (k0_pay20 v47 v79 v90 v110) := rfl

theorem pay22_eq (v47 : FVec F S512x128 .bf16) (v79 : FVec F S512x1 .f32) (v90 : Vec F S512x128 .bf16) (v110 : Vec F S512x128 .bf16) :
    k0_pay22 v47 v79 v90 v110 = shift512 (k0_pay19 v47 v110) (k0_pay20 v47 v79 v90 v110) := rfl

theorem pay23_eq (v47 : FVec F S512x128 .bf16) (v130 : Vec F S512x128 .bf16) :
    k0_pay23 v47 v130 = score512 v47 v130 := rfl

theorem pay24_eq (v47 : FVec F S512x128 .bf16) (v119 : FVec F S512x1 .f32) (v130 : Vec F S512x128 .bf16) :
    k0_pay24 v47 v119 v130 = top512 v119 (k0_pay23 v47 v130) := rfl

theorem pay25_eq (v26 : IVec S1x128 1) (v151 : Vec F S512x128 .bf16) :
    k0_pay25 v26 v151 = ones512 v26 v151 := rfl

theorem pay26_eq (v47 : FVec F S512x128 .bf16) (v150 : Vec F S512x128 .bf16) :
    k0_pay26 v47 v150 = score512 v47 v150 := rfl

theorem pay27_eq (v47 : FVec F S512x128 .bf16) (v119 : FVec F S512x1 .f32) (v130 : Vec F S512x128 .bf16) (v150 : Vec F S512x128 .bf16) :
    k0_pay27 v47 v119 v130 v150 = top512 (k0_pay24 v47 v119 v130) (k0_pay26 v47 v150) := rfl

theorem pay28_eq (v47 : FVec F S512x128 .bf16) (v119 : FVec F S512x1 .f32) (v130 : Vec F S512x128 .bf16) (v150 : Vec F S512x128 .bf16) :
    k0_pay28 v47 v119 v130 v150 = wt512 (shift512 (k0_pay26 v47 v150) (k0_pay27 v47 v119 v130 v150)) := rfl

theorem pay29_eq (v26 : IVec S1x128 1) (v47 : FVec F S512x128 .bf16) (v109 : FVec F S512x128 .f32) (v115 : Vec F S512x128 .bf16) (v119 : FVec F S512x1 .f32) (v121 : FVec F S512x1 .f32) (v123 : FVec F S512x512 .f32) (v130 : Vec F S512x128 .bf16) (v131 : Vec F S512x128 .bf16) (v150 : Vec F S512x128 .bf16) :
    k0_pay29 v26 v47 v109 v115 v119 v121 v123 v130 v131 v150 = resc (alpha (k0_pay24 v47 v119 v130) (k0_pay27 v47 v119 v130 v150)) (addp512 (resc (alpha v119 (k0_pay24 v47 v119 v130)) (addp512 (resc v121 v109) (wt512 v123) v115)) (wt512 (shift512 (k0_pay23 v47 v130) (k0_pay24 v47 v119 v130))) (ones512 v26 v131)) := rfl

theorem pay30_eq (v47 : FVec F S512x128 .bf16) (v170 : Vec F S512x128 .bf16) :
    k0_pay30 v47 v170 = score512 v47 v170 := rfl

theorem pay31_eq (v47 : FVec F S512x128 .bf16) (v159 : FVec F S512x1 .f32) (v170 : Vec F S512x128 .bf16) :
    k0_pay31 v47 v159 v170 = top512 v159 (k0_pay30 v47 v170) := rfl

theorem pay32_eq (v47 : FVec F S512x128 .bf16) (v190 : Vec F S512x128 .bf16) :
    k0_pay32 v47 v190 = score512 v47 v190 := rfl

theorem pay33_eq (v47 : FVec F S512x128 .bf16) (v159 : FVec F S512x1 .f32) (v170 : Vec F S512x128 .bf16) (v190 : Vec F S512x128 .bf16) :
    k0_pay33 v47 v159 v170 v190 = top512 (k0_pay31 v47 v159 v170) (k0_pay32 v47 v190) := rfl

theorem pay34_eq (v26 : IVec S1x128 1) (v47 : FVec F S512x128 .bf16) (v155 : Vec F S512x128 .bf16) (v159 : FVec F S512x1 .f32) (v165 : FVec F S512x512 .bf16) (v167 : FVec F S512x128 .f32) (v170 : Vec F S512x128 .bf16) (v171 : Vec F S512x128 .bf16) (v190 : Vec F S512x128 .bf16) (v191 : Vec F S512x128 .bf16) :
    k0_pay34 v26 v47 v155 v159 v165 v167 v170 v171 v190 v191 = addp512 (resc (alpha (k0_pay31 v47 v159 v170) (k0_pay33 v47 v159 v170 v190)) (addp512 (resc (alpha v159 (k0_pay31 v47 v159 v170)) (addp512 v167 v165 v155)) (wt512 (shift512 (k0_pay30 v47 v170) (k0_pay31 v47 v159 v170))) (ones512 v26 v171))) (wt512 (shift512 (k0_pay32 v47 v190) (k0_pay33 v47 v159 v170 v190))) (ones512 v26 v191) := rfl

theorem pay35_eq (v26 : IVec S1x128 1) (v47 : FVec F S512x128 .bf16) (v199 : FVec F S512x1 .f32) (v209 : FVec F S512x128 .f32) (v210 : Vec F S256x128 .bf16) (v211 : Vec F S256x128 .bf16) :
    k0_pay35 v26 v47 v199 v209 v210 v211 = quot v26 (addp256 (resc (alpha v199 (top256 v199 (score256 v47 v210))) v209) (wt256 (shift256 (score256 v47 v210) (top256 v199 (score256 v47 v210)))) (ones256 v26 v211)) := rfl

theorem pay40_eq (v0 : IVec S1x128 32) (c64_i32_82 : BitVec 32) (v241 : IVec S1x128 32) (v248 : IVec S1x128 32) (v254 : IVec S1x128 32) (v266 : Vec F S128x128 .bf16) (v271 : Vec F S128x128 .bf16) (v276 : Vec F S128x128 .bf16) (v281 : Vec F S128x128 .bf16) :
    k0_pay40 v0 c64_i32_82 v241 v248 v254 v266 v271 v276 v281 = qcat (k0_pay39 v0 c64_i32_82 v241 v248 v254) v266 v271 v276 v281 := rfl

theorem pay41_eq :
    k0_pay41 (F := F) = (st0 (F := F)).top := rfl

theorem pay42_eq :
    k0_pay42 (F := F) = (st0 (F := F)).acc := rfl

theorem pay45_eq (v286 : FVec F S512x128 .bf16) (v289 : Vec F S512x128 .bf16) :
    k0_pay45 v286 v289 = score512 v286 v289 := rfl

theorem pay46_eq (v286 : FVec F S512x128 .bf16) (v287 : FVec F S512x1 .f32) (v289 : Vec F S512x128 .bf16) :
    k0_pay46 v286 v287 v289 = top512 v287 (k0_pay45 v286 v289) := rfl

theorem pay47_eq (v286 : FVec F S512x128 .bf16) (v309 : Vec F S512x128 .bf16) :
    k0_pay47 v286 v309 = score512 v286 v309 := rfl

theorem pay48_eq (v286 : FVec F S512x128 .bf16) (v287 : FVec F S512x1 .f32) (v289 : Vec F S512x128 .bf16) (v309 : Vec F S512x128 .bf16) :
    k0_pay48 v286 v287 v289 v309 = top512 (k0_pay46 v286 v287 v289) (k0_pay47 v286 v309) := rfl

theorem pay50_eq (v265 : IVec S1x128 1) (v330 : Vec F S512x128 .bf16) :
    k0_pay50 v265 v330 = ones512 v265 v330 := rfl

theorem pay51_eq (v286 : FVec F S512x128 .bf16) (v329 : Vec F S512x128 .bf16) :
    k0_pay51 v286 v329 = score512 v286 v329 := rfl

theorem pay52_eq (v318 : FVec F S512x1 .f32) (v335 : FVec F S512x512 .f32) :
    k0_pay52 v318 v335 = top512 v318 v335 := rfl

theorem pay53_eq (v286 : FVec F S512x128 .bf16) (v349 : Vec F S512x128 .bf16) :
    k0_pay53 v286 v349 = score512 v286 v349 := rfl

theorem pay54_eq (v286 : FVec F S512x128 .bf16) (v318 : FVec F S512x1 .f32) (v335 : FVec F S512x512 .f32) (v349 : Vec F S512x128 .bf16) :
    k0_pay54 v286 v318 v335 v349 = top512 (k0_pay52 v318 v335) (k0_pay53 v286 v349) := rfl

theorem pay55_eq (v265 : IVec S1x128 1) (v286 : FVec F S512x128 .bf16) (v318 : FVec F S512x1 .f32) (v328 : FVec F S512x128 .f32) (v334 : Vec F S512x128 .bf16) (v335 : FVec F S512x512 .f32) (v349 : Vec F S512x128 .bf16) (v350 : Vec F S512x128 .bf16) :
    k0_pay55 v265 v286 v318 v328 v334 v335 v349 v350 = addp512 (resc (alpha (k0_pay52 v318 v335) (k0_pay54 v286 v318 v335 v349)) (addp512 (resc (alpha v318 (k0_pay52 v318 v335)) v328) (wt512 (shift512 v335 (k0_pay52 v318 v335))) v334)) (wt512 (shift512 (k0_pay53 v286 v349) (k0_pay54 v286 v318 v335 v349))) (ones512 v265 v350) := rfl

theorem pay56_eq (v265 : IVec S1x128 1) (v370 : Vec F S512x128 .bf16) :
    k0_pay56 v265 v370 = ones512 v265 v370 := rfl

theorem pay57_eq (v286 : FVec F S512x128 .bf16) (v369 : Vec F S512x128 .bf16) :
    k0_pay57 v286 v369 = score512 v286 v369 := rfl

theorem pay58_eq (v286 : FVec F S512x128 .bf16) (v318 : FVec F S512x1 .f32) (v335 : FVec F S512x512 .f32) (v349 : Vec F S512x128 .bf16) (v369 : Vec F S512x128 .bf16) :
    k0_pay58 v286 v318 v335 v349 v369 = top512 (k0_pay54 v286 v318 v335 v349) (k0_pay57 v286 v369) := rfl

theorem pay59_eq (v286 : FVec F S512x128 .bf16) (v389 : Vec F S512x128 .bf16) :
    k0_pay59 v286 v389 = score512 v286 v389 := rfl

theorem pay60_eq (v286 : FVec F S512x128 .bf16) (v378 : FVec F S512x1 .f32) (v389 : Vec F S512x128 .bf16) :
    k0_pay60 v286 v378 v389 = top512 v378 (k0_pay59 v286 v389) := rfl

theorem pay61_eq (v265 : IVec S1x128 1) (v286 : FVec F S512x128 .bf16) (v358 : FVec F S512x1 .f32) (v368 : FVec F S512x128 .f32) (v374 : Vec F S512x128 .bf16) (v375 : FVec F S512x512 .f32) (v378 : FVec F S512x1 .f32) (v389 : Vec F S512x128 .bf16) (v390 : Vec F S512x128 .bf16) :
    k0_pay61 v265 v286 v358 v368 v374 v375 v378 v389 v390 = addp512 (resc (alpha v378 (k0_pay60 v286 v378 v389)) (addp512 (resc (alpha v358 v378) v368) (wt512 (shift512 v375 v378)) v374)) (wt512 (shift512 (k0_pay59 v286 v389) (k0_pay60 v286 v378 v389))) (ones512 v265 v390) := rfl

theorem pay62_eq (v265 : IVec S1x128 1) (v410 : Vec F S512x128 .bf16) :
    k0_pay62 v265 v410 = ones512 v265 v410 := rfl

theorem pay63_eq (v286 : FVec F S512x128 .bf16) (v409 : Vec F S512x128 .bf16) :
    k0_pay63 v286 v409 = score512 v286 v409 := rfl

theorem pay64_eq (v286 : FVec F S512x128 .bf16) (v378 : FVec F S512x1 .f32) (v389 : Vec F S512x128 .bf16) (v409 : Vec F S512x128 .bf16) :
    k0_pay64 v286 v378 v389 v409 = top512 (k0_pay60 v286 v378 v389) (k0_pay63 v286 v409) := rfl

theorem pay65_eq (v286 : FVec F S512x128 .bf16) (v378 : FVec F S512x1 .f32) (v389 : Vec F S512x128 .bf16) (v409 : Vec F S512x128 .bf16) :
    k0_pay65 v286 v378 v389 v409 = alpha (k0_pay60 v286 v378 v389) (k0_pay64 v286 v378 v389 v409) := rfl

theorem pay66_eq (v286 : FVec F S512x128 .bf16) (v378 : FVec F S512x1 .f32) (v389 : Vec F S512x128 .bf16) (v409 : Vec F S512x128 .bf16) :
    k0_pay66 v286 v378 v389 v409 = shift512 (k0_pay63 v286 v409) (k0_pay64 v286 v378 v389 v409) := rfl

theorem pay67_eq (v286 : FVec F S512x128 .bf16) (v429 : Vec F S512x128 .bf16) :
    k0_pay67 v286 v429 = score512 v286 v429 := rfl

theorem pay68_eq (v286 : FVec F S512x128 .bf16) (v418 : FVec F S512x1 .f32) (v429 : Vec F S512x128 .bf16) :
    k0_pay68 v286 v418 v429 = top512 v418 (k0_pay67 v286 v429) := rfl

theorem pay69_eq (v265 : IVec S1x128 1) (v450 : Vec F S256x128 .bf16) :
    k0_pay69 v265 v450 = ones256 v265 v450 := rfl

theorem pay70_eq (v286 : FVec F S512x128 .bf16) (v449 : Vec F S256x128 .bf16) :
    k0_pay70 v286 v449 = score256 v286 v449 := rfl

theorem pay71_eq (v286 : FVec F S512x128 .bf16) (v418 : FVec F S512x1 .f32) (v429 : Vec F S512x128 .bf16) (v449 : Vec F S256x128 .bf16) :
    k0_pay71 v286 v418 v429 v449 = top256 (k0_pay68 v286 v418 v429) (k0_pay70 v286 v449) := rfl

theorem pay72_eq (v286 : FVec F S512x128 .bf16) (v418 : FVec F S512x1 .f32) (v429 : Vec F S512x128 .bf16) (v449 : Vec F S256x128 .bf16) :
    k0_pay72 v286 v418 v429 v449 = wt256 (shift256 (k0_pay70 v286 v449) (k0_pay71 v286 v418 v429 v449)) := rfl

theorem pay73_eq (v265 : IVec S1x128 1) (v286 : FVec F S512x128 .bf16) (v408 : FVec F S512x128 .f32) (v414 : Vec F S512x128 .bf16) (v418 : FVec F S512x1 .f32) (v420 : FVec F S512x1 .f32) (v422 : FVec F S512x512 .f32) (v429 : Vec F S512x128 .bf16) (v430 : Vec F S512x128 .bf16) (v449 : Vec F S256x128 .bf16) :
    k0_pay73 v265 v286 v408 v414 v418 v420 v422 v429 v430 v449 = resc (alpha (k0_pay68 v286 v418 v429) (k0_pay71 v286 v418 v429 v449)) (addp512 (resc (alpha v418 (k0_pay68 v286 v418 v429)) (addp512 (resc v420 v408) (wt512 v422) v414)) (wt512 (shift512 (k0_pay67 v286 v429) (k0_pay68 v286 v418 v429))) (ones512 v265 v430)) := rfl

theorem pay74_eq (v265 : IVec S1x128 1) (v454 : Vec F S256x128 .bf16) (v464 : FVec F S512x256 .bf16) (v466 : FVec F S512x128 .f32) :
    k0_pay74 v265 v454 v464 v466 = quot v265 (addp256 v466 v464 v454) := rfl

theorem pay75_eq (v239 : FVec F S512x128 .f32) (v265 : IVec S1x128 1) (v454 : Vec F S256x128 .bf16) (v464 : FVec F S512x256 .bf16) (v466 : FVec F S512x128 .f32) :
    k0_pay75 lanes v239 v265 v454 v464 v466 = pick (extractStridedSlice S128x128 ![0, 0] v239 slices_S512x128_o0_0_S128x128) (extractStridedSlice S128x128 ![0, 0] (k0_pay74 v265 v454 v464 v466) slices_S512x128_o0_0_S128x128) := rfl

theorem pay76_eq (v239 : FVec F S512x128 .f32) (v265 : IVec S1x128 1) (v454 : Vec F S256x128 .bf16) (v464 : FVec F S512x256 .bf16) (v466 : FVec F S512x128 .f32) :
    k0_pay76 lanes v239 v265 v454 v464 v466 = pick (extractStridedSlice S128x128 ![128, 0] v239 slices_S512x128_o128_0_S128x128) (extractStridedSlice S128x128 ![128, 0] (k0_pay74 v265 v454 v464 v466) slices_S512x128_o128_0_S128x128) := rfl

theorem pay77_eq (v239 : FVec F S512x128 .f32) (v265 : IVec S1x128 1) (v454 : Vec F S256x128 .bf16) (v464 : FVec F S512x256 .bf16) (v466 : FVec F S512x128 .f32) :
    k0_pay77 lanes v239 v265 v454 v464 v466 = pick (extractStridedSlice S128x128 ![256, 0] v239 slices_S512x128_o256_0_S128x128) (extractStridedSlice S128x128 ![256, 0] (k0_pay74 v265 v454 v464 v466) slices_S512x128_o256_0_S128x128) := rfl

theorem pay79_eq (v239 : FVec F S512x128 .f32) :
    k0_pay79 v239 = extractStridedSlice S128x128 ![384, 0] v239 slices_S512x128_o384_0_S128x128 := rfl

theorem pay80_eq (v265 : IVec S1x128 1) (v454 : Vec F S256x128 .bf16) (v464 : FVec F S512x256 .bf16) (v466 : FVec F S512x128 .f32) :
    k0_pay80 v265 v454 v464 v466 = extractStridedSlice S128x128 ![384, 0] (k0_pay74 v265 v454 v464 v466) slices_S512x128_o384_0_S128x128 := rfl

theorem pay7_eq (a b c d : FVec F S128x128 .bf16) :
    k0_pay7 k0_pay2 (k0_pay3 a) (k0_pay4 b) c (k0_pay5 (F := F)) k0_pay6 d = qcat sel0 a b c d := rfl

theorem pay49_eq (v0 : IVec S1x128 32) (c : BitVec 32) (v241 v248 v254 : IVec S1x128 32) (v286 : FVec F S512x128 .bf16)
    (v287 : FVec F S512x1 .f32) (v288 : FVec F S512x128 .f32) (v289 v290 v309 v310 : FVec F S512x128 .bf16) :
    k0_pay49 (k0_pay39 v0 c v241 v248 v254) v286 v287 v288 v289 v290 (k0_pay43 (F := F)) (k0_pay44 v0 c v241 v248 v254) v309 v310
      = addp512 (resc (alpha (k0_pay46 v286 v287 v289) (k0_pay48 v286 v287 v289 v309))
          (addp512 (resc (alpha v287 (k0_pay46 v286 v287 v289)) v288)
            (wt512 (shift512 (k0_pay45 v286 v289) (k0_pay46 v286 v287 v289))) (ones512 (k0_pay39 v0 c v241 v248 v254) v290)))
          (wt512 (shift512 (k0_pay47 v286 v309) (k0_pay48 v286 v287 v289 v309))) (ones512 (k0_pay39 v0 c v241 v248 v254) v310) := rfl

theorem pay1_eq (a b : FVec F S128x128 .f32) : k0_pay1 (k0_pay78 lanes) a b = pick a b := rfl

end Cert.AttnIdeal.Parts

end
-- ==== Proof.AttnBlock.lean ====
/- What one grid point of the attention call writes: the state after all nine chunks for each half, and the four stored
   pieces of lanes in terms of it. -/
module

public import proofs.«01_k».proof.Proof.AttnParts
public import proofs.«01_k».proof.Proof.Gen.AttnIdeal.Value

@[expose] public section

noncomputable section

namespace Cert.AttnIdeal.Parts

open Cert.AttnIdeal Cert.AttnIdeal.Gen Idealize.ShloMosaic Idealize.ShloMosaic.TcCoe Idealize.SL.Sem

variable {F : FTy → Type} [FloatOps F]

/-- The masked queries of a block. -/
def qsOf (sel : IVec S1x128 1) (x0 : Vec F S128x512 .bf16) : FVec F S512x128 .bf16 :=
  (qcat sel (View.ld x0 (Rect.unit ![0, 0] ![128, 128] inb_S128x512_S128x128_0_0)) (View.ld x0 (Rect.unit ![0, 128] ![128, 128] inb_S128x512_S128x128_0_128)) (View.ld x0 (Rect.unit ![0, 256] ![128, 128] inb_S128x512_S128x128_0_256)) (View.ld x0 (Rect.unit ![0, 384] ![128, 128] inb_S128x512_S128x128_0_384)))

/-- The state after the eight chunks of latent keys. -/
def latSt (sel : IVec S1x128 1) (qs : FVec F S512x128 .bf16) (x1 x2 : Vec F S4096x128 .bf16) : St F :=
  (step512 sel qs (View.ld x1 (Rect.unit ![3584, 0] ![512, 128] inb_S4096x128_S512x128_3584_0))
    (View.ld x2 (Rect.unit ![3584, 0] ![512, 128] inb_S4096x128_S512x128_3584_0)) (step512 sel qs (View.ld x1 (Rect.unit ![3072, 0] ![512, 128] inb_S4096x128_S512x128_3072_0))
    (View.ld x2 (Rect.unit ![3072, 0] ![512, 128] inb_S4096x128_S512x128_3072_0)) (step512 sel qs (View.ld x1 (Rect.unit ![2560, 0] ![512, 128] inb_S4096x128_S512x128_2560_0))
    (View.ld x2 (Rect.unit ![2560, 0] ![512, 128] inb_S4096x128_S512x128_2560_0)) (step512 sel qs (View.ld x1 (Rect.unit ![2048, 0] ![512, 128] inb_S4096x128_S512x128_2048_0))
    (View.ld x2 (Rect.unit ![2048, 0] ![512, 128] inb_S4096x128_S512x128_2048_0)) (step512 sel qs (View.ld x1 (Rect.unit ![1536, 0] ![512, 128] inb_S4096x128_S512x128_1536_0))
    (View.ld x2 (Rect.unit ![1536, 0] ![512, 128] inb_S4096x128_S512x128_1536_0)) (step512 sel qs (View.ld x1 (Rect.unit ![1024, 0] ![512, 128] inb_S4096x128_S512x128_1024_0))
    (View.ld x2 (Rect.unit ![1024, 0] ![512, 128] inb_S4096x128_S512x128_1024_0)) (step512 sel qs (View.ld x1 (Rect.unit ![512, 0] ![512, 128] inb_S4096x128_S512x128_512_0))
    (View.ld x2 (Rect.unit ![512, 0] ![512, 128] inb_S4096x128_S512x128_512_0)) (step512 sel qs (View.ld x1 (Rect.unit ![0, 0] ![512, 128] inb_S4096x128_S512x128_0_0))
    (View.ld x2 (Rect.unit ![0, 0] ![512, 128] inb_S4096x128_S512x128_0_0)) st0))))))))

/-- The state after all keys. -/
def endSt (sel : IVec S1x128 1) (qs : FVec F S512x128 .bf16) (x1 x2 : Vec F S4096x128 .bf16) (x3 x4 : Vec F S256x128 .bf16) : St F :=
  step256 sel qs (View.ld x3 (Rect.unit ![0, 0] ![256, 128] inb_S256x128_S256x128_0_0)) (View.ld x4 (Rect.unit ![0, 0] ![256, 128] inb_S256x128_S256x128_0_0))
    (latSt sel qs x1 x2)

/-- One half's quotients. -/
def half (sel : IVec S1x128 1) (x0 : Vec F S128x512 .bf16) (x1 x2 : Vec F S4096x128 .bf16) (x3 x4 : Vec F S256x128 .bf16) :
    FVec F S512x128 .f32 :=
  quot sel (endSt sel (qsOf sel x0) x1 x2 x3 x4).acc

/-- The piece stored from row `o` of the halves on. -/
def stored (x0 : Vec F S128x512 .bf16) (x1 x2 : Vec F S4096x128 .bf16) (x3 x4 : Vec F S256x128 .bf16) (o : ℕ)
    (h : S512x128.Slices ![o, 0] S128x128) : FVec F S128x128 .bf16 :=
  pick (extractStridedSlice S128x128 ![o, 0] (half sel0 x0 x1 x2 x3 x4) h)
    (extractStridedSlice S128x128 ![o, 0] (half sel1 x0 x1 x2 x3 x4) h)

/-- The output buffer after the body: the four pieces. -/
theorem out_eq (c : Dev nD) (i : grid0.Coords) (arg3 : Memref sig .tc .vmem S128x512 .bf16) (harg3 : arg3.IsWhole) (arg4 : Memref sig .tc .vmem S4096x128 .bf16)
    (harg4 : arg4.IsWhole) (arg5 : Memref sig .tc .vmem S4096x128 .bf16) (harg5 : arg5.IsWhole) (arg6 : Memref sig .tc .vmem S256x128 .bf16)
    (harg6 : arg6.IsWhole) (arg7 : Memref sig .tc .vmem S256x128 .bf16) (harg7 : arg7.IsWhole) (arg8 : Memref sig .tc .vmem S128x512 .bf16)
    (harg8 : arg8.IsWhole)
    (x0 : Vec F S128x512 .bf16) (x1 : Vec F S4096x128 .bf16) (x2 : Vec F S4096x128 .bf16) (x3 : Vec F S256x128 .bf16) (x4 : Vec F S256x128 .bf16) :
    out0_A_5 c i arg3 harg3 arg4 harg4 arg5 harg5 arg6 harg6 arg7 harg7 arg8 harg8 x0 x1 x2 x3 x4
      = View.canon (Val := Elt F) (s := S128x512) (e := .bf16) [⟨Rect.unit ![0, 384] S128x128.size inb_S128x512_S128x128_0_384, stored x0 x1 x2 x3 x4 384 slices_S512x128_o384_0_S128x128⟩, ⟨Rect.unit ![0, 256] S128x128.size inb_S128x512_S128x128_0_256, stored x0 x1 x2 x3 x4 256 slices_S512x128_o256_0_S128x128⟩, ⟨Rect.unit ![0, 128] S128x128.size inb_S128x512_S128x128_0_128, stored x0 x1 x2 x3 x4 128 slices_S512x128_o128_0_S128x128⟩, ⟨Rect.unit ![0, 0] S128x128.size inb_S128x512_S128x128_0_0, stored x0 x1 x2 x3 x4 0 slices_S512x128_o0_0_S128x128⟩] := by
  unfold out0_A_5
  rw [View.read_writes_eq_canon _ _ _ (cover0_A_5 c i arg3 harg3 arg4 harg4 arg5 harg5 arg6 harg6 arg7 harg7 arg8 harg8 x0 x1 x2 x3 x4)]
  unfold kernelRun0_A; dsimp only
  sl_unfold_words
  simp only [View.readAt_eq_ld, harg3.read_unread, harg4.read_unread, harg5.read_unread, harg6.read_unread, harg7.read_unread]
  simp only [show iota Kind.tc S1x128 32 [1] iota_S1x128_d1_w32 = lanes from rfl, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay40_eq, pay41_eq, pay42_eq, pay45_eq, pay46_eq, pay47_eq, pay48_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay79_eq, pay80_eq, pay7_eq, pay49_eq, pay1_eq]
  rfl

end Cert.AttnIdeal.Parts

end
-- ==== Proof.OnlineSoftmax.lean ====
/- Softmax sums built up chunk by chunk, over the extended reals: the running maximum, the sum rescaled whenever the
   maximum grows, and the quotient at the end, against the maximum, the sum and the quotient taken at once. -/
module

public import Idealize.ShloMosaic.PureOps.Ideal.Laws
public import Mathlib.Algebra.BigOperators.Fin

@[expose] public section

noncomputable section

namespace Cert.OnlineSoftmax

open Idealize.ShloMosaic
open scoped BigOperators

/-- The maximum of the first `n` scores. -/
def top (s : ℕ → EReal) (n : ℕ) : EReal := (Finset.range n).sup s

/-- The weighted sum of the first `n` values, each weighted by the exponential of its score less `m`. -/
def acc (s w : ℕ → EReal) (m : EReal) (n : ℕ) : EReal := ∑ i ∈ Finset.range n, Ideal.exp (s i - m) * w i

/-- A finite extended real times a sum is the sum of the products. -/
theorem coe_mul_sum {ι : Type} (r : ℝ) (hr : 0 ≤ r) (S : Finset ι) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, ← ih,
      EReal.left_distrib_of_nonneg_of_ne_top (by exact_mod_cast hr) (EReal.coe_ne_top r)]

/-- The maximum of finitely many reals, at least one, is a real. -/
theorem top_real (s : ℕ → EReal) (n : ℕ) (hn : 0 < n) (hs : ∀ i < n, ∃ r : ℝ, s i = r) : ∃ M : ℝ, top s n = M := by
  obtain ⟨i, hi, h⟩ := Finset.exists_mem_eq_sup (Finset.range n) ⟨0, Finset.mem_range.2 hn⟩ s
  obtain ⟨r, hr⟩ := hs i (Finset.mem_range.1 hi)
  exact ⟨r, by rw [top, h, hr]⟩

/-- The maximum over `n + k` scores is the greater of that over the first `n` and that over the next `k`. -/
theorem top_add (s : ℕ → EReal) (n k : ℕ) :
    top s (n + k) = max (top s n) (Finset.univ.fold max ⊥ fun j : Fin k => s (n + j)) := by
  have hfold : (Finset.univ.fold max ⊥ fun j : Fin k => s (n + j)) = Finset.univ.sup fun j : Fin k => s (n + j) := rfl
  rw [hfold]
  apply le_antisymm
  · refine Finset.sup_le fun i hi => ?_
    have hi := Finset.mem_range.1 hi
    by_cases h : i < n
    · exact le_max_of_le_left (Finset.le_sup (f := s) (Finset.mem_range.2 h))
    · refine le_max_of_le_right ?_
      have := Finset.le_sup (f := fun j : Fin k => s (n + j)) (Finset.mem_univ (⟨i - n, by omega⟩ : Fin k))
      simpa [Nat.add_sub_cancel' (not_lt.1 h)] using this
  · refine max_le (Finset.sup_mono fun i hi => ?_) (Finset.sup_le fun j _ => ?_)
    · have := Finset.mem_range.1 hi
      exact Finset.mem_range.2 (by omega)
    · exact Finset.le_sup (f := s) (Finset.mem_range.2 (by omega))

/-- One chunk: the sum so far, rescaled to the new maximum, plus the chunk's own sum, is the sum over both. -/
theorem acc_add (s w : ℕ → EReal) (n k : ℕ) (hk : 0 < k) (hs : ∀ i < n + k, ∃ r : ℝ, s i = r) :
    Ideal.exp (top s n - top s (n + k)) * acc s w (top s n) n
        + ∑ j : Fin k, Ideal.exp (s (n + j) - top s (n + k)) * w (n + j)
      = acc s w (top s (n + k)) (n + k) := by
  rw [acc, acc, Finset.sum_range_add, Finset.sum_range (fun j => Ideal.exp (s (n + j) - top s (n + k)) * w (n + j))]
  congr 1
  obtain ⟨M', hM'⟩ := top_real s (n + k) (by omega) hs
  rcases Nat.eq_zero_or_pos n with rfl | hn
  · simp
  obtain ⟨M, hM⟩ := top_real s n hn fun i hi => hs i (by omega)
  rw [hM, hM', ← EReal.coe_sub, Ideal.exp_coe, coe_mul_sum _ (Real.exp_pos _).le]
  refine Finset.sum_congr rfl fun i hi => ?_
  obtain ⟨r, hr⟩ := hs i (by have := Finset.mem_range.1 hi; omega)
  rw [hr, ← mul_assoc, ← EReal.coe_sub, ← EReal.coe_sub, Ideal.exp_coe, Ideal.exp_coe, ← EReal.coe_mul, ← Real.exp_add,
    show M - M' + (r - M) = r - M' by ring]

/-- The sum of the weights alone is a positive real. -/
theorem acc_one_real (s : ℕ → EReal) (n : ℕ) (hn : 0 < n) (hs : ∀ i < n, ∃ r : ℝ, s i = r) :
    ∃ l : ℝ, 0 < l ∧ acc s (fun _ => 1) (top s n) n = l := by
  obtain ⟨M, hM⟩ := top_real s n hn hs
  choose! t ht using hs
  refine ⟨∑ i ∈ Finset.range n, Real.exp (t i - M),
    Finset.sum_pos (fun i _ => Real.exp_pos _) ⟨0, Finset.mem_range.2 hn⟩, ?_⟩
  rw [acc, hM]
  have hcoe : ∀ S : Finset ℕ, ((∑ i ∈ S, Real.exp (t i - M) : ℝ) : EReal) = ∑ i ∈ S, ((Real.exp (t i - M) : ℝ) : EReal) := by
    intro S
    induction S using Finset.induction_on with
    | empty => simp
    | insert a S ha ih => rw [Finset.sum_insert ha, Finset.sum_insert ha, EReal.coe_add, ih]
  rw [hcoe]
  refine Finset.sum_congr rfl fun i hi => ?_
  rw [ht i (Finset.mem_range.1 hi), mul_one, ← EReal.coe_sub, Ideal.exp_coe]

/-- The quotient at the end: the weighted sum over the sum of the weights is the sum of the values, each weighted by
    its softmax weight. -/
theorem acc_div (s w : ℕ → EReal) (n : ℕ) (hn : 0 < n) (hs : ∀ i < n, ∃ r : ℝ, s i = r) :
    Ideal.div (acc s w (top s n) n) (acc s (fun _ => 1) (top s n) n)
      = ∑ i ∈ Finset.range n, Ideal.div (Ideal.exp (s i - top s n)) (acc s (fun _ => 1) (top s n) n) * w i := by
  obtain ⟨l, hl, h⟩ := acc_one_real s n hn hs
  rw [h, Ideal.div_coe hl.ne', acc, mul_comm, coe_mul_sum _ (by positivity)]
  refine Finset.sum_congr rfl fun i _ => ?_
  rw [Ideal.div_coe hl.ne', ← mul_assoc, mul_comm ((1 / l : ℝ) : EReal)]

end Cert.OnlineSoftmax

end
-- ==== Proof.AttnRow.lean ====
/- One row of the attention body over the extended reals: after `n` keys the running maximum is that of the first `n`
   scores and each lane of the running sum is the weighted sum of the first `n` values; the quotient follows. -/
module

public import proofs.«01_k».proof.Proof.AttnBlock
public import proofs.«01_k».proof.Proof.OnlineSoftmax
public import Idealize.ShloMosaic.Lib.Pipeline.ValueKit.Tiles

@[expose] public section

noncomputable section

namespace Cert.AttnIdeal.Parts

open Cert.AttnIdeal Cert.AttnIdeal.Gen Cert.OnlineSoftmax Idealize.ShloMosaic Idealize.ShloMosaic.TcCoe
open scoped BigOperators

theorem sel0_apply : ∀ l : Fin 128, sel0 (ix2 0 l) = if l.val < 64 then 1#1 else 0#1 := by decide +kernel
theorem sel1_apply : ∀ l : Fin 128, sel1 (ix2 0 l) = if l.val < 64 then 0#1 else 1#1 := by decide +kernel
theorem low_apply : ∀ l : Fin 128, IntOp.cmpi CmpIPredicate.slt (lanes (ix2 0 l)) 64#32 = if l.val < 64 then 1#1 else 0#1 := by
  decide +kernel

/-- The word of minus infinity reads as the least extended real. -/
theorem neg_inf : Ideal.ofBits FTy.f32 4286578688#32 = ⊥ := by
  simp [Ideal.ofBits, Ideal.ieee]

/-- The word the sum over 64 equal lanes is multiplied by reads as a sixty-fourth. -/
theorem inv64 : Ideal.ofBits FTy.f32 1015021568#32 = ((1 / 64 : ℝ) : EReal) := by
  simp [Ideal.ofBits, Ideal.ieee]
  rw [← EReal.coe_mul]
  norm_num

variable (sel : IVec S1x128 1) (qs : FVec Ideal S512x128 .bf16) (K V : ℕ → Fin 128 → EReal) (r : Fin 512)

/-- The row's score against key `j`. -/
def rs (j : ℕ) : EReal := ∑ x : Fin 128, qs (ix2 r x) * K j x

/-- Lane `l` of the values, ones off the selected lanes. -/
def rw' (l : Fin 128) (j : ℕ) : EReal := Scalar.select (sel (ix2 0 l)) (V j l) 1

/-- The state of the row after `n` keys. -/
structure Inv (s : St Ideal) (n : ℕ) : Prop where
  top : s.top (ix2 r 0) = Cert.OnlineSoftmax.top (rs qs K r) n
  acc : ∀ l : Fin 128, s.acc (ix2 r l) = Cert.OnlineSoftmax.acc (rs qs K r) (rw' sel V l) (Cert.OnlineSoftmax.top (rs qs K r) n) n

theorem inv0 : Inv sel qs K V r st0 0 where
  top := by
    pointwise [st0]
    rw [neg_inf]; rfl
  acc l := by
    pointwise [st0]
    simp [Cert.OnlineSoftmax.acc]

theorem inv512 (s : St Ideal) (n : ℕ) (hi : Inv sel qs K V r s n) (k v : FVec Ideal S512x128 .bf16)
    (hk : ∀ (j : Fin 512) (l : Fin 128), k (ix2 j l) = K (n + j) l) (hv : ∀ (j : Fin 512) (l : Fin 128), v (ix2 j l) = V (n + j) l)
    (hs : ∀ j < n + 512, ∃ t : ℝ, rs qs K r j = t) : Inv sel qs K V r (step512 sel qs k v s) (n + 512) := by
  have hsc : ∀ j : Fin 512, score512 qs k (ix2 r j) = rs qs K r (n + j) := by
    intro j
    pointwise [score512]
    exact Finset.sum_congr rfl fun x _ => by rw [hk]
  have htop : top512 s.top (score512 qs k) (ix2 r 0) = Cert.OnlineSoftmax.top (rs qs K r) (n + 512) := by
    pointwise [top512]
    rw [neg_inf, hi.top, top_add]
    congr 1
    exact Finset.fold_congr fun j _ => hsc j
  refine ⟨htop, fun l => ?_⟩
  rw [← acc_add _ _ n 512 (by norm_num) hs]
  show addp512 _ _ _ (ix2 r l) = _
  generalize hsc' : score512 qs k = sc at hsc htop
  generalize htop' : top512 s.top sc = M at htop
  pointwise [addp512, resc, alpha, wt512, shift512, ones512]
  rw [hi.top, htop, hi.acc]
  congr 1
  exact Finset.sum_congr rfl fun j _ => by rw [hsc, hv]; rfl

theorem inv256 (s : St Ideal) (n : ℕ) (hi : Inv sel qs K V r s n) (k v : FVec Ideal S256x128 .bf16)
    (hk : ∀ (j : Fin 256) (l : Fin 128), k (ix2 j l) = K (n + j) l) (hv : ∀ (j : Fin 256) (l : Fin 128), v (ix2 j l) = V (n + j) l)
    (hs : ∀ j < n + 256, ∃ t : ℝ, rs qs K r j = t) : Inv sel qs K V r (step256 sel qs k v s) (n + 256) := by
  have hsc : ∀ j : Fin 256, score256 qs k (ix2 r j) = rs qs K r (n + j) := by
    intro j
    pointwise [score256]
    exact Finset.sum_congr rfl fun x _ => by rw [hk]
  have htop : top256 s.top (score256 qs k) (ix2 r 0) = Cert.OnlineSoftmax.top (rs qs K r) (n + 256) := by
    pointwise [top256]
    rw [neg_inf, hi.top, top_add]
    congr 1
    exact Finset.fold_congr fun j _ => hsc j
  refine ⟨htop, fun l => ?_⟩
  rw [← acc_add _ _ n 256 (by norm_num) hs]
  show addp256 _ _ _ (ix2 r l) = _
  generalize hsc' : score256 qs k = sc at hsc htop
  generalize htop' : top256 s.top sc = M at htop
  pointwise [addp256, resc, alpha, wt256, shift256, ones256]
  rw [hi.top, htop, hi.acc]
  congr 1
  exact Finset.sum_congr rfl fun j _ => by rw [hsc, hv]; rfl

/-- The state after all 4352 keys. -/
theorem inv_end (x1 x2 : Vec Ideal S4096x128 .bf16) (x3 x4 : Vec Ideal S256x128 .bf16)
    (h1 : ∀ (j : Fin 4096) (l : Fin 128), x1 (ix2 j l) = K j l) (h2 : ∀ (j : Fin 4096) (l : Fin 128), x2 (ix2 j l) = V j l)
    (h3 : ∀ (j : Fin 256) (l : Fin 128), x3 (ix2 j l) = K (4096 + j) l) (h4 : ∀ (j : Fin 256) (l : Fin 128), x4 (ix2 j l) = V (4096 + j) l)
    (hs : ∀ j < 4352, ∃ t : ℝ, rs qs K r j = t) : Inv sel qs K V r (endSt sel qs x1 x2 x3 x4) 4352 := by
  have chunk : ∀ (X : Vec Ideal S4096x128 .bf16) (f : ℕ → Fin 128 → EReal) (_ : ∀ (j : Fin 4096) (l : Fin 128), X (ix2 j l) = f j l)
      (o : ℕ) (h : ∀ a, (![o, 0] : Fin 2 → ℕ) a + (![512, 128] : Fin 2 → ℕ) a ≤ S4096x128.size a) (j : Fin 512) (l : Fin 128),
      (View.ld X (Rect.unit ![o, 0] ![512, 128] h)) (ix2 j l) = f (o + j) l := by
    intro X f hX o h j l
    have ho : o + 512 ≤ 4096 := h 0
    rw [View.ld_unit_apply_of X _ _ _ _ (ix2 ⟨o + j, by omega⟩ l), hX]
    intro a
    match a with
    | ⟨0, _⟩ => rfl
    | ⟨1, _⟩ => exact (Nat.zero_add _).symm
  have ctx : ∀ (X : Vec Ideal S256x128 .bf16) (f : ℕ → Fin 128 → EReal) (_ : ∀ (j : Fin 256) (l : Fin 128), X (ix2 j l) = f (4096 + j) l)
      (j : Fin 256) (l : Fin 128),
      (View.ld X (Rect.unit ![0, 0] ![256, 128] inb_S256x128_S256x128_0_0)) (ix2 j l) = f (4096 + j) l := by
    intro X f hX j l
    rw [View.ld_unit_apply_of X _ _ _ _ (ix2 j l), hX]
    intro a
    match a with
    | ⟨0, _⟩ => exact (Nat.zero_add _).symm
    | ⟨1, _⟩ => exact (Nat.zero_add _).symm
  have i0 := inv0 sel qs K V r
  have i1 := inv512 sel qs K V r _ 0 i0 _ _ (chunk x1 K h1 0 inb_S4096x128_S512x128_0_0) (chunk x2 V h2 0 inb_S4096x128_S512x128_0_0) fun j hj => hs j (by omega)
  have i2 := inv512 sel qs K V r _ 512 i1 _ _ (chunk x1 K h1 512 inb_S4096x128_S512x128_512_0) (chunk x2 V h2 512 inb_S4096x128_S512x128_512_0) fun j hj => hs j (by omega)
  have i3 := inv512 sel qs K V r _ 1024 i2 _ _ (chunk x1 K h1 1024 inb_S4096x128_S512x128_1024_0) (chunk x2 V h2 1024 inb_S4096x128_S512x128_1024_0) fun j hj => hs j (by omega)
  have i4 := inv512 sel qs K V r _ 1536 i3 _ _ (chunk x1 K h1 1536 inb_S4096x128_S512x128_1536_0) (chunk x2 V h2 1536 inb_S4096x128_S512x128_1536_0) fun j hj => hs j (by omega)
  have i5 := inv512 sel qs K V r _ 2048 i4 _ _ (chunk x1 K h1 2048 inb_S4096x128_S512x128_2048_0) (chunk x2 V h2 2048 inb_S4096x128_S512x128_2048_0) fun j hj => hs j (by omega)
  have i6 := inv512 sel qs K V r _ 2560 i5 _ _ (chunk x1 K h1 2560 inb_S4096x128_S512x128_2560_0) (chunk x2 V h2 2560 inb_S4096x128_S512x128_2560_0) fun j hj => hs j (by omega)
  have i7 := inv512 sel qs K V r _ 3072 i6 _ _ (chunk x1 K h1 3072 inb_S4096x128_S512x128_3072_0) (chunk x2 V h2 3072 inb_S4096x128_S512x128_3072_0) fun j hj => hs j (by omega)
  have i8 := inv512 sel qs K V r _ 3584 i7 _ _ (chunk x1 K h1 3584 inb_S4096x128_S512x128_3584_0) (chunk x2 V h2 3584 inb_S4096x128_S512x128_3584_0) fun j hj => hs j (by omega)
  exact inv256 sel qs K V r _ 4096 i8 _ _ (ctx x3 K h3) (ctx x4 V h4) hs

/-- The quotient of a selected lane: its weighted sum over the sum of the weights. -/
theorem quot_apply (A : FVec Ideal S512x128 .f32) (s : ℕ → EReal) (n : ℕ) (hn : 0 < n) (hs : ∀ i < n, ∃ t : ℝ, s i = t)
    (hsel : (∀ l : Fin 128, sel (ix2 0 l) = if l.val < 64 then 1#1 else 0#1) ∨ (∀ l : Fin 128, sel (ix2 0 l) = if l.val < 64 then 0#1 else 1#1))
    (hA : ∀ l : Fin 128, A (ix2 r l) = acc s (rw' sel V l) (top s n) n) (l : Fin 128) (hl : sel (ix2 0 l) = 1#1) :
    quot sel A (ix2 r l) = Ideal.div (acc s (fun j => V j l) (top s n) n) (acc s (fun _ => 1) (top s n) n) := by
  obtain ⟨L, hL, hL'⟩ := acc_one_real s n hn hs
  have h1 : ∀ x : Fin 128, Scalar.select (sel (ix2 0 x)) 0 (A (ix2 r x)) = if sel (ix2 0 x) = 1#1 then 0 else (L : EReal) := by
    intro x
    rw [hA]
    by_cases h : sel (ix2 0 x) = 1#1
    · rw [if_pos h, Scalar.select, if_pos (show sel (ix2 0 x) = 1 from h)]
    · have hw : rw' sel V x = fun _ => 1 := by funext j; rw [rw', Scalar.select, if_neg (show ¬ sel (ix2 0 x) = 1 from h)]
      rw [if_neg h, Scalar.select, if_neg (show ¬ sel (ix2 0 x) = 1 from h), hw, hL']
  have hsum : (∑ x : Fin 128, Scalar.select (sel (ix2 0 x)) 0 (A (ix2 r x))) * ((1 / 64 : ℝ) : EReal) = L := by
    rw [Finset.sum_congr rfl fun x _ => h1 x]
    have h64 : (∑ _x : Fin 64, (L : EReal)) = ((64 * L : ℝ) : EReal) := by
      rw [Finset.sum_const, Finset.card_univ, Fintype.card_fin, ← EReal.coe_nsmul]
      simp
    have h0 : (∑ x : Fin 128, if sel (ix2 0 x) = 1#1 then 0 else (L : EReal)) = ((64 * L : ℝ) : EReal) := by
      rw [show (∑ x : Fin 128, if sel (ix2 0 x) = 1#1 then 0 else (L : EReal)) = ∑ x : Fin (64 + 64), if sel (ix2 0 x) = 1#1 then 0 else (L : EReal) from rfl,
        Fin.sum_univ_add]
      rcases hsel with h | h
      · rw [Finset.sum_eq_zero, zero_add, ← h64]
        · exact Finset.sum_congr rfl fun x _ => by rw [h]; simp
        · intro x _; rw [h]; simp
      · rw [← h64]
        rw [Finset.sum_eq_zero (f := fun i : Fin 64 => if sel (ix2 0 (Fin.natAdd 64 i)) = 1#1 then 0 else (L : EReal)), add_zero]
        · exact Finset.sum_congr rfl fun x _ => by rw [h]; simp
        · intro x _; rw [h]; simp
    rw [h0, ← EReal.coe_mul]
    congr 1
    ring
  pointwise [quot]
  rw [inv64, hsum, hA, hL']
  congr 2
  funext j
  simp [rw', Scalar.select, hl]

end Cert.AttnIdeal.Parts

end
-- ==== Proof.AttnSpec.lean ====
/- Attention as a function of the projected array: what the call and its reference are both shown to compute. -/
module

public import proofs.«01_k».proof.Proof.OnlineSoftmax
public import Idealize.ShloMosaic.Lib.Pointwise

@[expose] public section

noncomputable section

namespace Cert.AttnSpec

open Idealize.ShloMosaic Cert.OnlineSoftmax

/-- Entry `(r, c)` of the array, zero outside. -/
def at' (X : Shape.Idx (⟨2, ![17408, 1536]⟩ : Shape) → EReal) (r c : ℕ) : EReal :=
  if h : r < 17408 ∧ c < 1536 then X (ix2 ⟨r, h.1⟩ ⟨c, h.2⟩) else 0

theorem at'_eq (X : Shape.Idx (⟨2, ![17408, 1536]⟩ : Shape) → EReal) (r c : ℕ) (hr : r < 17408) (hc : c < 1536) :
    at' X r c = X (ix2 ⟨r, hr⟩ ⟨c, hc⟩) := dif_pos ⟨hr, hc⟩

/-- The row of batch `b`'s key `j`: 4096 latent rows, then 256 context rows. -/
def krow (b j : ℕ) : ℕ := if j < 4096 then b * 4096 + j else 16384 + b * 256 + (j - 4096)

variable (X : Shape.Idx (⟨2, ![17408, 1536]⟩ : Shape) → EReal)

/-- The score of query row `R` against key `j`, for kv head `2 p + a` and head `i` of its group. -/
def score (R b p i a j : ℕ) : EReal :=
  ∑ d : Fin 64, at' X R (p * 512 + i * 128 + (a * 64 + d)) * at' X (krow b j) (1024 + p * 128 + (a * 64 + d))

/-- Lane `l` of value `j` of the pair `p`. -/
def value (b p l j : ℕ) : EReal := at' X (krow b j) (1280 + p * 128 + l)

/-- The weighted sum over the sum of the weights. -/
def out (R b p i l : ℕ) : EReal :=
  Ideal.div (acc (score X R b p i (l / 64)) (value X b p l) (top (score X R b p i (l / 64)) 4352) 4352)
    (acc (score X R b p i (l / 64)) (fun _ => 1) (top (score X R b p i (l / 64)) 4352) 4352)

/-- Scores are real when the query and key entries are. -/
theorem score_real (h : ∀ r c, c < 1280 → ∃ t : ℝ, at' X r c = t) (R b p i a j : ℕ) (hp : p < 2) (hi : i < 4) (ha : a < 2) :
    ∃ t : ℝ, score X R b p i a j = t := by
  have hq : ∀ d : Fin 64, ∃ t : ℝ, at' X R (p * 512 + i * 128 + (a * 64 + d)) * at' X (krow b j) (1024 + p * 128 + (a * 64 + d)) = t := by
    intro d
    obtain ⟨t, ht⟩ := h R (p * 512 + i * 128 + (a * 64 + d)) (by omega)
    obtain ⟨u, hu⟩ := h (krow b j) (1024 + p * 128 + (a * 64 + d)) (by omega)
    exact ⟨t * u, by rw [ht, hu, EReal.coe_mul]⟩
  choose f hf using hq
  exact ⟨∑ d, f d, by rw [score, Finset.sum_congr rfl fun d _ => hf d]; exact (map_sum (⟨⟨((↑) : ℝ → EReal), EReal.coe_zero⟩, EReal.coe_add⟩ : ℝ →+ EReal) f Finset.univ).symm⟩

end Cert.AttnSpec

end
-- ==== Proof.AttnValue.lean ====
/- The attention call's result array on the latent rows: block by block, each entry is the attention of the projected
   array at that row and column. -/
module

public import proofs.«01_k».proof.Proof.AttnRow
public import proofs.«01_k».proof.Proof.AttnSpec
public import Idealize.ShloMosaic.Lib.Pipeline.ValueKit

@[expose] public section

noncomputable section

namespace Cert.AttnIdeal.Parts

open Cert.AttnIdeal Cert.AttnIdeal.Gen Cert.AttnIdeal.Value Cert.OnlineSoftmax Cert.AttnSpec
open Idealize.ShloMosaic Idealize.ShloMosaic.TcCoe Idealize.SL.Sem
open scoped BigOperators

/-! ## The masked queries -/

theorem qcat0 (sel : IVec S1x128 1) (y0 y1 y2 y3 : FVec Ideal S128x128 .bf16) (r l : Fin 128) :
    qcat sel y0 y1 y2 y3 (ix2 ⟨0 + r.val, by omega⟩ l) = Scalar.select (sel (ix2 0 l)) (y0 (ix2 r l)) 0 := by
  pointwise [qcat, qmask]
theorem qcat1 (sel : IVec S1x128 1) (y0 y1 y2 y3 : FVec Ideal S128x128 .bf16) (r l : Fin 128) :
    qcat sel y0 y1 y2 y3 (ix2 ⟨128 + r.val, by omega⟩ l) = Scalar.select (sel (ix2 0 l)) (y1 (ix2 r l)) 0 := by
  pointwise [qcat, qmask]
theorem qcat2 (sel : IVec S1x128 1) (y0 y1 y2 y3 : FVec Ideal S128x128 .bf16) (r l : Fin 128) :
    qcat sel y0 y1 y2 y3 (ix2 ⟨256 + r.val, by omega⟩ l) = Scalar.select (sel (ix2 0 l)) (y2 (ix2 r l)) 0 := by
  pointwise [qcat, qmask]
  rw [dif_neg (by omega), dif_neg (by omega), dif_pos (by omega)]
  exact congrArg (fun z => Scalar.select _ (y2 (ix2 z l)) _) (Fin.ext (by show 256 + r.val - 128 - 128 = r.val; omega))
theorem qcat3 (sel : IVec S1x128 1) (y0 y1 y2 y3 : FVec Ideal S128x128 .bf16) (r l : Fin 128) :
    qcat sel y0 y1 y2 y3 (ix2 ⟨384 + r.val, by omega⟩ l) = Scalar.select (sel (ix2 0 l)) (y3 (ix2 r l)) 0 := by
  pointwise [qcat, qmask]
  rw [dif_neg (by omega), dif_neg (by omega), dif_neg (by omega)]
  exact congrArg (fun z => Scalar.select _ (y3 (ix2 z l)) _) (Fin.ext (by show 384 + r.val - 128 - 128 - 128 = r.val; omega))

/-- Row `o + r` of the masked queries, for the block of lanes starting at `o`. -/
theorem qsOf_apply (sel : IVec S1x128 1) (x0 : Vec Ideal S128x512 .bf16) (o : ℕ) (ho : o = 0 ∨ o = 128 ∨ o = 256 ∨ o = 384) (r l : Fin 128) :
    qsOf sel x0 (ix2 ⟨o + r.val, by omega⟩ l) = Scalar.select (sel (ix2 0 l)) (x0 (ix2 r ⟨o + l.val, by omega⟩)) 0 := by
  have e : ∀ (o : ℕ) (ho : o + 128 ≤ 512) (h : ∀ a, (![0, o] : Fin 2 → ℕ) a + (![128, 128] : Fin 2 → ℕ) a ≤ S128x512.size a),
      (View.ld x0 (Rect.unit ![0, o] ![128, 128] h)) (ix2 r l) = x0 (ix2 r ⟨o + l.val, by omega⟩) := by
    intro o ho h
    exact View.ld_unit_apply_of x0 _ _ _ _ _ fun a => match a with
      | ⟨0, _⟩ => (Nat.zero_add _).symm
      | ⟨1, _⟩ => rfl
  unfold qsOf
  rcases ho with rfl | rfl | rfl | rfl
  · rw [qcat0, e 0 (by omega)]
  · rw [qcat1, e 128 (by omega)]
  · rw [qcat2, e 256 (by omega)]
  · rw [qcat3, e 384 (by omega)]

/-! ## One block -/

variable (X : Shape.Idx (⟨2, ![17408, 1536]⟩ : Shape) → EReal)

/-- The block's five inputs are the array at the batch `b`, the pair `p` and the query rows from `R0` on. -/
structure Reads (R0 b p : ℕ) (x0 : Vec Ideal S128x512 .bf16) (x1 x2 : Vec Ideal S4096x128 .bf16) (x3 x4 : Vec Ideal S256x128 .bf16) : Prop where
  q : ∀ (r : Fin 128) (l : Fin 512), x0 (ix2 r l) = at' X (R0 + r) (p * 512 + l)
  k : ∀ (j : Fin 4096) (l : Fin 128), x1 (ix2 j l) = at' X (krow b j) (1024 + p * 128 + l)
  v : ∀ (j : Fin 4096) (l : Fin 128), x2 (ix2 j l) = at' X (krow b j) (1280 + p * 128 + l)
  kc : ∀ (j : Fin 256) (l : Fin 128), x3 (ix2 j l) = at' X (krow b (4096 + j)) (1024 + p * 128 + l)
  vc : ∀ (j : Fin 256) (l : Fin 128), x4 (ix2 j l) = at' X (krow b (4096 + j)) (1280 + p * 128 + l)

theorem sum_low (f : Fin 128 → EReal) (h : ∀ x : Fin 128, ¬ x.val < 64 → f x = 0) :
    ∑ x, f x = ∑ d : Fin 64, f ⟨0 * 64 + d.val, by omega⟩ := by
  have e := Fin.sum_univ_add (a := 64) (b := 64) f
  refine e.trans ?_
  rw [Finset.sum_eq_zero (f := fun i : Fin 64 => f (Fin.natAdd 64 i)) (fun i _ => h _ (by simp)), add_zero]
  exact Finset.sum_congr rfl fun d _ => congrArg f (Fin.ext (by simp))

theorem sum_high (f : Fin 128 → EReal) (h : ∀ x : Fin 128, x.val < 64 → f x = 0) :
    ∑ x, f x = ∑ d : Fin 64, f ⟨1 * 64 + d.val, by omega⟩ := by
  have e := Fin.sum_univ_add (a := 64) (b := 64) f
  refine e.trans ?_
  rw [Finset.sum_eq_zero (f := fun i : Fin 64 => f (Fin.castAdd 64 i)) (fun i _ => h _ (by simp)), zero_add]
  exact Finset.sum_congr rfl fun d _ => congrArg f (Fin.ext (by simp; omega))

variable {X}

theorem half_apply (hX : ∀ r c, c < 1280 → ∃ t : ℝ, at' X r c = t) {R0 b p : ℕ} (hp : p < 2) {x0 x1 x2 x3 x4}
    (h : Reads X R0 b p x0 x1 x2 x3 x4) (i : ℕ) (hi : i < 4) (r l : Fin 128) (sel : IVec S1x128 1)
    (hsel : (∀ l : Fin 128, sel (ix2 0 l) = if l.val < 64 then 1#1 else 0#1) ∧ l.val < 64
      ∨ (∀ l : Fin 128, sel (ix2 0 l) = if l.val < 64 then 0#1 else 1#1) ∧ ¬ l.val < 64) :
    half sel x0 x1 x2 x3 x4 (ix2 ⟨i * 128 + r.val, by omega⟩ l) = out X (R0 + r) b p i l := by
  have hs : ∀ j, rs (qsOf sel x0) (fun j l => at' X (krow b j) (1024 + p * 128 + l)) ⟨i * 128 + r.val, by omega⟩ j
      = score X (R0 + r) b p i (l.val / 64) j := by
    intro j
    have hq := fun x => qsOf_apply sel x0 (i * 128) (by omega) r x
    simp only [rs, hq]
    have one : ∀ x : Fin 128, sel (ix2 0 x) = 1#1 → Scalar.select (sel (ix2 0 x)) (x0 (ix2 r ⟨i * 128 + x.val, by omega⟩)) 0
        = at' X (R0 + r) (p * 512 + i * 128 + x.val) := by
      intro x hx
      rw [hx]
      exact (h.q r ⟨i * 128 + x.val, by omega⟩).trans (congrArg (at' X _) (Nat.add_assoc _ _ _).symm)
    have zero : ∀ x : Fin 128, sel (ix2 0 x) = 0#1 → Scalar.select (sel (ix2 0 x)) (x0 (ix2 r ⟨i * 128 + x.val, by omega⟩)) (0 : EReal) = 0 := by
      intro x hx
      rw [hx]; exact if_neg (by decide)
    rcases hsel with ⟨hsel, hl⟩ | ⟨hsel, hl⟩
    · rw [sum_low _ fun x hx => by rw [zero x (by rw [hsel, if_neg hx]), zero_mul], show l.val / 64 = 0 by omega]
      exact Finset.sum_congr rfl fun d _ => by rw [one _ (by rw [hsel, if_pos (by show 0 * 64 + d.val < 64; omega)])]
    · rw [sum_high _ fun x hx => by rw [zero x (by rw [hsel, if_pos hx]), zero_mul], show l.val / 64 = 1 by omega]
      exact Finset.sum_congr rfl fun d _ => by rw [one _ (by rw [hsel, if_neg (by show ¬ 1 * 64 + d.val < 64; omega)])]
  have hr : ∀ j < 4352, ∃ t : ℝ, rs (qsOf sel x0) (fun j l => at' X (krow b j) (1024 + p * 128 + l)) ⟨i * 128 + r.val, by omega⟩ j = t :=
    fun j _ => by rw [hs]; exact score_real X hX _ _ _ _ _ _ hp hi (by omega)
  have inv := inv_end sel (qsOf sel x0) _ (fun j l => at' X (krow b j) (1280 + p * 128 + l)) ⟨i * 128 + r.val, by omega⟩ x1 x2 x3 x4 h.k h.v h.kc h.vc hr
  have q := quot_apply sel (fun j l => at' X (krow b j) (1280 + p * 128 + l)) ⟨i * 128 + r.val, by omega⟩ _ _ 4352 (by omega) hr
    (hsel.imp And.left And.left) inv.acc l
    (by rcases hsel with ⟨hsel, hl⟩ | ⟨hsel, hl⟩; exacts [by rw [hsel, if_pos hl], by rw [hsel, if_neg hl]])
  refine q.trans ?_
  rw [show rs (qsOf sel x0) (fun j l => at' X (krow b j) (1024 + p * 128 + l)) ⟨i * 128 + r.val, by omega⟩ = score X (R0 + r) b p i (l.val / 64) from funext hs]
  rfl

theorem pick_apply (u w : FVec Ideal S128x128 .f32) (r l : Fin 128) :
    pick u w (ix2 r l) = if l.val < 64 then u (ix2 r l) else w (ix2 r l) := by
  pointwise [pick]
  show Scalar.select (IntOp.cmpi CmpIPredicate.slt (lanes (ix2 0 l)) 64#32) _ _ = _
  rw [low_apply]
  by_cases hl : l.val < 64
  · rw [if_pos hl, if_pos hl]; rfl
  · rw [if_neg hl, if_neg hl]; rfl

/-- A stored piece, entry by entry. -/
theorem stored_apply (hX : ∀ r c, c < 1280 → ∃ t : ℝ, at' X r c = t) {R0 b p : ℕ} (hp : p < 2) {x0 x1 x2 x3 x4}
    (h : Reads X R0 b p x0 x1 x2 x3 x4) (i : ℕ) (hi : i < 4) (o : ℕ) (ho : o = i * 128) (hsl : S512x128.Slices ![o, 0] S128x128) (r l : Fin 128) :
    stored x0 x1 x2 x3 x4 o hsl (ix2 r l) = out X (R0 + r) b p i l := by
  subst ho
  have e : ∀ f : FVec Ideal S512x128 .f32, extractStridedSlice S128x128 ![i * 128, 0] f hsl (ix2 r l)
      = f (ix2 ⟨i * 128 + r.val, by omega⟩ l) := fun f => extractStridedSlice_apply _ f hsl _ _ fun a => match a with
    | ⟨0, _⟩ => rfl
    | ⟨1, _⟩ => (Nat.zero_add _).symm
  unfold stored
  rw [pick_apply]
  by_cases hl : l.val < 64
  · rw [if_pos hl, e]
    exact half_apply hX hp h i hi r l sel0 (.inl ⟨sel0_apply, hl⟩)
  · rw [if_neg hl, e]
    exact half_apply hX hp h i hi r l sel1 (.inr ⟨sel1_apply, hl⟩)

/-- The output block as one function. -/
def blockOut (X : Shape.Idx (⟨2, ![17408, 1536]⟩ : Shape) → EReal) (R0 b p : ℕ) : S128x512.Idx → EReal := fun j =>
  out X (R0 + (j 0).val) b p ((j 1).val / 128) ((j 1).val % 128)

/-- A piece stored at lane `128 i` is the block's function there. -/
theorem piece_apply (R0 b p i : ℕ) (o : ℕ) (ho : o = i * 128) (w : FVec Ideal S128x128 .bf16)
    (hw : ∀ r l : Fin 128, w (ix2 r l) = out X (R0 + r) b p i l)
    (inb : ∀ a, (![0, o] : Fin 2 → ℕ) a + S128x128.size a ≤ S128x512.size a) (j : S128x128.Idx) :
    w j = blockOut X R0 b p ((Rect.unit (s := S128x512) ![0, o] S128x128.size inb).emb j) := by
  have h0 : (j 0).val < 128 := (j 0).isLt
  have h1 : (j 1).val < 128 := (j 1).isLt
  have ej : j = ix2 (j 0) (j 1) := funext fun a => by
    match a with
    | ⟨0, _⟩ => rfl
    | ⟨1, _⟩ => rfl
  have e0 : ((Rect.unit (s := S128x512) ![0, o] S128x128.size inb).emb j (0 : Fin 2)).val = (j 0).val := by
    rw [Rect.emb_apply]; show 0 + 1 * (j 0).val = _; omega
  have e1 : ((Rect.unit (s := S128x512) ![0, o] S128x128.size inb).emb j (1 : Fin 2)).val = o + (j 1).val := by
    rw [Rect.emb_apply]; show o + 1 * (j 1).val = _; omega
  unfold blockOut
  rw [e0, e1, show (o + (j 1).val) / 128 = i by omega, show (o + (j 1).val) % 128 = (j 1).val by omega]
  exact (congrArg w ej).trans (hw (j 0) (j 1))

/-- The whole output block. -/
theorem block_apply (hX : ∀ r c, c < 1280 → ∃ t : ℝ, at' X r c = t) {R0 b p : ℕ} (hp : p < 2) {x0 x1 x2 x3 x4}
    (h : Reads X R0 b p x0 x1 x2 x3 x4) :
    View.canon (Val := Elt Ideal) (s := S128x512) (e := .bf16) [⟨Rect.unit ![0, 384] S128x128.size inb_S128x512_S128x128_0_384, stored x0 x1 x2 x3 x4 384 slices_S512x128_o384_0_S128x128⟩, ⟨Rect.unit ![0, 256] S128x128.size inb_S128x512_S128x128_0_256, stored x0 x1 x2 x3 x4 256 slices_S512x128_o256_0_S128x128⟩, ⟨Rect.unit ![0, 128] S128x128.size inb_S128x512_S128x128_0_128, stored x0 x1 x2 x3 x4 128 slices_S512x128_o128_0_S128x128⟩, ⟨Rect.unit ![0, 0] S128x128.size inb_S128x512_S128x128_0_0, stored x0 x1 x2 x3 x4 0 slices_S512x128_o0_0_S128x128⟩]
      = blockOut X R0 b p := by
  have s0 := stored_apply hX hp h 0 (by omega) 0 (by omega) slices_S512x128_o0_0_S128x128
  have s1 := stored_apply hX hp h 1 (by omega) 128 (by omega) slices_S512x128_o128_0_S128x128
  have s2 := stored_apply hX hp h 2 (by omega) 256 (by omega) slices_S512x128_o256_0_S128x128
  have s3 := stored_apply hX hp h 3 (by omega) 384 (by omega) slices_S512x128_o384_0_S128x128
  generalize stored x0 x1 x2 x3 x4 0 slices_S512x128_o0_0_S128x128 = w0 at *
  generalize stored x0 x1 x2 x3 x4 128 slices_S512x128_o128_0_S128x128 = w1 at *
  generalize stored x0 x1 x2 x3 x4 256 slices_S512x128_o256_0_S128x128 = w2 at *
  generalize stored x0 x1 x2 x3 x4 384 slices_S512x128_o384_0_S128x128 = w3 at *
  funext y
  have h0 : (y 0).val < 128 := (y 0).isLt
  have h1 : (y 1).val < 512 := (y 1).isLt
  have mem : ∀ (o : ℕ) (inb : ∀ a, (![0, o] : Fin 2 → ℕ) a + S128x128.size a ≤ S128x512.size a) (_ : o ≤ (y 1).val) (_ : (y 1).val < o + 128),
      y ∈ (Rect.unit (s := S128x512) ![0, o] S128x128.size inb).set := by
    intro o inb ha hb
    refine Rect.mem_set_unit.mpr fun a => ?_
    match a with
    | ⟨0, _⟩ => exact ⟨Nat.zero_le _, by show (y 0).val < 0 + 128; omega⟩
    | ⟨1, _⟩ => exact ⟨ha, hb⟩
  refine View.canon_apply_of_pieces (Val := Elt Ideal) (S := S128x512) (e := .bf16) (blockOut X R0 b p) _ (fun q hq j => ?_) y ?_
  · simp only [List.mem_cons, List.mem_nil_iff, or_false] at hq
    rcases hq with rfl | rfl | rfl | rfl
    · exact piece_apply R0 b p 3 384 (by omega) w3 s3 inb_S128x512_S128x128_0_384 j
    · exact piece_apply R0 b p 2 256 (by omega) w2 s2 inb_S128x512_S128x128_0_256 j
    · exact piece_apply R0 b p 1 128 (by omega) w1 s1 inb_S128x512_S128x128_0_128 j
    · exact piece_apply R0 b p 0 0 (by omega) w0 s0 inb_S128x512_S128x128_0_0 j
  · by_cases c3 : 384 ≤ (y 1).val
    · exact ⟨_, .head _, mem 384 inb_S128x512_S128x128_0_384 c3 (by omega)⟩
    by_cases c2 : 256 ≤ (y 1).val
    · exact ⟨_, .tail _ (.head _), mem 256 inb_S128x512_S128x128_0_256 c2 (by omega)⟩
    by_cases c1 : 128 ≤ (y 1).val
    · exact ⟨_, .tail _ (.tail _ (.head _)), mem 128 inb_S128x512_S128x128_0_128 c1 (by omega)⟩
    · exact ⟨_, .tail _ (.tail _ (.tail _ (.head _))), mem 0 inb_S128x512_S128x128_0_0 (by omega) (by omega)⟩

/-! ## The blocks read -/

variable (m : (ℓ : Loc nD τ sig) → Buf (Elt Ideal) ℓ) (c : Dev nD)

theorem idx0 : ∀ t : Fin cfg0.N, win0_0.index t (0 : Fin 2) = (grid0.coords t 0).val * 32 + (grid0.coords t 2).val
    ∧ win0_0.index t (1 : Fin 2) = (grid0.coords t 1).val := (by decide +kernel : ∀ t : Fin grid0.N, _)
theorem idx1 : ∀ t : Fin cfg0.N, win0_1.index t (0 : Fin 2) = (grid0.coords t 0).val
    ∧ win0_1.index t (1 : Fin 2) = 8 + (grid0.coords t 1).val := (by decide +kernel : ∀ t : Fin grid0.N, _)
theorem idx2 : ∀ t : Fin cfg0.N, win0_2.index t (0 : Fin 2) = (grid0.coords t 0).val
    ∧ win0_2.index t (1 : Fin 2) = 10 + (grid0.coords t 1).val := (by decide +kernel : ∀ t : Fin grid0.N, _)
theorem idx3 : ∀ t : Fin cfg0.N, win0_3.index t (0 : Fin 2) = 64 + (grid0.coords t 0).val
    ∧ win0_3.index t (1 : Fin 2) = 8 + (grid0.coords t 1).val := (by decide +kernel : ∀ t : Fin grid0.N, _)
theorem idx4 : ∀ t : Fin cfg0.N, win0_4.index t (0 : Fin 2) = 64 + (grid0.coords t 0).val
    ∧ win0_4.index t (1 : Fin 2) = 10 + (grid0.coords t 1).val := (by decide +kernel : ∀ t : Fin grid0.N, _)
theorem idx5 : ∀ t : Fin cfg0.N, win0_5.index t (0 : Fin 2) = (grid0.coords t 0).val * 32 + (grid0.coords t 2).val
    ∧ win0_5.index t (1 : Fin 2) = (grid0.coords t 1).val := (by decide +kernel : ∀ t : Fin grid0.N, _)

/-- The blocks at a grid point read the array at that point's batch, pair and query tile. -/
theorem reads (t : Fin cfg0.N) : Reads (m ((c : Thread nD τ).loc main_arg0))
    (((grid0.coords t 0).val * 32 + (grid0.coords t 2).val) * 128) (grid0.coords t 0).val (grid0.coords t 1).val
    (iblk m c 0 t) (X0_1 m c t) (X0_2 m c t) (iblk m c 3 t) (iblk m c 4 t) := by
  have hc0 : (grid0.coords t 0).val < 4 := (grid0.coords t 0).isLt
  have hc1 : (grid0.coords t 1).val < 2 := (grid0.coords t 1).isLt
  have hc2 : (grid0.coords t 2).val < 32 := (grid0.coords t 2).isLt
  refine ⟨fun r l => ?_, fun j l => ?_, fun j l => ?_, fun j l => ?_, fun j l => ?_⟩
  · obtain ⟨e0, e1⟩ := idx0 t
    rw [at'_eq _ _ _ (by omega) (by omega)]
    show V m c main_arg0 (((cfg0.win 0).blk t).view.emb (ix2 r l)) = _
    rw [V_main_arg0]
    refine congrArg _ (funext fun a => Fin.ext ?_)
    match a with
    | ⟨0, _⟩ => show win0_0.index t (0 : Fin 2) * 128 + 1 * r.val = _; rw [e0, one_mul]; rfl
    | ⟨1, _⟩ => show win0_0.index t (1 : Fin 2) * 512 + 1 * l.val = _; rw [e1, one_mul]; rfl
  · obtain ⟨e0, e1⟩ := idx1 t
    unfold krow
    rw [if_pos j.isLt, at'_eq _ _ _ (by omega) (by omega)]
    unfold X0_1 Pipeline.Window.fill
    rw [dif_pos (moved0_1 t _)]
    show V m c main_arg0 (((cfg0.win 1).blk t).view.emb _) = _
    rw [V_main_arg0]
    refine congrArg _ (funext fun a => Fin.ext ?_)
    match a with
    | ⟨0, _⟩ => show win0_1.index t (0 : Fin 2) * 4096 + 1 * j.val = _; rw [e0, one_mul]; rfl
    | ⟨1, _⟩ => show win0_1.index t (1 : Fin 2) * 128 + 1 * l.val = 1024 + (grid0.coords t 1).val * 128 + l.val; rw [e1]; omega
  · obtain ⟨e0, e1⟩ := idx2 t
    unfold krow
    rw [if_pos j.isLt, at'_eq _ _ _ (by omega) (by omega)]
    unfold X0_2 Pipeline.Window.fill
    rw [dif_pos (moved0_2 t _)]
    show V m c main_arg0 (((cfg0.win 2).blk t).view.emb _) = _
    rw [V_main_arg0]
    refine congrArg _ (funext fun a => Fin.ext ?_)
    match a with
    | ⟨0, _⟩ => show win0_2.index t (0 : Fin 2) * 4096 + 1 * j.val = _; rw [e0, one_mul]; rfl
    | ⟨1, _⟩ => show win0_2.index t (1 : Fin 2) * 128 + 1 * l.val = 1280 + (grid0.coords t 1).val * 128 + l.val; rw [e1]; omega
  · obtain ⟨e0, e1⟩ := idx3 t
    unfold krow
    rw [if_neg (by omega), at'_eq _ _ _ (by omega) (by omega)]
    show V m c main_arg0 (((cfg0.win 3).blk t).view.emb (ix2 j l)) = _
    rw [V_main_arg0]
    refine congrArg _ (funext fun a => Fin.ext ?_)
    match a with
    | ⟨0, _⟩ => show win0_3.index t (0 : Fin 2) * 256 + 1 * j.val = 16384 + (grid0.coords t 0).val * 256 + (4096 + j.val - 4096); rw [e0]; omega
    | ⟨1, _⟩ => show win0_3.index t (1 : Fin 2) * 128 + 1 * l.val = 1024 + (grid0.coords t 1).val * 128 + l.val; rw [e1]; omega
  · obtain ⟨e0, e1⟩ := idx4 t
    unfold krow
    rw [if_neg (by omega), at'_eq _ _ _ (by omega) (by omega)]
    show V m c main_arg0 (((cfg0.win 4).blk t).view.emb (ix2 j l)) = _
    rw [V_main_arg0]
    refine congrArg _ (funext fun a => Fin.ext ?_)
    match a with
    | ⟨0, _⟩ => show win0_4.index t (0 : Fin 2) * 256 + 1 * j.val = 16384 + (grid0.coords t 0).val * 256 + (4096 + j.val - 4096); rw [e0]; omega
    | ⟨1, _⟩ => show win0_4.index t (1 : Fin 2) * 128 + 1 * l.val = 1280 + (grid0.coords t 1).val * 128 + l.val; rw [e1]; omega

/-! ## The whole array -/

/-- The array the latent rows hold after the run. -/
def G : S17408x1024.Idx → EReal := fun i =>
  out (m ((c : Thread nD τ).loc main_arg0)) (i 0).val ((i 0).val / 4096) ((i 1).val / 512) ((i 1).val % 512 / 128) ((i 1).val % 128)

theorem emb5_0 (t : Fin cfg0.N) (j : S128x512.Idx) : (((cfg0.win 5).blk t).view.emb j (0 : Fin 2)).val
    = ((grid0.coords t 0).val * 32 + (grid0.coords t 2).val) * 128 + (j 0).val := by
  show win0_5.index t (0 : Fin 2) * 128 + 1 * (j 0).val = _
  rw [(idx5 t).1, one_mul]

theorem emb5_1 (t : Fin cfg0.N) (j : S128x512.Idx) : (((cfg0.win 5).blk t).view.emb j (1 : Fin 2)).val
    = (grid0.coords t 1).val * 512 + (j 1).val := by
  show win0_5.index t (1 : Fin 2) * 512 + 1 * (j 1).val = _
  rw [(idx5 t).2, one_mul]

/-- What a point writes back is its block of `G`. -/
theorem flushed5_eq (hX : ∀ r c', c' < 1280 → ∃ x : ℝ, at' (m ((c : Thread nD τ).loc main_arg0)) r c' = x) (t : Fin cfg0.N) :
    (dats m 0 c).flushed 5 t = ((cfg0.win 5).blk t).view.read (Elt Ideal) (G m c) := by
  have hc0 : (grid0.coords t 0).val < 4 := (grid0.coords t 0).isLt
  have hc1 : (grid0.coords t 1).val < 2 := (grid0.coords t 1).isLt
  have hc2 : (grid0.coords t 2).val < 32 := (grid0.coords t 2).isLt
  rw [flushed5_A, out_eq]
  funext j
  have h0 : (j 0).val < 128 := (j 0).isLt
  have h1 : (j 1).val < 512 := (j 1).isLt
  have key := congrFun (block_apply hX hc1 (reads m c t)) j
  refine Eq.trans key ?_
  show _ = G m c (((cfg0.win 5).blk t).view.emb j)
  unfold G blockOut
  rw [emb5_0, emb5_1]
  congr 1 <;> first | rfl | omega | (dsimp only; omega)

/-- A latent row is written by the point of its batch, column pair and tile. -/
theorem covered5 (i : S17408x1024.Idx) (hi : (i 0).val < 16384) :
    ∃ t : Fin cfg0.N, (cfg0.win 5).flush t = true ∧ i ∈ ((cfg0.win 5).blk t).view.set := by
  have h1 : (i 1).val < 1024 := (i 1).isLt
  have pts : ∀ (b : Fin 4) (p : Fin 2) (q : Fin 32), ∃ t : Fin grid0.N, (grid0.coords t 0).val = b.val
      ∧ (grid0.coords t 1).val = p.val ∧ (grid0.coords t 2).val = q.val := by decide +kernel
  obtain ⟨t, e0, e1, e2⟩ := pts ⟨(i 0).val / 4096, by omega⟩ ⟨(i 1).val / 512, by omega⟩ ⟨(i 0).val / 128 % 32, by omega⟩
  refine ⟨t, flush0_5 t, ?_⟩
  have e := ((cfg0.win 5).blk t).view.emb_mem_set (ix2 ⟨(i 0).val % 128, by omega⟩ ⟨(i 1).val % 512, by omega⟩ : S128x512.Idx)
  have hi : ((cfg0.win 5).blk t).view.emb (ix2 ⟨(i 0).val % 128, by omega⟩ ⟨(i 1).val % 512, by omega⟩ : S128x512.Idx) = i := by
    funext a
    match a with
    | ⟨0, _⟩ => exact Fin.ext ((emb5_0 t _).trans (by rw [e0, e2]; show ((i 0).val / 4096 * 32 + (i 0).val / 128 % 32) * 128 + (i 0).val % 128 = (i 0).val; omega))
    | ⟨1, _⟩ => exact Fin.ext ((emb5_1 t _).trans (by rw [e1]; show (i 1).val / 512 * 512 + (i 1).val % 512 = (i 1).val; omega))
  rwa [hi] at e

/-- The result array on the latent rows. -/
theorem result_apply (hX : ∀ r c', c' < 1280 → ∃ x : ℝ, at' (m ((c : Thread nD τ).loc main_arg0)) r c' = x)
    (i : S17408x1024.Idx) (hi : (i 0).val < 16384) : (dats m 0 c).arrAt 5 cfg0.N i = G m c i := by
  obtain ⟨t, hf, hm⟩ := covered5 i hi
  exact (dats m 0 c).arrAt_apply_of_mem 5 (G m c) (fun t _ => flushed5_eq m c hX t) cfg0.N t i t.isLt hf hm

end Cert.AttnIdeal.Parts

end
-- ==== Proof.AttnRefValue.lean ====
/- The attention reference's result on the latent rows: the same attention of the projected array. -/
module

public import proofs.«01_k».proof.Proof.AttnSpec
public import proofs.«01_k».proof.Proof.Gen.AttnRefIdeal.Read

@[expose] public section

noncomputable section

namespace Cert.AttnRefIdeal.Hand

open Cert.AttnRefIdeal Cert.AttnRefIdeal.Gen Cert.AttnRefIdeal.Read Cert.AttnSpec Cert.OnlineSoftmax
open Idealize.ShloMosaic Idealize.ShloMosaic.TcCoe Idealize.SL.Sem
open scoped BigOperators
variable (X : S17408x1536.Idx → EReal)
/-- The keys, latent then context. -/
theorem keys (b : Fin 4) (s : Fin 4352) (kv : Fin 4) (d : Fin 64) :
    val_main_v12 (F := Ideal) X (ix4 b s kv d) = at' X (krow b s) (1024 + kv.val / 2 * 128 + (kv.val % 2 * 64 + d)) := by
  pointwise [val_main_v12, val_main_v11, val_main_v10, val_main_v9, val_main_v4, val_main_v3, val_main_v2, val_main_v1, val_main_v0]
  unfold krow
  split
  · rw [at'_eq _ _ _ (by omega) (by omega)]
    exact congrArg X (congrArg (ix2 _) (Fin.ext (by show 1024 + (kv.val * 64 + d.val) = 1024 + kv.val / 2 * 128 + (kv.val % 2 * 64 + d.val); omega)))
  · rw [at'_eq _ _ _ (by omega) (by omega)]
    exact congrArg X (congrArg₂ ix2 (Fin.ext (by show 16384 + (b.val * 256 + (s.val - 4096)) = 16384 + b.val * 256 + (s.val - 4096); omega)) (Fin.ext (by show 1024 + (kv.val * 64 + d.val) = 1024 + kv.val / 2 * 128 + (kv.val % 2 * 64 + d.val); omega)))

/-- The values, latent then context. -/
theorem vals (b : Fin 4) (s : Fin 4352) (kv : Fin 4) (d : Fin 64) :
    val_main_v16 (F := Ideal) X (ix4 b s kv d) = at' X (krow b s) (1280 + kv.val / 2 * 128 + (kv.val % 2 * 64 + d)) := by
  pointwise [val_main_v16, val_main_v15, val_main_v14, val_main_v13, val_main_v4, val_main_v3, val_main_v2, val_main_v1, val_main_v0]
  unfold krow
  split
  · rw [at'_eq _ _ _ (by omega) (by omega)]
    exact congrArg X (congrArg (ix2 _) (Fin.ext (by show 1280 + (kv.val * 64 + d.val) = 1280 + kv.val / 2 * 128 + (kv.val % 2 * 64 + d.val); omega)))
  · rw [at'_eq _ _ _ (by omega) (by omega)]
    exact congrArg X (congrArg₂ ix2 (Fin.ext (by show 16384 + (b.val * 256 + (s.val - 4096)) = 16384 + b.val * 256 + (s.val - 4096); omega)) (Fin.ext (by show 1280 + (kv.val * 64 + d.val) = 1280 + kv.val / 2 * 128 + (kv.val % 2 * 64 + d.val); omega)))

/-- The queries. -/
theorem queries (b : Fin 4) (s : Fin 4096) (kv : Fin 4) (g : Fin 4) (d : Fin 64) :
    val_main_v8 (F := Ideal) X (ix5 b s kv g d) = at' X (b * 4096 + s) (kv.val / 2 * 512 + g * 128 + (kv.val % 2 * 64 + d)) := by
  pointwise [val_main_v8, val_main_v7, val_main_v6, val_main_v5, val_main_v2, val_main_v1, val_main_v0]
  rw [at'_eq _ _ _ (by omega) (by omega)]
  exact congrArg X (congrArg (ix2 _) (Fin.ext (by show kv.val / 2 * 512 + g.val * 128 + kv.val % 2 * 64 + d.val = kv.val / 2 * 512 + g.val * 128 + (kv.val % 2 * 64 + d.val); omega)))

/-- The scores. -/
theorem scores (b kv g : Fin 4) (q : Fin 4096) (s : Fin 4352) :
    val_main_v18 (F := Ideal) X (ix5 b kv g q s) = score X (b * 4096 + q) b (kv.val / 2) g (kv.val % 2) s := by
  rw [val_main_v18_apply, val_main_v17_apply]
  refine Finset.sum_congr rfl fun d _ => ?_
  rw [mul_comm]
  refine congrArg₂ (· * ·) ?_ ?_
  · refine Eq.trans (congrArg _ (funext fun a => ?_)) (queries X b q kv g d)
    match a with
    | ⟨0, _⟩ => rfl
    | ⟨1, _⟩ => rfl
    | ⟨2, _⟩ => rfl
    | ⟨3, _⟩ => rfl
    | ⟨4, _⟩ => rfl
  · refine Eq.trans (congrArg _ (funext fun a => ?_)) (keys X b s kv d)
    match a with
    | ⟨0, _⟩ => rfl
    | ⟨1, _⟩ => rfl
    | ⟨2, _⟩ => rfl
    | ⟨3, _⟩ => rfl

/-- The word of minus infinity reads as the least extended real. -/
theorem neg_inf : Ideal.ofBits FTy.f32 4286578688#32 = ⊥ := by
  simp [Ideal.ofBits, Ideal.ieee]

theorem fold_max {n : ℕ} (f : Fin n → EReal) (s : ℕ → EReal) (h : ∀ x : Fin n, f x = s x) :
    Finset.fold max ⊥ f Finset.univ = top s n := by
  have e : Finset.fold max ⊥ f Finset.univ = Finset.univ.sup f := rfl
  rw [e, top]
  apply le_antisymm
  · exact Finset.sup_le fun x _ => by rw [h]; exact Finset.le_sup (f := s) (Finset.mem_range.mpr x.isLt)
  · exact Finset.sup_le fun x hx => by
      rw [← h ⟨x, Finset.mem_range.mp hx⟩]; exact Finset.le_sup (f := f) (Finset.mem_univ _)

/-- The row maximum. -/
theorem tops (b kv g : Fin 4) (q : Fin 4096) :
    val_main_v21 (F := Ideal) X (ix4 b kv g q) = top (score X (b * 4096 + q) b (kv.val / 2) g (kv.val % 2)) 4352 := by
  have e : val_main_v19 (F := Ideal) X (ix4 b kv g q) = top (score X (b * 4096 + q) b (kv.val / 2) g (kv.val % 2)) 4352 := by
    have hy := scores X b kv g q
    unfold val_main_v19
    generalize val_main_v18 (F := Ideal) X = y at *
    pointwise [val_main_cst]
    rw [neg_inf]
    exact fold_max _ _ hy
  rw [val_main_v21_apply, e, val_main_v20_apply, val_main_cst_0_apply]
  show max (Ideal.ofBits FTy.f32 4286578688#32) _ = _
  rw [neg_inf]
  exact max_eq_right bot_le

/-- The exponentials. -/
theorem exps (b kv g : Fin 4) (q : Fin 4096) (s : Fin 4352) : val_main_v25 (F := Ideal) X (ix5 b kv g q s)
    = Ideal.exp (score X (b * 4096 + q) b (kv.val / 2) g (kv.val % 2) s - top (score X (b * 4096 + q) b (kv.val / 2) g (kv.val % 2)) 4352) := by
  rw [val_main_v25_apply, val_main_v24_apply, scores, val_main_v23_apply, val_main_v22_apply]
  have e : idx_main_v22 (idx_main_v23 (ix5 b kv g q s)) = ix4 b kv g q := funext fun a => by
    match a with
    | ⟨0, _⟩ => rfl
    | ⟨1, _⟩ => rfl
    | ⟨2, _⟩ => rfl
    | ⟨3, _⟩ => rfl
  rw [e, tops]
  rfl

/-- The softmax weights. -/
theorem weights (b kv g : Fin 4) (q : Fin 4096) (s : Fin 4352) : val_main_v29 (F := Ideal) X (ix5 b kv g q s)
    = Ideal.div (Ideal.exp (score X (b * 4096 + q) b (kv.val / 2) g (kv.val % 2) s - top (score X (b * 4096 + q) b (kv.val / 2) g (kv.val % 2)) 4352))
        (acc (score X (b * 4096 + q) b (kv.val / 2) g (kv.val % 2)) (fun _ => 1) (top (score X (b * 4096 + q) b (kv.val / 2) g (kv.val % 2)) 4352) 4352) := by
  rw [val_main_v29_apply, exps, val_main_v28_apply, val_main_v27_apply, val_main_v26_apply]
  refine congrArg (Ideal.div _) ?_
  have z : val_main_cst_1 (F := Ideal) (Shape.Idx.first h_S_) = (0 : EReal) := by
    rw [val_main_cst_1_apply]; show Ideal.ofBits FTy.f32 0#32 = 0; simp [Ideal.ofBits, Ideal.ieee]
  rw [z, zero_add, acc, Finset.sum_range]
  refine Finset.sum_congr rfl fun k _ => ?_
  rw [mul_one]
  refine Eq.trans (congrArg _ (funext fun a => ?_)) (exps X b kv g q k)
  match a with
  | ⟨0, _⟩ => rfl
  | ⟨1, _⟩ => rfl
  | ⟨2, _⟩ => rfl
  | ⟨3, _⟩ => rfl
  | ⟨4, _⟩ => rfl

/-- The weighted values. -/
theorem outs (hX : ∀ r c, c < 1280 → ∃ t : ℝ, at' X r c = t) (b kv g : Fin 4) (q : Fin 4096) (d : Fin 64) : val_main_v30 (F := Ideal) X (ix5 b kv d g q)
    = out X (b * 4096 + q) b (kv.val / 2) g (kv.val % 2 * 64 + d) := by
  rw [val_main_v30_apply, out, show (kv.val % 2 * 64 + d.val) / 64 = kv.val % 2 by omega,
    acc_div _ _ 4352 (by omega) fun j _ => score_real X hX _ _ _ _ _ _ (by omega) (by omega) (by omega), Finset.sum_range]
  refine Finset.sum_congr rfl fun k _ => ?_
  rw [mul_comm]
  refine congrArg₂ (· * ·) ?_ ?_
  · refine Eq.trans (congrArg _ (funext fun a => ?_)) (weights X b kv g q k)
    match a with
    | ⟨0, _⟩ => rfl
    | ⟨1, _⟩ => rfl
    | ⟨2, _⟩ => rfl
    | ⟨3, _⟩ => rfl
    | ⟨4, _⟩ => rfl
  · refine Eq.trans (congrArg _ (funext fun a => ?_)) (vals X b k kv d)
    match a with
    | ⟨0, _⟩ => rfl
    | ⟨1, _⟩ => rfl
    | ⟨2, _⟩ => rfl
    | ⟨3, _⟩ => rfl

/-- The result on a latent row. -/
theorem result (hX : ∀ r c, c < 1280 → ∃ t : ℝ, at' X r c = t) (R : Fin 17408) (C : Fin 1024) (hR : R.val < 16384) :
    val_main_v36 (F := Ideal) X (ix2 R C) = out X R (R.val / 4096) (C.val / 512) (C.val % 512 / 128) (C.val % 128) := by
  have h := outs X hX
  unfold val_main_v36 val_main_v35 val_main_v34 val_main_v33 val_main_v32 val_main_v31 val_main_call0_v0
  generalize val_main_v30 (F := Ideal) X = y at *
  pointwise [val_main_c]
  rw [dif_pos hR, h]
  congr 1 <;> (dsimp only; omega)

end Cert.AttnRefIdeal.Hand

end
-- ==== Proof.AttnEnd.lean ====
/- The attention claim: under the precondition every query and key entry is real, and on the latent rows the call and its
   reference both leave the attention of the argument. -/
module

public import proofs.«01_k».proof.Defs
public import proofs.«01_k».proof.Proof.AttnValue
public import proofs.«01_k».proof.Proof.AttnRefValue
public import proofs.«01_k».proof.Proof.Gen.Pre_finite_qk
public import proofs.«01_k».proof.Proof.Gen.On_latent_rows
public import proofs.«01_k».proof.Proof.Gen.AttnRefIdeal.Run

@[expose] public section

noncomputable section

namespace Cert.Proof.Attention

open Idealize.ShloMosaic Idealize.ShloMosaic.TcCoe Idealize.SL.Sem Cert.AttnSpec

local instance : Cert.Pre_finite_qk.Facts := Cert.Pre_finite_qk.Gen.facts
local instance : Cert.On_latent_rows.Facts := Cert.On_latent_rows.Gen.facts

theorem pos_inf : Ideal.ofBits FTy.f32 2139095040#32 = ⊤ := by
  simp [Ideal.ofBits, Ideal.ieee]

/-- Strictly between the infinities is real. -/
theorem real_of_between (x : EReal) (h1 : ⊥ < x) (h2 : x < ⊤) : ∃ t : ℝ, x = t :=
  ⟨x.toReal, (EReal.coe_toReal h2.ne h1.ne').symm⟩

theorem lower_apply (X : FVec Ideal Cert.Pre_finite_qk.S17408x1536 .bf16) (r : Fin 17408) (c : Fin 1280) :
    (Cert.Pre_finite_qk.fn (F := Ideal) X).1 (ix2 r c) = 1#1 → ⊥ < X (ix2 r ⟨c.val, by omega⟩) := by
  unfold Cert.Pre_finite_qk.fn
  dsimp only
  pointwise []
  rw [Cert.AttnRefIdeal.Hand.neg_inf]
  intro h
  by_contra hn
  rw [decide_eq_false hn] at h
  exact absurd h (by decide)

theorem upper_apply (X : FVec Ideal Cert.Pre_finite_qk.S17408x1536 .bf16) (r : Fin 17408) (c : Fin 1280) :
    (Cert.Pre_finite_qk.fn (F := Ideal) X).2 (ix2 r c) = 1#1 → X (ix2 r ⟨c.val, by omega⟩) < ⊤ := by
  unfold Cert.Pre_finite_qk.fn
  dsimp only
  pointwise []
  rw [pos_inf]
  intro h
  by_contra hn
  rw [decide_eq_false hn] at h
  exact absurd h (by decide)

theorem mask_apply (X : FVec Ideal Cert.On_latent_rows.S17408x1536 .bf16) (i : (⟨2, ![17408, 1024]⟩ : Shape).Idx)
    (h : (Cert.On_latent_rows.fn (F := Ideal) X) i = 1#1) : (i 0).val < 16384 := by
  unfold Cert.On_latent_rows.fn at h
  dsimp only at h
  have h0 : (i 0).val < 17408 := (i 0).isLt
  simp only [cmpi, constantI, broadcastInDim, IntOp.cmpi, iotaInDim] at h
  by_contra hn
  have e : (BitVec.ofNat 32 (i 0).val).slt 16384#32 = false := by
    rw [BitVec.slt_eq_decide, decide_eq_false_iff_not, BitVec.toInt_eq_toNat_of_lt (by rw [BitVec.toNat_ofNat]; omega), BitVec.toNat_ofNat]
    simp only [show (16384#32).toInt = 16384 by decide]
    omega
  rw [e] at h
  exact absurd h (by decide)

/-- Query and key entries are real under the precondition. -/
theorem entries_real (m : (ℓ : Loc Cert.AttnIdeal.nD Cert.AttnIdeal.τ Cert.AttnIdeal.sig) → Buf (Elt Ideal) ℓ) (h : Cert.Pre_AttnIdeal_finite_qk m)
    (c : Dev Cert.AttnIdeal.nD) (r j : ℕ) (hj : j < 1280) :
    ∃ t : ℝ, at' (m ((c.tc : Thread Cert.AttnIdeal.nD Cert.AttnIdeal.τ).loc Cert.AttnIdeal.main_arg0)) r j = t := by
  unfold at'
  split
  · rename_i hr
    exact real_of_between _ (lower_apply _ ⟨r, hr.1⟩ ⟨j, hj⟩ (congrFun (h c).1 _)) (upper_apply _ ⟨r, hr.1⟩ ⟨j, hj⟩ (congrFun (h c).2 _))
  · exact ⟨0, rfl⟩

theorem algebraic : Cert.algebraic_AttnIdeal_AttnRefIdeal_on_latent_rows_pre_finite_qk (hAttnIdeal := Cert.AttnIdeal.Gen.facts)
    (hAttnRefIdeal := Cert.AttnRefIdeal.Gen.facts) (hPre_finite_qk := Cert.Pre_finite_qk.Gen.facts) (hOn_latent_rows := Cert.On_latent_rows.Gen.facts) := by
  intro m g m' g' hpre hm
  refine ⟨fun c => Cert.AttnIdeal.Parts.G m c, ?_, ?_⟩
  · refine (θ_run Cert.AttnIdeal.defs _ _).mono (fun r h c => ⟨fun i hi => ?_, (h c).2⟩) (Cert.AttnIdeal.Value.run_blocks m g)
    rw [(h c).1]
    exact Cert.AttnIdeal.Parts.result_apply m c (entries_real m hpre c) i (mask_apply _ i hi)
  · refine (θ_run Cert.AttnRefIdeal.defs _ _).mono (fun r h c => ⟨fun i hi => ?_, (h c).2⟩) (Cert.AttnRefIdeal.Value.run m' g')
    have hi := mask_apply _ i hi
    rw [(h c).1, Cert.AttnRefIdeal.Read.val_main_v36_eq, hm c]
    have e : i = ix2 (i 0) (i 1) := funext fun a => by
      match a with
      | ⟨0, _⟩ => rfl
      | ⟨1, _⟩ => rfl
    have key := Cert.AttnRefIdeal.Hand.result _ (entries_real m hpre c) (i 0) (i 1) hi
    refine Eq.trans (congrArg _ e) (key.trans ?_)
    rfl

end Cert.Proof.Attention

end
-- ==== Proof.FfnParts.lean ====
/- One tile of hidden channels in the ConvFFN body: the block primitive that every trip of the body's loop computes, the
   sum over the tiles, and that the printed body's payloads are these. -/
module

public import proofs.«01_k».proof.Proof.Gen.FfnIdeal.Skeleton
public import Idealize.ShloMosaic.Lib.Pointwise

@[expose] public section

noncomputable section

namespace Cert.FfnIdeal.Parts

open Cert.FfnIdeal Cert.FfnIdeal.Gen Idealize.ShloMosaic

variable {F : FTy → Type} [FloatOps F] [Facts]

/-- The three-tap convolution along rows of a tile of gates, before its bias. -/
def conv (a : Vec F S1056x1024 .bf16) (w1 : Vec F S1x1024x256 .bf16) (wc : Vec F S1x3x256 .f32) (mp mn : FVec F S1024x1 .f32) :
    FVec F S1024x256 .f32 :=
  have ge : FVec F S1056x256 .f32 := matmul dot_S1056x1024_S1024x256_S1056x256_1_0_0_1_n_n none a
    (shapeCast S1024x256 w1 shapeCasts_S1x1024x256_S1024x256) (constant S1056x256 .f32 0x00000000#32)
  have w : FVec F S3x256 .f32 := shapeCast S3x256 wc shapeCasts_S1x3x256_S3x256
  addf (addf
      (mulf (extractStridedSlice S1024x256 ![16, 0] ge slices_S1056x256_o16_0_S1024x256)
        (broadcastTo S1024x256 (extractStridedSlice S1x256 ![1, 0] w slices_S3x256_o1_0_S1x256) broadcasts_S1x256_S1024x256))
      (mulf (mulf (extractStridedSlice S1024x256 ![15, 0] ge slices_S1056x256_o15_0_S1024x256)
          (broadcastTo S1024x256 mp broadcasts_S1024x1_S1024x256))
        (broadcastTo S1024x256 (extractStridedSlice S1x256 ![0, 0] w slices_S3x256_o0_0_S1x256) broadcasts_S1x256_S1024x256)))
    (mulf (mulf (extractStridedSlice S1024x256 ![17, 0] ge slices_S1056x256_o17_0_S1024x256)
        (broadcastTo S1024x256 mn broadcasts_S1024x1_S1024x256))
      (broadcastTo S1024x256 (extractStridedSlice S1x256 ![2, 0] w slices_S3x256_o2_0_S1x256) broadcasts_S1x256_S1024x256))

/-- A tile's contribution to the block's output rows. -/
def mix (a : Vec F S1056x1024 .bf16) (w1 : Vec F S1x1024x256 .bf16) (a' : Vec F S1024x1024 .bf16) (w2 : Vec F S1x1024x256 .bf16)
    (wc : Vec F S1x3x256 .f32) (bc : Vec F S1x1x256 .f32) (wd : Vec F S1x256x1024 .bf16) (mp mn : FVec F S1024x1 .f32) :
    FVec F S1024x1024 .f32 :=
  k0_pay15 (k0_pay13 a' w2) (conv a w1 wc mp mn) bc wd

/-- A later tile adds to what is there. -/
def step (acc : Vec F S1024x1024 .f32) (y : FVec F S1024x1024 .f32) : FVec F S1024x1024 .f32 :=
  addf (shapeCast S1024x1024 acc shapeCasts_S1024x1024_S1024x1024) y

section Tiles

variable (a : Vec F S1056x1024 .bf16) (w1 : Vec F S1x1024x256 .bf16) (a' : Vec F S1024x1024 .bf16) (w2 : Vec F S1x1024x256 .bf16)
    (wc : Vec F S1x3x256 .f32) (bc : Vec F S1x1x256 .f32) (wd : Vec F S1x256x1024 .bf16) (mp mn : FVec F S1024x1 .f32)
    (acc : Vec F S1024x1024 .f32)

theorem tile0 (v74 : BitVec 32) (v78 : IVec S1024x1 32) : k0_pay15 (k0_pay13 a' w2) (k0_pay14 v74 v78 a w1 wc) bc wd
    = mix a w1 a' w2 wc bc wd (k0_pay11 v74 v78) (k0_pay12 v74 v78) := rfl
theorem tile1 : k0_pay22 (k0_pay17 a' w2) (k0_pay19 mp a w1 wc) (k0_pay20 mn a w1) (k0_pay21 wc) bc wd acc
    = step acc (mix a w1 a' w2 wc bc wd mp mn) := rfl
theorem tile2 : k0_pay28 mp mn (k0_pay23 a w1) (k0_pay24 a' w2) (k0_pay25 wc) (k0_pay26 a w1 wc) (k0_pay27 a w1) bc wd acc
    = step acc (mix a w1 a' w2 wc bc wd mp mn) := rfl
theorem tile3 : k0_pay31 mp mn (k0_pay29 a w1) (k0_pay30 a' w2) wc bc wd acc
    = step acc (mix a w1 a' w2 wc bc wd mp mn) := rfl
theorem tile4 : k0_pay33 mp mn (k0_pay32 a w1) a' w2 wc bc wd acc
    = step acc (mix a w1 a' w2 wc bc wd mp mn) := rfl
theorem tile5 : k0_pay36 (k0_pay34 mp mn a w1 a' w2 wc bc) (k0_pay35 wd) (constant S1024x1024 .f32 0x00000000#32) acc
    = step acc (mix a w1 a' w2 wc bc wd mp mn) := rfl
theorem tile6 : k0_pay39 (k0_pay37 a' w2) (k0_pay38 mp mn a w1 wc bc) wd acc
    = step acc (mix a w1 a' w2 wc bc wd mp mn) := rfl
theorem tile7 : k0_pay46 (k0_pay41 a' w2) (k0_pay43 mp a w1 wc) (k0_pay44 mn a w1) (k0_pay45 wc) bc wd acc
    = step acc (mix a w1 a' w2 wc bc wd mp mn) := rfl
theorem tile8 : k0_pay52 mp mn (k0_pay47 a w1) (k0_pay48 a' w2) (k0_pay49 wc) (k0_pay50 a w1 wc) (k0_pay51 a w1) bc wd acc
    = step acc (mix a w1 a' w2 wc bc wd mp mn) := rfl
theorem tile9 : k0_pay55 mp mn (k0_pay53 a w1) (k0_pay54 a' w2) wc bc wd acc
    = step acc (mix a w1 a' w2 wc bc wd mp mn) := rfl
theorem tile10 : k0_pay57 mp mn (k0_pay56 a w1) a' w2 wc bc wd acc
    = step acc (mix a w1 a' w2 wc bc wd mp mn) := rfl

end Tiles

/-- The rows a block reads, normalized and modulated: sixteen rows before the block, the block, sixteen rows after. -/
def actPrev (x0 : Vec F S16x1024 .f32) (x3 : Vec F S1x1024 .f32) (x4 x5 : Vec F S1x1x1024 .f32) : FVec F S16x1024 .bf16 := k0_pay5 x3 x4 x5 x0
def actMain (x1 : Vec F S1024x1024 .f32) (x3 : Vec F S1x1024 .f32) (x4 x5 : Vec F S1x1x1024 .f32) : FVec F S1024x1024 .bf16 :=
  k0_pay7 (k0_pay2 x3) (k0_pay3 x4) (k0_pay4 x5) x1 (k0_pay6 x1)
def actNext (x2 : Vec F S16x1024 .f32) (x3 : Vec F S1x1024 .f32) (x4 x5 : Vec F S1x1x1024 .f32) : FVec F S16x1024 .bf16 :=
  k0_pay8 (k0_pay2 x3) (k0_pay3 x4) (k0_pay4 x5) x2

end Cert.FfnIdeal.Parts

end
-- ==== Proof.FfnBlock.lean ====
/- What one grid point of the last ConvFFN call writes, as one function of the blocks it reads. -/
module

public import proofs.«01_k».proof.Proof.FfnParts
public import proofs.«01_k».proof.Proof.Gen.FfnIdeal.Value
public import Idealize.ShloMosaic.Lib.Pipeline.ValueKit.Acc

@[expose] public section

noncomputable section

namespace Cert.FfnIdeal.Parts

open Cert.FfnIdeal Cert.FfnIdeal.Gen Idealize.ShloMosaic Idealize.ShloMosaic.TcCoe Idealize.SL.Sem

variable {F : FTy → Type} [FloatOps F]

/-- What the three stores of normalized rows leave. -/
def rows (w2 : FVec F S16x1024 .bf16) (w1 : FVec F S1024x1024 .bf16) (w0 : FVec F S16x1024 .bf16) : Vec F S1056x1024 .bf16 :=
  View.canon (Val := Elt F) (s := S1056x1024) (e := .bf16) [⟨Rect.unit (s := S1056x1024) ![1040, 0] ![16, 1024] inb_S1056x1024_S16x1024_1040_0, w2⟩,
    ⟨Rect.unit (s := S1056x1024) ![16, 0] ![1024, 1024] inb_S1056x1024_S1024x1024_16_0, w1⟩,
    ⟨Rect.unit (s := S1056x1024) ![0, 0] ![16, 1024] inb_S1056x1024_S16x1024_0_0, w0⟩]

theorem rows_cover (w2 : FVec F S16x1024 .bf16) (w1 : FVec F S1024x1024 .bf16) (w0 : FVec F S16x1024 .bf16) (y : S1056x1024.Idx) :
    ∃ pc ∈ ([⟨Rect.unit (s := S1056x1024) ![1040, 0] ![16, 1024] inb_S1056x1024_S16x1024_1040_0, w2⟩,
      ⟨Rect.unit (s := S1056x1024) ![16, 0] ![1024, 1024] inb_S1056x1024_S1024x1024_16_0, w1⟩,
      ⟨Rect.unit (s := S1056x1024) ![0, 0] ![16, 1024] inb_S1056x1024_S16x1024_0_0, w0⟩] : List (View.Piece (Elt F) S1056x1024 .bf16)), y ∈ pc.1.set := by
  have h0 : (y (0 : Fin 2)).val < 1056 := (y (0 : Fin 2)).isLt
  have h1 : (y (1 : Fin 2)).val < 1024 := (y (1 : Fin 2)).isLt
  by_cases ha : (y (0 : Fin 2)).val < 16
  · exact ⟨_, .tail _ (.tail _ (.head _)), (Rect.mem_set_unit (inb := inb_S1056x1024_S16x1024_0_0)).mpr fun a => by
      match a with
      | ⟨0, _⟩ => exact ⟨Nat.zero_le _, ha⟩
      | ⟨1, _⟩ => exact ⟨Nat.zero_le _, h1⟩⟩
  by_cases hb : (y (0 : Fin 2)).val < 1040
  · exact ⟨_, .tail _ (.head _), (Rect.mem_set_unit (inb := inb_S1056x1024_S1024x1024_16_0)).mpr fun a => by
      match a with
      | ⟨0, _⟩ => exact ⟨not_lt.mp ha, hb⟩
      | ⟨1, _⟩ => exact ⟨Nat.zero_le _, h1⟩⟩
  · exact ⟨_, .head _, (Rect.mem_set_unit (inb := inb_S1056x1024_S16x1024_1040_0)).mpr fun a => by
      match a with
      | ⟨0, _⟩ => exact ⟨not_lt.mp hb, h0⟩
      | ⟨1, _⟩ => exact ⟨Nat.zero_le _, h1⟩⟩

theorem read_rows (v : View sig .tc .vmem S1056x1024 .bf16) (w2 : FVec F S16x1024 .bf16) (w1 : FVec F S1024x1024 .bf16) (w0 : FVec F S16x1024 .bf16)
    (off size : Fin 2 → ℕ) (inb) :
    v.readCov ([⟨Rect.unit (s := S1056x1024) ![1040, 0] ![16, 1024] inb_S1056x1024_S16x1024_1040_0, w2⟩,
      ⟨Rect.unit (s := S1056x1024) ![16, 0] ![1024, 1024] inb_S1056x1024_S1024x1024_16_0, w1⟩,
      ⟨Rect.unit (s := S1056x1024) ![0, 0] ![16, 1024] inb_S1056x1024_S16x1024_0_0, w0⟩] : List (View.Piece (Elt F) S1056x1024 .bf16))
      (Rect.unit (s := S1056x1024) off size inb).toLoadRect = View.ld (rows w2 w1 w0) (Rect.unit (s := S1056x1024) off size inb) :=
  View.readCov_eq_canon_ld _ _ _ (rows_cover w2 w1 w0)

theorem zeros : (![0, 0] : Fin S1024x1024.rank → ℕ) = fun _ => 0 := by
  funext a
  match a with
  | ⟨0, _⟩ => rfl
  | ⟨1, _⟩ => rfl

/-- The length of the sequence a block lies in, and the two masks of the taps: a row's predecessor and successor in its
    sequence. -/
def seqLen (i : grid0.Coords) : BitVec 32 :=
  Scalar.select (Scalar.cmpi CmpIPredicate.sge (Scalar.muli (BitVec.ofNat 32 (i 0).val) 1024#32) 16384#32) 256#32 4096#32
def maskPrev (i : grid0.Coords) : FVec F S1024x1 .f32 := k0_pay11 (seqLen i) (k0_pay9 (BitVec.ofNat 32 (i 0).val))
def maskNext (i : grid0.Coords) : FVec F S1024x1 .f32 := k0_pay12 (seqLen i) (k0_pay9 (BitVec.ofNat 32 (i 0).val))

/-- The scratch buffer of normalized rows. -/
def acts (x0 : Vec F S16x1024 .f32) (x1 : Vec F S1024x1024 .f32) (x2 : Vec F S16x1024 .f32) (x3 : Vec F S1x1024 .f32)
    (x4 x5 : Vec F S1x1x1024 .f32) : Vec F S1056x1024 .bf16 :=
  rows (actNext (View.ld x2 (Rect.unit ![0, 0] ![16, 1024] inb_S16x1024_S16x1024_0_0)) (View.ld x3 (Rect.unit ![0, 0] ![1, 1024] inb_S1x1024_S1x1024_0_0)) (View.ld x4 (Rect.unit ![0, 0, 0] ![1, 1, 1024] inb_S1x1x1024_S1x1x1024_0_0_0)) (View.ld x5 (Rect.unit ![0, 0, 0] ![1, 1, 1024] inb_S1x1x1024_S1x1x1024_0_0_0)))
    (actMain (View.ld x1 (Rect.unit ![0, 0] ![1024, 1024] inb_S1024x1024_S1024x1024_0_0)) (View.ld x3 (Rect.unit ![0, 0] ![1, 1024] inb_S1x1024_S1x1024_0_0)) (View.ld x4 (Rect.unit ![0, 0, 0] ![1, 1, 1024] inb_S1x1x1024_S1x1x1024_0_0_0)) (View.ld x5 (Rect.unit ![0, 0, 0] ![1, 1, 1024] inb_S1x1x1024_S1x1x1024_0_0_0)))
    (actPrev (View.ld x0 (Rect.unit ![0, 0] ![16, 1024] inb_S16x1024_S16x1024_0_0)) (View.ld x3 (Rect.unit ![0, 0] ![1, 1024] inb_S1x1024_S1x1024_0_0)) (View.ld x4 (Rect.unit ![0, 0, 0] ![1, 1, 1024] inb_S1x1x1024_S1x1x1024_0_0_0)) (View.ld x5 (Rect.unit ![0, 0, 0] ![1, 1, 1024] inb_S1x1x1024_S1x1x1024_0_0_0)))

section

variable (A : Vec F S1056x1024 .bf16) (x7 : Vec F S11x1024x256 .bf16) (x8 : Vec F S11x1024x256 .bf16) (x9 : Vec F S11x3x256 .f32)
  (x10 : Vec F S11x1x256 .f32) (x11 : Vec F S11x256x1024 .bf16) (mp mn : FVec F S1024x1 .f32)

/-- Tile 0. -/
def tileAt0 : FVec F S1024x1024 .f32 :=
  mix (View.ld A (Rect.unit ![0, 0] ![1056, 1024] inb_S1056x1024_S1056x1024_0_0)) (View.ld x7 (Rect.unit ![0, 0, 0] ![1, 1024, 256] inb_S11x1024x256_S1x1024x256_0_0_0))
    (View.ld A (Rect.unit ![16, 0] ![1024, 1024] inb_S1056x1024_S1024x1024_16_0)) (View.ld x8 (Rect.unit ![0, 0, 0] ![1, 1024, 256] inb_S11x1024x256_S1x1024x256_0_0_0))
    (View.ld x9 (Rect.unit ![0, 0, 0] ![1, 3, 256] inb_S11x3x256_S1x3x256_0_0_0)) (View.ld x10 (Rect.unit ![0, 0, 0] ![1, 1, 256] inb_S11x1x256_S1x1x256_0_0_0))
    (View.ld x11 (Rect.unit ![0, 0, 0] ![1, 256, 1024] inb_S11x256x1024_S1x256x1024_0_0_0)) mp mn
/-- Tile 1. -/
def tileAt1 : FVec F S1024x1024 .f32 :=
  mix (View.ld A (Rect.unit ![0, 0] ![1056, 1024] inb_S1056x1024_S1056x1024_0_0)) (View.ld x7 (Rect.unit ![1, 0, 0] ![1, 1024, 256] inb_S11x1024x256_S1x1024x256_1_0_0))
    (View.ld A (Rect.unit ![16, 0] ![1024, 1024] inb_S1056x1024_S1024x1024_16_0)) (View.ld x8 (Rect.unit ![1, 0, 0] ![1, 1024, 256] inb_S11x1024x256_S1x1024x256_1_0_0))
    (View.ld x9 (Rect.unit ![1, 0, 0] ![1, 3, 256] inb_S11x3x256_S1x3x256_1_0_0)) (View.ld x10 (Rect.unit ![1, 0, 0] ![1, 1, 256] inb_S11x1x256_S1x1x256_1_0_0))
    (View.ld x11 (Rect.unit ![1, 0, 0] ![1, 256, 1024] inb_S11x256x1024_S1x256x1024_1_0_0)) mp mn
/-- Tile 2. -/
def tileAt2 : FVec F S1024x1024 .f32 :=
  mix (View.ld A (Rect.unit ![0, 0] ![1056, 1024] inb_S1056x1024_S1056x1024_0_0)) (View.ld x7 (Rect.unit ![2, 0, 0] ![1, 1024, 256] inb_S11x1024x256_S1x1024x256_2_0_0))
    (View.ld A (Rect.unit ![16, 0] ![1024, 1024] inb_S1056x1024_S1024x1024_16_0)) (View.ld x8 (Rect.unit ![2, 0, 0] ![1, 1024, 256] inb_S11x1024x256_S1x1024x256_2_0_0))
    (View.ld x9 (Rect.unit ![2, 0, 0] ![1, 3, 256] inb_S11x3x256_S1x3x256_2_0_0)) (View.ld x10 (Rect.unit ![2, 0, 0] ![1, 1, 256] inb_S11x1x256_S1x1x256_2_0_0))
    (View.ld x11 (Rect.unit ![2, 0, 0] ![1, 256, 1024] inb_S11x256x1024_S1x256x1024_2_0_0)) mp mn
/-- Tile 3. -/
def tileAt3 : FVec F S1024x1024 .f32 :=
  mix (View.ld A (Rect.unit ![0, 0] ![1056, 1024] inb_S1056x1024_S1056x1024_0_0)) (View.ld x7 (Rect.unit ![3, 0, 0] ![1, 1024, 256] inb_S11x1024x256_S1x1024x256_3_0_0))
    (View.ld A (Rect.unit ![16, 0] ![1024, 1024] inb_S1056x1024_S1024x1024_16_0)) (View.ld x8 (Rect.unit ![3, 0, 0] ![1, 1024, 256] inb_S11x1024x256_S1x1024x256_3_0_0))
    (View.ld x9 (Rect.unit ![3, 0, 0] ![1, 3, 256] inb_S11x3x256_S1x3x256_3_0_0)) (View.ld x10 (Rect.unit ![3, 0, 0] ![1, 1, 256] inb_S11x1x256_S1x1x256_3_0_0))
    (View.ld x11 (Rect.unit ![3, 0, 0] ![1, 256, 1024] inb_S11x256x1024_S1x256x1024_3_0_0)) mp mn
/-- Tile 4. -/
def tileAt4 : FVec F S1024x1024 .f32 :=
  mix (View.ld A (Rect.unit ![0, 0] ![1056, 1024] inb_S1056x1024_S1056x1024_0_0)) (View.ld x7 (Rect.unit ![4, 0, 0] ![1, 1024, 256] inb_S11x1024x256_S1x1024x256_4_0_0))
    (View.ld A (Rect.unit ![16, 0] ![1024, 1024] inb_S1056x1024_S1024x1024_16_0)) (View.ld x8 (Rect.unit ![4, 0, 0] ![1, 1024, 256] inb_S11x1024x256_S1x1024x256_4_0_0))
    (View.ld x9 (Rect.unit ![4, 0, 0] ![1, 3, 256] inb_S11x3x256_S1x3x256_4_0_0)) (View.ld x10 (Rect.unit ![4, 0, 0] ![1, 1, 256] inb_S11x1x256_S1x1x256_4_0_0))
    (View.ld x11 (Rect.unit ![4, 0, 0] ![1, 256, 1024] inb_S11x256x1024_S1x256x1024_4_0_0)) mp mn
/-- Tile 5. -/
def tileAt5 : FVec F S1024x1024 .f32 :=
  mix (View.ld A (Rect.unit ![0, 0] ![1056, 1024] inb_S1056x1024_S1056x1024_0_0)) (View.ld x7 (Rect.unit ![5, 0, 0] ![1, 1024, 256] inb_S11x1024x256_S1x1024x256_5_0_0))
    (View.ld A (Rect.unit ![16, 0] ![1024, 1024] inb_S1056x1024_S1024x1024_16_0)) (View.ld x8 (Rect.unit ![5, 0, 0] ![1, 1024, 256] inb_S11x1024x256_S1x1024x256_5_0_0))
    (View.ld x9 (Rect.unit ![5, 0, 0] ![1, 3, 256] inb_S11x3x256_S1x3x256_5_0_0)) (View.ld x10 (Rect.unit ![5, 0, 0] ![1, 1, 256] inb_S11x1x256_S1x1x256_5_0_0))
    (View.ld x11 (Rect.unit ![5, 0, 0] ![1, 256, 1024] inb_S11x256x1024_S1x256x1024_5_0_0)) mp mn
/-- Tile 6. -/
def tileAt6 : FVec F S1024x1024 .f32 :=
  mix (View.ld A (Rect.unit ![0, 0] ![1056, 1024] inb_S1056x1024_S1056x1024_0_0)) (View.ld x7 (Rect.unit ![6, 0, 0] ![1, 1024, 256] inb_S11x1024x256_S1x1024x256_6_0_0))
    (View.ld A (Rect.unit ![16, 0] ![1024, 1024] inb_S1056x1024_S1024x1024_16_0)) (View.ld x8 (Rect.unit ![6, 0, 0] ![1, 1024, 256] inb_S11x1024x256_S1x1024x256_6_0_0))
    (View.ld x9 (Rect.unit ![6, 0, 0] ![1, 3, 256] inb_S11x3x256_S1x3x256_6_0_0)) (View.ld x10 (Rect.unit ![6, 0, 0] ![1, 1, 256] inb_S11x1x256_S1x1x256_6_0_0))
    (View.ld x11 (Rect.unit ![6, 0, 0] ![1, 256, 1024] inb_S11x256x1024_S1x256x1024_6_0_0)) mp mn
/-- Tile 7. -/
def tileAt7 : FVec F S1024x1024 .f32 :=
  mix (View.ld A (Rect.unit ![0, 0] ![1056, 1024] inb_S1056x1024_S1056x1024_0_0)) (View.ld x7 (Rect.unit ![7, 0, 0] ![1, 1024, 256] inb_S11x1024x256_S1x1024x256_7_0_0))
    (View.ld A (Rect.unit ![16, 0] ![1024, 1024] inb_S1056x1024_S1024x1024_16_0)) (View.ld x8 (Rect.unit ![7, 0, 0] ![1, 1024, 256] inb_S11x1024x256_S1x1024x256_7_0_0))
    (View.ld x9 (Rect.unit ![7, 0, 0] ![1, 3, 256] inb_S11x3x256_S1x3x256_7_0_0)) (View.ld x10 (Rect.unit ![7, 0, 0] ![1, 1, 256] inb_S11x1x256_S1x1x256_7_0_0))
    (View.ld x11 (Rect.unit ![7, 0, 0] ![1, 256, 1024] inb_S11x256x1024_S1x256x1024_7_0_0)) mp mn
/-- Tile 8. -/
def tileAt8 : FVec F S1024x1024 .f32 :=
  mix (View.ld A (Rect.unit ![0, 0] ![1056, 1024] inb_S1056x1024_S1056x1024_0_0)) (View.ld x7 (Rect.unit ![8, 0, 0] ![1, 1024, 256] inb_S11x1024x256_S1x1024x256_8_0_0))
    (View.ld A (Rect.unit ![16, 0] ![1024, 1024] inb_S1056x1024_S1024x1024_16_0)) (View.ld x8 (Rect.unit ![8, 0, 0] ![1, 1024, 256] inb_S11x1024x256_S1x1024x256_8_0_0))
    (View.ld x9 (Rect.unit ![8, 0, 0] ![1, 3, 256] inb_S11x3x256_S1x3x256_8_0_0)) (View.ld x10 (Rect.unit ![8, 0, 0] ![1, 1, 256] inb_S11x1x256_S1x1x256_8_0_0))
    (View.ld x11 (Rect.unit ![8, 0, 0] ![1, 256, 1024] inb_S11x256x1024_S1x256x1024_8_0_0)) mp mn
/-- Tile 9. -/
def tileAt9 : FVec F S1024x1024 .f32 :=
  mix (View.ld A (Rect.unit ![0, 0] ![1056, 1024] inb_S1056x1024_S1056x1024_0_0)) (View.ld x7 (Rect.unit ![9, 0, 0] ![1, 1024, 256] inb_S11x1024x256_S1x1024x256_9_0_0))
    (View.ld A (Rect.unit ![16, 0] ![1024, 1024] inb_S1056x1024_S1024x1024_16_0)) (View.ld x8 (Rect.unit ![9, 0, 0] ![1, 1024, 256] inb_S11x1024x256_S1x1024x256_9_0_0))
    (View.ld x9 (Rect.unit ![9, 0, 0] ![1, 3, 256] inb_S11x3x256_S1x3x256_9_0_0)) (View.ld x10 (Rect.unit ![9, 0, 0] ![1, 1, 256] inb_S11x1x256_S1x1x256_9_0_0))
    (View.ld x11 (Rect.unit ![9, 0, 0] ![1, 256, 1024] inb_S11x256x1024_S1x256x1024_9_0_0)) mp mn
/-- Tile 10. -/
def tileAt10 : FVec F S1024x1024 .f32 :=
  mix (View.ld A (Rect.unit ![0, 0] ![1056, 1024] inb_S1056x1024_S1056x1024_0_0)) (View.ld x7 (Rect.unit ![10, 0, 0] ![1, 1024, 256] inb_S11x1024x256_S1x1024x256_10_0_0))
    (View.ld A (Rect.unit ![16, 0] ![1024, 1024] inb_S1056x1024_S1024x1024_16_0)) (View.ld x8 (Rect.unit ![10, 0, 0] ![1, 1024, 256] inb_S11x1024x256_S1x1024x256_10_0_0))
    (View.ld x9 (Rect.unit ![10, 0, 0] ![1, 3, 256] inb_S11x3x256_S1x3x256_10_0_0)) (View.ld x10 (Rect.unit ![10, 0, 0] ![1, 1, 256] inb_S11x1x256_S1x1x256_10_0_0))
    (View.ld x11 (Rect.unit ![10, 0, 0] ![1, 256, 1024] inb_S11x256x1024_S1x256x1024_10_0_0)) mp mn

/-- All the tiles, in order. -/
def acc : FVec F S1024x1024 .f32 :=
  (step (step (step (step (step (step (step (step (step (step (tileAt0 A x7 x8 x9 x10 x11 mp mn) (tileAt1 A x7 x8 x9 x10 x11 mp mn)) (tileAt2 A x7 x8 x9 x10 x11 mp mn)) (tileAt3 A x7 x8 x9 x10 x11 mp mn)) (tileAt4 A x7 x8 x9 x10 x11 mp mn)) (tileAt5 A x7 x8 x9 x10 x11 mp mn)) (tileAt6 A x7 x8 x9 x10 x11 mp mn)) (tileAt7 A x7 x8 x9 x10 x11 mp mn)) (tileAt8 A x7 x8 x9 x10 x11 mp mn)) (tileAt9 A x7 x8 x9 x10 x11 mp mn)) (tileAt10 A x7 x8 x9 x10 x11 mp mn))

end

set_option maxRecDepth 100000 in
/-- The output buffer after the body. -/
theorem out_eq (c : Dev nD) (i : grid0.Coords) (arg1 : Memref sig .tc .vmem S16x1024 .f32) (harg1 : arg1.IsWhole) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S11x3x256 .f32) (harg10 : arg10.IsWhole) (arg11 : Memref sig .tc .vmem S11x1x256 .f32) (harg11 : arg11.IsWhole) (arg12 : Memref sig .tc .vmem S11x256x1024 .bf16) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1056x1024 .bf16) (harg15 : arg15.IsWhole) (x0 : Vec F S16x1024 .f32) (x1 : Vec F S1024x1024 .f32) (x2 : Vec F S16x1024 .f32) (x3 : Vec F S1x1024 .f32) (x4 : Vec F S1x1x1024 .f32) (x5 : Vec F S1x1x1024 .f32) (x6 : Vec F S1x1x1024 .f32) (x7 : Vec F S11x1024x256 .bf16) (x8 : Vec F S11x1024x256 .bf16) (x9 : Vec F S11x3x256 .f32) (x10 : Vec F S11x1x256 .f32) (x11 : Vec F S11x256x1024 .bf16) (x12 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = k0_pay1 (View.ld x1 (Rect.unit ![0, 0] ![1024, 1024] inb_S1024x1024_S1024x1024_0_0)) (View.ld x6 (Rect.unit ![0, 0, 0] ![1, 1, 1024] inb_S1x1x1024_S1x1x1024_0_0_0)) (acc (acts x0 x1 x2 x3 x4 x5) x7 x8 x9 x10 x11 (maskPrev i) (maskNext i)) (View.ld x12 (Rect.unit ![0, 0] ![1, 1024] inb_S1x1024_S1x1024_0_0)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12)]
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.canon_cons_unit_zero zeros]
  simp only [View.readCov_cons_toLoadRect, read_rows, tile0, tile1, tile2, tile3, tile4, tile5, tile6, tile7, tile8, tile9, tile10]
  simp only [acc, tileAt0, tileAt1, tileAt2, tileAt3, tileAt4, tileAt5, tileAt6, tileAt7, tileAt8, tileAt9, tileAt10, acts, actNext, actMain, actPrev, maskPrev, maskNext, seqLen]

end Cert.FfnIdeal.Parts

end
-- ==== Proof.FfnSpec.lean ====
/- The gated convolutional feed-forward layer as functions of natural-number coordinates: what both the kernel's call and
   the reference compute, entry by entry. -/
module

public import Idealize.ShloMosaic.PureOps.Ideal
public import Idealize.ShloMosaic.Lib.Pointwise
public import Mathlib.Algebra.BigOperators.Fin

@[expose] public section

noncomputable section

namespace Cert.Proof.Ffn

open Idealize.ShloMosaic

/-- The layer's arrays: token rows, modulation vectors, norm gain, up projection, taps, their bias, down projection. -/
structure Args where
  h : ℕ → ℕ → EReal
  m : ℕ → ℕ → EReal
  g : ℕ → EReal
  w : ℕ → ℕ → EReal
  c : ℕ → ℕ → EReal
  b : ℕ → EReal
  d : ℕ → ℕ → EReal

/-- The reciprocal root mean square of a row of 1024 entries. -/
def inv (x : ℕ → EReal) : EReal :=
  Ideal.rsqrt (Ideal.div (∑ k : Fin 1024, x k.val * x k.val) (Ideal.ofBits .f32 1149239296#32) + Ideal.ofBits .f32 897988541#32)

/-- A normalized and modulated entry; `s` is the row's modulation row. -/
def act (p : Args) (s r k : ℕ) : EReal := p.h r k * inv (p.h r) * (p.g k * (1 + p.m s (4096 + k))) + p.m s (3072 + k)

/-- An entry of the up projection. -/
def up (p : Args) (s r j : ℕ) : EReal := ∑ k : Fin 1024, act p s r k.val * p.w k.val j

/-- The convolution of a gate channel along the sequence: no predecessor at its first row, no successor at its last. -/
def taps (p : Args) (s r : ℕ) (first last : Prop) [Decidable first] [Decidable last] (j : ℕ) : EReal :=
  up p s r j * p.c 1 j + (if first then 0 else up p s (r - 1) j) * p.c 0 j + (if last then 0 else up p s (r + 1) j) * p.c 2 j + p.b j

/-- A hidden channel. -/
def hid (p : Args) (s r : ℕ) (first last : Prop) [Decidable first] [Decidable last] (j : ℕ) : EReal :=
  taps p s r first last j * Ideal.logistic (taps p s r first last j) * up p s r (2816 + j)

/-- The layer's output entry. -/
def out (p : Args) (s r : ℕ) (first last : Prop) [Decidable first] [Decidable last] (k : ℕ) : EReal :=
  p.h r k + p.m s (5120 + k) * ∑ j : Fin 2816, hid p s r first last j.val * p.d j.val k

/-- The output normalized. -/
def fin (p : Args) (gf : ℕ → EReal) (s r : ℕ) (first last : Prop) [Decidable first] [Decidable last] (k : ℕ) : EReal :=
  out p s r first last k * inv (out p s r first last) * gf k

/-- A vector and a matrix at natural-number coordinates. -/
def at1 {n : ℕ} (X : (⟨1, ![n]⟩ : Shape).Idx → EReal) (r : ℕ) : EReal := if h : r < n then X (ix1 ⟨r, h⟩) else 0
def at2 {n k : ℕ} (X : (⟨2, ![n, k]⟩ : Shape).Idx → EReal) (r c : ℕ) : EReal := if h : r < n ∧ c < k then X (ix2 ⟨r, h.1⟩ ⟨c, h.2⟩) else 0

theorem at1_eq {n : ℕ} (X : (⟨1, ![n]⟩ : Shape).Idx → EReal) (r : ℕ) (hr : r < n) : at1 X r = X (ix1 ⟨r, hr⟩) := dif_pos hr
theorem at2_eq {n k : ℕ} (X : (⟨2, ![n, k]⟩ : Shape).Idx → EReal) (r c : ℕ) (hr : r < n) (hc : c < k) : at2 X r c = X (ix2 ⟨r, hr⟩ ⟨c, hc⟩) := dif_pos ⟨hr, hc⟩

/-- The layer's arrays, from the arguments. -/
def ofArrays (x0 : (⟨2, ![17408, 1024]⟩ : Shape).Idx → EReal) (x1 : (⟨2, ![5, 6144]⟩ : Shape).Idx → EReal) (x2 : (⟨1, ![1024]⟩ : Shape).Idx → EReal)
    (x3 : (⟨2, ![1024, 5632]⟩ : Shape).Idx → EReal) (x4 : (⟨2, ![3, 2816]⟩ : Shape).Idx → EReal) (x5 : (⟨1, ![2816]⟩ : Shape).Idx → EReal)
    (x6 : (⟨2, ![2816, 1024]⟩ : Shape).Idx → EReal) : Args :=
  ⟨at2 x0, at2 x1, at1 x2, at2 x3, at2 x4, at1 x5, at2 x6⟩

/-- A sum over all hidden channels, tile by tile. -/
theorem sum_tiles (f : ℕ → EReal) : ∑ j : Fin 2816, f j.val = (∑ x : Fin 256, f (256 * 0 + x.val)) + (∑ x : Fin 256, f (256 * 1 + x.val))
    + (∑ x : Fin 256, f (256 * 2 + x.val)) + (∑ x : Fin 256, f (256 * 3 + x.val)) + (∑ x : Fin 256, f (256 * 4 + x.val))
    + (∑ x : Fin 256, f (256 * 5 + x.val)) + (∑ x : Fin 256, f (256 * 6 + x.val)) + (∑ x : Fin 256, f (256 * 7 + x.val))
    + (∑ x : Fin 256, f (256 * 8 + x.val)) + (∑ x : Fin 256, f (256 * 9 + x.val)) + (∑ x : Fin 256, f (256 * 10 + x.val)) := by
  have key : ∀ n, ∑ x : Fin 256, f (n + x.val) = ∑ x ∈ Finset.range 256, f (n + x) := fun n => (Finset.sum_range fun x => f (n + x)).symm
  have hs : ∀ n, ∑ x ∈ Finset.range (256 * (n + 1)), f x = ∑ x ∈ Finset.range (256 * n), f x + ∑ x ∈ Finset.range 256, f (256 * n + x) := by
    intro n
    rw [Nat.mul_succ]
    exact Finset.sum_range_add f (256 * n) 256
  simp only [key]
  rw [← Finset.sum_range f, show 2816 = 256 * (10 + 1) from rfl]
  rw [hs 10, hs 9, hs 8, hs 7, hs 6, hs 5, hs 4, hs 3, hs 2, hs 1, hs 0]
  rw [Nat.mul_zero, Finset.sum_range_zero, zero_add]

end Cert.Proof.Ffn

end
-- ==== Proof.FfnRow.lean ====
/- The body's values entry by entry: the masks, the normalized rows, one tile, and the block. -/
module

public import proofs.«01_k».proof.Proof.FfnBlock
public import proofs.«01_k».proof.Proof.FfnSpec
public import Idealize.ShloMosaic.Lib.Pointwise

@[expose] public section

noncomputable section

namespace Cert.FfnIdeal.Parts

open Cert.FfnIdeal Cert.FfnIdeal.Gen Idealize.ShloMosaic Cert.Proof.Ffn

/-- A comparison's bit as a number. -/
theorem bit_val (b : Bool) : (FloatOps.sitofp FTy.f32 (BitVec.setWidth 32 (BitVec.ofBool b)) : Ideal .f32) = if b then (1 : EReal) else 0 := by
  cases b
  · show ((((0 : BitVec 32).toInt : ℤ) : ℝ) : EReal) = 0
    norm_num
    decide
  · show ((((1 : BitVec 32).toInt : ℤ) : ℝ) : EReal) = 1
    norm_num
    decide

theorem pos_toNat (t k : ℕ) (r : Fin 1024) (ht : t < 17) (hk : k ≤ 12) :
    ((BitVec.ofNat 32 t * 1024#32 + BitVec.ofNat 32 r.val) &&& (BitVec.ofNat 32 (2 ^ k) - 1#32)).toNat = (1024 * t + r.val) % 2 ^ k := by
  have h1 : (BitVec.ofNat 32 t * 1024#32 + BitVec.ofNat 32 r.val).toNat = 1024 * t + r.val := by
    have := r.isLt
    simp only [BitVec.toNat_add, BitVec.toNat_mul, BitVec.toNat_ofNat]
    omega
  have hp : 2 ^ k ≤ 2 ^ 12 := Nat.pow_le_pow_right (by norm_num) hk
  have hq : 0 < 2 ^ k := Nat.two_pow_pos k
  have h2 : (BitVec.ofNat 32 (2 ^ k) - 1#32).toNat = 2 ^ k - 1 := by
    simp only [BitVec.toNat_sub, BitVec.toNat_ofNat]
    omega
  rw [BitVec.toNat_and, h1, h2, Nat.and_two_pow_sub_one_eq_mod]

theorem maskPrev_val (t k : ℕ) (r : Fin 1024) (ht : t < 17) (hk : k ≤ 12) :
    k0_pay11 (F := Ideal) (BitVec.ofNat 32 (2 ^ k)) (k0_pay9 (BitVec.ofNat 32 t)) (ix2 r 0) = if (1024 * t + r.val) % 2 ^ k = 0 then (0 : EReal) else 1 := by
  have h := pos_toNat t k r ht hk
  pointwise [k0_pay11, k0_pay10, k0_pay9]
  show (FloatOps.sitofp FTy.f32 (BitVec.setWidth 32 (BitVec.ofBool (((BitVec.ofNat 32 t * 1024#32 + BitVec.ofNat 32 r.val) &&& (BitVec.ofNat 32 (2 ^ k) - 1#32)) != 0#32))) : Ideal .f32) = _
  rw [bit_val]
  generalize (BitVec.ofNat 32 t * 1024#32 + BitVec.ofNat 32 r.val) &&& (BitVec.ofNat 32 (2 ^ k) - 1#32) = x at h
  rw [← h]
  have e : x.toNat = 0 ↔ x = 0#32 := ⟨fun e => BitVec.eq_of_toNat_eq (by simpa using e), fun e => by rw [e]; rfl⟩
  by_cases hx : x = 0#32
  · rw [if_pos (e.mpr hx), hx]; rfl
  · rw [if_neg (fun he => hx (e.mp he)), if_pos (by simpa using hx)]

theorem maskNext_val (t k : ℕ) (r : Fin 1024) (ht : t < 17) (hk : k ≤ 12) :
    k0_pay12 (F := Ideal) (BitVec.ofNat 32 (2 ^ k)) (k0_pay9 (BitVec.ofNat 32 t)) (ix2 r 0) = if (1024 * t + r.val) % 2 ^ k = 2 ^ k - 1 then (0 : EReal) else 1 := by
  have h := pos_toNat t k r ht hk
  pointwise [k0_pay12, k0_pay10, k0_pay9]
  show (FloatOps.sitofp FTy.f32 (BitVec.setWidth 32 (BitVec.ofBool (((BitVec.ofNat 32 t * 1024#32 + BitVec.ofNat 32 r.val) &&& (BitVec.ofNat 32 (2 ^ k) - 1#32)) != (BitVec.ofNat 32 (2 ^ k) - 1#32)))) : Ideal .f32) = _
  rw [bit_val]
  have h2 : (BitVec.ofNat 32 (2 ^ k) - 1#32).toNat = 2 ^ k - 1 := by
    have hp : 2 ^ k ≤ 2 ^ 12 := Nat.pow_le_pow_right (by norm_num) hk
    have hq : 0 < 2 ^ k := Nat.two_pow_pos k
    simp only [BitVec.toNat_sub, BitVec.toNat_ofNat]
    omega
  generalize (BitVec.ofNat 32 t * 1024#32 + BitVec.ofNat 32 r.val) &&& (BitVec.ofNat 32 (2 ^ k) - 1#32) = x at h ⊢
  generalize BitVec.ofNat 32 (2 ^ k) - 1#32 = z at h2 ⊢
  rw [← h, ← h2]
  by_cases hx : x = z
  · rw [hx, if_pos rfl, if_neg (by simp)]
  · rw [if_neg (fun he => hx (BitVec.eq_of_toNat_eq he)), if_pos (by simpa using hx)]

/-! ## The rows read -/

/-- The global row that scratch row `q` of block `t` holds. -/
def rowOf (t q : ℕ) : ℕ :=
  if q < 16 then (64 * t - 1) * 16 + q else if q < 1040 then 1024 * t + (q - 16) else min (64 * (t + 1)) 1087 * 16 + (q - 1040)

/-- What a grid point's blocks hold, in terms of the layer's arrays. -/
structure Reads (p : Args) (t s : ℕ) (x0 : Vec Ideal S16x1024 .f32) (x1 : Vec Ideal S1024x1024 .f32) (x2 : Vec Ideal S16x1024 .f32)
    (x3 : Vec Ideal S1x1024 .f32) (x4 x5 x6 : Vec Ideal S1x1x1024 .f32) (x7 x8 : Vec Ideal S11x1024x256 .bf16)
    (x9 : Vec Ideal S11x3x256 .f32) (x10 : Vec Ideal S11x1x256 .f32) (x11 : Vec Ideal S11x256x1024 .bf16) : Prop where
  h0 : ∀ (r : Fin 16) (k : Fin 1024), x0 (ix2 r k) = p.h ((64 * t - 1) * 16 + r.val) k.val
  h1 : ∀ (r : Fin 1024) (k : Fin 1024), x1 (ix2 r k) = p.h (1024 * t + r.val) k.val
  h2 : ∀ (r : Fin 16) (k : Fin 1024), x2 (ix2 r k) = p.h (min (64 * (t + 1)) 1087 * 16 + r.val) k.val
  h3 : ∀ k : Fin 1024, x3 (ix2 0 k) = p.g k.val
  h4 : ∀ k : Fin 1024, x4 (ix3 0 0 k) = p.m s (3072 + k.val)
  h5 : ∀ k : Fin 1024, x5 (ix3 0 0 k) = p.m s (4096 + k.val)
  h6 : ∀ k : Fin 1024, x6 (ix3 0 0 k) = p.m s (5120 + k.val)
  h7 : ∀ (j : Fin 11) (k : Fin 1024) (x : Fin 256), x7 (ix3 j k x) = p.w k.val (256 * j.val + x.val)
  h8 : ∀ (j : Fin 11) (k : Fin 1024) (x : Fin 256), x8 (ix3 j k x) = p.w k.val (2816 + (256 * j.val + x.val))
  h9 : ∀ (j : Fin 11) (k : Fin 3) (x : Fin 256), x9 (ix3 j k x) = p.c k.val (256 * j.val + x.val)
  h10 : ∀ (j : Fin 11) (x : Fin 256), x10 (ix3 j 0 x) = p.b (256 * j.val + x.val)
  h11 : ∀ (j : Fin 11) (x : Fin 256) (k : Fin 1024), x11 (ix3 j x k) = p.d (256 * j.val + x.val) k.val

section

variable {p : Args} {t s : ℕ} {x0 : Vec Ideal S16x1024 .f32} {x1 : Vec Ideal S1024x1024 .f32} {x2 : Vec Ideal S16x1024 .f32}
    {x3 : Vec Ideal S1x1024 .f32} {x4 x5 x6 : Vec Ideal S1x1x1024 .f32} {x7 x8 : Vec Ideal S11x1024x256 .bf16}
    {x9 : Vec Ideal S11x3x256 .f32} {x10 : Vec Ideal S11x1x256 .f32} {x11 : Vec Ideal S11x256x1024 .bf16}

theorem whole2 {e : EltTy} {n d : ℕ} (x : (⟨2, ![n, d]⟩ : Shape).Idx → Elt Ideal e) (inb) : View.ld x (Rect.unit ![0, 0] ![n, d] inb) = x := by
  funext y
  refine congrArg x (funext fun a => Fin.ext ?_)
  match a with
  | ⟨0, _⟩ => show 0 + 1 * _ = _; omega
  | ⟨1, _⟩ => show 0 + 1 * _ = _; omega

theorem whole3 {e : EltTy} {l n d : ℕ} (x : (⟨3, ![l, n, d]⟩ : Shape).Idx → Elt Ideal e) (inb) : View.ld x (Rect.unit ![0, 0, 0] ![l, n, d] inb) = x := by
  funext y
  refine congrArg x (funext fun a => Fin.ext ?_)
  match a with
  | ⟨0, _⟩ => show 0 + 1 * _ = _; omega
  | ⟨1, _⟩ => show 0 + 1 * _ = _; omega
  | ⟨2, _⟩ => show 0 + 1 * _ = _; omega

/-- A tile of a stack. -/
theorem tile_ld {e : EltTy} {l n d : ℕ} (x : (⟨3, ![l, n, d]⟩ : Shape).Idx → Elt Ideal e) (j : Fin l) (inb) (r : Fin n) (k : Fin d) :
    View.ld x (Rect.unit ![j.val, 0, 0] ![1, n, d] inb) (ix3 0 r k) = x (ix3 j r k) := by
  refine congrArg x (funext fun a => Fin.ext ?_)
  match a with
  | ⟨0, _⟩ => show j.val + 1 * 0 = _; rfl
  | ⟨1, _⟩ => show 0 + 1 * r.val = _; exact (Nat.zero_add _).trans (Nat.one_mul _)
  | ⟨2, _⟩ => show 0 + 1 * k.val = _; exact (Nat.zero_add _).trans (Nat.one_mul _)

theorem prev_apply (h : Reads p t s x0 x1 x2 x3 x4 x5 x6 x7 x8 x9 x10 x11) (r : Fin 16) (k : Fin 1024) :
    actPrev x0 x3 x4 x5 (ix2 r k) = act p s ((64 * t - 1) * 16 + r.val) k.val := by
  pointwise [actPrev, k0_pay5, k0_pay2, k0_pay3, k0_pay4]
  simp only [h.h0, h.h3, h.h4, h.h5]
  rfl

theorem main_apply (h : Reads p t s x0 x1 x2 x3 x4 x5 x6 x7 x8 x9 x10 x11) (r : Fin 1024) (k : Fin 1024) :
    actMain x1 x3 x4 x5 (ix2 r k) = act p s (1024 * t + r.val) k.val := by
  pointwise [actMain, k0_pay7, k0_pay6, k0_pay2, k0_pay3, k0_pay4]
  simp only [h.h1, h.h3, h.h4, h.h5]
  rfl

theorem next_apply (h : Reads p t s x0 x1 x2 x3 x4 x5 x6 x7 x8 x9 x10 x11) (r : Fin 16) (k : Fin 1024) :
    actNext x2 x3 x4 x5 (ix2 r k) = act p s (min (64 * (t + 1)) 1087 * 16 + r.val) k.val := by
  pointwise [actNext, k0_pay8, k0_pay2, k0_pay3, k0_pay4]
  simp only [h.h2, h.h3, h.h4, h.h5]
  rfl

/-- The scratch buffer, entry by entry. -/
theorem acts_apply (h : Reads p t s x0 x1 x2 x3 x4 x5 x6 x7 x8 x9 x10 x11) (q : Fin 1056) (k : Fin 1024) :
    acts x0 x1 x2 x3 x4 x5 (ix2 q k) = act p s (rowOf t q.val) k.val := by
  have e0 := prev_apply h
  have e1 := main_apply h
  have e2 := next_apply h
  unfold acts
  rw [whole2 x0, whole2 x1, whole2 x2, whole2 x3, whole3 x4, whole3 x5]
  generalize actPrev x0 x3 x4 x5 = w0 at *
  generalize actMain x1 x3 x4 x5 = w1 at *
  generalize actNext x2 x3 x4 x5 = w2 at *
  unfold rows
  refine View.canon_apply_of_pieces (Val := Elt Ideal) (S := S1056x1024) (e := .bf16) (fun y => act p s (rowOf t (y (0 : Fin 2)).val) (y (1 : Fin 2)).val) _
    (fun pc hq j => ?_) (ix2 q k) (rows_cover w2 w1 w0 (ix2 q k))
  simp only [List.mem_cons, List.mem_nil_iff, or_false] at hq
  rcases hq with rfl | rfl | rfl
  · have ej : j = ix2 (j (0 : Fin 2)) (j (1 : Fin 2)) := funext fun a => by
      match a with
      | ⟨0, _⟩ => rfl
      | ⟨1, _⟩ => rfl
    have hj : (j (0 : Fin 2)).val < 16 := (j (0 : Fin 2)).isLt
    refine ((congrArg w2 ej).trans (e2 _ _)).trans ?_
    show _ = act p s (rowOf t (1040 + 1 * (j (0 : Fin 2)).val)) (0 + 1 * (j (1 : Fin 2)).val)
    rw [Nat.one_mul, Nat.one_mul, Nat.zero_add]
    unfold rowOf
    rw [if_neg (by omega), if_neg (by omega), Nat.add_sub_cancel_left]
  · have ej : j = ix2 (j (0 : Fin 2)) (j (1 : Fin 2)) := funext fun a => by
      match a with
      | ⟨0, _⟩ => rfl
      | ⟨1, _⟩ => rfl
    have hj : (j (0 : Fin 2)).val < 1024 := (j (0 : Fin 2)).isLt
    refine ((congrArg w1 ej).trans (e1 _ _)).trans ?_
    show _ = act p s (rowOf t (16 + 1 * (j (0 : Fin 2)).val)) (0 + 1 * (j (1 : Fin 2)).val)
    rw [Nat.one_mul, Nat.one_mul, Nat.zero_add]
    unfold rowOf
    rw [if_neg (by omega), if_pos (by omega), Nat.add_sub_cancel_left]
  · have ej : j = ix2 (j (0 : Fin 2)) (j (1 : Fin 2)) := funext fun a => by
      match a with
      | ⟨0, _⟩ => rfl
      | ⟨1, _⟩ => rfl
    have hj : (j (0 : Fin 2)).val < 16 := (j (0 : Fin 2)).isLt
    refine ((congrArg w0 ej).trans (e0 _ _)).trans ?_
    show _ = act p s (rowOf t (0 + 1 * (j (0 : Fin 2)).val)) (0 + 1 * (j (1 : Fin 2)).val)
    rw [Nat.one_mul, Nat.one_mul, Nat.zero_add, Nat.zero_add]
    unfold rowOf
    rw [if_pos hj]

/-! ## One tile -/

theorem mix_apply (a : Vec Ideal S1056x1024 .bf16) (w1 : Vec Ideal S1x1024x256 .bf16) (a' : Vec Ideal S1024x1024 .bf16) (w2 : Vec Ideal S1x1024x256 .bf16)
    (wc : Vec Ideal S1x3x256 .f32) (bc : Vec Ideal S1x1x256 .f32) (wd : Vec Ideal S1x256x1024 .bf16) (mp mn : FVec Ideal S1024x1 .f32)
    (r c : Fin 1024) (gc v : Fin 256 → EReal)
    (hg : ∀ x : Fin 256, (∑ k : Fin 1024, a (ix2 (⟨16 + r.val, by omega⟩ : Fin 1056) k) * w1 (ix3 0 k x)) * wc (ix3 0 1 x)
      + (∑ k : Fin 1024, a (ix2 (⟨15 + r.val, by omega⟩ : Fin 1056) k) * w1 (ix3 0 k x)) * mp (ix2 r 0) * wc (ix3 0 0 x)
      + (∑ k : Fin 1024, a (ix2 (⟨17 + r.val, by omega⟩ : Fin 1056) k) * w1 (ix3 0 k x)) * mn (ix2 r 0) * wc (ix3 0 2 x)
      + bc (ix3 0 0 x) = gc x)
    (hv : ∀ x : Fin 256, (∑ k : Fin 1024, a' (ix2 r k) * w2 (ix3 0 k x)) = v x) :
    mix a w1 a' w2 wc bc wd mp mn (ix2 r c) = ∑ x : Fin 256, gc x * Ideal.logistic (gc x) * v x * wd (ix3 0 x c) := by
  pointwise [mix, conv, k0_pay15, k0_pay13]
  refine Finset.sum_congr rfl fun x _ => ?_
  rw [← hg x, ← hv x]

/-- A tile of hidden channels, in terms of the layer's arrays. -/
theorem tile_apply (h : Reads p t s x0 x1 x2 x3 x4 x5 x6 x7 x8 x9 x10 x11) (mp mn : FVec Ideal S1024x1 .f32) (r c : Fin 1024)
    (first last : Prop) [Decidable first] [Decidable last] (ht : t < 17) (hf : t = 0 → r.val = 0 → first) (hl : t = 16 → r.val = 1023 → last)
    (hp : mp (ix2 r 0) = if first then (0 : EReal) else 1) (hn : mn (ix2 r 0) = if last then (0 : EReal) else 1)
    (j : Fin 11) (i0 i1 i7 i8 i9 i10 i11) :
    mix (View.ld (acts x0 x1 x2 x3 x4 x5) (Rect.unit ![0, 0] ![1056, 1024] i0)) (View.ld x7 (Rect.unit ![j.val, 0, 0] ![1, 1024, 256] i7))
      (View.ld (acts x0 x1 x2 x3 x4 x5) (Rect.unit ![16, 0] ![1024, 1024] i1)) (View.ld x8 (Rect.unit ![j.val, 0, 0] ![1, 1024, 256] i8))
      (View.ld x9 (Rect.unit ![j.val, 0, 0] ![1, 3, 256] i9)) (View.ld x10 (Rect.unit ![j.val, 0, 0] ![1, 1, 256] i10))
      (View.ld x11 (Rect.unit ![j.val, 0, 0] ![1, 256, 1024] i11)) mp mn (ix2 r c)
      = ∑ x : Fin 256, hid p s (1024 * t + r.val) first last (256 * j.val + x.val) * p.d (256 * j.val + x.val) c.val := by
  have hu : ∀ (q : Fin 1056) (x : Fin 256), (∑ k : Fin 1024, acts x0 x1 x2 x3 x4 x5 (ix2 q k) * View.ld x7 (Rect.unit ![j.val, 0, 0] ![1, 1024, 256] i7) (ix3 0 k x))
      = up p s (rowOf t q.val) (256 * j.val + x.val) := by
    intro q x
    refine Finset.sum_congr rfl fun k _ => ?_
    rw [acts_apply h, show View.ld x7 (Rect.unit ![j.val, 0, 0] ![1, 1024, 256] i7) (ix3 0 k x) = x7 (ix3 j k x) from tile_ld x7 j i7 k x, h.h7]
  rw [whole2 (acts x0 x1 x2 x3 x4 x5)]
  refine (mix_apply _ _ _ _ _ _ _ mp mn r c (fun x => taps p s (1024 * t + r.val) first last (256 * j.val + x.val))
    (fun x => up p s (1024 * t + r.val) (2816 + (256 * j.val + x.val))) (fun x => ?_) (fun x => ?_)).trans ?_
  · rw [hu, hu, hu, hp, hn,
      show View.ld x9 (Rect.unit ![j.val, 0, 0] ![1, 3, 256] i9) (ix3 0 1 x) = x9 (ix3 j 1 x) from tile_ld x9 j i9 1 x,
      show View.ld x9 (Rect.unit ![j.val, 0, 0] ![1, 3, 256] i9) (ix3 0 0 x) = x9 (ix3 j 0 x) from tile_ld x9 j i9 0 x,
      show View.ld x9 (Rect.unit ![j.val, 0, 0] ![1, 3, 256] i9) (ix3 0 2 x) = x9 (ix3 j 2 x) from tile_ld x9 j i9 2 x,
      show View.ld x10 (Rect.unit ![j.val, 0, 0] ![1, 1, 256] i10) (ix3 0 0 x) = x10 (ix3 j 0 x) from tile_ld x10 j i10 0 x,
      h.h9, h.h9, h.h9, h.h10]
    have r16 : rowOf t (16 + r.val) = 1024 * t + r.val := by
      unfold rowOf
      rw [if_neg (by omega), if_pos (by omega), Nat.add_sub_cancel_left]
    have a15 : up p s (rowOf t (15 + r.val)) (256 * j.val + x.val) * (if first then (0 : EReal) else 1)
        = if first then (0 : EReal) else up p s (1024 * t + r.val - 1) (256 * j.val + x.val) := by
      by_cases hc : first
      · rw [if_pos hc, if_pos hc, mul_zero]
      · rw [if_neg hc, if_neg hc, mul_one]
        congr 1
        have : ¬ (t = 0 ∧ r.val = 0) := fun hh => hc (hf hh.1 hh.2)
        unfold rowOf
        split
        · omega
        · rw [if_pos (by omega)]; omega
    have a17 : up p s (rowOf t (17 + r.val)) (256 * j.val + x.val) * (if last then (0 : EReal) else 1)
        = if last then (0 : EReal) else up p s (1024 * t + r.val + 1) (256 * j.val + x.val) := by
      by_cases hc : last
      · rw [if_pos hc, if_pos hc, mul_zero]
      · rw [if_neg hc, if_neg hc, mul_one]
        congr 1
        have : ¬ (t = 16 ∧ r.val = 1023) := fun hh => hc (hl hh.1 hh.2)
        have := r.isLt
        unfold rowOf
        rw [if_neg (by omega)]
        split
        · omega
        · omega
    show up p s (rowOf t (16 + r.val)) _ * _ + up p s (rowOf t (15 + r.val)) _ * _ * _ + up p s (rowOf t (17 + r.val)) _ * _ * _ + _ = _
    rw [a15, a17, r16]
    rfl
  · refine Finset.sum_congr rfl fun k _ => ?_
    rw [show View.ld x8 (Rect.unit ![j.val, 0, 0] ![1, 1024, 256] i8) (ix3 0 k x) = x8 (ix3 j k x) from tile_ld x8 j i8 k x, h.h8]
    have e : View.ld (acts x0 x1 x2 x3 x4 x5) (Rect.unit ![16, 0] ![1024, 1024] i1) (ix2 r k)
        = acts x0 x1 x2 x3 x4 x5 (ix2 (⟨16 + r.val, by omega⟩ : Fin 1056) k) := by
      refine congrArg (acts x0 x1 x2 x3 x4 x5) (funext fun a => Fin.ext ?_)
      match a with
      | ⟨0, _⟩ => show 16 + 1 * r.val = 16 + r.val; omega
      | ⟨1, _⟩ => show 0 + 1 * k.val = k.val; omega
    rw [e, acts_apply h]
    have r16 : rowOf t (16 + r.val) = 1024 * t + r.val := by
      unfold rowOf
      rw [if_neg (by omega), if_pos (by omega), Nat.add_sub_cancel_left]
    show act p s (rowOf t (16 + r.val)) k.val * _ = _
    rw [r16]
  · refine Finset.sum_congr rfl fun x _ => ?_
    rw [show View.ld x11 (Rect.unit ![j.val, 0, 0] ![1, 256, 1024] i11) (ix3 0 x c) = x11 (ix3 j x c) from tile_ld x11 j i11 x c, h.h11]
    rfl

theorem step_apply (acc y : FVec Ideal S1024x1024 .f32) (r c : Fin 1024) : step acc y (ix2 r c) = acc (ix2 r c) + y (ix2 r c) := by
  pointwise [step]

/-- All the tiles: the down projection. -/
theorem acc_apply (h : Reads p t s x0 x1 x2 x3 x4 x5 x6 x7 x8 x9 x10 x11) (mp mn : FVec Ideal S1024x1 .f32) (r c : Fin 1024)
    (first last : Prop) [Decidable first] [Decidable last] (ht : t < 17) (hf : t = 0 → r.val = 0 → first) (hl : t = 16 → r.val = 1023 → last)
    (hp : mp (ix2 r 0) = if first then (0 : EReal) else 1) (hn : mn (ix2 r 0) = if last then (0 : EReal) else 1) :
    acc (acts x0 x1 x2 x3 x4 x5) x7 x8 x9 x10 x11 mp mn (ix2 r c)
      = ∑ j : Fin 2816, hid p s (1024 * t + r.val) first last j.val * p.d j.val c.val := by
  have e := tile_apply h mp mn r c first last ht hf hl hp hn
  rw [sum_tiles fun j => hid p s (1024 * t + r.val) first last j * p.d j c.val]
  unfold acc
  simp only [step_apply]
  rw [show tileAt0 (acts x0 x1 x2 x3 x4 x5) x7 x8 x9 x10 x11 mp mn (ix2 r c) = _ from e 0 _ _ _ _ _ _ _]
  rw [show tileAt1 (acts x0 x1 x2 x3 x4 x5) x7 x8 x9 x10 x11 mp mn (ix2 r c) = _ from e 1 _ _ _ _ _ _ _]
  rw [show tileAt2 (acts x0 x1 x2 x3 x4 x5) x7 x8 x9 x10 x11 mp mn (ix2 r c) = _ from e 2 _ _ _ _ _ _ _]
  rw [show tileAt3 (acts x0 x1 x2 x3 x4 x5) x7 x8 x9 x10 x11 mp mn (ix2 r c) = _ from e 3 _ _ _ _ _ _ _]
  rw [show tileAt4 (acts x0 x1 x2 x3 x4 x5) x7 x8 x9 x10 x11 mp mn (ix2 r c) = _ from e 4 _ _ _ _ _ _ _]
  rw [show tileAt5 (acts x0 x1 x2 x3 x4 x5) x7 x8 x9 x10 x11 mp mn (ix2 r c) = _ from e 5 _ _ _ _ _ _ _]
  rw [show tileAt6 (acts x0 x1 x2 x3 x4 x5) x7 x8 x9 x10 x11 mp mn (ix2 r c) = _ from e 6 _ _ _ _ _ _ _]
  rw [show tileAt7 (acts x0 x1 x2 x3 x4 x5) x7 x8 x9 x10 x11 mp mn (ix2 r c) = _ from e 7 _ _ _ _ _ _ _]
  rw [show tileAt8 (acts x0 x1 x2 x3 x4 x5) x7 x8 x9 x10 x11 mp mn (ix2 r c) = _ from e 8 _ _ _ _ _ _ _]
  rw [show tileAt9 (acts x0 x1 x2 x3 x4 x5) x7 x8 x9 x10 x11 mp mn (ix2 r c) = _ from e 9 _ _ _ _ _ _ _]
  rw [show tileAt10 (acts x0 x1 x2 x3 x4 x5) x7 x8 x9 x10 x11 mp mn (ix2 r c) = _ from e 10 _ _ _ _ _ _ _]
  rfl

/-- A finished entry: the residual sum, normalized. -/
theorem norm_apply (u : FVec Ideal S1024x1024 .f32) (g : Vec Ideal S1x1x1024 .f32) (y : FVec Ideal S1024x1024 .f32) (w : Vec Ideal S1x1024 .f32)
    (r c : Fin 1024) (o gf : ℕ → EReal) (ho : ∀ k : Fin 1024, u (ix2 r k) + g (ix3 0 0 k) * y (ix2 r k) = o k.val)
    (hw : w (ix2 0 c) = gf c.val) : k0_pay1 u g y w (ix2 r c) = o c.val * inv o * gf c.val := by
  pointwise [k0_pay1]
  simp only [ho, hw]
  rfl

theorem seqLen_eq (i : grid0.Coords) : seqLen i = BitVec.ofNat 32 (2 ^ 12) := by
  have h : ∀ a : Fin 16, Scalar.select (Scalar.cmpi CmpIPredicate.sge (Scalar.muli (BitVec.ofNat 32 a.val) 1024#32) 16384#32) 256#32 4096#32
      = BitVec.ofNat 32 (2 ^ 12) := by decide
  exact h (i 0)

/-- An entry of the block a grid point writes. -/
theorem block_apply (h : Reads p t s x0 x1 x2 x3 x4 x5 x6 x7 x8 x9 x10 x11) (i : grid0.Coords) (hi : (i 0).val = t)
    {x12 : Vec Ideal S1x1024 .f32} {gf : ℕ → EReal} (h12 : ∀ k : Fin 1024, x12 (ix2 0 k) = gf k.val) (r c : Fin 1024) :
    k0_pay1 (View.ld x1 (Rect.unit ![0, 0] ![1024, 1024] inb_S1024x1024_S1024x1024_0_0)) (View.ld x6 (Rect.unit ![0, 0, 0] ![1, 1, 1024] inb_S1x1x1024_S1x1x1024_0_0_0))
      (acc (acts x0 x1 x2 x3 x4 x5) x7 x8 x9 x10 x11 (maskPrev i) (maskNext i)) (View.ld x12 (Rect.unit ![0, 0] ![1, 1024] inb_S1x1024_S1x1024_0_0)) (ix2 r c)
      = fin p gf s (1024 * t + r.val) ((1024 * t + r.val) % 4096 = 0) ((1024 * t + r.val) % 4096 = 4095) c.val := by
  have ht : t < 16 := hi ▸ (i 0).isLt
  have hp : maskPrev (F := Ideal) i (ix2 r 0) = if (1024 * t + r.val) % 4096 = 0 then (0 : EReal) else 1 := by
    unfold maskPrev
    rw [seqLen_eq, hi]
    exact maskPrev_val t 12 r (by omega) (by omega)
  have hn : maskNext (F := Ideal) i (ix2 r 0) = if (1024 * t + r.val) % 4096 = 4095 then (0 : EReal) else 1 := by
    unfold maskNext
    rw [seqLen_eq, hi]
    exact maskNext_val t 12 r (by omega) (by omega)
  rw [whole2 x1, whole3 x6, whole2 x12]
  refine norm_apply _ _ _ _ r c (out p s (1024 * t + r.val) ((1024 * t + r.val) % 4096 = 0) ((1024 * t + r.val) % 4096 = 4095)) gf (fun k => ?_) (h12 c)
  rw [acc_apply h _ _ r k _ _ (by omega) (fun _ _ => by omega) (fun _ _ => by omega) hp hn, h.h1, h.h6]
  rfl

end

end Cert.FfnIdeal.Parts
end
-- ==== Proof.FfnValue.lean ====
/- The last ConvFFN call's result array: block by block, each entry is the layer's normalized output there. -/
module

public import proofs.«01_k».proof.Proof.FfnRow
public import Idealize.ShloMosaic.Lib.Pipeline.ValueKit
public import Idealize.ShloMosaic.Lib.StableHlo.Run

@[expose] public section

noncomputable section

namespace Cert.FfnIdeal.Parts

open Cert.FfnIdeal Cert.FfnIdeal.Gen Cert.FfnIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg1)) (s.val / 6) (s.val % 6 * 1024 + k.val) := by
  have e : V m c main_v0 = shapeCast S30x1x1024 (m ((c : Thread nD τ).loc main_arg1)) shapeCasts_S5x6144_S30x1x1024 := by
    show StableHlo.after hostOps0 _ (Proc.devRef .tc main_v0) = _
    after_results_simp <;> rfl
  rw [e]
  exact v0_apply _ s k
theorem v4_apply (A : Vec Ideal S1024x5632 .f32) (j : Fin 11) (k : Fin 1024) (x : Fin 256) : (truncf (F := Ideal) .bf16 (transpose S11x1024x256 [1, 0, 2] (shapeCast S1024x11x256 (extractStridedSlice S1024x2816 ![0, 0] A slices_S1024x5632_S1024x2816_0_0) shapeCasts_S1024x2816_S1024x11x256) transposes_S1024x11x256_S11x1024x256_1_0_2) bitsLt_bf16_f32 : _ → EReal) (ix3 j k x) = at2 A k.val (256 * j.val + x.val) := by
  rw [at2_eq _ _ _ (by omega) (by omega)]
  pointwise []
  simp only [Nat.mul_comm 256 j.val]
theorem V_v4 (j : Fin 11) (k : Fin 1024) (x : Fin 256) : V m c main_v4 (ix3 j k x) = at2 (m ((c : Thread nD τ).loc main_arg3)) k.val (256 * j.val + x.val) := by
  have e : V m c main_v4 = truncf (F := Ideal) .bf16 (transpose S11x1024x256 [1, 0, 2] (shapeCast S1024x11x256 (extractStridedSlice S1024x2816 ![0, 0] (m ((c : Thread nD τ).loc main_arg3)) slices_S1024x5632_S1024x2816_0_0) shapeCasts_S1024x2816_S1024x11x256) transposes_S1024x11x256_S11x1024x256_1_0_2) bitsLt_bf16_f32 := by
    show StableHlo.after hostOps0 _ (Proc.devRef .tc main_v4) = _
    after_results_simp <;> rfl
  rw [e]
  exact v4_apply _ j k x
theorem v8_apply (A : Vec Ideal S1024x5632 .f32) (j : Fin 11) (k : Fin 1024) (x : Fin 256) : (truncf (F := Ideal) .bf16 (transpose S11x1024x256 [1, 0, 2] (shapeCast S1024x11x256 (extractStridedSlice S1024x2816 ![0, 2816] A slices_S1024x5632_S1024x2816_0_2816) shapeCasts_S1024x2816_S1024x11x256) transposes_S1024x11x256_S11x1024x256_1_0_2) bitsLt_bf16_f32 : _ → EReal) (ix3 j k x) = at2 A k.val (2816 + (256 * j.val + x.val)) := by
  rw [at2_eq _ _ _ (by omega) (by omega)]
  pointwise []
  simp only [Nat.mul_comm 256 j.val]
theorem V_v8 (j : Fin 11) (k : Fin 1024) (x : Fin 256) : V m c main_v8 (ix3 j k x) = at2 (m ((c : Thread nD τ).loc main_arg3)) k.val (2816 + (256 * j.val + x.val)) := by
  have e : V m c main_v8 = truncf (F := Ideal) .bf16 (transpose S11x1024x256 [1, 0, 2] (shapeCast S1024x11x256 (extractStridedSlice S1024x2816 ![0, 2816] (m ((c : Thread nD τ).loc main_arg3)) slices_S1024x5632_S1024x2816_0_2816) shapeCasts_S1024x2816_S1024x11x256) transposes_S1024x11x256_S11x1024x256_1_0_2) bitsLt_bf16_f32 := by
    show StableHlo.after hostOps0 _ (Proc.devRef .tc main_v8) = _
    after_results_simp <;> rfl
  rw [e]
  exact v8_apply _ j k x
theorem v10_apply (A : Vec Ideal S3x2816 .f32) (j : Fin 11) (k : Fin 3) (x : Fin 256) : (transpose S11x3x256 [1, 0, 2] (shapeCast S3x11x256 A shapeCasts_S3x2816_S3x11x256) transposes_S3x11x256_S11x3x256_1_0_2 : _ → EReal) (ix3 j k x) = at2 A k.val (256 * j.val + x.val) := by
  rw [at2_eq _ _ _ (by omega) (by omega)]
  pointwise []
  simp only [Nat.mul_comm 256 j.val]
theorem V_v10 (j : Fin 11) (k : Fin 3) (x : Fin 256) : V m c main_v10 (ix3 j k x) = at2 (m ((c : Thread nD τ).loc main_arg4)) k.val (256 * j.val + x.val) := by
  have e : V m c main_v10 = transpose S11x3x256 [1, 0, 2] (shapeCast S3x11x256 (m ((c : Thread nD τ).loc main_arg4)) shapeCasts_S3x2816_S3x11x256) transposes_S3x11x256_S11x3x256_1_0_2 := by
    show StableHlo.after hostOps0 _ (Proc.devRef .tc main_v10) = _
    after_results_simp <;> rfl
  rw [e]
  exact v10_apply _ j k x
theorem v11_apply (A : Vec Ideal S2816 .f32) (j : Fin 11) (x : Fin 256) : (shapeCast S11x1x256 A shapeCasts_S2816_S11x1x256 : _ → EReal) (ix3 j 0 x) = at1 A (256 * j.val + x.val) := by
  rw [at1_eq _ _ (by omega)]
  pointwise []
  simp only [Nat.mul_comm 256 j.val]
theorem V_v11 (j : Fin 11) (x : Fin 256) : V m c main_v11 (ix3 j 0 x) = at1 (m ((c : Thread nD τ).loc main_arg5)) (256 * j.val + x.val) := by
  have e : V m c main_v11 = shapeCast S11x1x256 (m ((c : Thread nD τ).loc main_arg5)) shapeCasts_S2816_S11x1x256 := by
    show StableHlo.after hostOps0 _ (Proc.devRef .tc main_v11) = _
    after_results_simp <;> rfl
  rw [e]
  exact v11_apply _ j x
theorem v13_apply (A : Vec Ideal S2816x1024 .f32) (j : Fin 11) (x : Fin 256) (k : Fin 1024) : (truncf (F := Ideal) .bf16 (shapeCast S11x256x1024 A shapeCasts_S2816x1024_S11x256x1024) bitsLt_bf16_f32 : _ → EReal) (ix3 j x k) = at2 A (256 * j.val + x.val) k.val := by
  rw [at2_eq _ _ _ (by omega) (by omega)]
  pointwise []
  simp only [Nat.mul_comm 256 j.val]
theorem V_v13 (j : Fin 11) (x : Fin 256) (k : Fin 1024) : V m c main_v13 (ix3 j x k) = at2 (m ((c : Thread nD τ).loc main_arg6)) (256 * j.val + x.val) k.val := by
  have e : V m c main_v13 = truncf (F := Ideal) .bf16 (shapeCast S11x256x1024 (m ((c : Thread nD τ).loc main_arg6)) shapeCasts_S2816x1024_S11x256x1024) bitsLt_bf16_f32 := by
    show StableHlo.after hostOps0 _ (Proc.devRef .tc main_v13) = _
    after_results_simp <;> rfl
  rw [e]
  exact v13_apply _ j x k
theorem v14_apply (A : Vec Ideal S1024 .f32) (k : Fin 1024) : (broadcastInDim S1x1024 ![1] bcast_S1024_S1x1024_1 A : _ → EReal) (ix2 0 k) = at1 A k.val := by
  rw [at1_eq _ _ (by omega)]
  pointwise []
theorem V_v14 (k : Fin 1024) : V m c main_v14 (ix2 0 k) = at1 (m ((c : Thread nD τ).loc main_arg2)) k.val := by
  have e : V m c main_v14 = broadcastInDim S1x1024 ![1] bcast_S1024_S1x1024_1 (m ((c : Thread nD τ).loc main_arg2)) := by
    show StableHlo.after hostOps0 _ (Proc.devRef .tc main_v14) = _
    after_results_simp <;> rfl
  rw [e]
  exact v14_apply _ k
theorem V_v15 (k : Fin 1024) : V m c main_v15 (ix2 0 k) = at1 (m ((c : Thread nD τ).loc main_arg7)) k.val := by
  have e : V m c main_v15 = broadcastInDim S1x1024 ![1] bcast_S1024_S1x1024_1 (m ((c : Thread nD τ).loc main_arg7)) := by
    show StableHlo.after hostOps0 _ (Proc.devRef .tc main_v15) = _
    after_results_simp <;> rfl
  rw [e]
  exact v14_apply _ k

/-! ## The blocks read -/

theorem coord : ∀ t : Fin cfg0.N, (grid0.coords t 0).val = t.val := (by decide +kernel : ∀ t : Fin grid0.N, _)
theorem idx0 : ∀ t : Fin cfg0.N, win0_0.index t (0 : Fin 2) = 64 * t.val - 1 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = min (64 * (t.val + 1)) 1087 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = t.val / 4 * 6 + 3 ∧ win0_4.index t (1 : Fin 3) = 0 ∧ win0_4.index t (2 : Fin 3) = 0 := (by decide +kernel : ∀ t : Fin grid0.N, _)
theorem idx5 : ∀ t : Fin cfg0.N, win0_5.index t (0 : Fin 3) = t.val / 4 * 6 + 4 ∧ win0_5.index t (1 : Fin 3) = 0 ∧ win0_5.index t (2 : Fin 3) = 0 := (by decide +kernel : ∀ t : Fin grid0.N, _)
theorem idx6 : ∀ t : Fin cfg0.N, win0_6.index t (0 : Fin 3) = t.val / 4 * 6 + 5 ∧ win0_6.index t (1 : Fin 3) = 0 ∧ win0_6.index t (2 : Fin 3) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 3) = 0 ∧ win0_8.index t (1 : Fin 3) = 0 ∧ win0_8.index t (2 : Fin 3) = 0 := (by decide +kernel : ∀ t : Fin grid0.N, _)
theorem idx9 : ∀ t : Fin cfg0.N, win0_9.index t (0 : Fin 3) = 0 ∧ win0_9.index t (1 : Fin 3) = 0 ∧ win0_9.index t (2 : Fin 3) = 0 := (by decide +kernel : ∀ t : Fin grid0.N, _)
theorem idx10 : ∀ t : Fin cfg0.N, win0_10.index t (0 : Fin 3) = 0 ∧ win0_10.index t (1 : Fin 3) = 0 ∧ win0_10.index t (2 : Fin 3) = 0 := (by decide +kernel : ∀ t : Fin grid0.N, _)
theorem idx11 : ∀ t : Fin cfg0.N, win0_11.index t (0 : Fin 3) = 0 ∧ win0_11.index t (1 : Fin 3) = 0 ∧ win0_11.index t (2 : Fin 3) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)

/-- The layer's arrays as launched, and the final gain. -/
def par : Args := ofArrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
def gain : ℕ → EReal := at1 (m ((c : Thread nD τ).loc main_arg7))

theorem read0 (t : Fin cfg0.N) (r : Fin 16) (k : Fin 1024) : (iblk m c 0 t : S16x1024.Idx → EReal) (ix2 r k) = (par m c).h ((64 * t.val - 1) * 16 + r.val) k.val := by
  have ht : t.val < 16 := t.isLt
  obtain ⟨e0, e1⟩ := idx0 t
  show _ = at2 (m ((c : Thread nD τ).loc main_arg0)) ((64 * t.val - 1) * 16 + r.val) k.val
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 16 + 1 * r.val = ((64 * t.val - 1) * 16 + r.val); first | (rw [e0]; done) | (rw [e0]; omega)
  | ⟨1, _⟩ => show win0_0.index t (1 : Fin 2) * 1024 + 1 * k.val = k.val; first | (rw [e1]; done) | (rw [e1]; omega)

theorem read1 (t : Fin cfg0.N) (r : Fin 1024) (k : Fin 1024) : (iblk m c 1 t : S1024x1024.Idx → EReal) (ix2 r k) = (par m c).h (1024 * t.val + r.val) k.val := by
  have ht : t.val < 16 := t.isLt
  obtain ⟨e0, e1⟩ := idx1 t
  show _ = at2 (m ((c : Thread nD τ).loc main_arg0)) (1024 * t.val + r.val) k.val
  rw [at2_eq _ _ _ (by omega) (by omega)]
  show V m c main_arg0 (((cfg0.win 1).blk t).view.emb (ix2 r k)) = _
  rw [V_main_arg0]
  refine congrArg _ (funext fun a => Fin.ext ?_)
  match a with
  | ⟨0, _⟩ => show win0_1.index t (0 : Fin 2) * 1024 + 1 * r.val = (1024 * t.val + r.val); first | (rw [e0]; done) | (rw [e0]; omega)
  | ⟨1, _⟩ => show win0_1.index t (1 : Fin 2) * 1024 + 1 * k.val = k.val; first | (rw [e1]; done) | (rw [e1]; omega)

theorem read2 (t : Fin cfg0.N) (r : Fin 16) (k : Fin 1024) : (iblk m c 2 t : S16x1024.Idx → EReal) (ix2 r k) = (par m c).h (min (64 * (t.val + 1)) 1087 * 16 + r.val) k.val := by
  have ht : t.val < 16 := t.isLt
  obtain ⟨e0, e1⟩ := idx2 t
  show _ = at2 (m ((c : Thread nD τ).loc main_arg0)) (min (64 * (t.val + 1)) 1087 * 16 + r.val) k.val
  rw [at2_eq _ _ _ (by omega) (by omega)]
  show V m c main_arg0 (((cfg0.win 2).blk t).view.emb (ix2 r k)) = _
  rw [V_main_arg0]
  refine congrArg _ (funext fun a => Fin.ext ?_)
  match a with
  | ⟨0, _⟩ => show win0_2.index t (0 : Fin 2) * 16 + 1 * r.val = (min (64 * (t.val + 1)) 1087 * 16 + r.val); first | (rw [e0]; done) | (rw [e0]; omega)
  | ⟨1, _⟩ => show win0_2.index t (1 : Fin 2) * 1024 + 1 * k.val = k.val; first | (rw [e1]; done) | (rw [e1]; omega)

theorem read3 (t : Fin cfg0.N) (k : Fin 1024) : (iblk m c 3 t : S1x1024.Idx → EReal) (ix2 0 k) = (par m c).g k.val := by
  have ht : t.val < 16 := t.isLt
  obtain ⟨e0, e1⟩ := idx3 t
  have e : ((cfg0.win 3).blk t).view.emb (ix2 0 k) = ix2 0 k := funext fun a => Fin.ext (by
    match a with
    | ⟨0, _⟩ => show win0_3.index t (0 : Fin 2) * 1 + 1 * 0 = 0; first | (rw [e0]; done) | (rw [e0]; omega)
    | ⟨1, _⟩ => show win0_3.index t (1 : Fin 2) * 1024 + 1 * k.val = k.val; first | (rw [e1]; done) | (rw [e1]; omega))
  show V m c main_v14 (((cfg0.win 3).blk t).view.emb (ix2 0 k)) = _
  rw [e]
  exact V_v14 m c k

theorem read4 (t : Fin cfg0.N) (k : Fin 1024) : (iblk m c 4 t : S1x1x1024.Idx → EReal) (ix3 0 0 k) = (par m c).m (t.val / 4) (3072 + k.val) := by
  have ht : t.val < 16 := t.isLt
  obtain ⟨e0, e1, e2⟩ := idx4 t
  have e : ((cfg0.win 4).blk t).view.emb (ix3 0 0 k) = ix3 (⟨t.val / 4 * 6 + 3, by omega⟩ : Fin 30) 0 k := funext fun a => Fin.ext (by
    match a with
    | ⟨0, _⟩ => show win0_4.index t (0 : Fin 3) * 1 + 1 * 0 = t.val / 4 * 6 + 3; first | (rw [e0]; done) | (rw [e0]; omega)
    | ⟨1, _⟩ => show win0_4.index t (1 : Fin 3) * 1 + 1 * 0 = 0; first | (rw [e1]; done) | (rw [e1]; omega)
    | ⟨2, _⟩ => show win0_4.index t (2 : Fin 3) * 1024 + 1 * k.val = k.val; first | (rw [e2]; done) | (rw [e2]; omega))
  show V m c main_v0 (((cfg0.win 4).blk t).view.emb (ix3 0 0 k)) = _
  rw [e]
  refine (V_v0 m c ⟨t.val / 4 * 6 + 3, by omega⟩ k).trans ?_
  show at2 _ _ _ = at2 _ _ _
  congr 1 <;> (dsimp only; omega)

theorem read5 (t : Fin cfg0.N) (k : Fin 1024) : (iblk m c 5 t : S1x1x1024.Idx → EReal) (ix3 0 0 k) = (par m c).m (t.val / 4) (4096 + k.val) := by
  have ht : t.val < 16 := t.isLt
  obtain ⟨e0, e1, e2⟩ := idx5 t
  have e : ((cfg0.win 5).blk t).view.emb (ix3 0 0 k) = ix3 (⟨t.val / 4 * 6 + 4, by omega⟩ : Fin 30) 0 k := funext fun a => Fin.ext (by
    match a with
    | ⟨0, _⟩ => show win0_5.index t (0 : Fin 3) * 1 + 1 * 0 = t.val / 4 * 6 + 4; first | (rw [e0]; done) | (rw [e0]; omega)
    | ⟨1, _⟩ => show win0_5.index t (1 : Fin 3) * 1 + 1 * 0 = 0; first | (rw [e1]; done) | (rw [e1]; omega)
    | ⟨2, _⟩ => show win0_5.index t (2 : Fin 3) * 1024 + 1 * k.val = k.val; first | (rw [e2]; done) | (rw [e2]; omega))
  show V m c main_v0 (((cfg0.win 5).blk t).view.emb (ix3 0 0 k)) = _
  rw [e]
  refine (V_v0 m c ⟨t.val / 4 * 6 + 4, by omega⟩ k).trans ?_
  show at2 _ _ _ = at2 _ _ _
  congr 1 <;> (dsimp only; omega)

theorem read6 (t : Fin cfg0.N) (k : Fin 1024) : (iblk m c 6 t : S1x1x1024.Idx → EReal) (ix3 0 0 k) = (par m c).m (t.val / 4) (5120 + k.val) := by
  have ht : t.val < 16 := t.isLt
  obtain ⟨e0, e1, e2⟩ := idx6 t
  have e : ((cfg0.win 6).blk t).view.emb (ix3 0 0 k) = ix3 (⟨t.val / 4 * 6 + 5, by omega⟩ : Fin 30) 0 k := funext fun a => Fin.ext (by
    match a with
    | ⟨0, _⟩ => show win0_6.index t (0 : Fin 3) * 1 + 1 * 0 = t.val / 4 * 6 + 5; first | (rw [e0]; done) | (rw [e0]; omega)
    | ⟨1, _⟩ => show win0_6.index t (1 : Fin 3) * 1 + 1 * 0 = 0; first | (rw [e1]; done) | (rw [e1]; omega)
    | ⟨2, _⟩ => show win0_6.index t (2 : Fin 3) * 1024 + 1 * k.val = k.val; first | (rw [e2]; done) | (rw [e2]; omega))
  show V m c main_v0 (((cfg0.win 6).blk t).view.emb (ix3 0 0 k)) = _
  rw [e]
  refine (V_v0 m c ⟨t.val / 4 * 6 + 5, by omega⟩ k).trans ?_
  show at2 _ _ _ = at2 _ _ _
  congr 1 <;> (dsimp only; omega)

theorem read7 (t : Fin cfg0.N) (j : Fin 11) (k : Fin 1024) (x : Fin 256) : (iblk m c 7 t : S11x1024x256.Idx → EReal) (ix3 j k x) = (par m c).w k.val (256 * j.val + x.val) := by
  have ht : t.val < 16 := t.isLt
  obtain ⟨e0, e1, e2⟩ := idx7 t
  have e : ((cfg0.win 7).blk t).view.emb (ix3 j k x) = ix3 j k x := funext fun a => Fin.ext (by
    match a with
    | ⟨0, _⟩ => show win0_7.index t (0 : Fin 3) * 11 + 1 * j.val = j.val; first | (rw [e0]; done) | (rw [e0]; omega)
    | ⟨1, _⟩ => show win0_7.index t (1 : Fin 3) * 1024 + 1 * k.val = k.val; first | (rw [e1]; done) | (rw [e1]; omega)
    | ⟨2, _⟩ => show win0_7.index t (2 : Fin 3) * 256 + 1 * x.val = x.val; first | (rw [e2]; done) | (rw [e2]; omega))
  show V m c main_v4 (((cfg0.win 7).blk t).view.emb (ix3 j k x)) = _
  rw [e]
  exact V_v4 m c j k x

theorem read8 (t : Fin cfg0.N) (j : Fin 11) (k : Fin 1024) (x : Fin 256) : (iblk m c 8 t : S11x1024x256.Idx → EReal) (ix3 j k x) = (par m c).w k.val (2816 + (256 * j.val + x.val)) := by
  have ht : t.val < 16 := t.isLt
  obtain ⟨e0, e1, e2⟩ := idx8 t
  have e : ((cfg0.win 8).blk t).view.emb (ix3 j k x) = ix3 j k x := funext fun a => Fin.ext (by
    match a with
    | ⟨0, _⟩ => show win0_8.index t (0 : Fin 3) * 11 + 1 * j.val = j.val; first | (rw [e0]; done) | (rw [e0]; omega)
    | ⟨1, _⟩ => show win0_8.index t (1 : Fin 3) * 1024 + 1 * k.val = k.val; first | (rw [e1]; done) | (rw [e1]; omega)
    | ⟨2, _⟩ => show win0_8.index t (2 : Fin 3) * 256 + 1 * x.val = x.val; first | (rw [e2]; done) | (rw [e2]; omega))
  show V m c main_v8 (((cfg0.win 8).blk t).view.emb (ix3 j k x)) = _
  rw [e]
  exact V_v8 m c j k x

theorem read9 (t : Fin cfg0.N) (j : Fin 11) (k : Fin 3) (x : Fin 256) : (iblk m c 9 t : S11x3x256.Idx → EReal) (ix3 j k x) = (par m c).c k.val (256 * j.val + x.val) := by
  have ht : t.val < 16 := t.isLt
  obtain ⟨e0, e1, e2⟩ := idx9 t
  have e : ((cfg0.win 9).blk t).view.emb (ix3 j k x) = ix3 j k x := funext fun a => Fin.ext (by
    match a with
    | ⟨0, _⟩ => show win0_9.index t (0 : Fin 3) * 11 + 1 * j.val = j.val; first | (rw [e0]; done) | (rw [e0]; omega)
    | ⟨1, _⟩ => show win0_9.index t (1 : Fin 3) * 3 + 1 * k.val = k.val; first | (rw [e1]; done) | (rw [e1]; omega)
    | ⟨2, _⟩ => show win0_9.index t (2 : Fin 3) * 256 + 1 * x.val = x.val; first | (rw [e2]; done) | (rw [e2]; omega))
  show V m c main_v10 (((cfg0.win 9).blk t).view.emb (ix3 j k x)) = _
  rw [e]
  exact V_v10 m c j k x

theorem read10 (t : Fin cfg0.N) (j : Fin 11) (x : Fin 256) : (iblk m c 10 t : S11x1x256.Idx → EReal) (ix3 j 0 x) = (par m c).b (256 * j.val + x.val) := by
  have ht : t.val < 16 := t.isLt
  obtain ⟨e0, e1, e2⟩ := idx10 t
  have e : ((cfg0.win 10).blk t).view.emb (ix3 j 0 x) = ix3 j 0 x := funext fun a => Fin.ext (by
    match a with
    | ⟨0, _⟩ => show win0_10.index t (0 : Fin 3) * 11 + 1 * j.val = j.val; first | (rw [e0]; done) | (rw [e0]; omega)
    | ⟨1, _⟩ => show win0_10.index t (1 : Fin 3) * 1 + 1 * 0 = 0; first | (rw [e1]; done) | (rw [e1]; omega)
    | ⟨2, _⟩ => show win0_10.index t (2 : Fin 3) * 256 + 1 * x.val = x.val; first | (rw [e2]; done) | (rw [e2]; omega))
  show V m c main_v11 (((cfg0.win 10).blk t).view.emb (ix3 j 0 x)) = _
  rw [e]
  exact V_v11 m c j x

theorem read11 (t : Fin cfg0.N) (j : Fin 11) (x : Fin 256) (k : Fin 1024) : (iblk m c 11 t : S11x256x1024.Idx → EReal) (ix3 j x k) = (par m c).d (256 * j.val + x.val) k.val := by
  have ht : t.val < 16 := t.isLt
  obtain ⟨e0, e1, e2⟩ := idx11 t
  have e : ((cfg0.win 11).blk t).view.emb (ix3 j x k) = ix3 j x k := funext fun a => Fin.ext (by
    match a with
    | ⟨0, _⟩ => show win0_11.index t (0 : Fin 3) * 11 + 1 * j.val = j.val; first | (rw [e0]; done) | (rw [e0]; omega)
    | ⟨1, _⟩ => show win0_11.index t (1 : Fin 3) * 256 + 1 * x.val = x.val; first | (rw [e1]; done) | (rw [e1]; omega)
    | ⟨2, _⟩ => show win0_11.index t (2 : Fin 3) * 1024 + 1 * k.val = k.val; first | (rw [e2]; done) | (rw [e2]; omega))
  show V m c main_v13 (((cfg0.win 11).blk t).view.emb (ix3 j x k)) = _
  rw [e]
  exact V_v13 m c j x k

theorem read12 (t : Fin cfg0.N) (k : Fin 1024) : (iblk m c 12 t : S1x1024.Idx → EReal) (ix2 0 k) = gain m c k.val := by
  have ht : t.val < 16 := t.isLt
  obtain ⟨e0, e1⟩ := idx12 t
  have e : ((cfg0.win 12).blk t).view.emb (ix2 0 k) = ix2 0 k := funext fun a => Fin.ext (by
    match a with
    | ⟨0, _⟩ => show win0_12.index t (0 : Fin 2) * 1 + 1 * 0 = 0; first | (rw [e0]; done) | (rw [e0]; omega)
    | ⟨1, _⟩ => show win0_12.index t (1 : Fin 2) * 1024 + 1 * k.val = k.val; first | (rw [e1]; done) | (rw [e1]; omega))
  show V m c main_v15 (((cfg0.win 12).blk t).view.emb (ix2 0 k)) = _
  rw [e]
  exact V_v15 m c k

theorem reads (t : Fin cfg0.N) : Reads (par m c) t.val (t.val / 4) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) :=
  ⟨read0 m c t, read1 m c t, read2 m c t, read3 m c t, read4 m c t, read5 m c t, read6 m c t, read7 m c t, read8 m c t, read9 m c t, read10 m c t, read11 m c t⟩

/-! ## The whole array -/

/-- The array the call leaves. -/
def G : S16384x1024.Idx → EReal := fun i =>
  fin (par m c) (gain m c) ((i 0).val / 4096) (i 0).val ((i 0).val % 4096 = 0) ((i 0).val % 4096 = 4095) (i 1).val

theorem emb13_0 (t : Fin cfg0.N) (j : S1024x1024.Idx) : (((cfg0.win 13).blk t).view.emb j (0 : Fin 2)).val = 1024 * t.val + (j 0).val := by
  show win0_13.index t (0 : Fin 2) * 1024 + 1 * (j 0).val = _
  rw [(idx13 t).1]; omega

theorem emb13_1 (t : Fin cfg0.N) (j : S1024x1024.Idx) : (((cfg0.win 13).blk t).view.emb j (1 : Fin 2)).val = (j 1).val := by
  show win0_13.index t (1 : Fin 2) * 1024 + 1 * (j 1).val = _
  rw [(idx13 t).2]; omega

/-- What a point writes back is its block of `G`. -/
theorem flushed13_eq (t : Fin cfg0.N) : (dats m 0 c).flushed 13 t = ((cfg0.win 13).blk t).view.read (Elt Ideal) (G m c) := by
  rw [flushed13_A, out_eq]
  funext j
  have h0 : (j 0).val < 1024 := (j 0).isLt
  have ej : j = ix2 (j 0) (j 1) := funext fun a => by
    match a with
    | ⟨0, _⟩ => rfl
    | ⟨1, _⟩ => rfl
  have key := block_apply (reads m c t) (grid0.coords t) (coord t) (read12 m c t) (j 0) (j 1)
  refine Eq.trans (congrArg _ ej) (key.trans ?_)
  show _ = G m c (((cfg0.win 13).blk t).view.emb j)
  unfold G
  rw [emb13_0, emb13_1, show (1024 * t.val + (j 0).val) / 4096 = t.val / 4 by omega]

/-- Every row is written by the point of its block. -/
theorem covered13 (i : S16384x1024.Idx) : ∃ t : Fin cfg0.N, (cfg0.win 13).flush t = true ∧ i ∈ ((cfg0.win 13).blk t).view.set := by
  have h0 : (i 0).val < 16384 := (i 0).isLt
  have h1 : (i 1).val < 1024 := (i 1).isLt
  have hN : cfg0.N = 16 := by decide
  obtain ⟨t, ht⟩ : ∃ t : Fin cfg0.N, t.val = (i 0).val / 1024 := ⟨⟨(i 0).val / 1024, by rw [hN]; omega⟩, rfl⟩
  refine ⟨t, flush0_13 t, ?_⟩
  have e := ((cfg0.win 13).blk t).view.emb_mem_set (ix2 ⟨(i 0).val % 1024, by omega⟩ ⟨(i 1).val, h1⟩ : S1024x1024.Idx)
  have hi : ((cfg0.win 13).blk t).view.emb (ix2 ⟨(i 0).val % 1024, by omega⟩ ⟨(i 1).val, h1⟩ : S1024x1024.Idx) = i := by
    funext a
    match a with
    | ⟨0, _⟩ => exact Fin.ext ((emb13_0 t _).trans (by rw [ht]; show 1024 * ((i 0).val / 1024) + (i 0).val % 1024 = (i 0).val; omega))
    | ⟨1, _⟩ => exact Fin.ext (emb13_1 t _)
  rwa [hi] at e

/-- The result array. -/
theorem result : (dats m 0 c).arrAt 13 cfg0.N = G m c := by
  funext i
  obtain ⟨t, hf, hm⟩ := covered13 i
  exact (dats m 0 c).arrAt_apply_of_mem 13 (G m c) (fun t _ => flushed13_eq m c t) cfg0.N t i t.isLt hf hm

end Cert.FfnIdeal.Parts

end
-- ==== Proof.FfnRefValue.lean ====
/- The reference of the last ConvFFN call, entry by entry: the same normalized output. -/
module

public import proofs.«01_k».proof.Proof.FfnSpec
public import proofs.«01_k».proof.Proof.Gen.FfnRefIdeal.Read

@[expose] public section

noncomputable section

namespace Cert.FfnRefIdeal.Hand

open Cert.FfnRefIdeal Cert.FfnRefIdeal.Gen Cert.FfnRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x5632.Idx → EReal)
  (x4 : S3x2816.Idx → EReal) (x5 : S2816.Idx → EReal) (x6 : S2816x1024.Idx → EReal) (x7 : S1024.Idx → EReal)

theorem rows_apply (b : Fin 4) (n : Fin 4096) (k : Fin 1024) : val_main_v1 (F := Ideal) x0 (ix3 b n k) = at2 x0 (4096 * b.val + n.val) k.val := by
  rw [at2_eq _ _ _ (by omega) (by omega)]
  pointwise [val_main_v1, val_main_v0]
  exact congrArg x0 (congrArg₂ ix2 (Fin.ext (by dsimp only; omega)) rfl)

theorem shift_apply (b : Fin 4) (k : Fin 1024) : val_main_v7 (F := Ideal) x1 (ix3 b 0 k) = at2 x1 b.val (3072 + k.val) := by
  rw [at2_eq _ _ _ (by omega) (by omega)]
  pointwise [val_main_v7, val_main_v3, val_main_v2]

theorem scale_apply (b : Fin 4) (k : Fin 1024) : val_main_v8 (F := Ideal) x1 (ix3 b 0 k) = at2 x1 b.val (4096 + k.val) := by
  rw [at2_eq _ _ _ (by omega) (by omega)]
  pointwise [val_main_v8, val_main_v3, val_main_v2]

theorem gate_apply (b : Fin 4) (k : Fin 1024) : val_main_v9 (F := Ideal) x1 (ix3 b 0 k) = at2 x1 b.val (5120 + k.val) := by
  rw [at2_eq _ _ _ (by omega) (by omega)]
  pointwise [val_main_v9, val_main_v3, val_main_v2]

theorem act_apply (b : Fin 4) (n : Fin 4096) (k : Fin 1024) :
    val_main_v28 (F := Ideal) x0 x1 x2 (ix3 b n k) = act (ofArrays x0 x1 x2 x3 x4 x5 x6) b.val (4096 * b.val + n.val) k.val := by
  have e0 := rows_apply x0
  have e1 := shift_apply x1
  have e2 := scale_apply x1
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2]
  simp only [e0, e1, e2]
  rw [mul_assoc (_ * _) (x2 (ix1 k)), show x2 (ix1 k) = at1 x2 k.val from (at1_eq _ _ k.isLt).symm]
  rfl

theorem up_apply (b : Fin 4) (n : Fin 4096) (j : Fin 5632) :
    val_main_v29 (F := Ideal) x0 x1 x2 x3 (ix3 b n j) = up (ofArrays x0 x1 x2 x3 x4 x5 x6) b.val (4096 * b.val + n.val) j.val := by
  have e := act_apply x0 x1 x2 x3 x4 x5 x6
  pointwise [val_main_v29]
  refine Finset.sum_congr rfl fun k _ => ?_
  rw [e, show x3 (ix2 k j) = at2 x3 k.val j.val from (at2_eq _ _ _ k.isLt j.isLt).symm]
  rfl

theorem pad_apply (b : Fin 4) (n : Fin 4098) (j : Fin 2816) :
    val_main_v32 (F := Ideal) x0 x1 x2 x3 (ix3 b n j)
      = if 1 ≤ n.val ∧ n.val - 1 < 4096 then up (ofArrays x0 x1 x2 x3 x4 x5 x6) b.val (4096 * b.val + (n.val - 1)) j.val else 0 := by
  have e := up_apply x0 x1 x2 x3 x4 x5 x6
  pointwise [val_main_v32, val_main_v30, val_main_call0_v0, val_main_c]
  split
  · rw [e]
  · show (((0#32 : BitVec 32).toInt : ℝ) : EReal) = 0
    rw [show (0#32 : BitVec 32).toInt = 0 by decide]
    norm_num

theorem taps_apply (b : Fin 4) (n : Fin 4096) (j : Fin 2816) :
    val_main_v55 (F := Ideal) x0 x1 x2 x3 x4 x5 (ix3 b n j)
      = taps (ofArrays x0 x1 x2 x3 x4 x5 x6) b.val (4096 * b.val + n.val) ((4096 * b.val + n.val) % 4096 = 0) ((4096 * b.val + n.val) % 4096 = 4095) j.val := by
  have e := pad_apply x0 x1 x2 x3 x4 x5 x6 b
  have ec : ∀ (k : ℕ) (hk : k < 3) (hj), x4 (ix2 ⟨k, hk⟩ ⟨j.val, hj⟩) = at2 x4 k j.val := fun k hk _ => (at2_eq _ _ _ hk j.isLt).symm
  have eb : x5 (ix1 j) = at1 x5 j.val := (at1_eq _ _ j.isLt).symm
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33]
  have c0 := ec 0 (by omega) j.isLt
  have c1 := ec 1 (by omega) j.isLt
  have c2 := ec 2 (by omega) j.isLt
  have hn := n.isLt
  rw [e, e, e]
  dsimp only
  rw [show x4 (ix2 0 j) = at2 x4 0 j.val from c0, show x4 (ix2 1 j) = at2 x4 1 j.val from c1, show x4 (ix2 2 j) = at2 x4 2 j.val from c2, eb]
  rw [if_pos (show 1 ≤ 1 + n.val ∧ 1 + n.val - 1 < 4096 by omega), show 4096 * b.val + (1 + n.val - 1) = 4096 * b.val + n.val by omega]
  have p : (if 1 ≤ n.val ∧ n.val - 1 < 4096 then up (ofArrays x0 x1 x2 x3 x4 x5 x6) b.val (4096 * b.val + (n.val - 1)) j.val else 0)
      = if (4096 * b.val + n.val) % 4096 = 0 then 0 else up (ofArrays x0 x1 x2 x3 x4 x5 x6) b.val (4096 * b.val + n.val - 1) j.val := by
    by_cases h : n.val = 0
    · rw [if_neg (by omega), if_pos (by omega)]
    · rw [if_pos (by omega), if_neg (by omega), show 4096 * b.val + (n.val - 1) = 4096 * b.val + n.val - 1 by omega]
  have q : (if 1 ≤ 2 + n.val ∧ 2 + n.val - 1 < 4096 then up (ofArrays x0 x1 x2 x3 x4 x5 x6) b.val (4096 * b.val + (2 + n.val - 1)) j.val else 0)
      = if (4096 * b.val + n.val) % 4096 = 4095 then 0 else up (ofArrays x0 x1 x2 x3 x4 x5 x6) b.val (4096 * b.val + n.val + 1) j.val := by
    by_cases h : n.val = 4095
    · rw [if_neg (by omega), if_pos (by omega)]
    · rw [if_pos (by omega), if_neg (by omega), show 4096 * b.val + (2 + n.val - 1) = 4096 * b.val + n.val + 1 by omega]
  rw [p, q, add_comm (_ * at2 x4 0 j.val)]
  rfl

theorem hid_apply (b : Fin 4) (n : Fin 4096) (j : Fin 2816) :
    val_main_v57 (F := Ideal) x0 x1 x2 x3 x4 x5 (ix3 b n j)
      = hid (ofArrays x0 x1 x2 x3 x4 x5 x6) b.val (4096 * b.val + n.val) ((4096 * b.val + n.val) % 4096 = 0) ((4096 * b.val + n.val) % 4096 = 4095) j.val := by
  have e := taps_apply x0 x1 x2 x3 x4 x5 x6 b n j
  have eu := up_apply x0 x1 x2 x3 x4 x5 x6 b n
  pointwise [val_main_v57, val_main_v56, val_main_v31, val_main_call1_v0, val_main_call1_v1, val_main_call1_v2, val_main_call1_v3, val_main_call1_v4, val_main_call1_v5, val_main_call1_cst, val_main_call1_cst_0]
  rw [e, eu]
  rfl

theorem out_apply (b : Fin 4) (n : Fin 4096) (k : Fin 1024) :
    val_main_v61 (F := Ideal) x0 x1 x2 x3 x4 x5 x6 (ix3 b n k)
      = out (ofArrays x0 x1 x2 x3 x4 x5 x6) b.val (4096 * b.val + n.val) ((4096 * b.val + n.val) % 4096 = 0) ((4096 * b.val + n.val) % 4096 = 4095) k.val := by
  have eh := hid_apply x0 x1 x2 x3 x4 x5 x6 b n
  have e0 := rows_apply x0 b n k
  have eg := gate_apply x1 b k
  pointwise [val_main_v61, val_main_v60, val_main_v59, val_main_v58]
  rw [e0, eg]
  refine congrArg (fun z => at2 x0 (4096 * b.val + n.val) k.val + at2 x1 b.val (5120 + k.val) * z) (Finset.sum_congr rfl fun j _ => ?_)
  rw [eh, show x6 (ix2 j k) = at2 x6 j.val k.val from (at2_eq _ _ _ j.isLt k.isLt).symm]
  rfl

/-- An entry of the reference's result. -/
theorem result (r : Fin 16384) (k : Fin 1024) :
    val_main_v75 (F := Ideal) x0 x1 x2 x3 x4 x5 x6 x7 (ix2 r k)
      = fin (ofArrays x0 x1 x2 x3 x4 x5 x6) (at1 x7) (r.val / 4096) r.val (r.val % 4096 = 0) (r.val % 4096 = 4095) k.val := by
  have e := out_apply x0 x1 x2 x3 x4 x5 x6 ⟨r.val / 4096, by omega⟩ ⟨r.val % 4096, by omega⟩
  simp only [Nat.div_add_mod] at e
  have eg : x7 (ix1 k) = at1 x7 k.val := (at1_eq _ _ k.isLt).symm
  pointwise [val_main_v75, val_main_v74, val_main_v73, val_main_v72, val_main_v71, val_main_v70, val_main_v69, val_main_v68, val_main_v67, val_main_v66, val_main_v65, val_main_v64, val_main_v63, val_main_v62, val_main_cst_3, val_main_cst_4, val_main_cst_5]
  simp only [e, eg]
  rfl

end Cert.FfnRefIdeal.Hand

end
-- ==== Proof.FfnEnd.lean ====
/- The claim for the last ConvFFN call: from any launch, the call and its reference leave the same array. -/
module

public import proofs.«01_k».proof.Defs
public import proofs.«01_k».proof.Proof.FfnValue
public import proofs.«01_k».proof.Proof.FfnRefValue
public import proofs.«01_k».proof.Proof.Gen.FfnRefIdeal.Run

@[expose] public section

noncomputable section

namespace Cert.Proof.Ffn

open Idealize.ShloMosaic Idealize.ShloMosaic.TcCoe Idealize.SL.Sem

theorem algebraic : Cert.algebraic_FfnIdeal_FfnRefIdeal (hFfnIdeal := Cert.FfnIdeal.Gen.facts) (hFfnRefIdeal := Cert.FfnRefIdeal.Gen.facts) := by
  intro m g m' g' _ hm
  refine ⟨fun c => Cert.FfnIdeal.Parts.G m c, ?_, ?_⟩
  · refine (θ_run Cert.FfnIdeal.defs _ _).mono (fun r h c => ⟨?_, (h c).2⟩) (Cert.FfnIdeal.Value.run_blocks m g)
    rw [(h c).1]
    exact Cert.FfnIdeal.Parts.result m c
  · refine (θ_run Cert.FfnRefIdeal.defs _ _).mono (fun r h c => ⟨?_, (h c).2⟩) (Cert.FfnRefIdeal.Value.run m' g')
    obtain ⟨h0, h1, h2, h3, h4, h5, h6, h7⟩ := hm c
    rw [(h c).1, Cert.FfnRefIdeal.Read.val_main_v75_eq, h0, h1, h2, h3, h4, h5, h6, h7]
    funext i
    have e : i = ix2 (i 0) (i 1) := funext fun a => by
      match a with
      | ⟨0, _⟩ => rfl
      | ⟨1, _⟩ => rfl
    exact (congrArg _ e).trans (Cert.FfnRefIdeal.Hand.result _ _ _ _ _ _ _ _ (i 0) (i 1))

end Cert.Proof.Ffn

end
-- ==== Proof.MidParts.lean ====
/- One tile of hidden channels in the ConvFFN body: the block primitive that every trip of the body's loop computes, the
   sum over the tiles, and that the printed body's payloads are these. -/
module

public import proofs.«01_k».proof.Proof.Gen.MidIdeal.Skeleton
public import Idealize.ShloMosaic.Lib.Pointwise

@[expose] public section

noncomputable section

namespace Cert.MidIdeal.Parts

open Cert.MidIdeal Cert.MidIdeal.Gen Idealize.ShloMosaic

variable {F : FTy → Type} [FloatOps F] [Facts]

/-- The three-tap convolution along rows of a tile of gates, before its bias. -/
def conv (a : Vec F S1056x1024 .bf16) (w1 : Vec F S1x1024x256 .bf16) (wc : Vec F S1x3x256 .f32) (mp mn : FVec F S1024x1 .f32) :
    FVec F S1024x256 .f32 :=
  have ge : FVec F S1056x256 .f32 := matmul dot_S1056x1024_S1024x256_S1056x256_1_0_0_1_n_n none a
    (shapeCast S1024x256 w1 shapeCasts_S1x1024x256_S1024x256) (constant S1056x256 .f32 0x00000000#32)
  have w : FVec F S3x256 .f32 := shapeCast S3x256 wc shapeCasts_S1x3x256_S3x256
  addf (addf
      (mulf (extractStridedSlice S1024x256 ![16, 0] ge slices_S1056x256_o16_0_S1024x256)
        (broadcastTo S1024x256 (extractStridedSlice S1x256 ![1, 0] w slices_S3x256_o1_0_S1x256) broadcasts_S1x256_S1024x256))
      (mulf (mulf (extractStridedSlice S1024x256 ![15, 0] ge slices_S1056x256_o15_0_S1024x256)
          (broadcastTo S1024x256 mp broadcasts_S1024x1_S1024x256))
        (broadcastTo S1024x256 (extractStridedSlice S1x256 ![0, 0] w slices_S3x256_o0_0_S1x256) broadcasts_S1x256_S1024x256)))
    (mulf (mulf (extractStridedSlice S1024x256 ![17, 0] ge slices_S1056x256_o17_0_S1024x256)
        (broadcastTo S1024x256 mn broadcasts_S1024x1_S1024x256))
      (broadcastTo S1024x256 (extractStridedSlice S1x256 ![2, 0] w slices_S3x256_o2_0_S1x256) broadcasts_S1x256_S1024x256))

/-- A tile's contribution to the block's output rows. -/
def mix (a : Vec F S1056x1024 .bf16) (w1 : Vec F S1x1024x256 .bf16) (a' : Vec F S1024x1024 .bf16) (w2 : Vec F S1x1024x256 .bf16)
    (wc : Vec F S1x3x256 .f32) (bc : Vec F S1x1x256 .f32) (wd : Vec F S1x256x1024 .bf16) (mp mn : FVec F S1024x1 .f32) :
    FVec F S1024x1024 .f32 :=
  k0_pay15 (k0_pay13 a' w2) (conv a w1 wc mp mn) bc wd

/-- A later tile adds to what is there. -/
def step (acc : Vec F S1024x1024 .f32) (y : FVec F S1024x1024 .f32) : FVec F S1024x1024 .f32 :=
  addf (shapeCast S1024x1024 acc shapeCasts_S1024x1024_S1024x1024) y

section Tiles

variable (a : Vec F S1056x1024 .bf16) (w1 : Vec F S1x1024x256 .bf16) (a' : Vec F S1024x1024 .bf16) (w2 : Vec F S1x1024x256 .bf16)
    (wc : Vec F S1x3x256 .f32) (bc : Vec F S1x1x256 .f32) (wd : Vec F S1x256x1024 .bf16) (mp mn : FVec F S1024x1 .f32)
    (acc : Vec F S1024x1024 .f32)

theorem tile0 (v74 : BitVec 32) (v78 : IVec S1024x1 32) : k0_pay15 (k0_pay13 a' w2) (k0_pay14 v74 v78 a w1 wc) bc wd
    = mix a w1 a' w2 wc bc wd (k0_pay11 v74 v78) (k0_pay12 v74 v78) := rfl
theorem tile1 : k0_pay22 (k0_pay17 a' w2) (k0_pay19 mp a w1 wc) (k0_pay20 mn a w1) (k0_pay21 wc) bc wd acc
    = step acc (mix a w1 a' w2 wc bc wd mp mn) := rfl
theorem tile2 : k0_pay28 mp mn (k0_pay23 a w1) (k0_pay24 a' w2) (k0_pay25 wc) (k0_pay26 a w1 wc) (k0_pay27 a w1) bc wd acc
    = step acc (mix a w1 a' w2 wc bc wd mp mn) := rfl
theorem tile3 : k0_pay31 mp mn (k0_pay29 a w1) (k0_pay30 a' w2) wc bc wd acc
    = step acc (mix a w1 a' w2 wc bc wd mp mn) := rfl
theorem tile4 : k0_pay33 mp mn (k0_pay32 a w1) a' w2 wc bc wd acc
    = step acc (mix a w1 a' w2 wc bc wd mp mn) := rfl
theorem tile5 : k0_pay36 (k0_pay34 mp mn a w1 a' w2 wc bc) (k0_pay35 wd) (constant S1024x1024 .f32 0x00000000#32) acc
    = step acc (mix a w1 a' w2 wc bc wd mp mn) := rfl
theorem tile6 : k0_pay39 (k0_pay37 a' w2) (k0_pay38 mp mn a w1 wc bc) wd acc
    = step acc (mix a w1 a' w2 wc bc wd mp mn) := rfl
theorem tile7 : k0_pay46 (k0_pay41 a' w2) (k0_pay43 mp a w1 wc) (k0_pay44 mn a w1) (k0_pay45 wc) bc wd acc
    = step acc (mix a w1 a' w2 wc bc wd mp mn) := rfl
theorem tile8 : k0_pay52 mp mn (k0_pay47 a w1) (k0_pay48 a' w2) (k0_pay49 wc) (k0_pay50 a w1 wc) (k0_pay51 a w1) bc wd acc
    = step acc (mix a w1 a' w2 wc bc wd mp mn) := rfl
theorem tile9 : k0_pay55 mp mn (k0_pay53 a w1) (k0_pay54 a' w2) wc bc wd acc
    = step acc (mix a w1 a' w2 wc bc wd mp mn) := rfl
theorem tile10 : k0_pay57 mp mn (k0_pay56 a w1) a' w2 wc bc wd acc
    = step acc (mix a w1 a' w2 wc bc wd mp mn) := rfl

end Tiles

/-- The rows a block reads, normalized and modulated: sixteen rows before the block, the block, sixteen rows after. -/
def actPrev (x0 : Vec F S16x1024 .f32) (x3 : Vec F S1x1024 .f32) (x4 x5 : Vec F S1x1x1024 .f32) : FVec F S16x1024 .bf16 := k0_pay5 x3 x4 x5 x0
def actMain (x1 : Vec F S1024x1024 .f32) (x3 : Vec F S1x1024 .f32) (x4 x5 : Vec F S1x1x1024 .f32) : FVec F S1024x1024 .bf16 :=
  k0_pay7 (k0_pay2 x3) (k0_pay3 x4) (k0_pay4 x5) x1 (k0_pay6 x1)
def actNext (x2 : Vec F S16x1024 .f32) (x3 : Vec F S1x1024 .f32) (x4 x5 : Vec F S1x1x1024 .f32) : FVec F S16x1024 .bf16 :=
  k0_pay8 (k0_pay2 x3) (k0_pay3 x4) (k0_pay4 x5) x2

end Cert.MidIdeal.Parts

end
-- ==== Proof.MidBlock.lean ====
/- What one grid point of an inner ConvFFN call writes, as one function of the blocks it reads. -/
module

public import proofs.«01_k».proof.Proof.MidParts
public import proofs.«01_k».proof.Proof.Gen.MidIdeal.Value
public import Idealize.ShloMosaic.Lib.Pipeline.ValueKit.Acc

@[expose] public section

noncomputable section

namespace Cert.MidIdeal.Parts

open Cert.MidIdeal Cert.MidIdeal.Gen Idealize.ShloMosaic Idealize.ShloMosaic.TcCoe Idealize.SL.Sem

variable {F : FTy → Type} [FloatOps F]

/-- What the three stores of normalized rows leave. -/
def rows (w2 : FVec F S16x1024 .bf16) (w1 : FVec F S1024x1024 .bf16) (w0 : FVec F S16x1024 .bf16) : Vec F S1056x1024 .bf16 :=
  View.canon (Val := Elt F) (s := S1056x1024) (e := .bf16) [⟨Rect.unit (s := S1056x1024) ![1040, 0] ![16, 1024] inb_S1056x1024_S16x1024_1040_0, w2⟩,
    ⟨Rect.unit (s := S1056x1024) ![16, 0] ![1024, 1024] inb_S1056x1024_S1024x1024_16_0, w1⟩,
    ⟨Rect.unit (s := S1056x1024) ![0, 0] ![16, 1024] inb_S1056x1024_S16x1024_0_0, w0⟩]

theorem rows_cover (w2 : FVec F S16x1024 .bf16) (w1 : FVec F S1024x1024 .bf16) (w0 : FVec F S16x1024 .bf16) (y : S1056x1024.Idx) :
    ∃ pc ∈ ([⟨Rect.unit (s := S1056x1024) ![1040, 0] ![16, 1024] inb_S1056x1024_S16x1024_1040_0, w2⟩,
      ⟨Rect.unit (s := S1056x1024) ![16, 0] ![1024, 1024] inb_S1056x1024_S1024x1024_16_0, w1⟩,
      ⟨Rect.unit (s := S1056x1024) ![0, 0] ![16, 1024] inb_S1056x1024_S16x1024_0_0, w0⟩] : List (View.Piece (Elt F) S1056x1024 .bf16)), y ∈ pc.1.set := by
  have h0 : (y (0 : Fin 2)).val < 1056 := (y (0 : Fin 2)).isLt
  have h1 : (y (1 : Fin 2)).val < 1024 := (y (1 : Fin 2)).isLt
  by_cases ha : (y (0 : Fin 2)).val < 16
  · exact ⟨_, .tail _ (.tail _ (.head _)), (Rect.mem_set_unit (inb := inb_S1056x1024_S16x1024_0_0)).mpr fun a => by
      match a with
      | ⟨0, _⟩ => exact ⟨Nat.zero_le _, ha⟩
      | ⟨1, _⟩ => exact ⟨Nat.zero_le _, h1⟩⟩
  by_cases hb : (y (0 : Fin 2)).val < 1040
  · exact ⟨_, .tail _ (.head _), (Rect.mem_set_unit (inb := inb_S1056x1024_S1024x1024_16_0)).mpr fun a => by
      match a with
      | ⟨0, _⟩ => exact ⟨not_lt.mp ha, hb⟩
      | ⟨1, _⟩ => exact ⟨Nat.zero_le _, h1⟩⟩
  · exact ⟨_, .head _, (Rect.mem_set_unit (inb := inb_S1056x1024_S16x1024_1040_0)).mpr fun a => by
      match a with
      | ⟨0, _⟩ => exact ⟨not_lt.mp hb, h0⟩
      | ⟨1, _⟩ => exact ⟨Nat.zero_le _, h1⟩⟩

theorem read_rows (v : View sig .tc .vmem S1056x1024 .bf16) (w2 : FVec F S16x1024 .bf16) (w1 : FVec F S1024x1024 .bf16) (w0 : FVec F S16x1024 .bf16)
    (off size : Fin 2 → ℕ) (inb) :
    v.readCov ([⟨Rect.unit (s := S1056x1024) ![1040, 0] ![16, 1024] inb_S1056x1024_S16x1024_1040_0, w2⟩,
      ⟨Rect.unit (s := S1056x1024) ![16, 0] ![1024, 1024] inb_S1056x1024_S1024x1024_16_0, w1⟩,
      ⟨Rect.unit (s := S1056x1024) ![0, 0] ![16, 1024] inb_S1056x1024_S16x1024_0_0, w0⟩] : List (View.Piece (Elt F) S1056x1024 .bf16))
      (Rect.unit (s := S1056x1024) off size inb).toLoadRect = View.ld (rows w2 w1 w0) (Rect.unit (s := S1056x1024) off size inb) :=
  View.readCov_eq_canon_ld _ _ _ (rows_cover w2 w1 w0)

theorem zeros : (![0, 0] : Fin S1024x1024.rank → ℕ) = fun _ => 0 := by
  funext a
  match a with
  | ⟨0, _⟩ => rfl
  | ⟨1, _⟩ => rfl

/-- The length of the sequence a block lies in, and the two masks of the taps: a row's predecessor and successor in its
    sequence. -/
def seqLen (i : grid0.Coords) : BitVec 32 :=
  Scalar.select (Scalar.cmpi CmpIPredicate.sge (Scalar.muli (BitVec.ofNat 32 (i 0).val) 1024#32) 16384#32) 256#32 4096#32
def maskPrev (i : grid0.Coords) : FVec F S1024x1 .f32 := k0_pay11 (seqLen i) (k0_pay9 (BitVec.ofNat 32 (i 0).val))
def maskNext (i : grid0.Coords) : FVec F S1024x1 .f32 := k0_pay12 (seqLen i) (k0_pay9 (BitVec.ofNat 32 (i 0).val))

/-- The scratch buffer of normalized rows. -/
def acts (x0 : Vec F S16x1024 .f32) (x1 : Vec F S1024x1024 .f32) (x2 : Vec F S16x1024 .f32) (x3 : Vec F S1x1024 .f32)
    (x4 x5 : Vec F S1x1x1024 .f32) : Vec F S1056x1024 .bf16 :=
  rows (actNext (View.ld x2 (Rect.unit ![0, 0] ![16, 1024] inb_S16x1024_S16x1024_0_0)) (View.ld x3 (Rect.unit ![0, 0] ![1, 1024] inb_S1x1024_S1x1024_0_0)) (View.ld x4 (Rect.unit ![0, 0, 0] ![1, 1, 1024] inb_S1x1x1024_S1x1x1024_0_0_0)) (View.ld x5 (Rect.unit ![0, 0, 0] ![1, 1, 1024] inb_S1x1x1024_S1x1x1024_0_0_0)))
    (actMain (View.ld x1 (Rect.unit ![0, 0] ![1024, 1024] inb_S1024x1024_S1024x1024_0_0)) (View.ld x3 (Rect.unit ![0, 0] ![1, 1024] inb_S1x1024_S1x1024_0_0)) (View.ld x4 (Rect.unit ![0, 0, 0] ![1, 1, 1024] inb_S1x1x1024_S1x1x1024_0_0_0)) (View.ld x5 (Rect.unit ![0, 0, 0] ![1, 1, 1024] inb_S1x1x1024_S1x1x1024_0_0_0)))
    (actPrev (View.ld x0 (Rect.unit ![0, 0] ![16, 1024] inb_S16x1024_S16x1024_0_0)) (View.ld x3 (Rect.unit ![0, 0] ![1, 1024] inb_S1x1024_S1x1024_0_0)) (View.ld x4 (Rect.unit ![0, 0, 0] ![1, 1, 1024] inb_S1x1x1024_S1x1x1024_0_0_0)) (View.ld x5 (Rect.unit ![0, 0, 0] ![1, 1, 1024] inb_S1x1x1024_S1x1x1024_0_0_0)))

section

variable (A : Vec F S1056x1024 .bf16) (x7 : Vec F S11x1024x256 .bf16) (x8 : Vec F S11x1024x256 .bf16) (x9 : Vec F S11x3x256 .f32)
  (x10 : Vec F S11x1x256 .f32) (x11 : Vec F S11x256x1024 .bf16) (mp mn : FVec F S1024x1 .f32)

/-- Tile 0. -/
def tileAt0 : FVec F S1024x1024 .f32 :=
  mix (View.ld A (Rect.unit ![0, 0] ![1056, 1024] inb_S1056x1024_S1056x1024_0_0)) (View.ld x7 (Rect.unit ![0, 0, 0] ![1, 1024, 256] inb_S11x1024x256_S1x1024x256_0_0_0))
    (View.ld A (Rect.unit ![16, 0] ![1024, 1024] inb_S1056x1024_S1024x1024_16_0)) (View.ld x8 (Rect.unit ![0, 0, 0] ![1, 1024, 256] inb_S11x1024x256_S1x1024x256_0_0_0))
    (View.ld x9 (Rect.unit ![0, 0, 0] ![1, 3, 256] inb_S11x3x256_S1x3x256_0_0_0)) (View.ld x10 (Rect.unit ![0, 0, 0] ![1, 1, 256] inb_S11x1x256_S1x1x256_0_0_0))
    (View.ld x11 (Rect.unit ![0, 0, 0] ![1, 256, 1024] inb_S11x256x1024_S1x256x1024_0_0_0)) mp mn
/-- Tile 1. -/
def tileAt1 : FVec F S1024x1024 .f32 :=
  mix (View.ld A (Rect.unit ![0, 0] ![1056, 1024] inb_S1056x1024_S1056x1024_0_0)) (View.ld x7 (Rect.unit ![1, 0, 0] ![1, 1024, 256] inb_S11x1024x256_S1x1024x256_1_0_0))
    (View.ld A (Rect.unit ![16, 0] ![1024, 1024] inb_S1056x1024_S1024x1024_16_0)) (View.ld x8 (Rect.unit ![1, 0, 0] ![1, 1024, 256] inb_S11x1024x256_S1x1024x256_1_0_0))
    (View.ld x9 (Rect.unit ![1, 0, 0] ![1, 3, 256] inb_S11x3x256_S1x3x256_1_0_0)) (View.ld x10 (Rect.unit ![1, 0, 0] ![1, 1, 256] inb_S11x1x256_S1x1x256_1_0_0))
    (View.ld x11 (Rect.unit ![1, 0, 0] ![1, 256, 1024] inb_S11x256x1024_S1x256x1024_1_0_0)) mp mn
/-- Tile 2. -/
def tileAt2 : FVec F S1024x1024 .f32 :=
  mix (View.ld A (Rect.unit ![0, 0] ![1056, 1024] inb_S1056x1024_S1056x1024_0_0)) (View.ld x7 (Rect.unit ![2, 0, 0] ![1, 1024, 256] inb_S11x1024x256_S1x1024x256_2_0_0))
    (View.ld A (Rect.unit ![16, 0] ![1024, 1024] inb_S1056x1024_S1024x1024_16_0)) (View.ld x8 (Rect.unit ![2, 0, 0] ![1, 1024, 256] inb_S11x1024x256_S1x1024x256_2_0_0))
    (View.ld x9 (Rect.unit ![2, 0, 0] ![1, 3, 256] inb_S11x3x256_S1x3x256_2_0_0)) (View.ld x10 (Rect.unit ![2, 0, 0] ![1, 1, 256] inb_S11x1x256_S1x1x256_2_0_0))
    (View.ld x11 (Rect.unit ![2, 0, 0] ![1, 256, 1024] inb_S11x256x1024_S1x256x1024_2_0_0)) mp mn
/-- Tile 3. -/
def tileAt3 : FVec F S1024x1024 .f32 :=
  mix (View.ld A (Rect.unit ![0, 0] ![1056, 1024] inb_S1056x1024_S1056x1024_0_0)) (View.ld x7 (Rect.unit ![3, 0, 0] ![1, 1024, 256] inb_S11x1024x256_S1x1024x256_3_0_0))
    (View.ld A (Rect.unit ![16, 0] ![1024, 1024] inb_S1056x1024_S1024x1024_16_0)) (View.ld x8 (Rect.unit ![3, 0, 0] ![1, 1024, 256] inb_S11x1024x256_S1x1024x256_3_0_0))
    (View.ld x9 (Rect.unit ![3, 0, 0] ![1, 3, 256] inb_S11x3x256_S1x3x256_3_0_0)) (View.ld x10 (Rect.unit ![3, 0, 0] ![1, 1, 256] inb_S11x1x256_S1x1x256_3_0_0))
    (View.ld x11 (Rect.unit ![3, 0, 0] ![1, 256, 1024] inb_S11x256x1024_S1x256x1024_3_0_0)) mp mn
/-- Tile 4. -/
def tileAt4 : FVec F S1024x1024 .f32 :=
  mix (View.ld A (Rect.unit ![0, 0] ![1056, 1024] inb_S1056x1024_S1056x1024_0_0)) (View.ld x7 (Rect.unit ![4, 0, 0] ![1, 1024, 256] inb_S11x1024x256_S1x1024x256_4_0_0))
    (View.ld A (Rect.unit ![16, 0] ![1024, 1024] inb_S1056x1024_S1024x1024_16_0)) (View.ld x8 (Rect.unit ![4, 0, 0] ![1, 1024, 256] inb_S11x1024x256_S1x1024x256_4_0_0))
    (View.ld x9 (Rect.unit ![4, 0, 0] ![1, 3, 256] inb_S11x3x256_S1x3x256_4_0_0)) (View.ld x10 (Rect.unit ![4, 0, 0] ![1, 1, 256] inb_S11x1x256_S1x1x256_4_0_0))
    (View.ld x11 (Rect.unit ![4, 0, 0] ![1, 256, 1024] inb_S11x256x1024_S1x256x1024_4_0_0)) mp mn
/-- Tile 5. -/
def tileAt5 : FVec F S1024x1024 .f32 :=
  mix (View.ld A (Rect.unit ![0, 0] ![1056, 1024] inb_S1056x1024_S1056x1024_0_0)) (View.ld x7 (Rect.unit ![5, 0, 0] ![1, 1024, 256] inb_S11x1024x256_S1x1024x256_5_0_0))
    (View.ld A (Rect.unit ![16, 0] ![1024, 1024] inb_S1056x1024_S1024x1024_16_0)) (View.ld x8 (Rect.unit ![5, 0, 0] ![1, 1024, 256] inb_S11x1024x256_S1x1024x256_5_0_0))
    (View.ld x9 (Rect.unit ![5, 0, 0] ![1, 3, 256] inb_S11x3x256_S1x3x256_5_0_0)) (View.ld x10 (Rect.unit ![5, 0, 0] ![1, 1, 256] inb_S11x1x256_S1x1x256_5_0_0))
    (View.ld x11 (Rect.unit ![5, 0, 0] ![1, 256, 1024] inb_S11x256x1024_S1x256x1024_5_0_0)) mp mn
/-- Tile 6. -/
def tileAt6 : FVec F S1024x1024 .f32 :=
  mix (View.ld A (Rect.unit ![0, 0] ![1056, 1024] inb_S1056x1024_S1056x1024_0_0)) (View.ld x7 (Rect.unit ![6, 0, 0] ![1, 1024, 256] inb_S11x1024x256_S1x1024x256_6_0_0))
    (View.ld A (Rect.unit ![16, 0] ![1024, 1024] inb_S1056x1024_S1024x1024_16_0)) (View.ld x8 (Rect.unit ![6, 0, 0] ![1, 1024, 256] inb_S11x1024x256_S1x1024x256_6_0_0))
    (View.ld x9 (Rect.unit ![6, 0, 0] ![1, 3, 256] inb_S11x3x256_S1x3x256_6_0_0)) (View.ld x10 (Rect.unit ![6, 0, 0] ![1, 1, 256] inb_S11x1x256_S1x1x256_6_0_0))
    (View.ld x11 (Rect.unit ![6, 0, 0] ![1, 256, 1024] inb_S11x256x1024_S1x256x1024_6_0_0)) mp mn
/-- Tile 7. -/
def tileAt7 : FVec F S1024x1024 .f32 :=
  mix (View.ld A (Rect.unit ![0, 0] ![1056, 1024] inb_S1056x1024_S1056x1024_0_0)) (View.ld x7 (Rect.unit ![7, 0, 0] ![1, 1024, 256] inb_S11x1024x256_S1x1024x256_7_0_0))
    (View.ld A (Rect.unit ![16, 0] ![1024, 1024] inb_S1056x1024_S1024x1024_16_0)) (View.ld x8 (Rect.unit ![7, 0, 0] ![1, 1024, 256] inb_S11x1024x256_S1x1024x256_7_0_0))
    (View.ld x9 (Rect.unit ![7, 0, 0] ![1, 3, 256] inb_S11x3x256_S1x3x256_7_0_0)) (View.ld x10 (Rect.unit ![7, 0, 0] ![1, 1, 256] inb_S11x1x256_S1x1x256_7_0_0))
    (View.ld x11 (Rect.unit ![7, 0, 0] ![1, 256, 1024] inb_S11x256x1024_S1x256x1024_7_0_0)) mp mn
/-- Tile 8. -/
def tileAt8 : FVec F S1024x1024 .f32 :=
  mix (View.ld A (Rect.unit ![0, 0] ![1056, 1024] inb_S1056x1024_S1056x1024_0_0)) (View.ld x7 (Rect.unit ![8, 0, 0] ![1, 1024, 256] inb_S11x1024x256_S1x1024x256_8_0_0))
    (View.ld A (Rect.unit ![16, 0] ![1024, 1024] inb_S1056x1024_S1024x1024_16_0)) (View.ld x8 (Rect.unit ![8, 0, 0] ![1, 1024, 256] inb_S11x1024x256_S1x1024x256_8_0_0))
    (View.ld x9 (Rect.unit ![8, 0, 0] ![1, 3, 256] inb_S11x3x256_S1x3x256_8_0_0)) (View.ld x10 (Rect.unit ![8, 0, 0] ![1, 1, 256] inb_S11x1x256_S1x1x256_8_0_0))
    (View.ld x11 (Rect.unit ![8, 0, 0] ![1, 256, 1024] inb_S11x256x1024_S1x256x1024_8_0_0)) mp mn
/-- Tile 9. -/
def tileAt9 : FVec F S1024x1024 .f32 :=
  mix (View.ld A (Rect.unit ![0, 0] ![1056, 1024] inb_S1056x1024_S1056x1024_0_0)) (View.ld x7 (Rect.unit ![9, 0, 0] ![1, 1024, 256] inb_S11x1024x256_S1x1024x256_9_0_0))
    (View.ld A (Rect.unit ![16, 0] ![1024, 1024] inb_S1056x1024_S1024x1024_16_0)) (View.ld x8 (Rect.unit ![9, 0, 0] ![1, 1024, 256] inb_S11x1024x256_S1x1024x256_9_0_0))
    (View.ld x9 (Rect.unit ![9, 0, 0] ![1, 3, 256] inb_S11x3x256_S1x3x256_9_0_0)) (View.ld x10 (Rect.unit ![9, 0, 0] ![1, 1, 256] inb_S11x1x256_S1x1x256_9_0_0))
    (View.ld x11 (Rect.unit ![9, 0, 0] ![1, 256, 1024] inb_S11x256x1024_S1x256x1024_9_0_0)) mp mn
/-- Tile 10. -/
def tileAt10 : FVec F S1024x1024 .f32 :=
  mix (View.ld A (Rect.unit ![0, 0] ![1056, 1024] inb_S1056x1024_S1056x1024_0_0)) (View.ld x7 (Rect.unit ![10, 0, 0] ![1, 1024, 256] inb_S11x1024x256_S1x1024x256_10_0_0))
    (View.ld A (Rect.unit ![16, 0] ![1024, 1024] inb_S1056x1024_S1024x1024_16_0)) (View.ld x8 (Rect.unit ![10, 0, 0] ![1, 1024, 256] inb_S11x1024x256_S1x1024x256_10_0_0))
    (View.ld x9 (Rect.unit ![10, 0, 0] ![1, 3, 256] inb_S11x3x256_S1x3x256_10_0_0)) (View.ld x10 (Rect.unit ![10, 0, 0] ![1, 1, 256] inb_S11x1x256_S1x1x256_10_0_0))
    (View.ld x11 (Rect.unit ![10, 0, 0] ![1, 256, 1024] inb_S11x256x1024_S1x256x1024_10_0_0)) mp mn

/-- All the tiles, in order. -/
def acc : FVec F S1024x1024 .f32 :=
  (step (step (step (step (step (step (step (step (step (step (tileAt0 A x7 x8 x9 x10 x11 mp mn) (tileAt1 A x7 x8 x9 x10 x11 mp mn)) (tileAt2 A x7 x8 x9 x10 x11 mp mn)) (tileAt3 A x7 x8 x9 x10 x11 mp mn)) (tileAt4 A x7 x8 x9 x10 x11 mp mn)) (tileAt5 A x7 x8 x9 x10 x11 mp mn)) (tileAt6 A x7 x8 x9 x10 x11 mp mn)) (tileAt7 A x7 x8 x9 x10 x11 mp mn)) (tileAt8 A x7 x8 x9 x10 x11 mp mn)) (tileAt9 A x7 x8 x9 x10 x11 mp mn)) (tileAt10 A x7 x8 x9 x10 x11 mp mn))

end

set_option maxRecDepth 100000 in
/-- The output buffer after the body. -/
theorem out_eq (c : Dev nD) (i : grid0.Coords) (arg1 : Memref sig .tc .vmem S16x1024 .f32) (harg1 : arg1.IsWhole) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S11x3x256 .f32) (harg10 : arg10.IsWhole) (arg11 : Memref sig .tc .vmem S11x1x256 .f32) (harg11 : arg11.IsWhole) (arg12 : Memref sig .tc .vmem S11x256x1024 .bf16) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1056x1024 .bf16) (harg15 : arg15.IsWhole) (x0 : Vec F S16x1024 .f32) (x1 : Vec F S1024x1024 .f32) (x2 : Vec F S16x1024 .f32) (x3 : Vec F S1x1024 .f32) (x4 : Vec F S1x1x1024 .f32) (x5 : Vec F S1x1x1024 .f32) (x6 : Vec F S1x1x1024 .f32) (x7 : Vec F S11x1024x256 .bf16) (x8 : Vec F S11x1024x256 .bf16) (x9 : Vec F S11x3x256 .f32) (x10 : Vec F S11x1x256 .f32) (x11 : Vec F S11x256x1024 .bf16) (x12 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = k0_pay1 (View.ld x1 (Rect.unit ![0, 0] ![1024, 1024] inb_S1024x1024_S1024x1024_0_0)) (View.ld x6 (Rect.unit ![0, 0, 0] ![1, 1, 1024] inb_S1x1x1024_S1x1x1024_0_0_0)) (acc (acts x0 x1 x2 x3 x4 x5) x7 x8 x9 x10 x11 (maskPrev i) (maskNext i)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12)]
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  rw [View.canon_cons_unit_zero zeros]
  simp only [View.readCov_cons_toLoadRect, read_rows, tile0, tile1, tile2, tile3, tile4, tile5, tile6, tile7, tile8, tile9, tile10]
  simp only [acc, tileAt0, tileAt1, tileAt2, tileAt3, tileAt4, tileAt5, tileAt6, tileAt7, tileAt8, tileAt9, tileAt10, acts, actNext, actMain, actPrev, maskPrev, maskNext, seqLen]

end Cert.MidIdeal.Parts

end
-- ==== Proof.MidRow.lean ====
/- The body's values entry by entry: the masks, the normalized rows, one tile, and the block. -/
module

public import proofs.«01_k».proof.Proof.MidBlock
public import proofs.«01_k».proof.Proof.FfnSpec
public import Idealize.ShloMosaic.Lib.Pointwise

@[expose] public section

noncomputable section

namespace Cert.MidIdeal.Parts

open Cert.MidIdeal Cert.MidIdeal.Gen Idealize.ShloMosaic Cert.Proof.Ffn

/-- A comparison's bit as a number. -/
theorem bit_val (b : Bool) : (FloatOps.sitofp FTy.f32 (BitVec.setWidth 32 (BitVec.ofBool b)) : Ideal .f32) = if b then (1 : EReal) else 0 := by
  cases b
  · show ((((0 : BitVec 32).toInt : ℤ) : ℝ) : EReal) = 0
    norm_num
    decide
  · show ((((1 : BitVec 32).toInt : ℤ) : ℝ) : EReal) = 1
    norm_num
    decide

theorem pos_toNat (t k : ℕ) (r : Fin 1024) (ht : t < 17) (hk : k ≤ 12) :
    ((BitVec.ofNat 32 t * 1024#32 + BitVec.ofNat 32 r.val) &&& (BitVec.ofNat 32 (2 ^ k) - 1#32)).toNat = (1024 * t + r.val) % 2 ^ k := by
  have h1 : (BitVec.ofNat 32 t * 1024#32 + BitVec.ofNat 32 r.val).toNat = 1024 * t + r.val := by
    have := r.isLt
    simp only [BitVec.toNat_add, BitVec.toNat_mul, BitVec.toNat_ofNat]
    omega
  have hp : 2 ^ k ≤ 2 ^ 12 := Nat.pow_le_pow_right (by norm_num) hk
  have hq : 0 < 2 ^ k := Nat.two_pow_pos k
  have h2 : (BitVec.ofNat 32 (2 ^ k) - 1#32).toNat = 2 ^ k - 1 := by
    simp only [BitVec.toNat_sub, BitVec.toNat_ofNat]
    omega
  rw [BitVec.toNat_and, h1, h2, Nat.and_two_pow_sub_one_eq_mod]

theorem maskPrev_val (t k : ℕ) (r : Fin 1024) (ht : t < 17) (hk : k ≤ 12) :
    k0_pay11 (F := Ideal) (BitVec.ofNat 32 (2 ^ k)) (k0_pay9 (BitVec.ofNat 32 t)) (ix2 r 0) = if (1024 * t + r.val) % 2 ^ k = 0 then (0 : EReal) else 1 := by
  have h := pos_toNat t k r ht hk
  pointwise [k0_pay11, k0_pay10, k0_pay9]
  show (FloatOps.sitofp FTy.f32 (BitVec.setWidth 32 (BitVec.ofBool (((BitVec.ofNat 32 t * 1024#32 + BitVec.ofNat 32 r.val) &&& (BitVec.ofNat 32 (2 ^ k) - 1#32)) != 0#32))) : Ideal .f32) = _
  rw [bit_val]
  generalize (BitVec.ofNat 32 t * 1024#32 + BitVec.ofNat 32 r.val) &&& (BitVec.ofNat 32 (2 ^ k) - 1#32) = x at h
  rw [← h]
  have e : x.toNat = 0 ↔ x = 0#32 := ⟨fun e => BitVec.eq_of_toNat_eq (by simpa using e), fun e => by rw [e]; rfl⟩
  by_cases hx : x = 0#32
  · rw [if_pos (e.mpr hx), hx]; rfl
  · rw [if_neg (fun he => hx (e.mp he)), if_pos (by simpa using hx)]

theorem maskNext_val (t k : ℕ) (r : Fin 1024) (ht : t < 17) (hk : k ≤ 12) :
    k0_pay12 (F := Ideal) (BitVec.ofNat 32 (2 ^ k)) (k0_pay9 (BitVec.ofNat 32 t)) (ix2 r 0) = if (1024 * t + r.val) % 2 ^ k = 2 ^ k - 1 then (0 : EReal) else 1 := by
  have h := pos_toNat t k r ht hk
  pointwise [k0_pay12, k0_pay10, k0_pay9]
  show (FloatOps.sitofp FTy.f32 (BitVec.setWidth 32 (BitVec.ofBool (((BitVec.ofNat 32 t * 1024#32 + BitVec.ofNat 32 r.val) &&& (BitVec.ofNat 32 (2 ^ k) - 1#32)) != (BitVec.ofNat 32 (2 ^ k) - 1#32)))) : Ideal .f32) = _
  rw [bit_val]
  have h2 : (BitVec.ofNat 32 (2 ^ k) - 1#32).toNat = 2 ^ k - 1 := by
    have hp : 2 ^ k ≤ 2 ^ 12 := Nat.pow_le_pow_right (by norm_num) hk
    have hq : 0 < 2 ^ k := Nat.two_pow_pos k
    simp only [BitVec.toNat_sub, BitVec.toNat_ofNat]
    omega
  generalize (BitVec.ofNat 32 t * 1024#32 + BitVec.ofNat 32 r.val) &&& (BitVec.ofNat 32 (2 ^ k) - 1#32) = x at h ⊢
  generalize BitVec.ofNat 32 (2 ^ k) - 1#32 = z at h2 ⊢
  rw [← h, ← h2]
  by_cases hx : x = z
  · rw [hx, if_pos rfl, if_neg (by simp)]
  · rw [if_neg (fun he => hx (BitVec.eq_of_toNat_eq he)), if_pos (by simpa using hx)]

/-! ## The rows read -/

/-- The global row that scratch row `q` of block `t` holds. -/
def rowOf (t q : ℕ) : ℕ :=
  if q < 16 then (64 * t - 1) * 16 + q else if q < 1040 then 1024 * t + (q - 16) else min (64 * (t + 1)) 1087 * 16 + (q - 1040)

/-- What a grid point's blocks hold, in terms of the layer's arrays. -/
structure Reads (p : Args) (t s : ℕ) (x0 : Vec Ideal S16x1024 .f32) (x1 : Vec Ideal S1024x1024 .f32) (x2 : Vec Ideal S16x1024 .f32)
    (x3 : Vec Ideal S1x1024 .f32) (x4 x5 x6 : Vec Ideal S1x1x1024 .f32) (x7 x8 : Vec Ideal S11x1024x256 .bf16)
    (x9 : Vec Ideal S11x3x256 .f32) (x10 : Vec Ideal S11x1x256 .f32) (x11 : Vec Ideal S11x256x1024 .bf16) : Prop where
  h0 : ∀ (r : Fin 16) (k : Fin 1024), x0 (ix2 r k) = p.h ((64 * t - 1) * 16 + r.val) k.val
  h1 : ∀ (r : Fin 1024) (k : Fin 1024), x1 (ix2 r k) = p.h (1024 * t + r.val) k.val
  h2 : ∀ (r : Fin 16) (k : Fin 1024), x2 (ix2 r k) = p.h (min (64 * (t + 1)) 1087 * 16 + r.val) k.val
  h3 : ∀ k : Fin 1024, x3 (ix2 0 k) = p.g k.val
  h4 : ∀ k : Fin 1024, x4 (ix3 0 0 k) = p.m s (3072 + k.val)
  h5 : ∀ k : Fin 1024, x5 (ix3 0 0 k) = p.m s (4096 + k.val)
  h6 : ∀ k : Fin 1024, x6 (ix3 0 0 k) = p.m s (5120 + k.val)
  h7 : ∀ (j : Fin 11) (k : Fin 1024) (x : Fin 256), x7 (ix3 j k x) = p.w k.val (256 * j.val + x.val)
  h8 : ∀ (j : Fin 11) (k : Fin 1024) (x : Fin 256), x8 (ix3 j k x) = p.w k.val (2816 + (256 * j.val + x.val))
  h9 : ∀ (j : Fin 11) (k : Fin 3) (x : Fin 256), x9 (ix3 j k x) = p.c k.val (256 * j.val + x.val)
  h10 : ∀ (j : Fin 11) (x : Fin 256), x10 (ix3 j 0 x) = p.b (256 * j.val + x.val)
  h11 : ∀ (j : Fin 11) (x : Fin 256) (k : Fin 1024), x11 (ix3 j x k) = p.d (256 * j.val + x.val) k.val

section

variable {p : Args} {t s : ℕ} {x0 : Vec Ideal S16x1024 .f32} {x1 : Vec Ideal S1024x1024 .f32} {x2 : Vec Ideal S16x1024 .f32}
    {x3 : Vec Ideal S1x1024 .f32} {x4 x5 x6 : Vec Ideal S1x1x1024 .f32} {x7 x8 : Vec Ideal S11x1024x256 .bf16}
    {x9 : Vec Ideal S11x3x256 .f32} {x10 : Vec Ideal S11x1x256 .f32} {x11 : Vec Ideal S11x256x1024 .bf16}

theorem whole2 {e : EltTy} {n d : ℕ} (x : (⟨2, ![n, d]⟩ : Shape).Idx → Elt Ideal e) (inb) : View.ld x (Rect.unit ![0, 0] ![n, d] inb) = x := by
  funext y
  refine congrArg x (funext fun a => Fin.ext ?_)
  match a with
  | ⟨0, _⟩ => show 0 + 1 * _ = _; omega
  | ⟨1, _⟩ => show 0 + 1 * _ = _; omega

theorem whole3 {e : EltTy} {l n d : ℕ} (x : (⟨3, ![l, n, d]⟩ : Shape).Idx → Elt Ideal e) (inb) : View.ld x (Rect.unit ![0, 0, 0] ![l, n, d] inb) = x := by
  funext y
  refine congrArg x (funext fun a => Fin.ext ?_)
  match a with
  | ⟨0, _⟩ => show 0 + 1 * _ = _; omega
  | ⟨1, _⟩ => show 0 + 1 * _ = _; omega
  | ⟨2, _⟩ => show 0 + 1 * _ = _; omega

/-- A tile of a stack. -/
theorem tile_ld {e : EltTy} {l n d : ℕ} (x : (⟨3, ![l, n, d]⟩ : Shape).Idx → Elt Ideal e) (j : Fin l) (inb) (r : Fin n) (k : Fin d) :
    View.ld x (Rect.unit ![j.val, 0, 0] ![1, n, d] inb) (ix3 0 r k) = x (ix3 j r k) := by
  refine congrArg x (funext fun a => Fin.ext ?_)
  match a with
  | ⟨0, _⟩ => show j.val + 1 * 0 = _; rfl
  | ⟨1, _⟩ => show 0 + 1 * r.val = _; exact (Nat.zero_add _).trans (Nat.one_mul _)
  | ⟨2, _⟩ => show 0 + 1 * k.val = _; exact (Nat.zero_add _).trans (Nat.one_mul _)

theorem prev_apply (h : Reads p t s x0 x1 x2 x3 x4 x5 x6 x7 x8 x9 x10 x11) (r : Fin 16) (k : Fin 1024) :
    actPrev x0 x3 x4 x5 (ix2 r k) = act p s ((64 * t - 1) * 16 + r.val) k.val := by
  pointwise [actPrev, k0_pay5, k0_pay2, k0_pay3, k0_pay4]
  simp only [h.h0, h.h3, h.h4, h.h5]
  rfl

theorem main_apply (h : Reads p t s x0 x1 x2 x3 x4 x5 x6 x7 x8 x9 x10 x11) (r : Fin 1024) (k : Fin 1024) :
    actMain x1 x3 x4 x5 (ix2 r k) = act p s (1024 * t + r.val) k.val := by
  pointwise [actMain, k0_pay7, k0_pay6, k0_pay2, k0_pay3, k0_pay4]
  simp only [h.h1, h.h3, h.h4, h.h5]
  rfl

theorem next_apply (h : Reads p t s x0 x1 x2 x3 x4 x5 x6 x7 x8 x9 x10 x11) (r : Fin 16) (k : Fin 1024) :
    actNext x2 x3 x4 x5 (ix2 r k) = act p s (min (64 * (t + 1)) 1087 * 16 + r.val) k.val := by
  pointwise [actNext, k0_pay8, k0_pay2, k0_pay3, k0_pay4]
  simp only [h.h2, h.h3, h.h4, h.h5]
  rfl

/-- The scratch buffer, entry by entry. -/
theorem acts_apply (h : Reads p t s x0 x1 x2 x3 x4 x5 x6 x7 x8 x9 x10 x11) (q : Fin 1056) (k : Fin 1024) :
    acts x0 x1 x2 x3 x4 x5 (ix2 q k) = act p s (rowOf t q.val) k.val := by
  have e0 := prev_apply h
  have e1 := main_apply h
  have e2 := next_apply h
  unfold acts
  rw [whole2 x0, whole2 x1, whole2 x2, whole2 x3, whole3 x4, whole3 x5]
  generalize actPrev x0 x3 x4 x5 = w0 at *
  generalize actMain x1 x3 x4 x5 = w1 at *
  generalize actNext x2 x3 x4 x5 = w2 at *
  unfold rows
  refine View.canon_apply_of_pieces (Val := Elt Ideal) (S := S1056x1024) (e := .bf16) (fun y => act p s (rowOf t (y (0 : Fin 2)).val) (y (1 : Fin 2)).val) _
    (fun pc hq j => ?_) (ix2 q k) (rows_cover w2 w1 w0 (ix2 q k))
  simp only [List.mem_cons, List.mem_nil_iff, or_false] at hq
  rcases hq with rfl | rfl | rfl
  · have ej : j = ix2 (j (0 : Fin 2)) (j (1 : Fin 2)) := funext fun a => by
      match a with
      | ⟨0, _⟩ => rfl
      | ⟨1, _⟩ => rfl
    have hj : (j (0 : Fin 2)).val < 16 := (j (0 : Fin 2)).isLt
    refine ((congrArg w2 ej).trans (e2 _ _)).trans ?_
    show _ = act p s (rowOf t (1040 + 1 * (j (0 : Fin 2)).val)) (0 + 1 * (j (1 : Fin 2)).val)
    rw [Nat.one_mul, Nat.one_mul, Nat.zero_add]
    unfold rowOf
    rw [if_neg (by omega), if_neg (by omega), Nat.add_sub_cancel_left]
  · have ej : j = ix2 (j (0 : Fin 2)) (j (1 : Fin 2)) := funext fun a => by
      match a with
      | ⟨0, _⟩ => rfl
      | ⟨1, _⟩ => rfl
    have hj : (j (0 : Fin 2)).val < 1024 := (j (0 : Fin 2)).isLt
    refine ((congrArg w1 ej).trans (e1 _ _)).trans ?_
    show _ = act p s (rowOf t (16 + 1 * (j (0 : Fin 2)).val)) (0 + 1 * (j (1 : Fin 2)).val)
    rw [Nat.one_mul, Nat.one_mul, Nat.zero_add]
    unfold rowOf
    rw [if_neg (by omega), if_pos (by omega), Nat.add_sub_cancel_left]
  · have ej : j = ix2 (j (0 : Fin 2)) (j (1 : Fin 2)) := funext fun a => by
      match a with
      | ⟨0, _⟩ => rfl
      | ⟨1, _⟩ => rfl
    have hj : (j (0 : Fin 2)).val < 16 := (j (0 : Fin 2)).isLt
    refine ((congrArg w0 ej).trans (e0 _ _)).trans ?_
    show _ = act p s (rowOf t (0 + 1 * (j (0 : Fin 2)).val)) (0 + 1 * (j (1 : Fin 2)).val)
    rw [Nat.one_mul, Nat.one_mul, Nat.zero_add, Nat.zero_add]
    unfold rowOf
    rw [if_pos hj]

/-! ## One tile -/

theorem mix_apply (a : Vec Ideal S1056x1024 .bf16) (w1 : Vec Ideal S1x1024x256 .bf16) (a' : Vec Ideal S1024x1024 .bf16) (w2 : Vec Ideal S1x1024x256 .bf16)
    (wc : Vec Ideal S1x3x256 .f32) (bc : Vec Ideal S1x1x256 .f32) (wd : Vec Ideal S1x256x1024 .bf16) (mp mn : FVec Ideal S1024x1 .f32)
    (r c : Fin 1024) (gc v : Fin 256 → EReal)
    (hg : ∀ x : Fin 256, (∑ k : Fin 1024, a (ix2 (⟨16 + r.val, by omega⟩ : Fin 1056) k) * w1 (ix3 0 k x)) * wc (ix3 0 1 x)
      + (∑ k : Fin 1024, a (ix2 (⟨15 + r.val, by omega⟩ : Fin 1056) k) * w1 (ix3 0 k x)) * mp (ix2 r 0) * wc (ix3 0 0 x)
      + (∑ k : Fin 1024, a (ix2 (⟨17 + r.val, by omega⟩ : Fin 1056) k) * w1 (ix3 0 k x)) * mn (ix2 r 0) * wc (ix3 0 2 x)
      + bc (ix3 0 0 x) = gc x)
    (hv : ∀ x : Fin 256, (∑ k : Fin 1024, a' (ix2 r k) * w2 (ix3 0 k x)) = v x) :
    mix a w1 a' w2 wc bc wd mp mn (ix2 r c) = ∑ x : Fin 256, gc x * Ideal.logistic (gc x) * v x * wd (ix3 0 x c) := by
  pointwise [mix, conv, k0_pay15, k0_pay13]
  refine Finset.sum_congr rfl fun x _ => ?_
  rw [← hg x, ← hv x]

/-- A tile of hidden channels, in terms of the layer's arrays. -/
theorem tile_apply (h : Reads p t s x0 x1 x2 x3 x4 x5 x6 x7 x8 x9 x10 x11) (mp mn : FVec Ideal S1024x1 .f32) (r c : Fin 1024)
    (first last : Prop) [Decidable first] [Decidable last] (ht : t < 17) (hf : t = 0 → r.val = 0 → first) (hl : t = 16 → r.val = 1023 → last)
    (hp : mp (ix2 r 0) = if first then (0 : EReal) else 1) (hn : mn (ix2 r 0) = if last then (0 : EReal) else 1)
    (j : Fin 11) (i0 i1 i7 i8 i9 i10 i11) :
    mix (View.ld (acts x0 x1 x2 x3 x4 x5) (Rect.unit ![0, 0] ![1056, 1024] i0)) (View.ld x7 (Rect.unit ![j.val, 0, 0] ![1, 1024, 256] i7))
      (View.ld (acts x0 x1 x2 x3 x4 x5) (Rect.unit ![16, 0] ![1024, 1024] i1)) (View.ld x8 (Rect.unit ![j.val, 0, 0] ![1, 1024, 256] i8))
      (View.ld x9 (Rect.unit ![j.val, 0, 0] ![1, 3, 256] i9)) (View.ld x10 (Rect.unit ![j.val, 0, 0] ![1, 1, 256] i10))
      (View.ld x11 (Rect.unit ![j.val, 0, 0] ![1, 256, 1024] i11)) mp mn (ix2 r c)
      = ∑ x : Fin 256, hid p s (1024 * t + r.val) first last (256 * j.val + x.val) * p.d (256 * j.val + x.val) c.val := by
  have hu : ∀ (q : Fin 1056) (x : Fin 256), (∑ k : Fin 1024, acts x0 x1 x2 x3 x4 x5 (ix2 q k) * View.ld x7 (Rect.unit ![j.val, 0, 0] ![1, 1024, 256] i7) (ix3 0 k x))
      = up p s (rowOf t q.val) (256 * j.val + x.val) := by
    intro q x
    refine Finset.sum_congr rfl fun k _ => ?_
    rw [acts_apply h, show View.ld x7 (Rect.unit ![j.val, 0, 0] ![1, 1024, 256] i7) (ix3 0 k x) = x7 (ix3 j k x) from tile_ld x7 j i7 k x, h.h7]
  rw [whole2 (acts x0 x1 x2 x3 x4 x5)]
  refine (mix_apply _ _ _ _ _ _ _ mp mn r c (fun x => taps p s (1024 * t + r.val) first last (256 * j.val + x.val))
    (fun x => up p s (1024 * t + r.val) (2816 + (256 * j.val + x.val))) (fun x => ?_) (fun x => ?_)).trans ?_
  · rw [hu, hu, hu, hp, hn,
      show View.ld x9 (Rect.unit ![j.val, 0, 0] ![1, 3, 256] i9) (ix3 0 1 x) = x9 (ix3 j 1 x) from tile_ld x9 j i9 1 x,
      show View.ld x9 (Rect.unit ![j.val, 0, 0] ![1, 3, 256] i9) (ix3 0 0 x) = x9 (ix3 j 0 x) from tile_ld x9 j i9 0 x,
      show View.ld x9 (Rect.unit ![j.val, 0, 0] ![1, 3, 256] i9) (ix3 0 2 x) = x9 (ix3 j 2 x) from tile_ld x9 j i9 2 x,
      show View.ld x10 (Rect.unit ![j.val, 0, 0] ![1, 1, 256] i10) (ix3 0 0 x) = x10 (ix3 j 0 x) from tile_ld x10 j i10 0 x,
      h.h9, h.h9, h.h9, h.h10]
    have r16 : rowOf t (16 + r.val) = 1024 * t + r.val := by
      unfold rowOf
      rw [if_neg (by omega), if_pos (by omega), Nat.add_sub_cancel_left]
    have a15 : up p s (rowOf t (15 + r.val)) (256 * j.val + x.val) * (if first then (0 : EReal) else 1)
        = if first then (0 : EReal) else up p s (1024 * t + r.val - 1) (256 * j.val + x.val) := by
      by_cases hc : first
      · rw [if_pos hc, if_pos hc, mul_zero]
      · rw [if_neg hc, if_neg hc, mul_one]
        congr 1
        have : ¬ (t = 0 ∧ r.val = 0) := fun hh => hc (hf hh.1 hh.2)
        unfold rowOf
        split
        · omega
        · rw [if_pos (by omega)]; omega
    have a17 : up p s (rowOf t (17 + r.val)) (256 * j.val + x.val) * (if last then (0 : EReal) else 1)
        = if last then (0 : EReal) else up p s (1024 * t + r.val + 1) (256 * j.val + x.val) := by
      by_cases hc : last
      · rw [if_pos hc, if_pos hc, mul_zero]
      · rw [if_neg hc, if_neg hc, mul_one]
        congr 1
        have : ¬ (t = 16 ∧ r.val = 1023) := fun hh => hc (hl hh.1 hh.2)
        have := r.isLt
        unfold rowOf
        rw [if_neg (by omega)]
        split
        · omega
        · omega
    show up p s (rowOf t (16 + r.val)) _ * _ + up p s (rowOf t (15 + r.val)) _ * _ * _ + up p s (rowOf t (17 + r.val)) _ * _ * _ + _ = _
    rw [a15, a17, r16]
    rfl
  · refine Finset.sum_congr rfl fun k _ => ?_
    rw [show View.ld x8 (Rect.unit ![j.val, 0, 0] ![1, 1024, 256] i8) (ix3 0 k x) = x8 (ix3 j k x) from tile_ld x8 j i8 k x, h.h8]
    have e : View.ld (acts x0 x1 x2 x3 x4 x5) (Rect.unit ![16, 0] ![1024, 1024] i1) (ix2 r k)
        = acts x0 x1 x2 x3 x4 x5 (ix2 (⟨16 + r.val, by omega⟩ : Fin 1056) k) := by
      refine congrArg (acts x0 x1 x2 x3 x4 x5) (funext fun a => Fin.ext ?_)
      match a with
      | ⟨0, _⟩ => show 16 + 1 * r.val = 16 + r.val; omega
      | ⟨1, _⟩ => show 0 + 1 * k.val = k.val; omega
    rw [e, acts_apply h]
    have r16 : rowOf t (16 + r.val) = 1024 * t + r.val := by
      unfold rowOf
      rw [if_neg (by omega), if_pos (by omega), Nat.add_sub_cancel_left]
    show act p s (rowOf t (16 + r.val)) k.val * _ = _
    rw [r16]
  · refine Finset.sum_congr rfl fun x _ => ?_
    rw [show View.ld x11 (Rect.unit ![j.val, 0, 0] ![1, 256, 1024] i11) (ix3 0 x c) = x11 (ix3 j x c) from tile_ld x11 j i11 x c, h.h11]
    rfl

theorem step_apply (acc y : FVec Ideal S1024x1024 .f32) (r c : Fin 1024) : step acc y (ix2 r c) = acc (ix2 r c) + y (ix2 r c) := by
  pointwise [step]

/-- All the tiles: the down projection. -/
theorem acc_apply (h : Reads p t s x0 x1 x2 x3 x4 x5 x6 x7 x8 x9 x10 x11) (mp mn : FVec Ideal S1024x1 .f32) (r c : Fin 1024)
    (first last : Prop) [Decidable first] [Decidable last] (ht : t < 17) (hf : t = 0 → r.val = 0 → first) (hl : t = 16 → r.val = 1023 → last)
    (hp : mp (ix2 r 0) = if first then (0 : EReal) else 1) (hn : mn (ix2 r 0) = if last then (0 : EReal) else 1) :
    acc (acts x0 x1 x2 x3 x4 x5) x7 x8 x9 x10 x11 mp mn (ix2 r c)
      = ∑ j : Fin 2816, hid p s (1024 * t + r.val) first last j.val * p.d j.val c.val := by
  have e := tile_apply h mp mn r c first last ht hf hl hp hn
  rw [sum_tiles fun j => hid p s (1024 * t + r.val) first last j * p.d j c.val]
  unfold acc
  simp only [step_apply]
  rw [show tileAt0 (acts x0 x1 x2 x3 x4 x5) x7 x8 x9 x10 x11 mp mn (ix2 r c) = _ from e 0 _ _ _ _ _ _ _]
  rw [show tileAt1 (acts x0 x1 x2 x3 x4 x5) x7 x8 x9 x10 x11 mp mn (ix2 r c) = _ from e 1 _ _ _ _ _ _ _]
  rw [show tileAt2 (acts x0 x1 x2 x3 x4 x5) x7 x8 x9 x10 x11 mp mn (ix2 r c) = _ from e 2 _ _ _ _ _ _ _]
  rw [show tileAt3 (acts x0 x1 x2 x3 x4 x5) x7 x8 x9 x10 x11 mp mn (ix2 r c) = _ from e 3 _ _ _ _ _ _ _]
  rw [show tileAt4 (acts x0 x1 x2 x3 x4 x5) x7 x8 x9 x10 x11 mp mn (ix2 r c) = _ from e 4 _ _ _ _ _ _ _]
  rw [show tileAt5 (acts x0 x1 x2 x3 x4 x5) x7 x8 x9 x10 x11 mp mn (ix2 r c) = _ from e 5 _ _ _ _ _ _ _]
  rw [show tileAt6 (acts x0 x1 x2 x3 x4 x5) x7 x8 x9 x10 x11 mp mn (ix2 r c) = _ from e 6 _ _ _ _ _ _ _]
  rw [show tileAt7 (acts x0 x1 x2 x3 x4 x5) x7 x8 x9 x10 x11 mp mn (ix2 r c) = _ from e 7 _ _ _ _ _ _ _]
  rw [show tileAt8 (acts x0 x1 x2 x3 x4 x5) x7 x8 x9 x10 x11 mp mn (ix2 r c) = _ from e 8 _ _ _ _ _ _ _]
  rw [show tileAt9 (acts x0 x1 x2 x3 x4 x5) x7 x8 x9 x10 x11 mp mn (ix2 r c) = _ from e 9 _ _ _ _ _ _ _]
  rw [show tileAt10 (acts x0 x1 x2 x3 x4 x5) x7 x8 x9 x10 x11 mp mn (ix2 r c) = _ from e 10 _ _ _ _ _ _ _]
  rfl

/-- A finished entry: the residual sum. -/
theorem sum_apply (u : FVec Ideal S1024x1024 .f32) (g : Vec Ideal S1x1x1024 .f32) (y : FVec Ideal S1024x1024 .f32) (r c : Fin 1024) :
    k0_pay1 u g y (ix2 r c) = u (ix2 r c) + g (ix3 0 0 c) * y (ix2 r c) := by
  pointwise [k0_pay1]

/-- The length of the sequence a block's rows lie in: the latent rows come first, the context rows last. -/
def len (t : ℕ) : ℕ := if t < 16 then 4096 else 256

theorem seqLen_eq (i : grid0.Coords) : seqLen i = BitVec.ofNat 32 (2 ^ (if (i 0).val < 16 then 12 else 8)) := by
  have h : ∀ a : Fin 17, Scalar.select (Scalar.cmpi CmpIPredicate.sge (Scalar.muli (BitVec.ofNat 32 a.val) 1024#32) 16384#32) 256#32 4096#32
      = BitVec.ofNat 32 (2 ^ (if a.val < 16 then 12 else 8)) := by decide
  exact h (i 0)

/-- An entry of the block a grid point writes. -/
theorem block_apply (h : Reads p t s x0 x1 x2 x3 x4 x5 x6 x7 x8 x9 x10 x11) (i : grid0.Coords) (hi : (i 0).val = t) (r c : Fin 1024) :
    k0_pay1 (View.ld x1 (Rect.unit ![0, 0] ![1024, 1024] inb_S1024x1024_S1024x1024_0_0)) (View.ld x6 (Rect.unit ![0, 0, 0] ![1, 1, 1024] inb_S1x1x1024_S1x1x1024_0_0_0))
      (acc (acts x0 x1 x2 x3 x4 x5) x7 x8 x9 x10 x11 (maskPrev i) (maskNext i)) (ix2 r c)
      = out p s (1024 * t + r.val) ((1024 * t + r.val) % len t = 0) ((1024 * t + r.val) % len t = len t - 1) c.val := by
  have ht : t < 17 := hi ▸ (i 0).isLt
  have hp : maskPrev (F := Ideal) i (ix2 r 0) = if (1024 * t + r.val) % len t = 0 then (0 : EReal) else 1 := by
    unfold maskPrev len
    rw [seqLen_eq, hi]
    split
    · exact maskPrev_val t 12 r ht (by omega)
    · exact maskPrev_val t 8 r ht (by omega)
  have hn : maskNext (F := Ideal) i (ix2 r 0) = if (1024 * t + r.val) % len t = len t - 1 then (0 : EReal) else 1 := by
    unfold maskNext len
    rw [seqLen_eq, hi]
    split
    · exact maskNext_val t 12 r ht (by omega)
    · exact maskNext_val t 8 r ht (by omega)
  have hf : t = 0 → r.val = 0 → (1024 * t + r.val) % len t = 0 := by
    intro h0 h1
    rw [h0, h1]
    rfl
  have hl : t = 16 → r.val = 1023 → (1024 * t + r.val) % len t = len t - 1 := by
    intro h0 h1
    rw [h0, h1]
    decide
  rw [whole2 x1, whole3 x6, sum_apply]
  rw [acc_apply h _ _ r c _ _ ht hf hl hp hn, h.h1, h.h6]
  rfl

end

end Cert.MidIdeal.Parts
end
-- ==== Proof.MidValue.lean ====
/- An inner ConvFFN call's result array: block by block, each entry is the layer's output there. -/
module

public import proofs.«01_k».proof.Proof.MidRow
public import Idealize.ShloMosaic.Lib.Pipeline.ValueKit
public import Idealize.ShloMosaic.Lib.StableHlo.Run

@[expose] public section

noncomputable section

namespace Cert.MidIdeal.Parts

open Cert.MidIdeal Cert.MidIdeal.Gen Cert.MidIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg1)) (s.val / 6) (s.val % 6 * 1024 + k.val) := by
  have e : V m c main_v0 = shapeCast S30x1x1024 (m ((c : Thread nD τ).loc main_arg1)) shapeCasts_S5x6144_S30x1x1024 := by
    show StableHlo.after hostOps0 _ (Proc.devRef .tc main_v0) = _
    after_results_simp <;> rfl
  rw [e]
  exact v0_apply _ s k
theorem v4_apply (A : Vec Ideal S1024x5632 .f32) (j : Fin 11) (k : Fin 1024) (x : Fin 256) : (truncf (F := Ideal) .bf16 (transpose S11x1024x256 [1, 0, 2] (shapeCast S1024x11x256 (extractStridedSlice S1024x2816 ![0, 0] A slices_S1024x5632_S1024x2816_0_0) shapeCasts_S1024x2816_S1024x11x256) transposes_S1024x11x256_S11x1024x256_1_0_2) bitsLt_bf16_f32 : _ → EReal) (ix3 j k x) = at2 A k.val (256 * j.val + x.val) := by
  rw [at2_eq _ _ _ (by omega) (by omega)]
  pointwise []
  simp only [Nat.mul_comm 256 j.val]
theorem V_v4 (j : Fin 11) (k : Fin 1024) (x : Fin 256) : V m c main_v4 (ix3 j k x) = at2 (m ((c : Thread nD τ).loc main_arg3)) k.val (256 * j.val + x.val) := by
  have e : V m c main_v4 = truncf (F := Ideal) .bf16 (transpose S11x1024x256 [1, 0, 2] (shapeCast S1024x11x256 (extractStridedSlice S1024x2816 ![0, 0] (m ((c : Thread nD τ).loc main_arg3)) slices_S1024x5632_S1024x2816_0_0) shapeCasts_S1024x2816_S1024x11x256) transposes_S1024x11x256_S11x1024x256_1_0_2) bitsLt_bf16_f32 := by
    show StableHlo.after hostOps0 _ (Proc.devRef .tc main_v4) = _
    after_results_simp <;> rfl
  rw [e]
  exact v4_apply _ j k x
theorem v8_apply (A : Vec Ideal S1024x5632 .f32) (j : Fin 11) (k : Fin 1024) (x : Fin 256) : (truncf (F := Ideal) .bf16 (transpose S11x1024x256 [1, 0, 2] (shapeCast S1024x11x256 (extractStridedSlice S1024x2816 ![0, 2816] A slices_S1024x5632_S1024x2816_0_2816) shapeCasts_S1024x2816_S1024x11x256) transposes_S1024x11x256_S11x1024x256_1_0_2) bitsLt_bf16_f32 : _ → EReal) (ix3 j k x) = at2 A k.val (2816 + (256 * j.val + x.val)) := by
  rw [at2_eq _ _ _ (by omega) (by omega)]
  pointwise []
  simp only [Nat.mul_comm 256 j.val]
theorem V_v8 (j : Fin 11) (k : Fin 1024) (x : Fin 256) : V m c main_v8 (ix3 j k x) = at2 (m ((c : Thread nD τ).loc main_arg3)) k.val (2816 + (256 * j.val + x.val)) := by
  have e : V m c main_v8 = truncf (F := Ideal) .bf16 (transpose S11x1024x256 [1, 0, 2] (shapeCast S1024x11x256 (extractStridedSlice S1024x2816 ![0, 2816] (m ((c : Thread nD τ).loc main_arg3)) slices_S1024x5632_S1024x2816_0_2816) shapeCasts_S1024x2816_S1024x11x256) transposes_S1024x11x256_S11x1024x256_1_0_2) bitsLt_bf16_f32 := by
    show StableHlo.after hostOps0 _ (Proc.devRef .tc main_v8) = _
    after_results_simp <;> rfl
  rw [e]
  exact v8_apply _ j k x
theorem v10_apply (A : Vec Ideal S3x2816 .f32) (j : Fin 11) (k : Fin 3) (x : Fin 256) : (transpose S11x3x256 [1, 0, 2] (shapeCast S3x11x256 A shapeCasts_S3x2816_S3x11x256) transposes_S3x11x256_S11x3x256_1_0_2 : _ → EReal) (ix3 j k x) = at2 A k.val (256 * j.val + x.val) := by
  rw [at2_eq _ _ _ (by omega) (by omega)]
  pointwise []
  simp only [Nat.mul_comm 256 j.val]
theorem V_v10 (j : Fin 11) (k : Fin 3) (x : Fin 256) : V m c main_v10 (ix3 j k x) = at2 (m ((c : Thread nD τ).loc main_arg4)) k.val (256 * j.val + x.val) := by
  have e : V m c main_v10 = transpose S11x3x256 [1, 0, 2] (shapeCast S3x11x256 (m ((c : Thread nD τ).loc main_arg4)) shapeCasts_S3x2816_S3x11x256) transposes_S3x11x256_S11x3x256_1_0_2 := by
    show StableHlo.after hostOps0 _ (Proc.devRef .tc main_v10) = _
    after_results_simp <;> rfl
  rw [e]
  exact v10_apply _ j k x
theorem v11_apply (A : Vec Ideal S2816 .f32) (j : Fin 11) (x : Fin 256) : (shapeCast S11x1x256 A shapeCasts_S2816_S11x1x256 : _ → EReal) (ix3 j 0 x) = at1 A (256 * j.val + x.val) := by
  rw [at1_eq _ _ (by omega)]
  pointwise []
  simp only [Nat.mul_comm 256 j.val]
theorem V_v11 (j : Fin 11) (x : Fin 256) : V m c main_v11 (ix3 j 0 x) = at1 (m ((c : Thread nD τ).loc main_arg5)) (256 * j.val + x.val) := by
  have e : V m c main_v11 = shapeCast S11x1x256 (m ((c : Thread nD τ).loc main_arg5)) shapeCasts_S2816_S11x1x256 := by
    show StableHlo.after hostOps0 _ (Proc.devRef .tc main_v11) = _
    after_results_simp <;> rfl
  rw [e]
  exact v11_apply _ j x
theorem v13_apply (A : Vec Ideal S2816x1024 .f32) (j : Fin 11) (x : Fin 256) (k : Fin 1024) : (truncf (F := Ideal) .bf16 (shapeCast S11x256x1024 A shapeCasts_S2816x1024_S11x256x1024) bitsLt_bf16_f32 : _ → EReal) (ix3 j x k) = at2 A (256 * j.val + x.val) k.val := by
  rw [at2_eq _ _ _ (by omega) (by omega)]
  pointwise []
  simp only [Nat.mul_comm 256 j.val]
theorem V_v13 (j : Fin 11) (x : Fin 256) (k : Fin 1024) : V m c main_v13 (ix3 j x k) = at2 (m ((c : Thread nD τ).loc main_arg6)) (256 * j.val + x.val) k.val := by
  have e : V m c main_v13 = truncf (F := Ideal) .bf16 (shapeCast S11x256x1024 (m ((c : Thread nD τ).loc main_arg6)) shapeCasts_S2816x1024_S11x256x1024) bitsLt_bf16_f32 := by
    show StableHlo.after hostOps0 _ (Proc.devRef .tc main_v13) = _
    after_results_simp <;> rfl
  rw [e]
  exact v13_apply _ j x k
theorem v14_apply (A : Vec Ideal S1024 .f32) (k : Fin 1024) : (broadcastInDim S1x1024 ![1] bcast_S1024_S1x1024_1 A : _ → EReal) (ix2 0 k) = at1 A k.val := by
  rw [at1_eq _ _ (by omega)]
  pointwise []
theorem V_v14 (k : Fin 1024) : V m c main_v14 (ix2 0 k) = at1 (m ((c : Thread nD τ).loc main_arg2)) k.val := by
  have e : V m c main_v14 = broadcastInDim S1x1024 ![1] bcast_S1024_S1x1024_1 (m ((c : Thread nD τ).loc main_arg2)) := by
    show StableHlo.after hostOps0 _ (Proc.devRef .tc main_v14) = _
    after_results_simp <;> rfl
  rw [e]
  exact v14_apply _ k
/-! ## The blocks read -/

theorem coord : ∀ t : Fin cfg0.N, (grid0.coords t 0).val = t.val := (by decide +kernel : ∀ t : Fin grid0.N, _)
theorem idx0 : ∀ t : Fin cfg0.N, win0_0.index t (0 : Fin 2) = 64 * t.val - 1 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = min (64 * (t.val + 1)) 1087 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = t.val / 4 * 6 + 3 ∧ win0_4.index t (1 : Fin 3) = 0 ∧ win0_4.index t (2 : Fin 3) = 0 := (by decide +kernel : ∀ t : Fin grid0.N, _)
theorem idx5 : ∀ t : Fin cfg0.N, win0_5.index t (0 : Fin 3) = t.val / 4 * 6 + 4 ∧ win0_5.index t (1 : Fin 3) = 0 ∧ win0_5.index t (2 : Fin 3) = 0 := (by decide +kernel : ∀ t : Fin grid0.N, _)
theorem idx6 : ∀ t : Fin cfg0.N, win0_6.index t (0 : Fin 3) = t.val / 4 * 6 + 5 ∧ win0_6.index t (1 : Fin 3) = 0 ∧ win0_6.index t (2 : Fin 3) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 3) = 0 ∧ win0_8.index t (1 : Fin 3) = 0 ∧ win0_8.index t (2 : Fin 3) = 0 := (by decide +kernel : ∀ t : Fin grid0.N, _)
theorem idx9 : ∀ t : Fin cfg0.N, win0_9.index t (0 : Fin 3) = 0 ∧ win0_9.index t (1 : Fin 3) = 0 ∧ win0_9.index t (2 : Fin 3) = 0 := (by decide +kernel : ∀ t : Fin grid0.N, _)
theorem idx10 : ∀ t : Fin cfg0.N, win0_10.index t (0 : Fin 3) = 0 ∧ win0_10.index t (1 : Fin 3) = 0 ∧ win0_10.index t (2 : Fin 3) = 0 := (by decide +kernel : ∀ t : Fin grid0.N, _)
theorem idx11 : ∀ t : Fin cfg0.N, win0_11.index t (0 : Fin 3) = 0 ∧ win0_11.index t (1 : Fin 3) = 0 ∧ win0_11.index t (2 : Fin 3) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)

/-- The layer's arrays as launched. -/
def par : Args := ofArrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem read0 (t : Fin cfg0.N) (r : Fin 16) (k : Fin 1024) : (iblk m c 0 t : S16x1024.Idx → EReal) (ix2 r k) = (par m c).h ((64 * t.val - 1) * 16 + r.val) k.val := by
  have ht : t.val < 17 := t.isLt
  obtain ⟨e0, e1⟩ := idx0 t
  show _ = at2 (m ((c : Thread nD τ).loc main_arg0)) ((64 * t.val - 1) * 16 + r.val) k.val
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 16 + 1 * r.val = ((64 * t.val - 1) * 16 + r.val); first | (rw [e0]; done) | (rw [e0]; omega)
  | ⟨1, _⟩ => show win0_0.index t (1 : Fin 2) * 1024 + 1 * k.val = k.val; first | (rw [e1]; done) | (rw [e1]; omega)

theorem read1 (t : Fin cfg0.N) (r : Fin 1024) (k : Fin 1024) : (iblk m c 1 t : S1024x1024.Idx → EReal) (ix2 r k) = (par m c).h (1024 * t.val + r.val) k.val := by
  have ht : t.val < 17 := t.isLt
  obtain ⟨e0, e1⟩ := idx1 t
  show _ = at2 (m ((c : Thread nD τ).loc main_arg0)) (1024 * t.val + r.val) k.val
  rw [at2_eq _ _ _ (by omega) (by omega)]
  show V m c main_arg0 (((cfg0.win 1).blk t).view.emb (ix2 r k)) = _
  rw [V_main_arg0]
  refine congrArg _ (funext fun a => Fin.ext ?_)
  match a with
  | ⟨0, _⟩ => show win0_1.index t (0 : Fin 2) * 1024 + 1 * r.val = (1024 * t.val + r.val); first | (rw [e0]; done) | (rw [e0]; omega)
  | ⟨1, _⟩ => show win0_1.index t (1 : Fin 2) * 1024 + 1 * k.val = k.val; first | (rw [e1]; done) | (rw [e1]; omega)

theorem read2 (t : Fin cfg0.N) (r : Fin 16) (k : Fin 1024) : (iblk m c 2 t : S16x1024.Idx → EReal) (ix2 r k) = (par m c).h (min (64 * (t.val + 1)) 1087 * 16 + r.val) k.val := by
  have ht : t.val < 17 := t.isLt
  obtain ⟨e0, e1⟩ := idx2 t
  show _ = at2 (m ((c : Thread nD τ).loc main_arg0)) (min (64 * (t.val + 1)) 1087 * 16 + r.val) k.val
  rw [at2_eq _ _ _ (by omega) (by omega)]
  show V m c main_arg0 (((cfg0.win 2).blk t).view.emb (ix2 r k)) = _
  rw [V_main_arg0]
  refine congrArg _ (funext fun a => Fin.ext ?_)
  match a with
  | ⟨0, _⟩ => show win0_2.index t (0 : Fin 2) * 16 + 1 * r.val = (min (64 * (t.val + 1)) 1087 * 16 + r.val); first | (rw [e0]; done) | (rw [e0]; omega)
  | ⟨1, _⟩ => show win0_2.index t (1 : Fin 2) * 1024 + 1 * k.val = k.val; first | (rw [e1]; done) | (rw [e1]; omega)

theorem read3 (t : Fin cfg0.N) (k : Fin 1024) : (iblk m c 3 t : S1x1024.Idx → EReal) (ix2 0 k) = (par m c).g k.val := by
  have ht : t.val < 17 := t.isLt
  obtain ⟨e0, e1⟩ := idx3 t
  have e : ((cfg0.win 3).blk t).view.emb (ix2 0 k) = ix2 0 k := funext fun a => Fin.ext (by
    match a with
    | ⟨0, _⟩ => show win0_3.index t (0 : Fin 2) * 1 + 1 * 0 = 0; first | (rw [e0]; done) | (rw [e0]; omega)
    | ⟨1, _⟩ => show win0_3.index t (1 : Fin 2) * 1024 + 1 * k.val = k.val; first | (rw [e1]; done) | (rw [e1]; omega))
  show V m c main_v14 (((cfg0.win 3).blk t).view.emb (ix2 0 k)) = _
  rw [e]
  exact V_v14 m c k

theorem read4 (t : Fin cfg0.N) (k : Fin 1024) : (iblk m c 4 t : S1x1x1024.Idx → EReal) (ix3 0 0 k) = (par m c).m (t.val / 4) (3072 + k.val) := by
  have ht : t.val < 17 := t.isLt
  obtain ⟨e0, e1, e2⟩ := idx4 t
  have e : ((cfg0.win 4).blk t).view.emb (ix3 0 0 k) = ix3 (⟨t.val / 4 * 6 + 3, by omega⟩ : Fin 30) 0 k := funext fun a => Fin.ext (by
    match a with
    | ⟨0, _⟩ => show win0_4.index t (0 : Fin 3) * 1 + 1 * 0 = t.val / 4 * 6 + 3; first | (rw [e0]; done) | (rw [e0]; omega)
    | ⟨1, _⟩ => show win0_4.index t (1 : Fin 3) * 1 + 1 * 0 = 0; first | (rw [e1]; done) | (rw [e1]; omega)
    | ⟨2, _⟩ => show win0_4.index t (2 : Fin 3) * 1024 + 1 * k.val = k.val; first | (rw [e2]; done) | (rw [e2]; omega))
  show V m c main_v0 (((cfg0.win 4).blk t).view.emb (ix3 0 0 k)) = _
  rw [e]
  refine (V_v0 m c ⟨t.val / 4 * 6 + 3, by omega⟩ k).trans ?_
  show at2 _ _ _ = at2 _ _ _
  congr 1 <;> (dsimp only; omega)

theorem read5 (t : Fin cfg0.N) (k : Fin 1024) : (iblk m c 5 t : S1x1x1024.Idx → EReal) (ix3 0 0 k) = (par m c).m (t.val / 4) (4096 + k.val) := by
  have ht : t.val < 17 := t.isLt
  obtain ⟨e0, e1, e2⟩ := idx5 t
  have e : ((cfg0.win 5).blk t).view.emb (ix3 0 0 k) = ix3 (⟨t.val / 4 * 6 + 4, by omega⟩ : Fin 30) 0 k := funext fun a => Fin.ext (by
    match a with
    | ⟨0, _⟩ => show win0_5.index t (0 : Fin 3) * 1 + 1 * 0 = t.val / 4 * 6 + 4; first | (rw [e0]; done) | (rw [e0]; omega)
    | ⟨1, _⟩ => show win0_5.index t (1 : Fin 3) * 1 + 1 * 0 = 0; first | (rw [e1]; done) | (rw [e1]; omega)
    | ⟨2, _⟩ => show win0_5.index t (2 : Fin 3) * 1024 + 1 * k.val = k.val; first | (rw [e2]; done) | (rw [e2]; omega))
  show V m c main_v0 (((cfg0.win 5).blk t).view.emb (ix3 0 0 k)) = _
  rw [e]
  refine (V_v0 m c ⟨t.val / 4 * 6 + 4, by omega⟩ k).trans ?_
  show at2 _ _ _ = at2 _ _ _
  congr 1 <;> (dsimp only; omega)

theorem read6 (t : Fin cfg0.N) (k : Fin 1024) : (iblk m c 6 t : S1x1x1024.Idx → EReal) (ix3 0 0 k) = (par m c).m (t.val / 4) (5120 + k.val) := by
  have ht : t.val < 17 := t.isLt
  obtain ⟨e0, e1, e2⟩ := idx6 t
  have e : ((cfg0.win 6).blk t).view.emb (ix3 0 0 k) = ix3 (⟨t.val / 4 * 6 + 5, by omega⟩ : Fin 30) 0 k := funext fun a => Fin.ext (by
    match a with
    | ⟨0, _⟩ => show win0_6.index t (0 : Fin 3) * 1 + 1 * 0 = t.val / 4 * 6 + 5; first | (rw [e0]; done) | (rw [e0]; omega)
    | ⟨1, _⟩ => show win0_6.index t (1 : Fin 3) * 1 + 1 * 0 = 0; first | (rw [e1]; done) | (rw [e1]; omega)
    | ⟨2, _⟩ => show win0_6.index t (2 : Fin 3) * 1024 + 1 * k.val = k.val; first | (rw [e2]; done) | (rw [e2]; omega))
  show V m c main_v0 (((cfg0.win 6).blk t).view.emb (ix3 0 0 k)) = _
  rw [e]
  refine (V_v0 m c ⟨t.val / 4 * 6 + 5, by omega⟩ k).trans ?_
  show at2 _ _ _ = at2 _ _ _
  congr 1 <;> (dsimp only; omega)

theorem read7 (t : Fin cfg0.N) (j : Fin 11) (k : Fin 1024) (x : Fin 256) : (iblk m c 7 t : S11x1024x256.Idx → EReal) (ix3 j k x) = (par m c).w k.val (256 * j.val + x.val) := by
  have ht : t.val < 17 := t.isLt
  obtain ⟨e0, e1, e2⟩ := idx7 t
  have e : ((cfg0.win 7).blk t).view.emb (ix3 j k x) = ix3 j k x := funext fun a => Fin.ext (by
    match a with
    | ⟨0, _⟩ => show win0_7.index t (0 : Fin 3) * 11 + 1 * j.val = j.val; first | (rw [e0]; done) | (rw [e0]; omega)
    | ⟨1, _⟩ => show win0_7.index t (1 : Fin 3) * 1024 + 1 * k.val = k.val; first | (rw [e1]; done) | (rw [e1]; omega)
    | ⟨2, _⟩ => show win0_7.index t (2 : Fin 3) * 256 + 1 * x.val = x.val; first | (rw [e2]; done) | (rw [e2]; omega))
  show V m c main_v4 (((cfg0.win 7).blk t).view.emb (ix3 j k x)) = _
  rw [e]
  exact V_v4 m c j k x

theorem read8 (t : Fin cfg0.N) (j : Fin 11) (k : Fin 1024) (x : Fin 256) : (iblk m c 8 t : S11x1024x256.Idx → EReal) (ix3 j k x) = (par m c).w k.val (2816 + (256 * j.val + x.val)) := by
  have ht : t.val < 17 := t.isLt
  obtain ⟨e0, e1, e2⟩ := idx8 t
  have e : ((cfg0.win 8).blk t).view.emb (ix3 j k x) = ix3 j k x := funext fun a => Fin.ext (by
    match a with
    | ⟨0, _⟩ => show win0_8.index t (0 : Fin 3) * 11 + 1 * j.val = j.val; first | (rw [e0]; done) | (rw [e0]; omega)
    | ⟨1, _⟩ => show win0_8.index t (1 : Fin 3) * 1024 + 1 * k.val = k.val; first | (rw [e1]; done) | (rw [e1]; omega)
    | ⟨2, _⟩ => show win0_8.index t (2 : Fin 3) * 256 + 1 * x.val = x.val; first | (rw [e2]; done) | (rw [e2]; omega))
  show V m c main_v8 (((cfg0.win 8).blk t).view.emb (ix3 j k x)) = _
  rw [e]
  exact V_v8 m c j k x

theorem read9 (t : Fin cfg0.N) (j : Fin 11) (k : Fin 3) (x : Fin 256) : (iblk m c 9 t : S11x3x256.Idx → EReal) (ix3 j k x) = (par m c).c k.val (256 * j.val + x.val) := by
  have ht : t.val < 17 := t.isLt
  obtain ⟨e0, e1, e2⟩ := idx9 t
  have e : ((cfg0.win 9).blk t).view.emb (ix3 j k x) = ix3 j k x := funext fun a => Fin.ext (by
    match a with
    | ⟨0, _⟩ => show win0_9.index t (0 : Fin 3) * 11 + 1 * j.val = j.val; first | (rw [e0]; done) | (rw [e0]; omega)
    | ⟨1, _⟩ => show win0_9.index t (1 : Fin 3) * 3 + 1 * k.val = k.val; first | (rw [e1]; done) | (rw [e1]; omega)
    | ⟨2, _⟩ => show win0_9.index t (2 : Fin 3) * 256 + 1 * x.val = x.val; first | (rw [e2]; done) | (rw [e2]; omega))
  show V m c main_v10 (((cfg0.win 9).blk t).view.emb (ix3 j k x)) = _
  rw [e]
  exact V_v10 m c j k x

theorem read10 (t : Fin cfg0.N) (j : Fin 11) (x : Fin 256) : (iblk m c 10 t : S11x1x256.Idx → EReal) (ix3 j 0 x) = (par m c).b (256 * j.val + x.val) := by
  have ht : t.val < 17 := t.isLt
  obtain ⟨e0, e1, e2⟩ := idx10 t
  have e : ((cfg0.win 10).blk t).view.emb (ix3 j 0 x) = ix3 j 0 x := funext fun a => Fin.ext (by
    match a with
    | ⟨0, _⟩ => show win0_10.index t (0 : Fin 3) * 11 + 1 * j.val = j.val; first | (rw [e0]; done) | (rw [e0]; omega)
    | ⟨1, _⟩ => show win0_10.index t (1 : Fin 3) * 1 + 1 * 0 = 0; first | (rw [e1]; done) | (rw [e1]; omega)
    | ⟨2, _⟩ => show win0_10.index t (2 : Fin 3) * 256 + 1 * x.val = x.val; first | (rw [e2]; done) | (rw [e2]; omega))
  show V m c main_v11 (((cfg0.win 10).blk t).view.emb (ix3 j 0 x)) = _
  rw [e]
  exact V_v11 m c j x

theorem read11 (t : Fin cfg0.N) (j : Fin 11) (x : Fin 256) (k : Fin 1024) : (iblk m c 11 t : S11x256x1024.Idx → EReal) (ix3 j x k) = (par m c).d (256 * j.val + x.val) k.val := by
  have ht : t.val < 17 := t.isLt
  obtain ⟨e0, e1, e2⟩ := idx11 t
  have e : ((cfg0.win 11).blk t).view.emb (ix3 j x k) = ix3 j x k := funext fun a => Fin.ext (by
    match a with
    | ⟨0, _⟩ => show win0_11.index t (0 : Fin 3) * 11 + 1 * j.val = j.val; first | (rw [e0]; done) | (rw [e0]; omega)
    | ⟨1, _⟩ => show win0_11.index t (1 : Fin 3) * 256 + 1 * x.val = x.val; first | (rw [e1]; done) | (rw [e1]; omega)
    | ⟨2, _⟩ => show win0_11.index t (2 : Fin 3) * 1024 + 1 * k.val = k.val; first | (rw [e2]; done) | (rw [e2]; omega))
  show V m c main_v13 (((cfg0.win 11).blk t).view.emb (ix3 j x k)) = _
  rw [e]
  exact V_v13 m c j x k

theorem reads (t : Fin cfg0.N) : Reads (par m c) t.val (t.val / 4) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) :=
  ⟨read0 m c t, read1 m c t, read2 m c t, read3 m c t, read4 m c t, read5 m c t, read6 m c t, read7 m c t, read8 m c t, read9 m c t, read10 m c t, read11 m c t⟩

/-! ## The whole array -/

/-- The array the call leaves. -/
def G : S17408x1024.Idx → EReal := fun i =>
  out (par m c) ((i 0).val / 4096) (i 0).val ((i 0).val % len ((i 0).val / 1024) = 0) ((i 0).val % len ((i 0).val / 1024) = len ((i 0).val / 1024) - 1) (i 1).val

theorem emb13_0 (t : Fin cfg0.N) (j : S1024x1024.Idx) : (((cfg0.win 13).blk t).view.emb j (0 : Fin 2)).val = 1024 * t.val + (j 0).val := by
  show win0_13.index t (0 : Fin 2) * 1024 + 1 * (j 0).val = _
  rw [(idx13 t).1]; omega

theorem emb13_1 (t : Fin cfg0.N) (j : S1024x1024.Idx) : (((cfg0.win 13).blk t).view.emb j (1 : Fin 2)).val = (j 1).val := by
  show win0_13.index t (1 : Fin 2) * 1024 + 1 * (j 1).val = _
  rw [(idx13 t).2]; omega

/-- What a point writes back is its block of `G`. -/
theorem flushed13_eq (t : Fin cfg0.N) : (dats m 0 c).flushed 13 t = ((cfg0.win 13).blk t).view.read (Elt Ideal) (G m c) := by
  rw [flushed13_A, out_eq]
  funext j
  have h0 : (j 0).val < 1024 := (j 0).isLt
  have ej : j = ix2 (j 0) (j 1) := funext fun a => by
    match a with
    | ⟨0, _⟩ => rfl
    | ⟨1, _⟩ => rfl
  have key := block_apply (reads m c t) (grid0.coords t) (coord t) (j 0) (j 1)
  refine Eq.trans (congrArg _ ej) (key.trans ?_)
  show _ = G m c (((cfg0.win 13).blk t).view.emb j)
  unfold G
  rw [emb13_0, emb13_1, show (1024 * t.val + (j 0).val) / 4096 = t.val / 4 by omega, show (1024 * t.val + (j 0).val) / 1024 = t.val by omega]

/-- Every row is written by the point of its block. -/
theorem covered13 (i : S17408x1024.Idx) : ∃ t : Fin cfg0.N, (cfg0.win 13).flush t = true ∧ i ∈ ((cfg0.win 13).blk t).view.set := by
  have h0 : (i 0).val < 17408 := (i 0).isLt
  have h1 : (i 1).val < 1024 := (i 1).isLt
  have hN : cfg0.N = 17 := by decide
  obtain ⟨t, ht⟩ : ∃ t : Fin cfg0.N, t.val = (i 0).val / 1024 := ⟨⟨(i 0).val / 1024, by rw [hN]; omega⟩, rfl⟩
  refine ⟨t, flush0_13 t, ?_⟩
  have e := ((cfg0.win 13).blk t).view.emb_mem_set (ix2 ⟨(i 0).val % 1024, by omega⟩ ⟨(i 1).val, h1⟩ : S1024x1024.Idx)
  have hi : ((cfg0.win 13).blk t).view.emb (ix2 ⟨(i 0).val % 1024, by omega⟩ ⟨(i 1).val, h1⟩ : S1024x1024.Idx) = i := by
    funext a
    match a with
    | ⟨0, _⟩ => exact Fin.ext ((emb13_0 t _).trans (by rw [ht]; show 1024 * ((i 0).val / 1024) + (i 0).val % 1024 = (i 0).val; omega))
    | ⟨1, _⟩ => exact Fin.ext (emb13_1 t _)
  rwa [hi] at e

/-- The result array. -/
theorem result : (dats m 0 c).arrAt 13 cfg0.N = G m c := by
  funext i
  obtain ⟨t, hf, hm⟩ := covered13 i
  exact (dats m 0 c).arrAt_apply_of_mem 13 (G m c) (fun t _ => flushed13_eq m c t) cfg0.N t i t.isLt hf hm

end Cert.MidIdeal.Parts

end
-- ==== Proof.MidRefLat.lean ====
/- The reference of an inner ConvFFN call, entry by entry: its latent rows. -/
module

public import proofs.«01_k».proof.Proof.FfnSpec
public import proofs.«01_k».proof.Proof.Gen.MidRefIdeal.Read

@[expose] public section

noncomputable section

namespace Cert.MidRefIdeal.Lat

open Cert.MidRefIdeal Cert.MidRefIdeal.Gen Cert.MidRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x5632.Idx → EReal)
  (x4 : S3x2816.Idx → EReal) (x5 : S2816.Idx → EReal) (x6 : S2816x1024.Idx → EReal)

theorem rows_apply (b : Fin 4) (n : Fin 4096) (k : Fin 1024) : val_main_v1 (F := Ideal) x0 (ix3 b n k) = at2 x0 (4096 * b.val + n.val) k.val := by
  rw [at2_eq _ _ _ (by omega) (by omega)]
  pointwise [val_main_v1, val_main_v0]
  exact congrArg x0 (congrArg₂ ix2 (Fin.ext (by dsimp only; omega)) rfl)

theorem shift_apply (b : Fin 4) (k : Fin 1024) : val_main_v7 (F := Ideal) x1 (ix3 b 0 k) = at2 x1 b.val (3072 + k.val) := by
  rw [at2_eq _ _ _ (by omega) (by omega)]
  pointwise [val_main_v7, val_main_v3, val_main_v2]

theorem scale_apply (b : Fin 4) (k : Fin 1024) : val_main_v8 (F := Ideal) x1 (ix3 b 0 k) = at2 x1 b.val (4096 + k.val) := by
  rw [at2_eq _ _ _ (by omega) (by omega)]
  pointwise [val_main_v8, val_main_v3, val_main_v2]

theorem gate_apply (b : Fin 4) (k : Fin 1024) : val_main_v9 (F := Ideal) x1 (ix3 b 0 k) = at2 x1 b.val (5120 + k.val) := by
  rw [at2_eq _ _ _ (by omega) (by omega)]
  pointwise [val_main_v9, val_main_v3, val_main_v2]

theorem act_apply (b : Fin 4) (n : Fin 4096) (k : Fin 1024) :
    val_main_v28 (F := Ideal) x0 x1 x2 (ix3 b n k) = act (ofArrays x0 x1 x2 x3 x4 x5 x6) b.val (4096 * b.val + n.val) k.val := by
  have e0 := rows_apply x0
  have e1 := shift_apply x1
  have e2 := scale_apply x1
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2]
  simp only [e0, e1, e2]
  rw [mul_assoc (_ * _) (x2 (ix1 k)), show x2 (ix1 k) = at1 x2 k.val from (at1_eq _ _ k.isLt).symm]
  rfl

theorem up_apply (b : Fin 4) (n : Fin 4096) (j : Fin 5632) :
    val_main_v29 (F := Ideal) x0 x1 x2 x3 (ix3 b n j) = up (ofArrays x0 x1 x2 x3 x4 x5 x6) b.val (4096 * b.val + n.val) j.val := by
  have e := act_apply x0 x1 x2 x3 x4 x5 x6
  pointwise [val_main_v29]
  refine Finset.sum_congr rfl fun k _ => ?_
  rw [e, show x3 (ix2 k j) = at2 x3 k.val j.val from (at2_eq _ _ _ k.isLt j.isLt).symm]
  rfl

theorem pad_apply (b : Fin 4) (n : Fin 4098) (j : Fin 2816) :
    val_main_v32 (F := Ideal) x0 x1 x2 x3 (ix3 b n j)
      = if 1 ≤ n.val ∧ n.val - 1 < 4096 then up (ofArrays x0 x1 x2 x3 x4 x5 x6) b.val (4096 * b.val + (n.val - 1)) j.val else 0 := by
  have e := up_apply x0 x1 x2 x3 x4 x5 x6
  pointwise [val_main_v32, val_main_v30, val_main_call0_v0, val_main_c]
  split
  · rw [e]
  · show (((0#32 : BitVec 32).toInt : ℝ) : EReal) = 0
    rw [show (0#32 : BitVec 32).toInt = 0 by decide]
    norm_num

theorem taps_apply (b : Fin 4) (n : Fin 4096) (j : Fin 2816) :
    val_main_v55 (F := Ideal) x0 x1 x2 x3 x4 x5 (ix3 b n j)
      = taps (ofArrays x0 x1 x2 x3 x4 x5 x6) b.val (4096 * b.val + n.val) ((4096 * b.val + n.val) % 4096 = 0) ((4096 * b.val + n.val) % 4096 = 4095) j.val := by
  have e := pad_apply x0 x1 x2 x3 x4 x5 x6 b
  have ec : ∀ (k : ℕ) (hk : k < 3) (hj), x4 (ix2 ⟨k, hk⟩ ⟨j.val, hj⟩) = at2 x4 k j.val := fun k hk _ => (at2_eq _ _ _ hk j.isLt).symm
  have eb : x5 (ix1 j) = at1 x5 j.val := (at1_eq _ _ j.isLt).symm
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33]
  have c0 := ec 0 (by omega) j.isLt
  have c1 := ec 1 (by omega) j.isLt
  have c2 := ec 2 (by omega) j.isLt
  have hn := n.isLt
  rw [e, e, e]
  dsimp only
  rw [show x4 (ix2 0 j) = at2 x4 0 j.val from c0, show x4 (ix2 1 j) = at2 x4 1 j.val from c1, show x4 (ix2 2 j) = at2 x4 2 j.val from c2, eb]
  rw [if_pos (show 1 ≤ 1 + n.val ∧ 1 + n.val - 1 < 4096 by omega), show 4096 * b.val + (1 + n.val - 1) = 4096 * b.val + n.val by omega]
  have p : (if 1 ≤ n.val ∧ n.val - 1 < 4096 then up (ofArrays x0 x1 x2 x3 x4 x5 x6) b.val (4096 * b.val + (n.val - 1)) j.val else 0)
      = if (4096 * b.val + n.val) % 4096 = 0 then 0 else up (ofArrays x0 x1 x2 x3 x4 x5 x6) b.val (4096 * b.val + n.val - 1) j.val := by
    by_cases h : n.val = 0
    · rw [if_neg (by omega), if_pos (by omega)]
    · rw [if_pos (by omega), if_neg (by omega), show 4096 * b.val + (n.val - 1) = 4096 * b.val + n.val - 1 by omega]
  have q : (if 1 ≤ 2 + n.val ∧ 2 + n.val - 1 < 4096 then up (ofArrays x0 x1 x2 x3 x4 x5 x6) b.val (4096 * b.val + (2 + n.val - 1)) j.val else 0)
      = if (4096 * b.val + n.val) % 4096 = 4095 then 0 else up (ofArrays x0 x1 x2 x3 x4 x5 x6) b.val (4096 * b.val + n.val + 1) j.val := by
    by_cases h : n.val = 4095
    · rw [if_neg (by omega), if_pos (by omega)]
    · rw [if_pos (by omega), if_neg (by omega), show 4096 * b.val + (2 + n.val - 1) = 4096 * b.val + n.val + 1 by omega]
  rw [p, q, add_comm (_ * at2 x4 0 j.val)]
  rfl

theorem hid_apply (b : Fin 4) (n : Fin 4096) (j : Fin 2816) :
    val_main_v57 (F := Ideal) x0 x1 x2 x3 x4 x5 (ix3 b n j)
      = hid (ofArrays x0 x1 x2 x3 x4 x5 x6) b.val (4096 * b.val + n.val) ((4096 * b.val + n.val) % 4096 = 0) ((4096 * b.val + n.val) % 4096 = 4095) j.val := by
  have e := taps_apply x0 x1 x2 x3 x4 x5 x6 b n j
  have eu := up_apply x0 x1 x2 x3 x4 x5 x6 b n
  pointwise [val_main_v57, val_main_v56, val_main_v31, val_main_call1_v0, val_main_call1_v1, val_main_call1_v2, val_main_call1_v3, val_main_call1_v4, val_main_call1_v5, val_main_call1_cst, val_main_call1_cst_0]
  rw [e, eu]
  rfl

theorem out_apply (b : Fin 4) (n : Fin 4096) (k : Fin 1024) :
    val_main_v61 (F := Ideal) x0 x1 x2 x3 x4 x5 x6 (ix3 b n k)
      = out (ofArrays x0 x1 x2 x3 x4 x5 x6) b.val (4096 * b.val + n.val) ((4096 * b.val + n.val) % 4096 = 0) ((4096 * b.val + n.val) % 4096 = 4095) k.val := by
  have eh := hid_apply x0 x1 x2 x3 x4 x5 x6 b n
  have e0 := rows_apply x0 b n k
  have eg := gate_apply x1 b k
  pointwise [val_main_v61, val_main_v60, val_main_v59, val_main_v58]
  rw [e0, eg]
  refine congrArg (fun z => at2 x0 (4096 * b.val + n.val) k.val + at2 x1 b.val (5120 + k.val) * z) (Finset.sum_congr rfl fun j _ => ?_)
  rw [eh, show x6 (ix2 j k) = at2 x6 j.val k.val from (at2_eq _ _ _ j.isLt k.isLt).symm]
  rfl

end Cert.MidRefIdeal.Lat

end
-- ==== Proof.MidRefCtx.lean ====
/- The reference of an inner ConvFFN call, entry by entry: its context rows. -/
module

public import proofs.«01_k».proof.Proof.FfnSpec
public import proofs.«01_k».proof.Proof.Gen.MidRefIdeal.Read

@[expose] public section

noncomputable section

namespace Cert.MidRefIdeal.Ctx

open Cert.MidRefIdeal Cert.MidRefIdeal.Gen Cert.MidRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x5632.Idx → EReal)
  (x4 : S3x2816.Idx → EReal) (x5 : S2816.Idx → EReal) (x6 : S2816x1024.Idx → EReal)

theorem rows_apply (b : Fin 4) (n : Fin 256) (k : Fin 1024) : val_main_v63 (F := Ideal) x0 (ix3 b n k) = at2 x0 (16384 + 256 * b.val + n.val) k.val := by
  rw [at2_eq _ _ _ (by omega) (by omega)]
  pointwise [val_main_v63, val_main_v62]
  exact congrArg x0 (congrArg₂ ix2 (Fin.ext (by dsimp only; omega)) rfl)

theorem shift_apply (k : Fin 1024) : val_main_v69 (F := Ideal) x1 (ix3 0 0 k) = at2 x1 4 (3072 + k.val) := by
  rw [at2_eq _ _ _ (by omega) (by omega)]
  pointwise [val_main_v69, val_main_v65, val_main_v64]

theorem scale_apply (k : Fin 1024) : val_main_v70 (F := Ideal) x1 (ix3 0 0 k) = at2 x1 4 (4096 + k.val) := by
  rw [at2_eq _ _ _ (by omega) (by omega)]
  pointwise [val_main_v70, val_main_v65, val_main_v64]

theorem gate_apply (k : Fin 1024) : val_main_v71 (F := Ideal) x1 (ix3 0 0 k) = at2 x1 4 (5120 + k.val) := by
  rw [at2_eq _ _ _ (by omega) (by omega)]
  pointwise [val_main_v71, val_main_v65, val_main_v64]

theorem act_apply (b : Fin 4) (n : Fin 256) (k : Fin 1024) :
    val_main_v90 (F := Ideal) x0 x1 x2 (ix3 b n k) = act (ofArrays x0 x1 x2 x3 x4 x5 x6) 4 (16384 + 256 * b.val + n.val) k.val := by
  have e0 := rows_apply x0
  have e1 := shift_apply x1
  have e2 := scale_apply x1
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_cst_3, val_main_cst_4, val_main_cst_5, val_main_cst_6]
  simp only [e0, e1, e2]
  rw [mul_assoc (_ * _) (x2 (ix1 k)), show x2 (ix1 k) = at1 x2 k.val from (at1_eq _ _ k.isLt).symm]
  rfl

theorem up_apply (b : Fin 4) (n : Fin 256) (j : Fin 5632) :
    val_main_v91 (F := Ideal) x0 x1 x2 x3 (ix3 b n j) = up (ofArrays x0 x1 x2 x3 x4 x5 x6) 4 (16384 + 256 * b.val + n.val) j.val := by
  have e := act_apply x0 x1 x2 x3 x4 x5 x6
  pointwise [val_main_v91]
  refine Finset.sum_congr rfl fun k _ => ?_
  rw [e, show x3 (ix2 k j) = at2 x3 k.val j.val from (at2_eq _ _ _ k.isLt j.isLt).symm]
  rfl

theorem pad_apply (b : Fin 4) (n : Fin 258) (j : Fin 2816) :
    val_main_v94 (F := Ideal) x0 x1 x2 x3 (ix3 b n j)
      = if 1 ≤ n.val ∧ n.val - 1 < 256 then up (ofArrays x0 x1 x2 x3 x4 x5 x6) 4 (16384 + 256 * b.val + (n.val - 1)) j.val else 0 := by
  have e := up_apply x0 x1 x2 x3 x4 x5 x6
  pointwise [val_main_v94, val_main_v92, val_main_call2_v0, val_main_c_7]
  split
  · rw [e]
  · show (((0#32 : BitVec 32).toInt : ℝ) : EReal) = 0
    rw [show (0#32 : BitVec 32).toInt = 0 by decide]
    norm_num

theorem taps_apply (b : Fin 4) (n : Fin 256) (j : Fin 2816) :
    val_main_v117 (F := Ideal) x0 x1 x2 x3 x4 x5 (ix3 b n j)
      = taps (ofArrays x0 x1 x2 x3 x4 x5 x6) 4 (16384 + 256 * b.val + n.val) ((16384 + 256 * b.val + n.val) % 256 = 0) ((16384 + 256 * b.val + n.val) % 256 = 255) j.val := by
  have e := pad_apply x0 x1 x2 x3 x4 x5 x6 b
  have ec : ∀ (k : ℕ) (hk : k < 3) (hj), x4 (ix2 ⟨k, hk⟩ ⟨j.val, hj⟩) = at2 x4 k j.val := fun k hk _ => (at2_eq _ _ _ hk j.isLt).symm
  have eb : x5 (ix1 j) = at1 x5 j.val := (at1_eq _ _ j.isLt).symm
  pointwise [val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95]
  have c0 := ec 0 (by omega) j.isLt
  have c1 := ec 1 (by omega) j.isLt
  have c2 := ec 2 (by omega) j.isLt
  have hn := n.isLt
  rw [e, e, e]
  dsimp only
  rw [show x4 (ix2 0 j) = at2 x4 0 j.val from c0, show x4 (ix2 1 j) = at2 x4 1 j.val from c1, show x4 (ix2 2 j) = at2 x4 2 j.val from c2, eb]
  rw [if_pos (show 1 ≤ 1 + n.val ∧ 1 + n.val - 1 < 256 by omega), show 16384 + 256 * b.val + (1 + n.val - 1) = 16384 + 256 * b.val + n.val by omega]
  have p : (if 1 ≤ n.val ∧ n.val - 1 < 256 then up (ofArrays x0 x1 x2 x3 x4 x5 x6) 4 (16384 + 256 * b.val + (n.val - 1)) j.val else 0)
      = if (16384 + 256 * b.val + n.val) % 256 = 0 then 0 else up (ofArrays x0 x1 x2 x3 x4 x5 x6) 4 (16384 + 256 * b.val + n.val - 1) j.val := by
    by_cases h : n.val = 0
    · rw [if_neg (by omega), if_pos (by omega)]
    · rw [if_pos (by omega), if_neg (by omega), show 16384 + 256 * b.val + (n.val - 1) = 16384 + 256 * b.val + n.val - 1 by omega]
  have q : (if 1 ≤ 2 + n.val ∧ 2 + n.val - 1 < 256 then up (ofArrays x0 x1 x2 x3 x4 x5 x6) 4 (16384 + 256 * b.val + (2 + n.val - 1)) j.val else 0)
      = if (16384 + 256 * b.val + n.val) % 256 = 255 then 0 else up (ofArrays x0 x1 x2 x3 x4 x5 x6) 4 (16384 + 256 * b.val + n.val + 1) j.val := by
    by_cases h : n.val = 255
    · rw [if_neg (by omega), if_pos (by omega)]
    · rw [if_pos (by omega), if_neg (by omega), show 16384 + 256 * b.val + (2 + n.val - 1) = 16384 + 256 * b.val + n.val + 1 by omega]
  rw [p, q, add_comm (_ * at2 x4 0 j.val)]
  rfl

theorem hid_apply (b : Fin 4) (n : Fin 256) (j : Fin 2816) :
    val_main_v119 (F := Ideal) x0 x1 x2 x3 x4 x5 (ix3 b n j)
      = hid (ofArrays x0 x1 x2 x3 x4 x5 x6) 4 (16384 + 256 * b.val + n.val) ((16384 + 256 * b.val + n.val) % 256 = 0) ((16384 + 256 * b.val + n.val) % 256 = 255) j.val := by
  have e := taps_apply x0 x1 x2 x3 x4 x5 x6 b n j
  have eu := up_apply x0 x1 x2 x3 x4 x5 x6 b n
  pointwise [val_main_v119, val_main_v118, val_main_v93, val_main_call3_v0, val_main_call3_v1, val_main_call3_v2, val_main_call3_v3, val_main_call3_v4, val_main_call3_v5, val_main_call3_cst, val_main_call3_cst_0]
  rw [e, eu]
  rfl

theorem out_apply (b : Fin 4) (n : Fin 256) (k : Fin 1024) :
    val_main_v123 (F := Ideal) x0 x1 x2 x3 x4 x5 x6 (ix3 b n k)
      = out (ofArrays x0 x1 x2 x3 x4 x5 x6) 4 (16384 + 256 * b.val + n.val) ((16384 + 256 * b.val + n.val) % 256 = 0) ((16384 + 256 * b.val + n.val) % 256 = 255) k.val := by
  have eh := hid_apply x0 x1 x2 x3 x4 x5 x6 b n
  have e0 := rows_apply x0 b n k
  have eg := gate_apply x1 k
  pointwise [val_main_v123, val_main_v122, val_main_v121, val_main_v120]
  rw [e0, eg]
  refine congrArg (fun z => at2 x0 (16384 + 256 * b.val + n.val) k.val + at2 x1 4 (5120 + k.val) * z) (Finset.sum_congr rfl fun j _ => ?_)
  rw [eh, show x6 (ix2 j k) = at2 x6 j.val k.val from (at2_eq _ _ _ j.isLt k.isLt).symm]
  rfl

end Cert.MidRefIdeal.Ctx

end
-- ==== Proof.MidEnd.lean ====
/- The inner ConvFFN call leaves, on the ideal points, exactly its reference's result: the arrays agree entry by entry. -/
module

public import proofs.«01_k».proof.Defs
public import proofs.«01_k».proof.Proof.MidValue
public import proofs.«01_k».proof.Proof.MidRefLat
public import proofs.«01_k».proof.Proof.MidRefCtx

@[expose] public section

noncomputable section

namespace Cert.MidRefIdeal.Hand

open Cert.MidRefIdeal Cert.MidRefIdeal.Gen Cert.MidRefIdeal.Read Cert.Proof.Ffn Cert.MidIdeal.Parts
open Idealize.ShloMosaic Idealize.ShloMosaic.TcCoe Idealize.SL.Sem

variable (x0 : S17408x1024.Idx → EReal) (x1 : S5x6144.Idx → EReal) (x2 : S1024.Idx → EReal) (x3 : S1024x5632.Idx → EReal)
  (x4 : S3x2816.Idx → EReal) (x5 : S2816.Idx → EReal) (x6 : S2816x1024.Idx → EReal)

/-- An entry of the reference's result: the latent rows, then the context rows. -/
theorem result (r : Fin 17408) (k : Fin 1024) :
    val_main_v126 (F := Ideal) x0 x1 x2 x3 x4 x5 x6 (ix2 r k)
      = out (ofArrays x0 x1 x2 x3 x4 x5 x6) (r.val / 4096) r.val (r.val % len (r.val / 1024) = 0)
          (r.val % len (r.val / 1024) = len (r.val / 1024) - 1) k.val := by
  pointwise [val_main_v126, val_main_v125, val_main_v124]
  split
  · rename_i h
    have e := Lat.out_apply x0 x1 x2 x3 x4 x5 x6 ⟨r.val / 4096, by omega⟩ ⟨r.val % 4096, by omega⟩ k
    simp only [Nat.div_add_mod] at e
    rw [show len (r.val / 1024) = 4096 from if_pos (by omega)]
    exact e
  · rename_i h
    have hr := r.isLt
    have e := Ctx.out_apply x0 x1 x2 x3 x4 x5 x6 ⟨(r.val - 16384) / 256, by omega⟩ ⟨(r.val - 16384) % 256, by omega⟩ k
    have er : 16384 + 256 * ((r.val - 16384) / 256) + (r.val - 16384) % 256 = r.val := by omega
    simp only [er] at e
    rw [show len (r.val / 1024) = 256 from if_neg (by omega), show r.val / 4096 = 4 by omega]
    exact e

end Cert.MidRefIdeal.Hand

namespace Cert.Proof.Mid

open Idealize.ShloMosaic Idealize.ShloMosaic.TcCoe Idealize.SL.Sem

theorem algebraic : Cert.algebraic_MidIdeal_MidRefIdeal (hMidIdeal := Cert.MidIdeal.Gen.facts) (hMidRefIdeal := Cert.MidRefIdeal.Gen.facts) := by
  intro m g m' g' _ hm
  refine ⟨fun c => Cert.MidIdeal.Parts.G m c, ?_, ?_⟩
  · refine (θ_run Cert.MidIdeal.defs _ _).mono (fun r h c => ⟨?_, (h c).2⟩) (Cert.MidIdeal.Value.run_blocks m g)
    rw [(h c).1]
    exact Cert.MidIdeal.Parts.result m c
  · refine (θ_run Cert.MidRefIdeal.defs _ _).mono (fun r h c => ⟨?_, (h c).2⟩) (Cert.MidRefIdeal.Value.run m' g')
    obtain ⟨h0, h1, h2, h3, h4, h5, h6, h7⟩ := hm c
    rw [(h c).1, Cert.MidRefIdeal.Read.val_main_v126_eq, h0, h1, h2, h3, h4, h5, h6]
    funext i
    have e : i = ix2 (i 0) (i 1) := funext fun a => by
      match a with
      | ⟨0, _⟩ => rfl
      | ⟨1, _⟩ => rfl
    exact (congrArg _ e).trans (Cert.MidRefIdeal.Hand.result _ _ _ _ _ _ _ (i 0) (i 1))

end Cert.Proof.Mid

end
-- ==== Proof.ModSpec.lean ====
/- The mixing layers' shared values as functions of natural-number coordinates (the modulated row, a projection of it, a
   gated residual), and reads of whole buffers and of column slabs. -/
module

public import proofs.«01_k».proof.Proof.FfnSpec
public import Idealize.ShloMosaic.Lib.Pipeline.ValueKit

@[expose] public section

noncomputable section

namespace Cert.Proof.Ffn

open Idealize.ShloMosaic

/-- A normalized and modulated entry of a mixing layer's input; `s` is the row's modulation row. -/
def mact (h m : ℕ → ℕ → EReal) (g : ℕ → EReal) (s r k : ℕ) : EReal := h r k * inv (h r) * (g k * (1 + m s (1024 + k))) + m s k

/-- An entry of a projection of the modulated row. -/
def mproj (h m : ℕ → ℕ → EReal) (g : ℕ → EReal) (w : ℕ → ℕ → EReal) (s r j : ℕ) : EReal := ∑ k : Fin 1024, mact h m g s r k.val * w k.val j

/-- The gated residual: the row plus its gate times an output projection. -/
def resid (h o m w : ℕ → ℕ → EReal) (s r k : ℕ) : EReal := h r k + m s (2048 + k) * ∑ j : Fin 1024, o r j.val * w j.val k

/-- A power of two scales a sum term by term. -/
theorem sum_scale {n : ℕ} (a w : Fin n → EReal) (c : EReal) (h0 : 0 ≤ c) (ht : c ≠ ⊤) : ∑ k, a k * (w k * c) = (∑ k, a k * w k) * c := by
  have key : ∀ (s : Finset (Fin n)), ∑ k ∈ s, a k * (w k * c) = (∑ k ∈ s, a k * w k) * c := by
    intro s
    induction s using Finset.induction_on with
    | empty => rw [Finset.sum_empty, Finset.sum_empty, zero_mul]
    | insert x s hx ih => rw [Finset.sum_insert hx, Finset.sum_insert hx, ih, EReal.right_distrib_of_nonneg_of_ne_top h0 ht, mul_assoc]
  exact key Finset.univ

theorem ld2 {e : EltTy} {n d : ℕ} (x : (⟨2, ![n, d]⟩ : Shape).Idx → Elt Ideal e) (inb) : View.ld x (Rect.unit ![0, 0] ![n, d] inb) = x := by
  funext y
  refine congrArg x (funext fun a => Fin.ext ?_)
  match a with
  | ⟨0, _⟩ => show 0 + 1 * _ = _; omega
  | ⟨1, _⟩ => show 0 + 1 * _ = _; omega

theorem ld3 {e : EltTy} {l n d : ℕ} (x : (⟨3, ![l, n, d]⟩ : Shape).Idx → Elt Ideal e) (inb) : View.ld x (Rect.unit ![0, 0, 0] ![l, n, d] inb) = x := by
  funext y
  refine congrArg x (funext fun a => Fin.ext ?_)
  match a with
  | ⟨0, _⟩ => show 0 + 1 * _ = _; omega
  | ⟨1, _⟩ => show 0 + 1 * _ = _; omega
  | ⟨2, _⟩ => show 0 + 1 * _ = _; omega

/-- A rectangle of a matrix. -/
theorem ldr {e : EltTy} {n d p q : ℕ} (x : (⟨2, ![n, d]⟩ : Shape).Idx → Elt Ideal e) (u o : ℕ) (inb) (r : Fin p) (k : Fin q) (hr : u + r.val < n) (hk : o + k.val < d) :
    View.ld x (Rect.unit ![u, o] ![p, q] inb) (ix2 r k) = x (ix2 ⟨u + r.val, hr⟩ ⟨o + k.val, hk⟩) := by
  refine congrArg x (funext fun a => Fin.ext ?_)
  match a with
  | ⟨0, _⟩ => show u + 1 * r.val = u + r.val; rw [Nat.one_mul]
  | ⟨1, _⟩ => show o + 1 * k.val = o + k.val; rw [Nat.one_mul]

/-- One matrix of a stack. -/
theorem ldt {e : EltTy} {l n d : ℕ} (x : (⟨3, ![l, n, d]⟩ : Shape).Idx → Elt Ideal e) (j : ℕ) (inb) (r : Fin n) (k : Fin d) (hj : j < l) :
    View.ld x (Rect.unit ![j, 0, 0] ![1, n, d] inb) (ix3 0 r k) = x (ix3 ⟨j, hj⟩ r k) := by
  refine congrArg x (funext fun a => Fin.ext ?_)
  match a with
  | ⟨0, _⟩ => show j + 1 * 0 = _; rfl
  | ⟨1, _⟩ => show 0 + 1 * r.val = _; exact (Nat.zero_add _).trans (Nat.one_mul _)
  | ⟨2, _⟩ => show 0 + 1 * k.val = _; exact (Nat.zero_add _).trans (Nat.one_mul _)

end Cert.Proof.Ffn

end
-- ==== Proof.ProjValue.lean ====
/- The projection call's result array: block by block, each entry is the modulated row times a weight column, the first 1024 columns scaled. -/
module

public import proofs.«01_k».proof.Proof.ModSpec
public import proofs.«01_k».proof.Proof.Gen.ProjIdeal.Value
public import Idealize.ShloMosaic.Lib.Pointwise
public import Idealize.ShloMosaic.Lib.StableHlo.Run

@[expose] public section

noncomputable section

namespace Cert.ProjIdeal.Parts

open Cert.ProjIdeal Cert.ProjIdeal.Gen Cert.ProjIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg1)) (s.val / 6) (s.val % 6 * 1024 + k.val) := by
  have e : V m c main_v0 = shapeCast S30x1x1024 (m ((c : Thread nD τ).loc main_arg1)) shapeCasts_S5x6144_S30x1x1024 := by
    show StableHlo.after hostOps0 _ (Proc.devRef .tc main_v0) = _
    after_results_simp <;> rfl
  rw [e]
  exact v0_apply _ s k
theorem v6_apply (A : Vec Ideal S1024x3072 .f32) (k : Fin 1024) (j : Fin 3072) : (truncf (F := Ideal) .bf16 (concatenate S1024x3072 1 [⟨S1024x1024, mulf (F := Ideal) (φ := .f32) (extractStridedSlice S1024x1024 ![0, 0] A slices_S1024x3072_S1024x1024_0_0) (broadcastInDim S1024x1024 ![] bcast_S_S1024x1024 (constant (F := Ideal) S_ .f32 0x3E000000#32))⟩, ⟨S1024x2048, extractStridedSlice S1024x2048 ![0, 1024] A slices_S1024x3072_S1024x2048_0_1024⟩] concatenates_S1024x1024_S1024x2048_S1024x3072_d1) bitsLt_bf16_f32 : _ → EReal) (ix2 k j) = if j.val < 1024 then at2 A k.val j.val * Ideal.ofBits .f32 0x3E000000#32 else at2 A k.val j.val := by
  pointwise []
  rw [at2_eq _ _ _ k.isLt j.isLt]
  split
  · rfl
  · rename_i h
    refine congrArg A (congrArg₂ ix2 rfl (Fin.ext ?_))
    show 1024 + (j.val - 1024) = j.val
    omega
theorem V_v6 (k : Fin 1024) (j : Fin 3072) : V m c main_v6 (ix2 k j) = if j.val < 1024 then at2 (m ((c : Thread nD τ).loc main_arg3)) k.val j.val * Ideal.ofBits .f32 0x3E000000#32 else at2 (m ((c : Thread nD τ).loc main_arg3)) k.val j.val := by
  have e : V m c main_v6 = truncf (F := Ideal) .bf16 (concatenate S1024x3072 1 [⟨S1024x1024, mulf (F := Ideal) (φ := .f32) (extractStridedSlice S1024x1024 ![0, 0] (m ((c : Thread nD τ).loc main_arg3)) slices_S1024x3072_S1024x1024_0_0) (broadcastInDim S1024x1024 ![] bcast_S_S1024x1024 (constant (F := Ideal) S_ .f32 0x3E000000#32))⟩, ⟨S1024x2048, extractStridedSlice S1024x2048 ![0, 1024] (m ((c : Thread nD τ).loc main_arg3)) slices_S1024x3072_S1024x2048_0_1024⟩] concatenates_S1024x1024_S1024x2048_S1024x3072_d1) bitsLt_bf16_f32 := by
    show StableHlo.after hostOps0 _ (Proc.devRef .tc main_v6) = _
    after_results_simp <;> rfl
  rw [e]
  exact v6_apply _ k j
theorem v7_apply (A : Vec Ideal S1024 .f32) (k : Fin 1024) : (broadcastInDim S1x1024 ![1] bcast_S1024_S1x1024_1 A : _ → EReal) (ix2 0 k) = at1 A k.val := by
  rw [at1_eq _ _ (by omega)]
  pointwise []
theorem V_v7 (k : Fin 1024) : V m c main_v7 (ix2 0 k) = at1 (m ((c : Thread nD τ).loc main_arg2)) k.val := by
  have e : V m c main_v7 = broadcastInDim S1x1024 ![1] bcast_S1024_S1x1024_1 (m ((c : Thread nD τ).loc main_arg2)) := by
    show StableHlo.after hostOps0 _ (Proc.devRef .tc main_v7) = _
    after_results_simp <;> rfl
  rw [e]
  exact v7_apply _ k
/-! ## The blocks read -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 4 * 6 ∧ win0_2.index t (1 : Fin 3) = 0 ∧ win0_2.index t (2 : Fin 3) = 0 := (by decide +kernel : ∀ t : Fin grid0.N, _)
theorem idx3 : ∀ t : Fin cfg0.N, win0_3.index t (0 : Fin 3) = t.val / 4 * 6 + 1 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem read0 (t : Fin cfg0.N) (r k : Fin 1024) : (iblk m c 0 t : S1024x1024.Idx → EReal) (ix2 r k) = at2 (m ((c : Thread nD τ).loc main_arg0)) (1024 * t.val + r.val) k.val := by
  have ht : t.val < 17 := t.isLt
  obtain ⟨e0, e1⟩ := idx0 t
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = 1024 * t.val + r.val; first | (rw [e0]; done) | (rw [e0]; omega)
  | ⟨1, _⟩ => show win0_0.index t (1 : Fin 2) * 1024 + 1 * k.val = k.val; first | (rw [e1]; done) | (rw [e1]; omega)

theorem read1 (t : Fin cfg0.N) (k : Fin 1024) : (iblk m c 1 t : S1x1024.Idx → EReal) (ix2 0 k) = at1 (m ((c : Thread nD τ).loc main_arg2)) k.val := by
  have ht : t.val < 17 := t.isLt
  obtain ⟨e0, e1⟩ := idx1 t
  show V m c main_v7 (((cfg0.win 1).blk t).view.emb (ix2 0 k)) = _
  refine Eq.trans (congrArg _ ?_) (V_v7 m c k)
  funext a
  refine Fin.ext ?_
  match a with
  | ⟨0, _⟩ => show win0_1.index t (0 : Fin 2) * 1 + 1 * 0 = 0; first | (rw [e0]; done) | (rw [e0]; omega)
  | ⟨1, _⟩ => show win0_1.index t (1 : Fin 2) * 1024 + 1 * k.val = k.val; first | (rw [e1]; done) | (rw [e1]; omega)

theorem read2 (t : Fin cfg0.N) (k : Fin 1024) : (iblk m c 2 t : S1x1x1024.Idx → EReal) (ix3 0 0 k) = at2 (m ((c : Thread nD τ).loc main_arg1)) (t.val / 4) k.val := by
  have ht : t.val < 17 := t.isLt
  obtain ⟨e0, e1, e2⟩ := idx2 t
  show V m c main_v0 (((cfg0.win 2).blk t).view.emb (ix3 0 0 k)) = _
  refine Eq.trans (congrArg _ ?_) ((V_v0 m c ⟨t.val / 4 * 6, by omega⟩ k).trans (by dsimp only; congr 1 <;> omega))
  funext a
  refine Fin.ext ?_
  match a with
  | ⟨0, _⟩ => show win0_2.index t (0 : Fin 3) * 1 + 1 * 0 = t.val / 4 * 6; first | (rw [e0]; done) | (rw [e0]; omega)
  | ⟨1, _⟩ => show win0_2.index t (1 : Fin 3) * 1 + 1 * 0 = 0; first | (rw [e1]; done) | (rw [e1]; omega)
  | ⟨2, _⟩ => show win0_2.index t (2 : Fin 3) * 1024 + 1 * k.val = k.val; first | (rw [e2]; done) | (rw [e2]; omega)

theorem read3 (t : Fin cfg0.N) (k : Fin 1024) : (iblk m c 3 t : S1x1x1024.Idx → EReal) (ix3 0 0 k) = at2 (m ((c : Thread nD τ).loc main_arg1)) (t.val / 4) (1024 + k.val) := by
  have ht : t.val < 17 := t.isLt
  obtain ⟨e0, e1, e2⟩ := idx3 t
  show V m c main_v0 (((cfg0.win 3).blk t).view.emb (ix3 0 0 k)) = _
  refine Eq.trans (congrArg _ ?_) ((V_v0 m c ⟨t.val / 4 * 6 + 1, by omega⟩ k).trans (by dsimp only; congr 1 <;> omega))
  funext a
  refine Fin.ext ?_
  match a with
  | ⟨0, _⟩ => show win0_3.index t (0 : Fin 3) * 1 + 1 * 0 = t.val / 4 * 6 + 1; first | (rw [e0]; done) | (rw [e0]; omega)
  | ⟨1, _⟩ => show win0_3.index t (1 : Fin 3) * 1 + 1 * 0 = 0; first | (rw [e1]; done) | (rw [e1]; omega)
  | ⟨2, _⟩ => show win0_3.index t (2 : Fin 3) * 1024 + 1 * k.val = k.val; first | (rw [e2]; done) | (rw [e2]; omega)

theorem read4 (t : Fin cfg0.N) (k : Fin 1024) (j : Fin 3072) : (iblk m c 4 t : S1024x3072.Idx → EReal) (ix2 k j) = (if j.val < 1024 then at2 (m ((c : Thread nD τ).loc main_arg3)) k.val j.val * Ideal.ofBits .f32 0x3E000000#32 else at2 (m ((c : Thread nD τ).loc main_arg3)) k.val j.val) := by
  have ht : t.val < 17 := t.isLt
  obtain ⟨e0, e1⟩ := idx4 t
  show V m c main_v6 (((cfg0.win 4).blk t).view.emb (ix2 k j)) = _
  refine Eq.trans (congrArg _ ?_) (V_v6 m c k j)
  funext a
  refine Fin.ext ?_
  match a with
  | ⟨0, _⟩ => show win0_4.index t (0 : Fin 2) * 1024 + 1 * k.val = k.val; first | (rw [e0]; done) | (rw [e0]; omega)
  | ⟨1, _⟩ => show win0_4.index t (1 : Fin 2) * 3072 + 1 * j.val = j.val; first | (rw [e1]; done) | (rw [e1]; omega)

/-! ## One block -/

section
variable {h mm : ℕ → ℕ → EReal} {g : ℕ → EReal} {w : ℕ → ℕ → EReal} {t s : ℕ}
    {x0 : Vec Ideal S1024x1024 .f32} {x1 : Vec Ideal S1x1024 .f32} {x2 x3 : Vec Ideal S1x1x1024 .f32} {x4 : Vec Ideal S1024x3072 .bf16}

theorem act_apply (h0 : ∀ r k : Fin 1024, x0 (ix2 r k) = h (1024 * t + r.val) k.val) (h1 : ∀ k : Fin 1024, x1 (ix2 0 k) = g k.val)
    (h2 : ∀ k : Fin 1024, x2 (ix3 0 0 k) = mm s k.val) (h3 : ∀ k : Fin 1024, x3 (ix3 0 0 k) = mm s (1024 + k.val)) (r k : Fin 1024) :
    k0_pay5 x0 x1 x2 x3 (ix2 r k) = mact h mm g s (1024 * t + r.val) k.val := by
  pointwise [k0_pay5]
  simp only [h0, h1, h2, h3]
  rfl

/-- A slab of 512 columns. -/
theorem slab (a : FVec Ideal S1024x1024 .bf16) (y : Vec Ideal S1024x512 .bf16) (r : Fin 1024) (x : Fin 512) :
    k0_pay1 a y (ix2 r x) = ∑ k : Fin 1024, a (ix2 r k) * y (ix2 k x) := by
  pointwise [k0_pay1]

theorem block_apply (h0 : ∀ r k : Fin 1024, x0 (ix2 r k) = h (1024 * t + r.val) k.val) (h1 : ∀ k : Fin 1024, x1 (ix2 0 k) = g k.val)
    (h2 : ∀ k : Fin 1024, x2 (ix3 0 0 k) = mm s k.val) (h3 : ∀ k : Fin 1024, x3 (ix3 0 0 k) = mm s (1024 + k.val))
    (h4 : ∀ (k : Fin 1024) (j : Fin 3072), x4 (ix2 k j) = w k.val j.val) (r : Fin 1024) (j : Fin 3072) :
    out0_5 x0 x1 x2 x3 x4 (ix2 r j) = mproj h mm g w s (1024 * t + r.val) j.val := by
  have ea := act_apply h0 h1 h2 h3
  unfold_out out0_5
  rw [ld2 x0, ld2 x1, ld3 x2, ld3 x3]
  have key : ∀ (o : ℕ) (ho : o + 512 ≤ 3072) (inb) (p : FVec Ideal S1024x512 .bf16)
      (hp : p = k0_pay1 (k0_pay5 x0 x1 x2 x3) (View.ld x4 (Rect.unit (s := S1024x3072) ![0, o] S1024x512.size inb)))
      (y : S1024x512.Idx), p y = mproj h mm g w s (1024 * t + (0 + 1 * (y (0 : Fin 2)).val)) (o + 1 * (y (1 : Fin 2)).val) := by
    intro o ho inb p hp y
    obtain ⟨r, x, rfl⟩ : ∃ (r : Fin 1024) (x : Fin 512), y = ix2 r x := ⟨y 0, y 1, (ix2_eta y).symm⟩
    show p (ix2 r x) = mproj h mm g w s (1024 * t + (0 + 1 * r.val)) (o + 1 * x.val)
    rw [hp, Nat.zero_add, Nat.one_mul, Nat.one_mul]
    refine (slab _ _ r x).trans (Finset.sum_congr rfl fun k _ => ?_)
    rw [ea, show View.ld x4 (Rect.unit (s := S1024x3072) ![0, o] S1024x512.size inb) (ix2 k x) = _ from ldr x4 0 o inb k x (by omega) (by omega), h4]
    simp only [Nat.zero_add]
  refine View.canon_apply_of_pieces (Val := Elt Ideal) (S := S1024x3072) (e := .bf16)
    (fun y => mproj h mm g w s (1024 * t + (y (0 : Fin 2)).val) (y (1 : Fin 2)).val) _ (fun pc hq y => ?_) (ix2 r j) (cover0_5 _ _ _ _ _ _ (ix2 r j))
  simp only [List.mem_cons, List.mem_nil_iff, or_false] at hq
  rcases hq with rfl | rfl | rfl | rfl | rfl | rfl
  · exact key 2560 (by omega) inb_S1024x3072_S1024x512_0_2560 _ rfl y
  · exact key 2048 (by omega) inb_S1024x3072_S1024x512_0_2048 _ rfl y
  · exact key 1536 (by omega) inb_S1024x3072_S1024x512_0_1536 _ rfl y
  · exact key 1024 (by omega) inb_S1024x3072_S1024x512_0_1024 _ rfl y
  · exact key 512 (by omega) inb_S1024x3072_S1024x512_0_512 _ rfl y
  · exact key 0 (by omega) inb_S1024x3072_S1024x512_0_0 _ rfl y

end

/-! ## The whole array -/

/-- The array the call leaves. -/
def G : S17408x3072.Idx → EReal := fun i =>
  mproj (at2 (m ((c : Thread nD τ).loc main_arg0))) (at2 (m ((c : Thread nD τ).loc main_arg1))) (at1 (m ((c : Thread nD τ).loc main_arg2)))
    (fun k j => if j < 1024 then at2 (m ((c : Thread nD τ).loc main_arg3)) k j * Ideal.ofBits .f32 0x3E000000#32 else at2 (m ((c : Thread nD τ).loc main_arg3)) k j) ((i 0).val / 4096) (i 0).val (i 1).val

theorem emb5_0 (t : Fin cfg0.N) (j : S1024x3072.Idx) : (((cfg0.win 5).blk t).view.emb j (0 : Fin 2)).val = 1024 * t.val + (j 0).val := by
  show win0_5.index t (0 : Fin 2) * 1024 + 1 * (j 0).val = _
  rw [(idx5 t).1]; omega

theorem emb5_1 (t : Fin cfg0.N) (j : S1024x3072.Idx) : (((cfg0.win 5).blk t).view.emb j (1 : Fin 2)).val = (j 1).val := by
  show win0_5.index t (1 : Fin 2) * 3072 + 1 * (j 1).val = _
  rw [(idx5 t).2]; omega

/-- What a point writes back is its block of `G`. -/
theorem flushed5_eq (t : Fin cfg0.N) : (dats m 0 c).flushed 5 t = ((cfg0.win 5).blk t).view.read (Elt Ideal) (G m c) := by
  rw [flushed5]
  funext j
  have h0 : (j 0).val < 1024 := (j 0).isLt
  have key := block_apply (read0 m c t) (read1 m c t) (read2 m c t) (read3 m c t) (w := fun k j => if j < 1024 then at2 (m ((c : Thread nD τ).loc main_arg3)) k j * Ideal.ofBits .f32 0x3E000000#32 else at2 (m ((c : Thread nD τ).loc main_arg3)) k j)
    (read4 m c t) (j 0) (j 1)
  refine Eq.trans (congrArg _ (ix2_eta j).symm) (key.trans ?_)
  show _ = G m c (((cfg0.win 5).blk t).view.emb j)
  unfold G
  rw [emb5_0, emb5_1, show (1024 * t.val + (j 0).val) / 4096 = t.val / 4 by omega]

/-- Every row is written by the point of its block. -/
theorem covered5 (i : S17408x3072.Idx) : ∃ t : Fin cfg0.N, (cfg0.win 5).flush t = true ∧ i ∈ ((cfg0.win 5).blk t).view.set := by
  have h0 : (i 0).val < 17408 := (i 0).isLt
  have h1 : (i 1).val < 3072 := (i 1).isLt
  have hN : cfg0.N = 17 := by decide
  obtain ⟨t, ht⟩ : ∃ t : Fin cfg0.N, t.val = (i 0).val / 1024 := ⟨⟨(i 0).val / 1024, by rw [hN]; omega⟩, rfl⟩
  refine ⟨t, flush0_5 t, ?_⟩
  have e := ((cfg0.win 5).blk t).view.emb_mem_set (ix2 ⟨(i 0).val % 1024, by omega⟩ ⟨(i 1).val, h1⟩ : S1024x3072.Idx)
  have hi : ((cfg0.win 5).blk t).view.emb (ix2 ⟨(i 0).val % 1024, by omega⟩ ⟨(i 1).val, h1⟩ : S1024x3072.Idx) = i := by
    funext a
    match a with
    | ⟨0, _⟩ => exact Fin.ext ((emb5_0 t _).trans (by rw [ht]; show 1024 * ((i 0).val / 1024) + (i 0).val % 1024 = (i 0).val; omega))
    | ⟨1, _⟩ => exact Fin.ext (emb5_1 t _)
  rwa [hi] at e

/-- The result array. -/
theorem result : (dats m 0 c).arrAt 5 cfg0.N = G m c := by
  funext i
  obtain ⟨t, hf, hm⟩ := covered5 i
  exact (dats m 0 c).arrAt_apply_of_mem 5 (G m c) (fun t _ => flushed5_eq m c t) cfg0.N t i t.isLt hf hm

end Cert.ProjIdeal.Parts

end
-- ==== Proof.ProjRefLat.lean ====
/- The reference of the projection call, entry by entry: its latent rows. -/
module

public import proofs.«01_k».proof.Proof.ModSpec
public import proofs.«01_k».proof.Proof.Gen.ProjRefIdeal.Read
public import Idealize.ShloMosaic.Lib.Pointwise

@[expose] public section

noncomputable section

namespace Cert.ProjRefIdeal.Lat

open Cert.ProjRefIdeal Cert.ProjRefIdeal.Gen Cert.ProjRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x3072.Idx → EReal)

theorem rows_apply (b : Fin 4) (n : Fin 4096) (k : Fin 1024) : val_main_v1 (F := Ideal) x0 (ix3 b n k) = at2 x0 (4096 * b.val + n.val) k.val := by
  rw [at2_eq _ _ _ (by omega) (by omega)]
  pointwise [val_main_v1, val_main_v0]
  exact congrArg x0 (congrArg₂ ix2 (Fin.ext (by dsimp only; omega)) rfl)

theorem shift_apply (b : Fin 4) (k : Fin 1024) : val_main_v4 (F := Ideal) x1 (ix3 b 0 k) = at2 x1 b.val k.val := by
  rw [at2_eq _ _ _ (by omega) (by omega)]
  pointwise [val_main_v4, val_main_v3, val_main_v2]

theorem scale_apply (b : Fin 4) (k : Fin 1024) : val_main_v5 (F := Ideal) x1 (ix3 b 0 k) = at2 x1 b.val (1024 + k.val) := by
  rw [at2_eq _ _ _ (by omega) (by omega)]
  pointwise [val_main_v5, val_main_v3, val_main_v2]

theorem act_apply (b : Fin 4) (n : Fin 4096) (k : Fin 1024) :
    val_main_v28 (F := Ideal) x0 x1 x2 (ix3 b n k) = mact (at2 x0) (at2 x1) (at1 x2) b.val (4096 * b.val + n.val) k.val := by
  have e0 := rows_apply x0
  have e1 := shift_apply x1
  have e2 := scale_apply x1
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2]
  simp only [e0, e1, e2]
  rw [mul_assoc (_ * _) (x2 (ix1 k)), show x2 (ix1 k) = at1 x2 k.val from (at1_eq _ _ k.isLt).symm]
  rfl

theorem up_apply (b : Fin 4) (n : Fin 4096) (j : Fin 3072) :
    val_main_v29 (F := Ideal) x0 x1 x2 x3 (ix3 b n j) = mproj (at2 x0) (at2 x1) (at1 x2) (at2 x3) b.val (4096 * b.val + n.val) j.val := by
  have e := act_apply x0 x1 x2
  pointwise [val_main_v29]
  refine Finset.sum_congr rfl fun k _ => ?_
  rw [e, show x3 (ix2 k j) = at2 x3 k.val j.val from (at2_eq _ _ _ k.isLt j.isLt).symm]

/-- An entry of the result: the query columns scaled. -/
theorem out_apply (b : Fin 4) (n : Fin 4096) (j : Fin 3072) :
    val_main_v36 (F := Ideal) x0 x1 x2 x3 (ix3 b n j)
      = if j.val < 1024 then mproj (at2 x0) (at2 x1) (at1 x2) (at2 x3) b.val (4096 * b.val + n.val) j.val * Ideal.ofBits .f32 0x3E000000#32
        else mproj (at2 x0) (at2 x1) (at1 x2) (at2 x3) b.val (4096 * b.val + n.val) j.val := by
  have e := up_apply x0 x1 x2 x3 b n
  pointwise [val_main_v36, val_main_v35, val_main_v34, val_main_v33, val_main_v32, val_main_v31, val_main_v30, val_main_cst_3]
  simp only [e]
  split
  · rfl
  · split
    · rw [show 1024 + (j.val - 1024) = j.val by omega]
    · rw [show 2048 + (j.val - 1024 - 1024) = j.val by omega]

end Cert.ProjRefIdeal.Lat

end
-- ==== Proof.ProjRefCtx.lean ====
/- The reference of the projection call, entry by entry: its context rows. -/
module

public import proofs.«01_k».proof.Proof.ModSpec
public import proofs.«01_k».proof.Proof.Gen.ProjRefIdeal.Read
public import Idealize.ShloMosaic.Lib.Pointwise

@[expose] public section

noncomputable section

namespace Cert.ProjRefIdeal.Ctx

open Cert.ProjRefIdeal Cert.ProjRefIdeal.Gen Cert.ProjRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x3072.Idx → EReal)

theorem rows_apply (b : Fin 4) (n : Fin 256) (k : Fin 1024) : val_main_v38 (F := Ideal) x0 (ix3 b n k) = at2 x0 (16384 + 256 * b.val + n.val) k.val := by
  rw [at2_eq _ _ _ (by omega) (by omega)]
  pointwise [val_main_v38, val_main_v37]
  exact congrArg x0 (congrArg₂ ix2 (Fin.ext (by dsimp only; omega)) rfl)

theorem shift_apply (k : Fin 1024) : val_main_v41 (F := Ideal) x1 (ix3 0 0 k) = at2 x1 4 k.val := by
  rw [at2_eq _ _ _ (by omega) (by omega)]
  pointwise [val_main_v41, val_main_v40, val_main_v39]

theorem scale_apply (k : Fin 1024) : val_main_v42 (F := Ideal) x1 (ix3 0 0 k) = at2 x1 4 (1024 + k.val) := by
  rw [at2_eq _ _ _ (by omega) (by omega)]
  pointwise [val_main_v42, val_main_v40, val_main_v39]

theorem act_apply (b : Fin 4) (n : Fin 256) (k : Fin 1024) :
    val_main_v65 (F := Ideal) x0 x1 x2 (ix3 b n k) = mact (at2 x0) (at2 x1) (at1 x2) 4 (16384 + 256 * b.val + n.val) k.val := by
  have e0 := rows_apply x0
  have e1 := shift_apply x1
  have e2 := scale_apply x1
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst_4, val_main_cst_5, val_main_cst_6, val_main_cst_7]
  simp only [e0, e1, e2]
  rw [mul_assoc (_ * _) (x2 (ix1 k)), show x2 (ix1 k) = at1 x2 k.val from (at1_eq _ _ k.isLt).symm]
  rfl

theorem up_apply (b : Fin 4) (n : Fin 256) (j : Fin 3072) :
    val_main_v66 (F := Ideal) x0 x1 x2 x3 (ix3 b n j) = mproj (at2 x0) (at2 x1) (at1 x2) (at2 x3) 4 (16384 + 256 * b.val + n.val) j.val := by
  have e := act_apply x0 x1 x2
  pointwise [val_main_v66]
  refine Finset.sum_congr rfl fun k _ => ?_
  rw [e, show x3 (ix2 k j) = at2 x3 k.val j.val from (at2_eq _ _ _ k.isLt j.isLt).symm]

/-- An entry of the result: the query columns scaled. -/
theorem out_apply (b : Fin 4) (n : Fin 256) (j : Fin 3072) :
    val_main_v73 (F := Ideal) x0 x1 x2 x3 (ix3 b n j)
      = if j.val < 1024 then mproj (at2 x0) (at2 x1) (at1 x2) (at2 x3) 4 (16384 + 256 * b.val + n.val) j.val * Ideal.ofBits .f32 0x3E000000#32
        else mproj (at2 x0) (at2 x1) (at1 x2) (at2 x3) 4 (16384 + 256 * b.val + n.val) j.val := by
  have e := up_apply x0 x1 x2 x3 b n
  pointwise [val_main_v73, val_main_v72, val_main_v71, val_main_v70, val_main_v69, val_main_v68, val_main_v67, val_main_cst_8]
  simp only [e]
  split
  · rfl
  · split
    · rw [show 1024 + (j.val - 1024) = j.val by omega]
    · rw [show 2048 + (j.val - 1024 - 1024) = j.val by omega]

end Cert.ProjRefIdeal.Ctx

end
-- ==== Proof.ProjEnd.lean ====
/- The projection call leaves, on the ideal points, exactly its reference's result: the arrays agree entry by entry. -/
module

public import proofs.«01_k».proof.Defs
public import proofs.«01_k».proof.Proof.ProjValue
public import proofs.«01_k».proof.Proof.ProjRefLat
public import proofs.«01_k».proof.Proof.ProjRefCtx
public import Idealize.ShloMosaic.Lib.Pointwise

@[expose] public section

noncomputable section

namespace Cert.ProjRefIdeal.Hand

open Cert.ProjRefIdeal Cert.ProjRefIdeal.Gen Cert.ProjRefIdeal.Read Cert.Proof.Ffn
open Idealize.ShloMosaic Idealize.ShloMosaic.TcCoe Idealize.SL.Sem

variable (x0 : S17408x1024.Idx → EReal) (x1 : S5x6144.Idx → EReal) (x2 : S1024.Idx → EReal) (x3 : S1024x3072.Idx → EReal)

/-- An entry of the reference's result: the latent rows, then the context rows. -/
theorem result (r : Fin 17408) (j : Fin 3072) : val_main_v76 (F := Ideal) x0 x1 x2 x3 (ix2 r j) =
    if j.val < 1024 then mproj (at2 x0) (at2 x1) (at1 x2) (at2 x3) (r.val / 4096) r.val j.val * Ideal.ofBits .f32 0x3E000000#32
    else mproj (at2 x0) (at2 x1) (at1 x2) (at2 x3) (r.val / 4096) r.val j.val := by
  pointwise [val_main_v76, val_main_v75, val_main_v74]
  split
  · rename_i h
    have e := Lat.out_apply x0 x1 x2 x3 ⟨r.val / 4096, by omega⟩ ⟨r.val % 4096, by omega⟩ j
    simp only [Nat.div_add_mod] at e
    exact e
  · rename_i h
    have hr := r.isLt
    have e := Ctx.out_apply x0 x1 x2 x3 ⟨(r.val - 16384) / 256, by omega⟩ ⟨(r.val - 16384) % 256, by omega⟩ j
    have er : 16384 + 256 * ((r.val - 16384) / 256) + (r.val - 16384) % 256 = r.val := by omega
    simp only [er] at e
    rw [show r.val / 4096 = 4 by omega]
    exact e

end Cert.ProjRefIdeal.Hand

namespace Cert.Proof.Proj

open Idealize.ShloMosaic Idealize.ShloMosaic.TcCoe Idealize.SL.Sem Cert.Proof.Ffn

theorem eighth : Ideal.ofBits .f32 0x3E000000#32 = (((1 : ℝ) / 8 : ℝ) : EReal) := by
  simp [Ideal.ofBits, Ideal.ieee]
  norm_num
  exact (EReal.coe_mul 8388608 (1 / 67108864)).symm.trans (congrArg _ (by norm_num))

/-- Scaling the weight column scales the entry. -/
theorem scaled (h m : ℕ → ℕ → EReal) (g : ℕ → EReal) (w : ℕ → ℕ → EReal) (s r j : ℕ) :
    mproj h m g (fun k j => if j < 1024 then w k j * Ideal.ofBits .f32 0x3E000000#32 else w k j) s r j
      = if j < 1024 then mproj h m g w s r j * Ideal.ofBits .f32 0x3E000000#32 else mproj h m g w s r j := by
  unfold mproj
  by_cases hj : j < 1024
  · simp only [if_pos hj]
    exact sum_scale (fun k : Fin 1024 => mact h m g s r k.val) (fun k => w k.val j) _ (by rw [eighth]; exact EReal.coe_nonneg.mpr (by norm_num))
      (by rw [eighth]; exact EReal.coe_ne_top _)
  · simp only [if_neg hj]

theorem algebraic : Cert.algebraic_ProjIdeal_ProjRefIdeal (hProjIdeal := Cert.ProjIdeal.Gen.facts) (hProjRefIdeal := Cert.ProjRefIdeal.Gen.facts) := by
  intro m g m' g' _ hm
  refine ⟨fun c => Cert.ProjIdeal.Parts.G m c, ?_, ?_⟩
  · refine (θ_run Cert.ProjIdeal.defs _ _).mono (fun r h c => ⟨?_, (h c).2⟩) (Cert.ProjIdeal.Value.run_blocks m g)
    rw [(h c).1]
    exact Cert.ProjIdeal.Parts.result m c
  · refine (θ_run Cert.ProjRefIdeal.defs _ _).mono (fun r h c => ⟨?_, (h c).2⟩) (Cert.ProjRefIdeal.Value.run m' g')
    obtain ⟨h0, h1, h2, h3⟩ := hm c
    rw [(h c).1, Cert.ProjRefIdeal.Read.val_main_v76_eq, h0, h1, h2, h3]
    funext i
    obtain ⟨r, j, rfl⟩ : ∃ (r : Fin 17408) (j : Fin 3072), i = ix2 r j := ⟨i 0, i 1, (ix2_eta i).symm⟩
    exact (Cert.ProjRefIdeal.Hand.result _ _ _ _ r j).trans (scaled _ _ _ _ _ _ _).symm

end Cert.Proof.Proj

end
-- ==== Proof.GateSpec.lean ====
/- The spatial-gating layer as functions of natural-number coordinates. -/
module

public import proofs.«01_k».proof.Proof.ModSpec

@[expose] public section

noncomputable section

namespace Cert.Proof.Ffn

open Idealize.ShloMosaic

/-- The tanh form of the GELU. -/
def gelu (z : EReal) : EReal :=
  z * (Ideal.ofBits .f32 0x3F000000#32 * (1 + Ideal.tanh (Ideal.ofBits .f32 0x3F4C422A#32 * (z + Ideal.ofBits .f32 0x3D372713#32 * (z * (z * z))))))

/-- The layer's arrays: token rows, modulation vectors, the gains, the weights, the mixing matrices and their bias. -/
structure GArgs where
  h : ℕ → ℕ → EReal
  m : ℕ → ℕ → EReal
  g : ℕ → EReal
  w : ℕ → ℕ → EReal
  v : ℕ → EReal
  s : ℕ → ℕ → ℕ → EReal
  b : ℕ → ℕ → EReal
  o : ℕ → ℕ → EReal

/-- A hidden channel: 2048 of them, of which the first 1024 are gated by the others. -/
def ghid (p : GArgs) (s r j : ℕ) : EReal := gelu (mproj p.h p.m p.g p.w s r j)

/-- A normalized gating channel. -/
def gnorm (p : GArgs) (s r k : ℕ) : EReal := ghid p s r (1024 + k) * inv (fun k => ghid p s r (1024 + k)) * p.v k

/-- A gated channel: the gate mixes the 128 rows of the row's chunk. -/
def gmix (p : GArgs) (s r j : ℕ) : EReal :=
  ghid p s r j * (∑ q : Fin 128, p.s (j / 256) (r % 128) q.val * gnorm p s (r / 128 * 128 + q.val) j + p.b (j / 256) (r % 128))

/-- The layer's output entry. -/
def gout (p : GArgs) (s r k : ℕ) : EReal := resid p.h (gmix p s) p.m p.o s r k

/-- A stack of matrices at natural-number coordinates. -/
def at3 {l n k : ℕ} (X : (⟨3, ![l, n, k]⟩ : Shape).Idx → EReal) (a r c : ℕ) : EReal :=
  if h : a < l ∧ r < n ∧ c < k then X (ix3 ⟨a, h.1⟩ ⟨r, h.2.1⟩ ⟨c, h.2.2⟩) else 0

theorem at3_eq {l n k : ℕ} (X : (⟨3, ![l, n, k]⟩ : Shape).Idx → EReal) (a r c : ℕ) (ha : a < l) (hr : r < n) (hc : c < k) :
    at3 X a r c = X (ix3 ⟨a, ha⟩ ⟨r, hr⟩ ⟨c, hc⟩) := dif_pos ⟨ha, hr, hc⟩

theorem thousand : Ideal.ofBits .f32 1149239296#32 = ((1024 : ℝ) : EReal) := by
  simp [Ideal.ofBits, Ideal.ieee]
  norm_num
  exact (EReal.coe_mul 8388608 (1 / 8192)).symm.trans (congrArg _ (by norm_num))

theorem thousandth : Ideal.ofBits .f32 0x3A800000#32 = ((1 / 1024 : ℝ) : EReal) := by
  simp [Ideal.ofBits, Ideal.ieee]
  norm_num
  exact (EReal.coe_mul 8388608 (1 / 8589934592)).symm.trans (congrArg _ (by norm_num))

/-- The mean of two half sums. -/
theorem inv_halves (x : ℕ → EReal) :
    Ideal.rsqrt ((0 + ∑ k : Fin 512, x k.val * x k.val + ∑ k : Fin 512, x (512 + k.val) * x (512 + k.val)) * Ideal.ofBits .f32 0x3A800000#32 + Ideal.ofBits .f32 897988541#32) = inv x := by
  unfold inv Ideal.div
  rw [if_neg (by rw [thousand]; exact_mod_cast (by norm_num : (1024 : ℝ) ≠ 0)), thousand, thousandth, ← EReal.coe_inv, zero_add]
  have e : ∑ k : Fin 1024, x k.val * x k.val = ∑ k : Fin 512, x k.val * x k.val + ∑ k : Fin 512, x (512 + k.val) * x (512 + k.val) :=
    Fin.sum_univ_add (a := 512) (b := 512) (fun k : Fin (512 + 512) => x k.val * x k.val)
  rw [e]
  norm_num

end Cert.Proof.Ffn

end
-- ==== Proof.GateBlock.lean ====
/- What one grid point of the spatial-gating call writes, entry by entry. -/
module

public import proofs.«01_k».proof.Proof.GateSpec
public import proofs.«01_k».proof.Proof.Gen.GateIdeal.Value
public import Idealize.ShloMosaic.Lib.Pipeline.ValueKit.Acc
public import Idealize.ShloMosaic.Lib.Pointwise

@[expose] public section

noncomputable section

namespace Cert.GateIdeal.Parts

open Cert.GateIdeal Cert.GateIdeal.Gen Idealize.ShloMosaic Idealize.ShloMosaic.TcCoe Idealize.SL.Sem Cert.Proof.Ffn
open scoped BigOperators

theorem zeros : (![0, 0] : Fin S512x1024.rank → ℕ) = fun _ => 0 := by
  funext a
  match a with
  | ⟨0, _⟩ => rfl
  | ⟨1, _⟩ => rfl

/-! ## The values of the body -/

/-- A slab of 512 hidden channels, in the four spellings the body has. -/
theorem hid0 (x0 : Vec Ideal S512x1024 .f32) (x1 : Vec Ideal S1x1024 .f32) (x2 x3 : Vec Ideal S1x1x1024 .f32) (W : Vec Ideal S1024x512 .bf16) (r x : Fin 512) :
    k0_pay8 (k0_pay5 x0 x1 x2 x3 W) (k0_pay6 x0 x1 x2 x3 W) k0_pay7 (ix2 r x) = gelu (∑ k : Fin 1024, k0_pay3 x0 x1 x2 x3 (ix2 r k) * W (ix2 k x)) := by
  have e : k0_pay5 x0 x1 x2 x3 W (ix2 r x) = ∑ k : Fin 1024, k0_pay3 x0 x1 x2 x3 (ix2 r k) * W (ix2 k x) := by pointwise [k0_pay5]
  rw [← e]
  pointwise [k0_pay8, k0_pay7, k0_pay6]
  rfl

theorem hid1 (A : FVec Ideal S512x1024 .bf16) (W : Vec Ideal S1024x512 .bf16) (r x : Fin 512) :
    k0_pay9 A W (ix2 r x) = gelu (∑ k : Fin 1024, A (ix2 r k) * W (ix2 k x)) := by
  pointwise [k0_pay9]
  rfl

theorem hid2 (A : FVec Ideal S512x1024 .bf16) (W : Vec Ideal S1024x512 .bf16) (r x : Fin 512) :
    k0_pay12 (k0_pay10 A W) (k0_pay11 A W) (FloatOps.ofBits FTy.f32 1056964608#32) (ix2 r x) = gelu (∑ k : Fin 1024, A (ix2 r k) * W (ix2 k x)) := by
  have e : k0_pay10 A W (ix2 r x) = ∑ k : Fin 1024, A (ix2 r k) * W (ix2 k x) := by pointwise [k0_pay10]
  rw [← e]
  pointwise [k0_pay12, k0_pay11]
  rfl

theorem hid2' (A : FVec Ideal S512x1024 .bf16) (W : Vec Ideal S1024x512 .bf16) (r x : Fin 512) :
    k0_pay13 (k0_pay10 A W) (k0_pay11 A W) (FloatOps.ofBits FTy.f32 1056964608#32) (ix2 r x) = gelu (∑ k : Fin 1024, A (ix2 r k) * W (ix2 k x)) := by
  refine Eq.trans ?_ (hid2 A W r x)
  pointwise [k0_pay13]

theorem hid3 (A : FVec Ideal S512x1024 .bf16) (W : Vec Ideal S1024x512 .bf16) (r x : Fin 512) :
    k0_pay14 A W (ix2 r x) = gelu (∑ k : Fin 1024, A (ix2 r k) * W (ix2 k x)) := by
  pointwise [k0_pay14]
  rfl

theorem hid3' (A : FVec Ideal S512x1024 .bf16) (W : Vec Ideal S1024x512 .bf16) (r x : Fin 512) :
    k0_pay15 A W (ix2 r x) = gelu (∑ k : Fin 1024, A (ix2 r k) * W (ix2 k x)) := by
  refine Eq.trans ?_ (hid3 A W r x)
  pointwise [k0_pay15]

/-- The normalized gating channels. -/
theorem norm_apply (A : FVec Ideal S512x1024 .bf16) (P Q : FVec Ideal S512x512 .f32) (c : Ideal .f32) (W : Vec Ideal S1024x512 .bf16) (Y : Vec Ideal S512x1024 .f32)
    (g : Vec Ideal S1x1024 .f32) (r : Fin 512) (k : Fin 1024) :
    k0_pay17 (k0_pay16 A k0_pay4 P Q c W Y) g (ix2 r k)
      = Y (ix2 r k) * Ideal.rsqrt ((0 + ∑ x : Fin 512, k0_pay12 P Q c (ix2 r x) * k0_pay12 P Q c (ix2 r x) + ∑ x : Fin 512, k0_pay14 A W (ix2 r x) * k0_pay14 A W (ix2 r x)) * Ideal.ofBits .f32 0x3A800000#32 + Ideal.ofBits .f32 897988541#32) * g (ix2 0 k) := by
  pointwise [k0_pay17, k0_pay16, k0_pay4]

theorem tile_0_0 (V0 : FVec Ideal S512x1024 .f32) (g : Vec Ideal S1x1024 .f32) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay18 V0 g W B U (ix2 r x) = U (ix2 r x) * ((∑ q : Fin 128, W (ix3 0 r q) * k0_pay17 V0 g (ix2 ⟨0 + q.val, by omega⟩ ⟨0 + x.val, by omega⟩)) + z) := by
  pointwise [k0_pay18]
  simp only [hB, dite_eq_ite, ite_self, Nat.zero_add]
theorem tile_0_256 (V0 : FVec Ideal S512x1024 .f32) (g : Vec Ideal S1x1024 .f32) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay19 V0 g W B U (ix2 r x) = U (ix2 r x) * ((∑ q : Fin 128, W (ix3 0 r q) * k0_pay17 V0 g (ix2 ⟨0 + q.val, by omega⟩ ⟨256 + x.val, by omega⟩)) + z) := by
  pointwise [k0_pay19]
  simp only [hB, dite_eq_ite, ite_self, Nat.zero_add]
theorem tile_0_512 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay20 V W B U (ix2 r x) = U (ix2 r x) * ((∑ q : Fin 128, W (ix3 0 r q) * V (ix2 ⟨0 + q.val, by omega⟩ ⟨512 + x.val, by omega⟩)) + z) := by
  pointwise [k0_pay20]
  simp only [hB, dite_eq_ite, ite_self, Nat.zero_add]
theorem tile_0_768 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay21 V W B U (ix2 r x) = U (ix2 r x) * ((∑ q : Fin 128, W (ix3 0 r q) * V (ix2 ⟨0 + q.val, by omega⟩ ⟨768 + x.val, by omega⟩)) + z) := by
  pointwise [k0_pay21]
  simp only [hB, dite_eq_ite, ite_self, Nat.zero_add]
theorem tile_128_0 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay23 (k0_pay22 V W) B U (ix2 r x) = U (ix2 r x) * ((∑ q : Fin 128, W (ix3 0 r q) * V (ix2 ⟨128 + q.val, by omega⟩ ⟨0 + x.val, by omega⟩)) + z) := by
  pointwise [k0_pay23, k0_pay22]
  simp only [hB, dite_eq_ite, ite_self, Nat.zero_add]
theorem tile_128_256 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay24 V W B U (ix2 r x) = U (ix2 r x) * ((∑ q : Fin 128, W (ix3 0 r q) * V (ix2 ⟨128 + q.val, by omega⟩ ⟨256 + x.val, by omega⟩)) + z) := by
  pointwise [k0_pay24]
  simp only [hB, dite_eq_ite, ite_self, Nat.zero_add]
theorem tile_128_512 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay26 (k0_pay25 V W B) U (ix2 r x) = U (ix2 r x) * ((∑ q : Fin 128, W (ix3 0 r q) * V (ix2 ⟨128 + q.val, by omega⟩ ⟨512 + x.val, by omega⟩)) + z) := by
  pointwise [k0_pay26, k0_pay25]
  simp only [hB, dite_eq_ite, ite_self, Nat.zero_add]
theorem tile_128_768 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay27 V W B U (ix2 r x) = U (ix2 r x) * ((∑ q : Fin 128, W (ix3 0 r q) * V (ix2 ⟨128 + q.val, by omega⟩ ⟨768 + x.val, by omega⟩)) + z) := by
  pointwise [k0_pay27]
  simp only [hB, dite_eq_ite, ite_self, Nat.zero_add]
theorem tile_256_0 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay28 V W B U (ix2 r x) = U (ix2 r x) * ((∑ q : Fin 128, W (ix3 0 r q) * V (ix2 ⟨256 + q.val, by omega⟩ ⟨0 + x.val, by omega⟩)) + z) := by
  pointwise [k0_pay28]
  simp only [hB, dite_eq_ite, ite_self, Nat.zero_add]
theorem tile_256_256 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay29 V W B U (ix2 r x) = U (ix2 r x) * ((∑ q : Fin 128, W (ix3 0 r q) * V (ix2 ⟨256 + q.val, by omega⟩ ⟨256 + x.val, by omega⟩)) + z) := by
  pointwise [k0_pay29]
  simp only [hB, dite_eq_ite, ite_self, Nat.zero_add]
theorem tile_256_512 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay30 V W B U (ix2 r x) = U (ix2 r x) * ((∑ q : Fin 128, W (ix3 0 r q) * V (ix2 ⟨256 + q.val, by omega⟩ ⟨512 + x.val, by omega⟩)) + z) := by
  pointwise [k0_pay30]
  simp only [hB, dite_eq_ite, ite_self, Nat.zero_add]
theorem tile_256_768 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay33 (k0_pay31 W) (k0_pay32 V) (constant S128x256 FTy.f32 0#32) B U (ix2 r x) = U (ix2 r x) * ((∑ q : Fin 128, W (ix3 0 r q) * V (ix2 ⟨256 + q.val, by omega⟩ ⟨768 + x.val, by omega⟩)) + z) := by
  pointwise [k0_pay33, k0_pay32, k0_pay31]
  simp only [hB, dite_eq_ite, ite_self, Nat.zero_add]
theorem tile_384_0 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay34 V W B U (ix2 r x) = U (ix2 r x) * ((∑ q : Fin 128, W (ix3 0 r q) * V (ix2 ⟨384 + q.val, by omega⟩ ⟨0 + x.val, by omega⟩)) + z) := by
  pointwise [k0_pay34]
  simp only [hB, dite_eq_ite, ite_self, Nat.zero_add]
theorem tile_384_256 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay36 (k0_pay35 V W B) U (ix2 r x) = U (ix2 r x) * ((∑ q : Fin 128, W (ix3 0 r q) * V (ix2 ⟨384 + q.val, by omega⟩ ⟨256 + x.val, by omega⟩)) + z) := by
  pointwise [k0_pay36, k0_pay35]
  simp only [hB, dite_eq_ite, ite_self, Nat.zero_add]
theorem tile_384_512 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay37 V W B U (ix2 r x) = U (ix2 r x) * ((∑ q : Fin 128, W (ix3 0 r q) * V (ix2 ⟨384 + q.val, by omega⟩ ⟨512 + x.val, by omega⟩)) + z) := by
  pointwise [k0_pay37]
  simp only [hB, dite_eq_ite, ite_self, Nat.zero_add]
theorem tile_384_768 (V : FVec Ideal S512x1024 .bf16) (W : Vec Ideal S1x128x128 .bf16) (B : Vec Ideal S1x128x128 .f32) (U : Vec Ideal S128x256 .f32) (r : Fin 128) (x : Fin 256) (z : EReal) (hB : ∀ q : Fin 128, B (ix3 0 r q) = z) :
    k0_pay1 (k0_pay38 V W B U) (ix2 r x) = U (ix2 r x) * ((∑ q : Fin 128, W (ix3 0 r q) * V (ix2 ⟨384 + q.val, by omega⟩ ⟨768 + x.val, by omega⟩)) + z) := by
  pointwise [k0_pay1, k0_pay38]
  simp only [hB, dite_eq_ite, ite_self, Nat.zero_add]

/-! ## The two hidden buffers -/

/-- What the two stores of a hidden buffer leave. -/
def halves (w1 w0 : FVec Ideal S512x512 .f32) : Vec Ideal S512x1024 .f32 :=
  View.canon (Val := Elt Ideal) (s := S512x1024) (e := .f32) [⟨Rect.unit (s := S512x1024) ![0, 512] ![512, 512] inb_S512x1024_S512x512_0_512, w1⟩,
    ⟨Rect.unit (s := S512x1024) ![0, 0] ![512, 512] inb_S512x1024_S512x512_0_0, w0⟩]

theorem halves_cover (w1 w0 : FVec Ideal S512x512 .f32) (y : S512x1024.Idx) :
    ∃ pc ∈ ([⟨Rect.unit (s := S512x1024) ![0, 512] ![512, 512] inb_S512x1024_S512x512_0_512, w1⟩,
      ⟨Rect.unit (s := S512x1024) ![0, 0] ![512, 512] inb_S512x1024_S512x512_0_0, w0⟩] : List (View.Piece (Elt Ideal) S512x1024 .f32)), y ∈ pc.1.set := by
  have h0 : (y (0 : Fin 2)).val < 512 := (y (0 : Fin 2)).isLt
  have h1 : (y (1 : Fin 2)).val < 1024 := (y (1 : Fin 2)).isLt
  by_cases ha : (y (1 : Fin 2)).val < 512
  · exact ⟨_, .tail _ (.head _), (Rect.mem_set_unit (inb := inb_S512x1024_S512x512_0_0)).mpr fun a => by
      match a with
      | ⟨0, _⟩ => exact ⟨Nat.zero_le _, h0⟩
      | ⟨1, _⟩ => exact ⟨Nat.zero_le _, ha⟩⟩
  · exact ⟨_, .head _, (Rect.mem_set_unit (inb := inb_S512x1024_S512x512_0_512)).mpr fun a => by
      match a with
      | ⟨0, _⟩ => exact ⟨Nat.zero_le _, h0⟩
      | ⟨1, _⟩ => exact ⟨not_lt.mp ha, h1⟩⟩

theorem read_halves (v : View sig .tc .vmem S512x1024 .f32) (w1 w0 : FVec Ideal S512x512 .f32) (off size : Fin 2 → ℕ) (inb) :
    v.readCov ([⟨Rect.unit (s := S512x1024) ![0, 512] ![512, 512] inb_S512x1024_S512x512_0_512, w1⟩,
      ⟨Rect.unit (s := S512x1024) ![0, 0] ![512, 512] inb_S512x1024_S512x512_0_0, w0⟩] : List (View.Piece (Elt Ideal) S512x1024 .f32))
      (Rect.unit (s := S512x1024) off size inb).toLoadRect = View.ld (halves w1 w0) (Rect.unit (s := S512x1024) off size inb) :=
  View.readCov_eq_canon_ld _ _ _ (halves_cover w1 w0)

theorem halves_apply (w1 w0 : FVec Ideal S512x512 .f32) (f : ℕ → ℕ → EReal) (h0 : ∀ r x : Fin 512, w0 (ix2 r x) = f r.val x.val)
    (h1 : ∀ r x : Fin 512, w1 (ix2 r x) = f r.val (512 + x.val)) (r : Fin 512) (k : Fin 1024) : halves w1 w0 (ix2 r k) = f r.val k.val := by
  unfold halves
  refine View.canon_apply_of_pieces (Val := Elt Ideal) (S := S512x1024) (e := .f32)
    (fun y => f (y (0 : Fin 2)).val (y (1 : Fin 2)).val) _ (fun pc hq y => ?_) (ix2 r k) (halves_cover w1 w0 (ix2 r k))
  simp only [List.mem_cons, List.mem_nil_iff, or_false] at hq
  rcases hq with rfl | rfl
  · obtain ⟨r, x, rfl⟩ : ∃ (r : Fin 512) (x : Fin 512), y = ix2 r x := ⟨y 0, y 1, (ix2_eta y).symm⟩
    show w1 (ix2 r x) = f (0 + 1 * r.val) (512 + 1 * x.val)
    rw [h1, Nat.zero_add, Nat.one_mul, Nat.one_mul]
  · obtain ⟨r, x, rfl⟩ : ∃ (r : Fin 512) (x : Fin 512), y = ix2 r x := ⟨y 0, y 1, (ix2_eta y).symm⟩
    show w0 (ix2 r x) = f (0 + 1 * r.val) (0 + 1 * x.val)
    rw [h0, Nat.zero_add, Nat.zero_add, Nat.one_mul, Nat.one_mul]

/-! ## The block -/

/-- What a grid point's blocks hold, in terms of the layer's arrays. -/
structure Reads (p : GArgs) (t s : ℕ) (x0 : Vec Ideal S512x1024 .f32) (x1 : Vec Ideal S1x1024 .f32) (x2 x3 x4 : Vec Ideal S1x1x1024 .f32)
    (x5 : Vec Ideal S1024x2048 .bf16) (x6 : Vec Ideal S1x1024 .f32) (x7 : Vec Ideal S4x128x128 .bf16) (x8 : Vec Ideal S4x128x128 .f32) (x9 : Vec Ideal S1024x1024 .bf16) : Prop where
  h0 : ∀ (r : Fin 512) (k : Fin 1024), x0 (ix2 r k) = p.h (512 * t + r.val) k.val
  h1 : ∀ k : Fin 1024, x1 (ix2 0 k) = p.g k.val
  h2 : ∀ k : Fin 1024, x2 (ix3 0 0 k) = p.m s k.val
  h3 : ∀ k : Fin 1024, x3 (ix3 0 0 k) = p.m s (1024 + k.val)
  h4 : ∀ k : Fin 1024, x4 (ix3 0 0 k) = p.m s (2048 + k.val)
  h5 : ∀ (k : Fin 1024) (j : Fin 2048), x5 (ix2 k j) = p.w k.val j.val
  h6 : ∀ k : Fin 1024, x6 (ix2 0 k) = p.v k.val
  h7 : ∀ (a : Fin 4) (r q : Fin 128), x7 (ix3 a r q) = p.s a.val r.val q.val
  h8 : ∀ (a : Fin 4) (r q : Fin 128), x8 (ix3 a r q) = p.b a.val r.val
  h9 : ∀ j k : Fin 1024, x9 (ix2 j k) = p.o j.val k.val

section

variable {p : GArgs} {t s : ℕ} {x0 : Vec Ideal S512x1024 .f32} {x1 : Vec Ideal S1x1024 .f32} {x2 x3 x4 : Vec Ideal S1x1x1024 .f32}
    {x5 : Vec Ideal S1024x2048 .bf16} {x6 : Vec Ideal S1x1024 .f32} {x7 : Vec Ideal S4x128x128 .bf16} {x8 : Vec Ideal S4x128x128 .f32} {x9 : Vec Ideal S1024x1024 .bf16}

theorem act_apply (h : Reads p t s x0 x1 x2 x3 x4 x5 x6 x7 x8 x9) (r : Fin 512) (k : Fin 1024) :
    k0_pay3 x0 x1 x2 x3 (ix2 r k) = mact p.h p.m p.g s (512 * t + r.val) k.val := by
  pointwise [k0_pay3]
  simp only [h.h0, h.h1, h.h2, h.h3]
  rfl

theorem slab (h : Reads p t s x0 x1 x2 x3 x4 x5 x6 x7 x8 x9) (o : ℕ) (ho : o + 512 ≤ 2048) (inb) (r x : Fin 512) :
    gelu (∑ k : Fin 1024, k0_pay3 x0 x1 x2 x3 (ix2 r k) * View.ld x5 (Rect.unit (s := S1024x2048) ![0, o] ![1024, 512] inb) (ix2 k x))
      = ghid p s (512 * t + r.val) (o + x.val) := by
  refine congrArg gelu (Finset.sum_congr rfl fun k _ => ?_)
  rw [act_apply h, show View.ld x5 (Rect.unit (s := S1024x2048) ![0, o] ![1024, 512] inb) (ix2 k x) = _ from ldr x5 0 o inb k x (by omega) (by omega), h.h5]
  simp only [Nat.zero_add]

/-- The output entry from the gated channels. -/
theorem out_of_mix (h : Reads p t s x0 x1 x2 x3 x4 x5 x6 x7 x8 x9) (T : Vec Ideal S512x1024 .bf16)
    (hT : ∀ (r : Fin 512) (j : Fin 1024), T (ix2 r j) = gmix p s (512 * t + r.val) j.val) (r : Fin 512) (k : Fin 1024) :
    k0_pay2 x0 x4 T x9 (ix2 r k) = gout p s (512 * t + r.val) k.val := by
  pointwise [k0_pay2]
  simp only [h.h0, h.h4, h.h9, hT]
  rfl

/-- One tile of gated channels. -/
theorem tile_val (h : Reads p t s x0 x1 x2 x3 x4 x5 x6 x7 x8 x9) (U : Vec Ideal S512x1024 .f32) (N : FVec Ideal S512x1024 .bf16)
    (hU : ∀ (r : Fin 512) (k : Fin 1024), U (ix2 r k) = ghid p s (512 * t + r.val) k.val)
    (hN : ∀ (r : Fin 512) (k : Fin 1024), N (ix2 r k) = gnorm p s (512 * t + r.val) k.val)
    (a b g : ℕ) (ha : a % 128 = 0) (ha' : a + 128 ≤ 512) (hg : g < 4) (hb : b = 256 * g) (inb) (inb') (r : Fin 128) (x : Fin 256) :
    View.ld U (Rect.unit (s := S512x1024) ![a, b] ![128, 256] inb) (ix2 r x)
      * ((∑ q : Fin 128, View.ld x7 (Rect.unit (s := S4x128x128) ![g, 0, 0] ![1, 128, 128] inb') (ix3 0 r q) * N (ix2 ⟨a + q.val, by omega⟩ ⟨b + x.val, by omega⟩)) + p.b g r.val)
      = gmix p s (512 * t + (a + r.val)) (b + x.val) := by
  rw [show View.ld U (Rect.unit (s := S512x1024) ![a, b] ![128, 256] inb) (ix2 r x) = _ from ldr U a b inb r x (by omega) (by omega), hU]
  unfold gmix
  rw [show (b + x.val) / 256 = g by omega, show (512 * t + (a + r.val)) % 128 = r.val by omega, show (512 * t + (a + r.val)) / 128 * 128 = 512 * t + a by omega]
  refine congrArg (fun z : EReal => ghid p s (512 * t + (a + r.val)) (b + x.val) * (z + p.b g r.val)) (Finset.sum_congr rfl fun q _ => ?_)
  rw [show View.ld x7 (Rect.unit (s := S4x128x128) ![g, 0, 0] ![1, 128, 128] inb') (ix3 0 r q) = _ from ldt x7 g inb' r q hg, h.h7, hN]
  dsimp only
  rw [Nat.add_assoc]

end

set_option maxRecDepth 100000 in
/-- The output buffer after the body. -/
theorem out_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x2048 .bf16) (harg6 : arg6.IsWhole) (arg7 : Memref sig .tc .vmem S1x1024 .f32) (harg7 : arg7.IsWhole) (arg8 : Memref sig .tc .vmem S4x128x128 .bf16) (harg8 : arg8.IsWhole) (arg9 : Memref sig .tc .vmem S4x128x128 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole)
    (x0 : Vec Ideal S512x1024 .f32) (x1 : Vec Ideal S1x1024 .f32) (x2 : Vec Ideal S1x1x1024 .f32) (x3 : Vec Ideal S1x1x1024 .f32) (x4 : Vec Ideal S1x1x1024 .f32) (x5 : Vec Ideal S1024x2048 .bf16) (x6 : Vec Ideal S1x1024 .f32) (x7 : Vec Ideal S4x128x128 .bf16) (x8 : Vec Ideal S4x128x128 .f32) (x9 : Vec Ideal S1024x1024 .bf16)
    (p : GArgs) (t s : ℕ) (h : Reads p t s x0 x1 x2 x3 x4 x5 x6 x7 x8 x9) (r : Fin 512) (k : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix2 r k) = gout p s (512 * t + r.val) k.val := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  rw [View.canon_cons_unit_zero zeros]
  simp only [read_halves]
  rw [ld2 x0, ld2 x1, ld3 x2, ld3 x3, ld3 x4, ld2 x6, ld2 x9]
  have hU : ∀ (r : Fin 512) (k : Fin 1024), halves (k0_pay9 (k0_pay3 x0 x1 x2 x3) (View.ld x5 (Rect.unit ![0, 512] ![1024, 512] inb_S1024x2048_S1024x512_0_512)))
      (k0_pay8 (k0_pay5 x0 x1 x2 x3 (View.ld x5 (Rect.unit ![0, 0] ![1024, 512] inb_S1024x2048_S1024x512_0_0))) (k0_pay6 x0 x1 x2 x3 (View.ld x5 (Rect.unit ![0, 0] ![1024, 512] inb_S1024x2048_S1024x512_0_0))) k0_pay7) (ix2 r k)
      = ghid p s (512 * t + r.val) k.val :=
    halves_apply _ _ (fun r k => ghid p s (512 * t + r) k) (fun r x => (hid0 x0 x1 x2 x3 _ r x).trans ((slab h 0 (by omega) _ r x).trans (by rw [Nat.zero_add])))
      (fun r x => (hid1 _ _ r x).trans (slab h 512 (by omega) _ r x))
  have hY : ∀ (r : Fin 512) (k : Fin 1024), halves (k0_pay15 (k0_pay3 x0 x1 x2 x3) (View.ld x5 (Rect.unit ![0, 1536] ![1024, 512] inb_S1024x2048_S1024x512_0_1536)))
      (k0_pay13 (k0_pay10 (k0_pay3 x0 x1 x2 x3) (View.ld x5 (Rect.unit ![0, 1024] ![1024, 512] inb_S1024x2048_S1024x512_0_1024))) (k0_pay11 (k0_pay3 x0 x1 x2 x3) (View.ld x5 (Rect.unit ![0, 1024] ![1024, 512] inb_S1024x2048_S1024x512_0_1024))) (FloatOps.ofBits FTy.f32 1056964608#32)) (ix2 r k)
      = ghid p s (512 * t + r.val) (1024 + k.val) :=
    halves_apply _ _ (fun r k => ghid p s (512 * t + r) (1024 + k)) (fun r x => (hid2' _ _ r x).trans (slab h 1024 (by omega) _ r x))
      (fun r x => (hid3' _ _ r x).trans ((slab h 1536 (by omega) _ r x).trans (by rw [show 1536 + x.val = 1024 + (512 + x.val) by omega])))
  rw [ld2 (halves (k0_pay15 _ _) _)]
  have hN : ∀ (r : Fin 512) (k : Fin 1024), k0_pay17 (k0_pay16 (k0_pay3 x0 x1 x2 x3) k0_pay4 (k0_pay10 (k0_pay3 x0 x1 x2 x3) (View.ld x5 (Rect.unit ![0, 1024] ![1024, 512] inb_S1024x2048_S1024x512_0_1024)))
      (k0_pay11 (k0_pay3 x0 x1 x2 x3) (View.ld x5 (Rect.unit ![0, 1024] ![1024, 512] inb_S1024x2048_S1024x512_0_1024))) (FloatOps.ofBits FTy.f32 1056964608#32)
      (View.ld x5 (Rect.unit ![0, 1536] ![1024, 512] inb_S1024x2048_S1024x512_0_1536))
      (halves (k0_pay15 (k0_pay3 x0 x1 x2 x3) (View.ld x5 (Rect.unit ![0, 1536] ![1024, 512] inb_S1024x2048_S1024x512_0_1536)))
      (k0_pay13 (k0_pay10 (k0_pay3 x0 x1 x2 x3) (View.ld x5 (Rect.unit ![0, 1024] ![1024, 512] inb_S1024x2048_S1024x512_0_1024))) (k0_pay11 (k0_pay3 x0 x1 x2 x3) (View.ld x5 (Rect.unit ![0, 1024] ![1024, 512] inb_S1024x2048_S1024x512_0_1024))) (FloatOps.ofBits FTy.f32 1056964608#32)))) x6 (ix2 r k)
      = gnorm p s (512 * t + r.val) k.val := by
    intro r k
    rw [norm_apply, hY, h.h6]
    simp only [hid2, hid3, slab h 1024 (by omega), slab h 1536 (by omega)]
    unfold gnorm
    rw [← inv_halves]
    simp only [← Nat.add_assoc]
  have bias : ∀ (g : ℕ) (hg : g < 4) (inb) (r q : Fin 128), View.ld x8 (Rect.unit (s := S4x128x128) ![g, 0, 0] ![1, 128, 128] inb) (ix3 0 r q) = p.b g r.val := by
    intro g hg inb r q
    rw [show View.ld x8 (Rect.unit (s := S4x128x128) ![g, 0, 0] ![1, 128, 128] inb) (ix3 0 r q) = _ from ldt x8 g inb r q hg, h.h8]
  refine out_of_mix h _ (fun r j => ?_) r k
  refine Eq.trans (congrFun (View.readCov_eq_canon_ld (Val := Elt Ideal) _ _ _ ?cov) _) ?_
  case cov => exact View.cover_of_tiledL (s := S512x1024) _ S128x256.size (by sl_kernel_rfl)
  rw [ld2]
  refine View.canon_apply_of_pieces (Val := Elt Ideal) (S := S512x1024) (e := .bf16)
    (fun y => gmix p s (512 * t + (y (0 : Fin 2)).val) (y (1 : Fin 2)).val) _ (fun pc hq y => ?_) (ix2 r j) ?cov
  case cov => exact View.cover_of_tiledL (s := S512x1024) _ S128x256.size (by sl_kernel_rfl) _
  have key : ∀ (a b : ℕ) (P : FVec Ideal S128x256 .bf16) (hP : ∀ (r : Fin 128) (x : Fin 256), P (ix2 r x) = gmix p s (512 * t + (a + r.val)) (b + x.val)) (y : S128x256.Idx),
      P y = gmix p s (512 * t + (a + 1 * (y (0 : Fin 2)).val)) (b + 1 * (y (1 : Fin 2)).val) := by
    intro a b P hP y
    obtain ⟨r, x, rfl⟩ : ∃ (r : Fin 128) (x : Fin 256), y = ix2 r x := ⟨y 0, y 1, (ix2_eta y).symm⟩
    show P (ix2 r x) = gmix p s (512 * t + (a + 1 * r.val)) (b + 1 * x.val)
    rw [hP, Nat.one_mul, Nat.one_mul]
  simp only [List.mem_cons, List.mem_nil_iff, or_false] at hq
  rcases hq with rfl | rfl | rfl | rfl | rfl | rfl | rfl | rfl | rfl | rfl | rfl | rfl | rfl | rfl | rfl | rfl
  · exact key 384 768 _ (fun r x => (tile_384_768 _ _ _ _ r x (p.b 3 r.val) (bias 3 (by omega) _ r)).trans (tile_val h _ _ hU hN 384 768 3 (by omega) (by omega) (by omega) rfl _ _ r x)) y
  · exact key 384 512 _ (fun r x => (tile_384_512 _ _ _ _ r x (p.b 2 r.val) (bias 2 (by omega) _ r)).trans (tile_val h _ _ hU hN 384 512 2 (by omega) (by omega) (by omega) rfl _ _ r x)) y
  · exact key 384 256 _ (fun r x => (tile_384_256 _ _ _ _ r x (p.b 1 r.val) (bias 1 (by omega) _ r)).trans (tile_val h _ _ hU hN 384 256 1 (by omega) (by omega) (by omega) rfl _ _ r x)) y
  · exact key 384 0 _ (fun r x => (tile_384_0 _ _ _ _ r x (p.b 0 r.val) (bias 0 (by omega) _ r)).trans (tile_val h _ _ hU hN 384 0 0 (by omega) (by omega) (by omega) rfl _ _ r x)) y
  · exact key 256 768 _ (fun r x => (tile_256_768 _ _ _ _ r x (p.b 3 r.val) (bias 3 (by omega) _ r)).trans (tile_val h _ _ hU hN 256 768 3 (by omega) (by omega) (by omega) rfl _ _ r x)) y
  · exact key 256 512 _ (fun r x => (tile_256_512 _ _ _ _ r x (p.b 2 r.val) (bias 2 (by omega) _ r)).trans (tile_val h _ _ hU hN 256 512 2 (by omega) (by omega) (by omega) rfl _ _ r x)) y
  · exact key 256 256 _ (fun r x => (tile_256_256 _ _ _ _ r x (p.b 1 r.val) (bias 1 (by omega) _ r)).trans (tile_val h _ _ hU hN 256 256 1 (by omega) (by omega) (by omega) rfl _ _ r x)) y
  · exact key 256 0 _ (fun r x => (tile_256_0 _ _ _ _ r x (p.b 0 r.val) (bias 0 (by omega) _ r)).trans (tile_val h _ _ hU hN 256 0 0 (by omega) (by omega) (by omega) rfl _ _ r x)) y
  · exact key 128 768 _ (fun r x => (tile_128_768 _ _ _ _ r x (p.b 3 r.val) (bias 3 (by omega) _ r)).trans (tile_val h _ _ hU hN 128 768 3 (by omega) (by omega) (by omega) rfl _ _ r x)) y
  · exact key 128 512 _ (fun r x => (tile_128_512 _ _ _ _ r x (p.b 2 r.val) (bias 2 (by omega) _ r)).trans (tile_val h _ _ hU hN 128 512 2 (by omega) (by omega) (by omega) rfl _ _ r x)) y
  · exact key 128 256 _ (fun r x => (tile_128_256 _ _ _ _ r x (p.b 1 r.val) (bias 1 (by omega) _ r)).trans (tile_val h _ _ hU hN 128 256 1 (by omega) (by omega) (by omega) rfl _ _ r x)) y
  · exact key 128 0 _ (fun r x => (tile_128_0 _ _ _ _ r x (p.b 0 r.val) (bias 0 (by omega) _ r)).trans (tile_val h _ _ hU hN 128 0 0 (by omega) (by omega) (by omega) rfl _ _ r x)) y
  · exact key 0 768 _ (fun r x => (tile_0_768 _ _ _ _ r x (p.b 3 r.val) (bias 3 (by omega) _ r)).trans (tile_val h _ _ hU hN 0 768 3 (by omega) (by omega) (by omega) rfl _ _ r x)) y
  · exact key 0 512 _ (fun r x => (tile_0_512 _ _ _ _ r x (p.b 2 r.val) (bias 2 (by omega) _ r)).trans (tile_val h _ _ hU hN 0 512 2 (by omega) (by omega) (by omega) rfl _ _ r x)) y
  · exact key 0 256 _ (fun r x => (tile_0_256 _ _ _ _ _ r x (p.b 1 r.val) (bias 1 (by omega) _ r)).trans (tile_val h _ _ hU hN 0 256 1 (by omega) (by omega) (by omega) rfl _ _ r x)) y
  · exact key 0 0 _ (fun r x => (tile_0_0 _ _ _ _ _ r x (p.b 0 r.val) (bias 0 (by omega) _ r)).trans (tile_val h _ _ hU hN 0 0 0 (by omega) (by omega) (by omega) rfl _ _ r x)) y

end Cert.GateIdeal.Parts

end
-- ==== Proof.GateValue.lean ====
/- The spatial-gating call's result array: block by block, each entry is the layer's output there. -/
module

public import proofs.«01_k».proof.Proof.GateBlock
public import Idealize.ShloMosaic.Lib.Pipeline.ValueKit
public import Idealize.ShloMosaic.Lib.StableHlo.Run

@[expose] public section

noncomputable section

namespace Cert.GateIdeal.Parts

open Cert.GateIdeal Cert.GateIdeal.Gen Cert.GateIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg1)) (s.val / 6) (s.val % 6 * 1024 + k.val) := by
  have e : V m c main_v0 = shapeCast S30x1x1024 (m ((c : Thread nD τ).loc main_arg1)) shapeCasts_S5x6144_S30x1x1024 := by
    show StableHlo.after hostOps0 _ (Proc.devRef .tc main_v0) = _
    after_results_simp <;> rfl
  rw [e]
  exact v0_apply _ s k
theorem v2_apply (A : Vec Ideal S4x128 .f32) (l : Fin 4) (r q : Fin 128) : (broadcastInDim S4x128x128 ![0, 1, 2] bcast_S4x128x1_S4x128x128_0_1_2 (broadcastInDim S4x128x1 ![0, 1] bcast_S4x128_S4x128x1_0_1 A) : _ → EReal) (ix3 l r q) = at2 A l.val r.val := by
  rw [at2_eq _ _ _ (by omega) (by omega)]
  pointwise []
theorem V_v2 (l : Fin 4) (r q : Fin 128) : V m c main_v2 (ix3 l r q) = at2 (m ((c : Thread nD τ).loc main_arg6)) l.val r.val := by
  have e : V m c main_v2 = broadcastInDim S4x128x128 ![0, 1, 2] bcast_S4x128x1_S4x128x128_0_1_2 (broadcastInDim S4x128x1 ![0, 1] bcast_S4x128_S4x128x1_0_1 (m ((c : Thread nD τ).loc main_arg6))) := by
    show StableHlo.after hostOps0 _ (Proc.devRef .tc main_v2) = _
    after_results_simp <;> rfl
  rw [e]
  exact v2_apply _ l r q
theorem v3_apply (A : Vec Ideal S1024 .f32) (k : Fin 1024) : (broadcastInDim S1x1024 ![1] bcast_S1024_S1x1024_1 A : _ → EReal) (ix2 0 k) = at1 A k.val := by
  rw [at1_eq _ _ (by omega)]
  pointwise []
theorem V_v3 (k : Fin 1024) : V m c main_v3 (ix2 0 k) = at1 (m ((c : Thread nD τ).loc main_arg2)) k.val := by
  have e : V m c main_v3 = broadcastInDim S1x1024 ![1] bcast_S1024_S1x1024_1 (m ((c : Thread nD τ).loc main_arg2)) := by
    show StableHlo.after hostOps0 _ (Proc.devRef .tc main_v3) = _
    after_results_simp <;> rfl
  rw [e]
  exact v3_apply _ k
theorem v4_apply (A : Vec Ideal S1024x2048 .f32) (k : Fin 1024) (j : Fin 2048) : (truncf (F := Ideal) .bf16 A bitsLt_bf16_f32 : _ → EReal) (ix2 k j) = at2 A k.val j.val := by
  rw [at2_eq _ _ _ (by omega) (by omega)]
  pointwise []
theorem V_v4 (k : Fin 1024) (j : Fin 2048) : V m c main_v4 (ix2 k j) = at2 (m ((c : Thread nD τ).loc main_arg3)) k.val j.val := by
  have e : V m c main_v4 = truncf (F := Ideal) .bf16 (m ((c : Thread nD τ).loc main_arg3)) bitsLt_bf16_f32 := by
    show StableHlo.after hostOps0 _ (Proc.devRef .tc main_v4) = _
    after_results_simp <;> rfl
  rw [e]
  exact v4_apply _ k j
theorem v5_apply (A : Vec Ideal S1024 .f32) (k : Fin 1024) : (broadcastInDim S1x1024 ![1] bcast_S1024_S1x1024_1 A : _ → EReal) (ix2 0 k) = at1 A k.val := by
  rw [at1_eq _ _ (by omega)]
  pointwise []
theorem V_v5 (k : Fin 1024) : V m c main_v5 (ix2 0 k) = at1 (m ((c : Thread nD τ).loc main_arg4)) k.val := by
  have e : V m c main_v5 = broadcastInDim S1x1024 ![1] bcast_S1024_S1x1024_1 (m ((c : Thread nD τ).loc main_arg4)) := by
    show StableHlo.after hostOps0 _ (Proc.devRef .tc main_v5) = _
    after_results_simp <;> rfl
  rw [e]
  exact v5_apply _ k
theorem v6_apply (A : Vec Ideal S4x128x128 .f32) (l : Fin 4) (r q : Fin 128) : (truncf (F := Ideal) .bf16 A bitsLt_bf16_f32 : _ → EReal) (ix3 l r q) = at3 A l.val r.val q.val := by
  rw [at3_eq _ _ _ _ (by omega) (by omega) (by omega)]
  pointwise []
theorem V_v6 (l : Fin 4) (r q : Fin 128) : V m c main_v6 (ix3 l r q) = at3 (m ((c : Thread nD τ).loc main_arg5)) l.val r.val q.val := by
  have e : V m c main_v6 = truncf (F := Ideal) .bf16 (m ((c : Thread nD τ).loc main_arg5)) bitsLt_bf16_f32 := by
    show StableHlo.after hostOps0 _ (Proc.devRef .tc main_v6) = _
    after_results_simp <;> rfl
  rw [e]
  exact v6_apply _ l r q
theorem v7_apply (A : Vec Ideal S1024x1024 .f32) (j k : Fin 1024) : (truncf (F := Ideal) .bf16 A bitsLt_bf16_f32 : _ → EReal) (ix2 j k) = at2 A j.val k.val := by
  rw [at2_eq _ _ _ (by omega) (by omega)]
  pointwise []
theorem V_v7 (j k : Fin 1024) : V m c main_v7 (ix2 j k) = at2 (m ((c : Thread nD τ).loc main_arg7)) j.val k.val := by
  have e : V m c main_v7 = truncf (F := Ideal) .bf16 (m ((c : Thread nD τ).loc main_arg7)) bitsLt_bf16_f32 := by
    show StableHlo.after hostOps0 _ (Proc.devRef .tc main_v7) = _
    after_results_simp <;> rfl
  rw [e]
  exact v7_apply _ j k
/-! ## The blocks read -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 8 * 6 ∧ win0_2.index t (1 : Fin 3) = 0 ∧ win0_2.index t (2 : Fin 3) = 0 := (by decide +kernel : ∀ t : Fin grid0.N, _)
theorem idx3 : ∀ t : Fin cfg0.N, win0_3.index t (0 : Fin 3) = t.val / 8 * 6 + 1 ∧ win0_3.index t (1 : Fin 3) = 0 ∧ win0_3.index t (2 : Fin 3) = 0 := (by decide +kernel : ∀ t : Fin grid0.N, _)
theorem idx4 : ∀ t : Fin cfg0.N, win0_4.index t (0 : Fin 3) = t.val / 8 * 6 + 2 ∧ win0_4.index t (1 : Fin 3) = 0 ∧ win0_4.index t (2 : Fin 3) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 3) = 0 ∧ win0_8.index t (1 : Fin 3) = 0 ∧ win0_8.index t (2 : Fin 3) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)

theorem read0 (t : Fin cfg0.N) (r : Fin 512) (k : Fin 1024) : (iblk m c 0 t : S512x1024.Idx → EReal) (ix2 r k) = at2 (m ((c : Thread nD τ).loc main_arg0)) (512 * t.val + r.val) k.val := by
  have ht : t.val < 34 := t.isLt
  obtain ⟨e0, e1⟩ := idx0 t
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = 512 * t.val + r.val; first | (rw [e0]; done) | (rw [e0]; omega)
  | ⟨1, _⟩ => show win0_0.index t (1 : Fin 2) * 1024 + 1 * k.val = k.val; first | (rw [e1]; done) | (rw [e1]; omega)

theorem read1 (t : Fin cfg0.N) (k : Fin 1024) : (iblk m c 1 t : S1x1024.Idx → EReal) (ix2 0 k) = at1 (m ((c : Thread nD τ).loc main_arg2)) k.val := by
  have ht : t.val < 34 := t.isLt
  obtain ⟨e0, e1⟩ := idx1 t
  show V m c main_v3 (((cfg0.win 1).blk t).view.emb (ix2 0 k)) = _
  refine Eq.trans (congrArg _ ?_) (V_v3 m c k)
  funext a
  refine Fin.ext ?_
  match a with
  | ⟨0, _⟩ => show win0_1.index t (0 : Fin 2) * 1 + 1 * 0 = 0; first | (rw [e0]; done) | (rw [e0]; omega)
  | ⟨1, _⟩ => show win0_1.index t (1 : Fin 2) * 1024 + 1 * k.val = k.val; first | (rw [e1]; done) | (rw [e1]; omega)

theorem read2 (t : Fin cfg0.N) (k : Fin 1024) : (iblk m c 2 t : S1x1x1024.Idx → EReal) (ix3 0 0 k) = at2 (m ((c : Thread nD τ).loc main_arg1)) (t.val / 8) k.val := by
  have ht : t.val < 34 := t.isLt
  obtain ⟨e0, e1, e2⟩ := idx2 t
  show V m c main_v0 (((cfg0.win 2).blk t).view.emb (ix3 0 0 k)) = _
  refine Eq.trans (congrArg _ ?_) ((V_v0 m c ⟨t.val / 8 * 6, by omega⟩ k).trans (by dsimp only; congr 1 <;> omega))
  funext a
  refine Fin.ext ?_
  match a with
  | ⟨0, _⟩ => show win0_2.index t (0 : Fin 3) * 1 + 1 * 0 = t.val / 8 * 6; first | (rw [e0]; done) | (rw [e0]; omega)
  | ⟨1, _⟩ => show win0_2.index t (1 : Fin 3) * 1 + 1 * 0 = 0; first | (rw [e1]; done) | (rw [e1]; omega)
  | ⟨2, _⟩ => show win0_2.index t (2 : Fin 3) * 1024 + 1 * k.val = k.val; first | (rw [e2]; done) | (rw [e2]; omega)

theorem read3 (t : Fin cfg0.N) (k : Fin 1024) : (iblk m c 3 t : S1x1x1024.Idx → EReal) (ix3 0 0 k) = at2 (m ((c : Thread nD τ).loc main_arg1)) (t.val / 8) (1024 + k.val) := by
  have ht : t.val < 34 := t.isLt
  obtain ⟨e0, e1, e2⟩ := idx3 t
  show V m c main_v0 (((cfg0.win 3).blk t).view.emb (ix3 0 0 k)) = _
  refine Eq.trans (congrArg _ ?_) ((V_v0 m c ⟨t.val / 8 * 6 + 1, by omega⟩ k).trans (by dsimp only; congr 1 <;> omega))
  funext a
  refine Fin.ext ?_
  match a with
  | ⟨0, _⟩ => show win0_3.index t (0 : Fin 3) * 1 + 1 * 0 = t.val / 8 * 6 + 1; first | (rw [e0]; done) | (rw [e0]; omega)
  | ⟨1, _⟩ => show win0_3.index t (1 : Fin 3) * 1 + 1 * 0 = 0; first | (rw [e1]; done) | (rw [e1]; omega)
  | ⟨2, _⟩ => show win0_3.index t (2 : Fin 3) * 1024 + 1 * k.val = k.val; first | (rw [e2]; done) | (rw [e2]; omega)

theorem read4 (t : Fin cfg0.N) (k : Fin 1024) : (iblk m c 4 t : S1x1x1024.Idx → EReal) (ix3 0 0 k) = at2 (m ((c : Thread nD τ).loc main_arg1)) (t.val / 8) (2048 + k.val) := by
  have ht : t.val < 34 := t.isLt
  obtain ⟨e0, e1, e2⟩ := idx4 t
  show V m c main_v0 (((cfg0.win 4).blk t).view.emb (ix3 0 0 k)) = _
  refine Eq.trans (congrArg _ ?_) ((V_v0 m c ⟨t.val / 8 * 6 + 2, by omega⟩ k).trans (by dsimp only; congr 1 <;> omega))
  funext a
  refine Fin.ext ?_
  match a with
  | ⟨0, _⟩ => show win0_4.index t (0 : Fin 3) * 1 + 1 * 0 = t.val / 8 * 6 + 2; first | (rw [e0]; done) | (rw [e0]; omega)
  | ⟨1, _⟩ => show win0_4.index t (1 : Fin 3) * 1 + 1 * 0 = 0; first | (rw [e1]; done) | (rw [e1]; omega)
  | ⟨2, _⟩ => show win0_4.index t (2 : Fin 3) * 1024 + 1 * k.val = k.val; first | (rw [e2]; done) | (rw [e2]; omega)

theorem read5 (t : Fin cfg0.N) (k : Fin 1024) (j : Fin 2048) : (iblk m c 5 t : S1024x2048.Idx → EReal) (ix2 k j) = at2 (m ((c : Thread nD τ).loc main_arg3)) k.val j.val := by
  have ht : t.val < 34 := t.isLt
  obtain ⟨e0, e1⟩ := idx5 t
  show V m c main_v4 (((cfg0.win 5).blk t).view.emb (ix2 k j)) = _
  refine Eq.trans (congrArg _ ?_) (V_v4 m c k j)
  funext a
  refine Fin.ext ?_
  match a with
  | ⟨0, _⟩ => show win0_5.index t (0 : Fin 2) * 1024 + 1 * k.val = k.val; first | (rw [e0]; done) | (rw [e0]; omega)
  | ⟨1, _⟩ => show win0_5.index t (1 : Fin 2) * 2048 + 1 * j.val = j.val; first | (rw [e1]; done) | (rw [e1]; omega)

theorem read6 (t : Fin cfg0.N) (k : Fin 1024) : (iblk m c 6 t : S1x1024.Idx → EReal) (ix2 0 k) = at1 (m ((c : Thread nD τ).loc main_arg4)) k.val := by
  have ht : t.val < 34 := t.isLt
  obtain ⟨e0, e1⟩ := idx6 t
  show V m c main_v5 (((cfg0.win 6).blk t).view.emb (ix2 0 k)) = _
  refine Eq.trans (congrArg _ ?_) (V_v5 m c k)
  funext a
  refine Fin.ext ?_
  match a with
  | ⟨0, _⟩ => show win0_6.index t (0 : Fin 2) * 1 + 1 * 0 = 0; first | (rw [e0]; done) | (rw [e0]; omega)
  | ⟨1, _⟩ => show win0_6.index t (1 : Fin 2) * 1024 + 1 * k.val = k.val; first | (rw [e1]; done) | (rw [e1]; omega)

theorem read7 (t : Fin cfg0.N) (l : Fin 4) (r q : Fin 128) : (iblk m c 7 t : S4x128x128.Idx → EReal) (ix3 l r q) = at3 (m ((c : Thread nD τ).loc main_arg5)) l.val r.val q.val := by
  have ht : t.val < 34 := t.isLt
  obtain ⟨e0, e1, e2⟩ := idx7 t
  show V m c main_v6 (((cfg0.win 7).blk t).view.emb (ix3 l r q)) = _
  refine Eq.trans (congrArg _ ?_) (V_v6 m c l r q)
  funext a
  refine Fin.ext ?_
  match a with
  | ⟨0, _⟩ => show win0_7.index t (0 : Fin 3) * 4 + 1 * l.val = l.val; first | (rw [e0]; done) | (rw [e0]; omega)
  | ⟨1, _⟩ => show win0_7.index t (1 : Fin 3) * 128 + 1 * r.val = r.val; first | (rw [e1]; done) | (rw [e1]; omega)
  | ⟨2, _⟩ => show win0_7.index t (2 : Fin 3) * 128 + 1 * q.val = q.val; first | (rw [e2]; done) | (rw [e2]; omega)

theorem read8 (t : Fin cfg0.N) (l : Fin 4) (r q : Fin 128) : (iblk m c 8 t : S4x128x128.Idx → EReal) (ix3 l r q) = at2 (m ((c : Thread nD τ).loc main_arg6)) l.val r.val := by
  have ht : t.val < 34 := t.isLt
  obtain ⟨e0, e1, e2⟩ := idx8 t
  show V m c main_v2 (((cfg0.win 8).blk t).view.emb (ix3 l r q)) = _
  refine Eq.trans (congrArg _ ?_) (V_v2 m c l r q)
  funext a
  refine Fin.ext ?_
  match a with
  | ⟨0, _⟩ => show win0_8.index t (0 : Fin 3) * 4 + 1 * l.val = l.val; first | (rw [e0]; done) | (rw [e0]; omega)
  | ⟨1, _⟩ => show win0_8.index t (1 : Fin 3) * 128 + 1 * r.val = r.val; first | (rw [e1]; done) | (rw [e1]; omega)
  | ⟨2, _⟩ => show win0_8.index t (2 : Fin 3) * 128 + 1 * q.val = q.val; first | (rw [e2]; done) | (rw [e2]; omega)

theorem read9 (t : Fin cfg0.N) (j k : Fin 1024) : (iblk m c 9 t : S1024x1024.Idx → EReal) (ix2 j k) = at2 (m ((c : Thread nD τ).loc main_arg7)) j.val k.val := by
  have ht : t.val < 34 := t.isLt
  obtain ⟨e0, e1⟩ := idx9 t
  show V m c main_v7 (((cfg0.win 9).blk t).view.emb (ix2 j k)) = _
  refine Eq.trans (congrArg _ ?_) (V_v7 m c j k)
  funext a
  refine Fin.ext ?_
  match a with
  | ⟨0, _⟩ => show win0_9.index t (0 : Fin 2) * 1024 + 1 * j.val = j.val; first | (rw [e0]; done) | (rw [e0]; omega)
  | ⟨1, _⟩ => show win0_9.index t (1 : Fin 2) * 1024 + 1 * k.val = k.val; first | (rw [e1]; done) | (rw [e1]; omega)

/-- The layer's arrays as launched. -/
def par : GArgs where
  h := at2 (m ((c : Thread nD τ).loc main_arg0))
  m := at2 (m ((c : Thread nD τ).loc main_arg1))
  g := at1 (m ((c : Thread nD τ).loc main_arg2))
  w := at2 (m ((c : Thread nD τ).loc main_arg3))
  v := at1 (m ((c : Thread nD τ).loc main_arg4))
  s := at3 (m ((c : Thread nD τ).loc main_arg5))
  b := at2 (m ((c : Thread nD τ).loc main_arg6))
  o := at2 (m ((c : Thread nD τ).loc main_arg7))

theorem reads (t : Fin cfg0.N) : Reads (par m c) t.val (t.val / 8) (iblk m c 0 t) (iblk m c 1 t) (iblk m c 2 t) (iblk m c 3 t) (iblk m c 4 t) (iblk m c 5 t) (iblk m c 6 t) (iblk m c 7 t) (iblk m c 8 t) (iblk m c 9 t) :=
  ⟨read0 m c t, read1 m c t, read2 m c t, read3 m c t, read4 m c t, read5 m c t, read6 m c t, read7 m c t, read8 m c t, read9 m c t⟩

/-! ## The whole array -/

/-- The array the call leaves. -/
def G : S17408x1024.Idx → EReal := fun i => gout (par m c) ((i 0).val / 4096) (i 0).val (i 1).val

theorem emb10_0 (t : Fin cfg0.N) (j : S512x1024.Idx) : (((cfg0.win 10).blk t).view.emb j (0 : Fin 2)).val = 512 * t.val + (j 0).val := by
  show win0_10.index t (0 : Fin 2) * 512 + 1 * (j 0).val = _
  rw [(idx10 t).1]; omega

theorem emb10_1 (t : Fin cfg0.N) (j : S512x1024.Idx) : (((cfg0.win 10).blk t).view.emb j (1 : Fin 2)).val = (j 1).val := by
  show win0_10.index t (1 : Fin 2) * 1024 + 1 * (j 1).val = _
  rw [(idx10 t).2]; omega

/-- What a point writes back is its block of `G`. -/
theorem flushed10_eq (t : Fin cfg0.N) : (dats m 0 c).flushed 10 t = ((cfg0.win 10).blk t).view.read (Elt Ideal) (G m c) := by
  rw [flushed10_A]
  funext j
  have h0 : (j 0).val < 512 := (j 0).isLt
  have key := out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (par m c) t.val (t.val / 8) (reads m c t) (j 0) (j 1)
  refine Eq.trans (congrArg _ (ix2_eta j).symm) (key.trans ?_)
  show _ = G m c (((cfg0.win 10).blk t).view.emb j)
  unfold G
  rw [emb10_0, emb10_1, show (512 * t.val + (j 0).val) / 4096 = t.val / 8 by omega]

/-- Every row is written by the point of its block. -/
theorem covered10 (i : S17408x1024.Idx) : ∃ t : Fin cfg0.N, (cfg0.win 10).flush t = true ∧ i ∈ ((cfg0.win 10).blk t).view.set := by
  have h0 : (i 0).val < 17408 := (i 0).isLt
  have h1 : (i 1).val < 1024 := (i 1).isLt
  have hN : cfg0.N = 34 := by decide
  obtain ⟨t, ht⟩ : ∃ t : Fin cfg0.N, t.val = (i 0).val / 512 := ⟨⟨(i 0).val / 512, by rw [hN]; omega⟩, rfl⟩
  refine ⟨t, flush0_10 t, ?_⟩
  have e := ((cfg0.win 10).blk t).view.emb_mem_set (ix2 ⟨(i 0).val % 512, by omega⟩ ⟨(i 1).val, h1⟩ : S512x1024.Idx)
  have hi : ((cfg0.win 10).blk t).view.emb (ix2 ⟨(i 0).val % 512, by omega⟩ ⟨(i 1).val, h1⟩ : S512x1024.Idx) = i := by
    funext a
    match a with
    | ⟨0, _⟩ => exact Fin.ext ((emb10_0 t _).trans (by rw [ht]; show 512 * ((i 0).val / 512) + (i 0).val % 512 = (i 0).val; omega))
    | ⟨1, _⟩ => exact Fin.ext (emb10_1 t _)
  rwa [hi] at e

/-- The result array. -/
theorem result : (dats m 0 c).arrAt 10 cfg0.N = G m c := by
  funext i
  obtain ⟨t, hf, hm⟩ := covered10 i
  exact (dats m 0 c).arrAt_apply_of_mem 10 (G m c) (fun t _ => flushed10_eq m c t) cfg0.N t i t.isLt hf hm

end Cert.GateIdeal.Parts

end
-- ==== Proof.GateRefLat.lean ====
/- The reference of the spatial-gating call, entry by entry: its latent rows. -/
module

public import proofs.«01_k».proof.Proof.GateSpec
public import proofs.«01_k».proof.Proof.Gen.GateRefIdeal.Read
public import Idealize.ShloMosaic.Lib.Pointwise

@[expose] public section

noncomputable section

namespace Cert.GateRefIdeal.Lat

open Cert.GateRefIdeal Cert.GateRefIdeal.Gen Cert.GateRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x2048.Idx → EReal)
    (x4 : S1024.Idx → EReal) (x5 : S4x128x128.Idx → EReal) (x6 : S4x128.Idx → EReal) (x7 : S1024x1024.Idx → EReal)

/-- The layer's arrays. -/
def par : GArgs where
  h := at2 x0
  m := at2 x1
  g := at1 x2
  w := at2 x3
  v := at1 x4
  s := at3 x5
  b := at2 x6
  o := at2 x7

theorem rows_apply (b : Fin 4) (n : Fin 4096) (k : Fin 1024) : val_main_v1 (F := Ideal) x0 (ix3 b n k) = at2 x0 (4096 * b.val + n.val) k.val := by
  rw [at2_eq _ _ _ (by omega) (by omega)]
  pointwise [val_main_v1, val_main_v0]
  exact congrArg x0 (congrArg₂ ix2 (Fin.ext (by dsimp only; omega)) rfl)

theorem shift_apply (b : Fin 4) (k : Fin 1024) : val_main_v4 (F := Ideal) x1 (ix3 b 0 k) = at2 x1 b.val k.val := by
  rw [at2_eq _ _ _ (by omega) (by omega)]
  pointwise [val_main_v4, val_main_v3, val_main_v2]

theorem scale_apply (b : Fin 4) (k : Fin 1024) : val_main_v5 (F := Ideal) x1 (ix3 b 0 k) = at2 x1 b.val (1024 + k.val) := by
  rw [at2_eq _ _ _ (by omega) (by omega)]
  pointwise [val_main_v5, val_main_v3, val_main_v2]

theorem act_apply (b : Fin 4) (n : Fin 4096) (k : Fin 1024) :
    val_main_v28 (F := Ideal) x0 x1 x2 (ix3 b n k) = mact (at2 x0) (at2 x1) (at1 x2) b.val (4096 * b.val + n.val) k.val := by
  have e0 := rows_apply x0
  have e1 := shift_apply x1
  have e2 := scale_apply x1
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2]
  simp only [e0, e1, e2]
  rw [mul_assoc (_ * _) (x2 (ix1 k)), show x2 (ix1 k) = at1 x2 k.val from (at1_eq _ _ k.isLt).symm]
  rfl

theorem up_apply (b : Fin 4) (n : Fin 4096) (j : Fin 2048) :
    val_main_v29 (F := Ideal) x0 x1 x2 x3 (ix3 b n j) = mproj (at2 x0) (at2 x1) (at1 x2) (at2 x3) b.val (4096 * b.val + n.val) j.val := by
  have e := act_apply x0 x1 x2
  pointwise [val_main_v29]
  refine Finset.sum_congr rfl fun k _ => ?_
  rw [e, show x3 (ix2 k j) = at2 x3 k.val j.val from (at2_eq _ _ _ k.isLt j.isLt).symm]

theorem gate_apply (b : Fin 4) (k : Fin 1024) : val_main_v6 (F := Ideal) x1 (ix3 b 0 k) = at2 x1 b.val (2048 + k.val) := by
  rw [at2_eq _ _ _ (by omega) (by omega)]
  pointwise [val_main_v6, val_main_v3, val_main_v2]

/-- A hidden channel. -/
theorem hid_apply (b : Fin 4) (n : Fin 4096) (j : Fin 2048) :
    val_main_v42 (F := Ideal) x0 x1 x2 x3 (ix3 b n j) = ghid (par x0 x1 x2 x3 x4 x5 x6 x7) b.val (4096 * b.val + n.val) j.val := by
  unfold ghid
  have e : val_main_v29 (F := Ideal) x0 x1 x2 x3 (ix3 b n j) = mproj (par x0 x1 x2 x3 x4 x5 x6 x7).h (par x0 x1 x2 x3 x4 x5 x6 x7).m (par x0 x1 x2 x3 x4 x5 x6 x7).g (par x0 x1 x2 x3 x4 x5 x6 x7).w b.val (4096 * b.val + n.val) j.val := up_apply x0 x1 x2 x3 b n j
  rw [← e]
  generalize hz : val_main_v29 (F := Ideal) x0 x1 x2 x3 (ix3 b n j) = z
  pointwise [val_main_v42, val_main_v41, val_main_v40, val_main_v39, val_main_v38, val_main_v37, val_main_v36, val_main_v35, val_main_v34, val_main_v33, val_main_v32, val_main_v31, val_main_v30, val_main_cst_3, val_main_cst_4, val_main_cst_5, val_main_cst_6]
  simp only [hz]
  unfold gelu
  rw [mul_comm z (z * z)]

/-- A normalized gating channel. -/
theorem norm_apply (b : Fin 4) (n : Fin 4096) (k : Fin 1024) :
    val_main_v57 (F := Ideal) x0 x1 x2 x3 x4 (ix3 b n k) = gnorm (par x0 x1 x2 x3 x4 x5 x6 x7) b.val (4096 * b.val + n.val) k.val := by
  have e := hid_apply x0 x1 x2 x3 x4 x5 x6 x7 b n
  pointwise [val_main_v57, val_main_v56, val_main_v55, val_main_v54, val_main_v53, val_main_v52, val_main_v51, val_main_v50, val_main_v49, val_main_v48, val_main_v47, val_main_v46, val_main_v45, val_main_v44, val_main_cst_7, val_main_cst_8, val_main_cst_9]
  simp only [e]
  rw [show x4 (ix1 k) = (par x0 x1 x2 x3 x4 x5 x6 x7).v k.val from (at1_eq _ _ k.isLt).symm]
  rfl

/-- The mixed gate. -/
theorem mix_apply (b : Fin 4) (n : Fin 4096) (j : Fin 1024) :
    val_main_v65 (F := Ideal) x0 x1 x2 x3 x4 x5 x6 (ix3 b n j)
      = ∑ q : Fin 128, at3 x5 (j.val / 256) (n.val % 128) q.val * gnorm (par x0 x1 x2 x3 x4 x5 x6 x7) b.val ((4096 * b.val + n.val) / 128 * 128 + q.val) j.val
        + at2 x6 (j.val / 256) (n.val % 128) := by
  have hb := b.isLt
  have hn := n.isLt
  have hj := j.isLt
  have e := norm_apply x0 x1 x2 x3 x4 x5 x6 x7
  pointwise [val_main_v65, val_main_v64, val_main_v63, val_main_v62, val_main_v61, val_main_v60, val_main_v59, val_main_v58]
  refine congrArg₂ (fun y z : EReal => y + z) (Finset.sum_congr rfl fun q _ => ?_) (at2_eq _ _ _ (by omega) (by omega)).symm
  have hq := q.isLt
  rw [e]
  refine (mul_comm _ _).trans ?_
  rw [at3_eq _ _ _ _ (by omega) (by omega) q.isLt, show (4096 * b.val + n.val) / 128 * 128 + q.val = 4096 * b.val + (n.val / 128 * 128 + q.val) by omega]

/-- An entry of the result. -/
theorem out_apply (b : Fin 4) (n : Fin 4096) (j : Fin 1024) :
    val_main_v70 (F := Ideal) x0 x1 x2 x3 x4 x5 x6 x7 (ix3 b n j) = gout (par x0 x1 x2 x3 x4 x5 x6 x7) b.val (4096 * b.val + n.val) j.val := by
  have e0 := rows_apply x0 b n j
  have e1 := gate_apply x1 b j
  have e2 := hid_apply x0 x1 x2 x3 x4 x5 x6 x7 b n
  have e3 := mix_apply x0 x1 x2 x3 x4 x5 x6 x7 b n
  pointwise [val_main_v70, val_main_v69, val_main_v68, val_main_v67, val_main_v66, val_main_v43]
  simp only [e0, e1, e2, e3]
  refine congrArg (fun z : EReal => at2 x0 (4096 * b.val + n.val) j.val + at2 x1 b.val (2048 + j.val) * z) (Finset.sum_congr rfl fun k _ => ?_)
  rw [show x7 (ix2 k j) = at2 x7 k.val j.val from (at2_eq _ _ _ k.isLt j.isLt).symm]
  unfold gmix
  rw [show (4096 * b.val + n.val) % 128 = n.val % 128 by omega]
  rfl

end Cert.GateRefIdeal.Lat

end
-- ==== Proof.GateRefCtx.lean ====
/- The reference of the spatial-gating call, entry by entry: its context rows. -/
module

public import proofs.«01_k».proof.Proof.GateSpec
public import proofs.«01_k».proof.Proof.Gen.GateRefIdeal.Read
public import Idealize.ShloMosaic.Lib.Pointwise

@[expose] public section

noncomputable section

namespace Cert.GateRefIdeal.Ctx

open Cert.GateRefIdeal Cert.GateRefIdeal.Gen Cert.GateRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x2048.Idx → EReal)
    (x4 : S1024.Idx → EReal) (x5 : S4x128x128.Idx → EReal) (x6 : S4x128.Idx → EReal) (x7 : S1024x1024.Idx → EReal)

/-- The layer's arrays. -/
def par : GArgs where
  h := at2 x0
  m := at2 x1
  g := at1 x2
  w := at2 x3
  v := at1 x4
  s := at3 x5
  b := at2 x6
  o := at2 x7

theorem rows_apply (b : Fin 4) (n : Fin 256) (k : Fin 1024) : val_main_v72 (F := Ideal) x0 (ix3 b n k) = at2 x0 (16384 + 256 * b.val + n.val) k.val := by
  rw [at2_eq _ _ _ (by omega) (by omega)]
  pointwise [val_main_v72, val_main_v71]
  exact congrArg x0 (congrArg₂ ix2 (Fin.ext (by dsimp only; omega)) rfl)

theorem shift_apply (k : Fin 1024) : val_main_v75 (F := Ideal) x1 (ix3 0 0 k) = at2 x1 4 k.val := by
  rw [at2_eq _ _ _ (by omega) (by omega)]
  pointwise [val_main_v75, val_main_v74, val_main_v73]

theorem scale_apply (k : Fin 1024) : val_main_v76 (F := Ideal) x1 (ix3 0 0 k) = at2 x1 4 (1024 + k.val) := by
  rw [at2_eq _ _ _ (by omega) (by omega)]
  pointwise [val_main_v76, val_main_v74, val_main_v73]

theorem act_apply (b : Fin 4) (n : Fin 256) (k : Fin 1024) :
    val_main_v99 (F := Ideal) x0 x1 x2 (ix3 b n k) = mact (at2 x0) (at2 x1) (at1 x2) 4 (16384 + 256 * b.val + n.val) k.val := by
  have e0 := rows_apply x0
  have e1 := shift_apply x1
  have e2 := scale_apply x1
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_cst_10, val_main_cst_11, val_main_cst_12, val_main_cst_13]
  simp only [e0, e1, e2]
  rw [mul_assoc (_ * _) (x2 (ix1 k)), show x2 (ix1 k) = at1 x2 k.val from (at1_eq _ _ k.isLt).symm]
  rfl

theorem up_apply (b : Fin 4) (n : Fin 256) (j : Fin 2048) :
    val_main_v100 (F := Ideal) x0 x1 x2 x3 (ix3 b n j) = mproj (at2 x0) (at2 x1) (at1 x2) (at2 x3) 4 (16384 + 256 * b.val + n.val) j.val := by
  have e := act_apply x0 x1 x2
  pointwise [val_main_v100]
  refine Finset.sum_congr rfl fun k _ => ?_
  rw [e, show x3 (ix2 k j) = at2 x3 k.val j.val from (at2_eq _ _ _ k.isLt j.isLt).symm]

theorem gate_apply (k : Fin 1024) : val_main_v77 (F := Ideal) x1 (ix3 0 0 k) = at2 x1 4 (2048 + k.val) := by
  rw [at2_eq _ _ _ (by omega) (by omega)]
  pointwise [val_main_v77, val_main_v74, val_main_v73]

/-- A hidden channel. -/
theorem hid_apply (b : Fin 4) (n : Fin 256) (j : Fin 2048) :
    val_main_v113 (F := Ideal) x0 x1 x2 x3 (ix3 b n j) = ghid (par x0 x1 x2 x3 x4 x5 x6 x7) 4 (16384 + 256 * b.val + n.val) j.val := by
  unfold ghid
  have e : val_main_v100 (F := Ideal) x0 x1 x2 x3 (ix3 b n j) = mproj (par x0 x1 x2 x3 x4 x5 x6 x7).h (par x0 x1 x2 x3 x4 x5 x6 x7).m (par x0 x1 x2 x3 x4 x5 x6 x7).g (par x0 x1 x2 x3 x4 x5 x6 x7).w 4 (16384 + 256 * b.val + n.val) j.val := up_apply x0 x1 x2 x3 b n j
  rw [← e]
  generalize hz : val_main_v100 (F := Ideal) x0 x1 x2 x3 (ix3 b n j) = z
  pointwise [val_main_v113, val_main_v112, val_main_v111, val_main_v110, val_main_v109, val_main_v108, val_main_v107, val_main_v106, val_main_v105, val_main_v104, val_main_v103, val_main_v102, val_main_v101, val_main_cst_14, val_main_cst_15, val_main_cst_16, val_main_cst_17]
  simp only [hz]
  unfold gelu
  rw [mul_comm z (z * z)]

/-- A normalized gating channel. -/
theorem norm_apply (b : Fin 4) (n : Fin 256) (k : Fin 1024) :
    val_main_v128 (F := Ideal) x0 x1 x2 x3 x4 (ix3 b n k) = gnorm (par x0 x1 x2 x3 x4 x5 x6 x7) 4 (16384 + 256 * b.val + n.val) k.val := by
  have e := hid_apply x0 x1 x2 x3 x4 x5 x6 x7 b n
  pointwise [val_main_v128, val_main_v127, val_main_v126, val_main_v125, val_main_v124, val_main_v123, val_main_v122, val_main_v121, val_main_v120, val_main_v119, val_main_v118, val_main_v117, val_main_v116, val_main_v115, val_main_cst_18, val_main_cst_19, val_main_cst_20]
  simp only [e]
  rw [show x4 (ix1 k) = (par x0 x1 x2 x3 x4 x5 x6 x7).v k.val from (at1_eq _ _ k.isLt).symm]
  rfl

/-- The mixed gate. -/
theorem mix_apply (b : Fin 4) (n : Fin 256) (j : Fin 1024) :
    val_main_v136 (F := Ideal) x0 x1 x2 x3 x4 x5 x6 (ix3 b n j)
      = ∑ q : Fin 128, at3 x5 (j.val / 256) (n.val % 128) q.val * gnorm (par x0 x1 x2 x3 x4 x5 x6 x7) 4 ((16384 + 256 * b.val + n.val) / 128 * 128 + q.val) j.val
        + at2 x6 (j.val / 256) (n.val % 128) := by
  have hb := b.isLt
  have hn := n.isLt
  have hj := j.isLt
  have e := norm_apply x0 x1 x2 x3 x4 x5 x6 x7
  pointwise [val_main_v136, val_main_v135, val_main_v134, val_main_v133, val_main_v132, val_main_v131, val_main_v130, val_main_v129]
  refine congrArg₂ (fun y z : EReal => y + z) (Finset.sum_congr rfl fun q _ => ?_) (at2_eq _ _ _ (by omega) (by omega)).symm
  have hq := q.isLt
  rw [e]
  refine (mul_comm _ _).trans ?_
  rw [at3_eq _ _ _ _ (by omega) (by omega) q.isLt, show (16384 + 256 * b.val + n.val) / 128 * 128 + q.val = 16384 + 256 * b.val + (n.val / 128 * 128 + q.val) by omega]

/-- An entry of the result. -/
theorem out_apply (b : Fin 4) (n : Fin 256) (j : Fin 1024) :
    val_main_v141 (F := Ideal) x0 x1 x2 x3 x4 x5 x6 x7 (ix3 b n j) = gout (par x0 x1 x2 x3 x4 x5 x6 x7) 4 (16384 + 256 * b.val + n.val) j.val := by
  have e0 := rows_apply x0 b n j
  have e1 := gate_apply x1 j
  have e2 := hid_apply x0 x1 x2 x3 x4 x5 x6 x7 b n
  have e3 := mix_apply x0 x1 x2 x3 x4 x5 x6 x7 b n
  pointwise [val_main_v141, val_main_v140, val_main_v139, val_main_v138, val_main_v137, val_main_v114]
  simp only [e0, e1, e2, e3]
  refine congrArg (fun z : EReal => at2 x0 (16384 + 256 * b.val + n.val) j.val + at2 x1 4 (2048 + j.val) * z) (Finset.sum_congr rfl fun k _ => ?_)
  rw [show x7 (ix2 k j) = at2 x7 k.val j.val from (at2_eq _ _ _ k.isLt j.isLt).symm]
  unfold gmix
  rw [show (16384 + 256 * b.val + n.val) % 128 = n.val % 128 by omega]
  rfl

end Cert.GateRefIdeal.Ctx

end
-- ==== Proof.GateEnd.lean ====
/- The spatial-gating layer leaves, on the ideal points, exactly its reference's result: the arrays agree entry by entry. -/
module

public import proofs.«01_k».proof.Defs
public import proofs.«01_k».proof.Proof.GateValue
public import proofs.«01_k».proof.Proof.GateRefLat
public import proofs.«01_k».proof.Proof.GateRefCtx
public import Idealize.ShloMosaic.Lib.Pointwise

@[expose] public section

noncomputable section

namespace Cert.GateRefIdeal.Hand

open Cert.GateRefIdeal Cert.GateRefIdeal.Gen Cert.GateRefIdeal.Read Cert.Proof.Ffn
open Idealize.ShloMosaic Idealize.ShloMosaic.TcCoe Idealize.SL.Sem

variable (x0 : S17408x1024.Idx → EReal) (x1 : S5x6144.Idx → EReal) (x2 : S1024.Idx → EReal) (x3 : S1024x2048.Idx → EReal)
    (x4 : S1024.Idx → EReal) (x5 : S4x128x128.Idx → EReal) (x6 : S4x128.Idx → EReal) (x7 : S1024x1024.Idx → EReal)

/-- An entry of the reference's result: the latent rows, then the context rows. -/
theorem result (r : Fin 17408) (j : Fin 1024) : val_main_v144 (F := Ideal) x0 x1 x2 x3 x4 x5 x6 x7 (ix2 r j) = gout (Lat.par x0 x1 x2 x3 x4 x5 x6 x7) (r.val / 4096) r.val j.val := by
  pointwise [val_main_v144, val_main_v143, val_main_v142]
  split
  · rename_i h
    have e := Lat.out_apply x0 x1 x2 x3 x4 x5 x6 x7 ⟨r.val / 4096, by omega⟩ ⟨r.val % 4096, by omega⟩ j
    simp only [Nat.div_add_mod] at e
    exact e
  · rename_i h
    have hr := r.isLt
    have e := Ctx.out_apply x0 x1 x2 x3 x4 x5 x6 x7 ⟨(r.val - 16384) / 256, by omega⟩ ⟨(r.val - 16384) % 256, by omega⟩ j
    have er : 16384 + 256 * ((r.val - 16384) / 256) + (r.val - 16384) % 256 = r.val := by omega
    simp only [er] at e
    rw [show r.val / 4096 = 4 by omega]
    exact e

end Cert.GateRefIdeal.Hand

namespace Cert.Proof.Gate

open Idealize.ShloMosaic Idealize.ShloMosaic.TcCoe Idealize.SL.Sem Cert.Proof.Ffn

theorem algebraic : Cert.algebraic_GateIdeal_GateRefIdeal (hGateIdeal := Cert.GateIdeal.Gen.facts) (hGateRefIdeal := Cert.GateRefIdeal.Gen.facts) := by
  intro m g m' g' _ hm
  refine ⟨fun c => Cert.GateIdeal.Parts.G m c, ?_, ?_⟩
  · refine (θ_run Cert.GateIdeal.defs _ _).mono (fun r h c => ⟨?_, (h c).2⟩) (Cert.GateIdeal.Value.run_blocks m g)
    rw [(h c).1]
    exact Cert.GateIdeal.Parts.result m c
  · refine (θ_run Cert.GateRefIdeal.defs _ _).mono (fun r h c => ⟨?_, (h c).2⟩) (Cert.GateRefIdeal.Value.run m' g')
    obtain ⟨h0, h1, h2, h3, h4, h5, h6, h7⟩ := hm c
    rw [(h c).1, Cert.GateRefIdeal.Read.val_main_v144_eq, h0, h1, h2, h3, h4, h5, h6, h7]
    funext i
    obtain ⟨r, j, rfl⟩ : ∃ (r : Fin 17408) (j : Fin 1024), i = ix2 r j := ⟨i 0, i 1, (ix2_eta i).symm⟩
    exact (Cert.GateRefIdeal.Hand.result _ _ _ _ _ _ _ _ r j)

end Cert.Proof.Gate

end
-- ==== Proof.NOutValue.lean ====
/- The attention output projection's result array: block by block, each entry is the gated residual there. -/
module

public import proofs.«01_k».proof.Proof.ModSpec
public import proofs.«01_k».proof.Proof.Gen.NOutIdeal.Value
public import Idealize.ShloMosaic.Lib.Pointwise
public import Idealize.ShloMosaic.Lib.StableHlo.Run

@[expose] public section

noncomputable section

namespace Cert.NOutIdeal.Parts

open Cert.NOutIdeal Cert.NOutIdeal.Gen Cert.NOutIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg2)) (s.val / 6) (s.val % 6 * 1024 + k.val) := by
  have e : V m c main_v0 = shapeCast S30x1x1024 (m ((c : Thread nD τ).loc main_arg2)) shapeCasts_S5x6144_S30x1x1024 := by
    show StableHlo.after hostOps0 _ (Proc.devRef .tc main_v0) = _
    after_results_simp <;> rfl
  rw [e]
  exact v0_apply _ s k
theorem v1_apply (A : Vec Ideal S1024x1024 .f32) (k j : Fin 1024) : (truncf (F := Ideal) .bf16 A bitsLt_bf16_f32 : _ → EReal) (ix2 k j) = at2 A k.val j.val := by
  rw [at2_eq _ _ _ (by omega) (by omega)]
  pointwise []
theorem V_v1 (k j : Fin 1024) : V m c main_v1 (ix2 k j) = at2 (m ((c : Thread nD τ).loc main_arg3)) k.val j.val := by
  have e : V m c main_v1 = truncf (F := Ideal) .bf16 (m ((c : Thread nD τ).loc main_arg3)) bitsLt_bf16_f32 := by
    show StableHlo.after hostOps0 _ (Proc.devRef .tc main_v1) = _
    after_results_simp <;> rfl
  rw [e]
  exact v1_apply _ k j
/-! ## The blocks read -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 3) = t.val / 4 * 6 + 2 ∧ win0_2.index t (1 : Fin 3) = 0 ∧ win0_2.index t (2 : Fin 3) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem read0 (t : Fin cfg0.N) (r k : Fin 1024) : (iblk m c 0 t : S1024x1024.Idx → EReal) (ix2 r k) = at2 (m ((c : Thread nD τ).loc main_arg0)) (1024 * t.val + r.val) k.val := by
  have ht : t.val < 17 := t.isLt
  obtain ⟨e0, e1⟩ := idx0 t
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = 1024 * t.val + r.val; first | (rw [e0]; done) | (rw [e0]; omega)
  | ⟨1, _⟩ => show win0_0.index t (1 : Fin 2) * 1024 + 1 * k.val = k.val; first | (rw [e1]; done) | (rw [e1]; omega)

theorem read1 (t : Fin cfg0.N) (r k : Fin 1024) : (iblk m c 1 t : S1024x1024.Idx → EReal) (ix2 r k) = at2 (m ((c : Thread nD τ).loc main_arg1)) (1024 * t.val + r.val) k.val := by
  have ht : t.val < 17 := t.isLt
  obtain ⟨e0, e1⟩ := idx1 t
  rw [at2_eq _ _ _ (by omega) (by omega)]
  show V m c main_arg1 (((cfg0.win 1).blk t).view.emb (ix2 r k)) = _
  rw [V_main_arg1]
  refine congrArg _ (funext fun a => Fin.ext ?_)
  match a with
  | ⟨0, _⟩ => show win0_1.index t (0 : Fin 2) * 1024 + 1 * r.val = 1024 * t.val + r.val; first | (rw [e0]; done) | (rw [e0]; omega)
  | ⟨1, _⟩ => show win0_1.index t (1 : Fin 2) * 1024 + 1 * k.val = k.val; first | (rw [e1]; done) | (rw [e1]; omega)

theorem read2 (t : Fin cfg0.N) (k : Fin 1024) : (iblk m c 2 t : S1x1x1024.Idx → EReal) (ix3 0 0 k) = at2 (m ((c : Thread nD τ).loc main_arg2)) (t.val / 4) (2048 + k.val) := by
  have ht : t.val < 17 := t.isLt
  obtain ⟨e0, e1, e2⟩ := idx2 t
  show V m c main_v0 (((cfg0.win 2).blk t).view.emb (ix3 0 0 k)) = _
  refine Eq.trans (congrArg _ ?_) ((V_v0 m c ⟨t.val / 4 * 6 + 2, by omega⟩ k).trans (by dsimp only; congr 1 <;> omega))
  funext a
  refine Fin.ext ?_
  match a with
  | ⟨0, _⟩ => show win0_2.index t (0 : Fin 3) * 1 + 1 * 0 = t.val / 4 * 6 + 2; first | (rw [e0]; done) | (rw [e0]; omega)
  | ⟨1, _⟩ => show win0_2.index t (1 : Fin 3) * 1 + 1 * 0 = 0; first | (rw [e1]; done) | (rw [e1]; omega)
  | ⟨2, _⟩ => show win0_2.index t (2 : Fin 3) * 1024 + 1 * k.val = k.val; first | (rw [e2]; done) | (rw [e2]; omega)

theorem read3 (t : Fin cfg0.N) (k j : Fin 1024) : (iblk m c 3 t : S1024x1024.Idx → EReal) (ix2 k j) = at2 (m ((c : Thread nD τ).loc main_arg3)) k.val j.val := by
  have ht : t.val < 17 := t.isLt
  obtain ⟨e0, e1⟩ := idx3 t
  show V m c main_v1 (((cfg0.win 3).blk t).view.emb (ix2 k j)) = _
  refine Eq.trans (congrArg _ ?_) (V_v1 m c k j)
  funext a
  refine Fin.ext ?_
  match a with
  | ⟨0, _⟩ => show win0_3.index t (0 : Fin 2) * 1024 + 1 * k.val = k.val; first | (rw [e0]; done) | (rw [e0]; omega)
  | ⟨1, _⟩ => show win0_3.index t (1 : Fin 2) * 1024 + 1 * j.val = j.val; first | (rw [e1]; done) | (rw [e1]; omega)

/-! ## One block -/

section
variable {h o mm w : ℕ → ℕ → EReal} {t s : ℕ}
    {x0 : Vec Ideal S1024x1024 .f32} {x1 : Vec Ideal S1024x1024 .bf16} {x2 : Vec Ideal S1x1x1024 .f32} {x3 : Vec Ideal S1024x1024 .bf16}

theorem block_apply (h0 : ∀ r k : Fin 1024, x0 (ix2 r k) = h (1024 * t + r.val) k.val) (h1 : ∀ r k : Fin 1024, x1 (ix2 r k) = o (1024 * t + r.val) k.val)
    (h2 : ∀ k : Fin 1024, x2 (ix3 0 0 k) = mm s (2048 + k.val)) (h3 : ∀ k j : Fin 1024, x3 (ix2 k j) = w k.val j.val) (r k : Fin 1024) :
    out0_4 x0 x1 x2 x3 (ix2 r k) = resid h o mm w s (1024 * t + r.val) k.val := by
  unfold out0_4
  rw [ld2 x0, ld2 x1, ld3 x2, ld2 x3]
  refine View.canon_apply_of_pieces (Val := Elt Ideal) (S := S1024x1024) (e := .f32)
    (fun y => resid h o mm w s (1024 * t + (y (0 : Fin 2)).val) (y (1 : Fin 2)).val) _ (fun pc hq y => ?_) (ix2 r k) (cover0_4 _ (ix2 r k))
  simp only [List.mem_cons, List.mem_nil_iff, or_false] at hq
  subst hq
  obtain ⟨r, x, rfl⟩ : ∃ (r : Fin 1024) (x : Fin 1024), y = ix2 r x := ⟨y 0, y 1, (ix2_eta y).symm⟩
  show k0_pay1 x0 x2 x1 x3 (ix2 r x) = resid h o mm w s (1024 * t + (0 + 1 * r.val)) (0 + 1 * x.val)
  rw [Nat.zero_add, Nat.zero_add, Nat.one_mul, Nat.one_mul]
  pointwise [k0_pay1]
  simp only [h0, h1, h2, h3]
  rfl

end

/-! ## The whole array -/

/-- The array the call leaves. -/
def G : S17408x1024.Idx → EReal := fun i =>
  resid (at2 (m ((c : Thread nD τ).loc main_arg0))) (at2 (m ((c : Thread nD τ).loc main_arg1))) (at2 (m ((c : Thread nD τ).loc main_arg2))) (at2 (m ((c : Thread nD τ).loc main_arg3))) ((i 0).val / 4096) (i 0).val (i 1).val

theorem emb4_0 (t : Fin cfg0.N) (j : S1024x1024.Idx) : (((cfg0.win 4).blk t).view.emb j (0 : Fin 2)).val = 1024 * t.val + (j 0).val := by
  show win0_4.index t (0 : Fin 2) * 1024 + 1 * (j 0).val = _
  rw [(idx4 t).1]; omega

theorem emb4_1 (t : Fin cfg0.N) (j : S1024x1024.Idx) : (((cfg0.win 4).blk t).view.emb j (1 : Fin 2)).val = (j 1).val := by
  show win0_4.index t (1 : Fin 2) * 1024 + 1 * (j 1).val = _
  rw [(idx4 t).2]; omega

/-- What a point writes back is its block of `G`. -/
theorem flushed4_eq (t : Fin cfg0.N) : (dats m 0 c).flushed 4 t = ((cfg0.win 4).blk t).view.read (Elt Ideal) (G m c) := by
  rw [flushed4]
  funext j
  have h0 : (j 0).val < 1024 := (j 0).isLt
  have key := block_apply (read0 m c t) (read1 m c t) (read2 m c t) (read3 m c t) (j 0) (j 1)
  refine Eq.trans (congrArg _ (ix2_eta j).symm) (key.trans ?_)
  show _ = G m c (((cfg0.win 4).blk t).view.emb j)
  unfold G
  rw [emb4_0, emb4_1, show (1024 * t.val + (j 0).val) / 4096 = t.val / 4 by omega]

/-- Every row is written by the point of its block. -/
theorem covered4 (i : S17408x1024.Idx) : ∃ t : Fin cfg0.N, (cfg0.win 4).flush t = true ∧ i ∈ ((cfg0.win 4).blk t).view.set := by
  have h0 : (i 0).val < 17408 := (i 0).isLt
  have h1 : (i 1).val < 1024 := (i 1).isLt
  have hN : cfg0.N = 17 := by decide
  obtain ⟨t, ht⟩ : ∃ t : Fin cfg0.N, t.val = (i 0).val / 1024 := ⟨⟨(i 0).val / 1024, by rw [hN]; omega⟩, rfl⟩
  refine ⟨t, flush0_4 t, ?_⟩
  have e := ((cfg0.win 4).blk t).view.emb_mem_set (ix2 ⟨(i 0).val % 1024, by omega⟩ ⟨(i 1).val, h1⟩ : S1024x1024.Idx)
  have hi : ((cfg0.win 4).blk t).view.emb (ix2 ⟨(i 0).val % 1024, by omega⟩ ⟨(i 1).val, h1⟩ : S1024x1024.Idx) = i := by
    funext a
    match a with
    | ⟨0, _⟩ => exact Fin.ext ((emb4_0 t _).trans (by rw [ht]; show 1024 * ((i 0).val / 1024) + (i 0).val % 1024 = (i 0).val; omega))
    | ⟨1, _⟩ => exact Fin.ext (emb4_1 t _)
  rwa [hi] at e

/-- The result array. -/
theorem result : (dats m 0 c).arrAt 4 cfg0.N = G m c := by
  funext i
  obtain ⟨t, hf, hm⟩ := covered4 i
  exact (dats m 0 c).arrAt_apply_of_mem 4 (G m c) (fun t _ => flushed4_eq m c t) cfg0.N t i t.isLt hf hm

end Cert.NOutIdeal.Parts

end
-- ==== Proof.NOutRefLat.lean ====
/- The reference of the attention output projection, entry by entry: its latent rows. -/
module

public import proofs.«01_k».proof.Proof.ModSpec
public import proofs.«01_k».proof.Proof.Gen.NOutRefIdeal.Read
public import Idealize.ShloMosaic.Lib.Pointwise

@[expose] public section

noncomputable section

namespace Cert.NOutRefIdeal.Lat

open Cert.NOutRefIdeal Cert.NOutRefIdeal.Gen Cert.NOutRefIdeal.Read Cert.Proof.Ffn
open Idealize.ShloMosaic Idealize.ShloMosaic.TcCoe Idealize.SL.Sem
open scoped BigOperators

variable (x0 : S17408x1024.Idx → EReal) (x1 : S17408x1024.Idx → EReal) (x2 : S5x6144.Idx → EReal) (x3 : S1024x1024.Idx → EReal)

/-- An entry of the result. -/
theorem out_apply (b : Fin 4) (n : Fin 4096) (j : Fin 1024) :
    val_main_v16 (F := Ideal) x0 x1 x2 x3 (ix3 b n j) = resid (at2 x0) (at2 x1) (at2 x2) (at2 x3) b.val (4096 * b.val + n.val) j.val := by
  have e0 : at2 x0 (4096 * b.val + n.val) j.val = val_main_v1 (F := Ideal) x0 (ix3 b n j) := by
    rw [at2_eq _ _ _ (by omega) (by omega)]
    pointwise [val_main_v1, val_main_v0]
    exact congrArg x0 (congrArg₂ ix2 (Fin.ext (by dsimp only; omega)) rfl)
  have e1 : ∀ k : Fin 1024, at2 x1 (4096 * b.val + n.val) k.val = val_main_v3 (F := Ideal) x1 (ix3 b n k) := by
    intro k
    rw [at2_eq _ _ _ (by omega) (by omega)]
    pointwise [val_main_v3, val_main_v2]
    exact congrArg x1 (congrArg₂ ix2 (Fin.ext (by dsimp only; omega)) rfl)
  have e2 : at2 x2 b.val (2048 + j.val) = val_main_v8 (F := Ideal) x2 (ix3 b 0 j) := by
    rw [at2_eq _ _ _ (by omega) (by omega)]
    pointwise [val_main_v8, val_main_v5, val_main_v4]
  unfold resid
  rw [e0, e2]
  pointwise [val_main_v16, val_main_v15, val_main_v14, val_main_v13, val_main_v12]
  refine congrArg (fun z => _ + _ * z) (Finset.sum_congr rfl fun k _ => ?_)
  rw [e1, at2_eq x3 _ _ k.isLt j.isLt]

end Cert.NOutRefIdeal.Lat

end
-- ==== Proof.NOutRefCtx.lean ====
/- The reference of the attention output projection, entry by entry: its context rows. -/
module

public import proofs.«01_k».proof.Proof.ModSpec
public import proofs.«01_k».proof.Proof.Gen.NOutRefIdeal.Read
public import Idealize.ShloMosaic.Lib.Pointwise

@[expose] public section

noncomputable section

namespace Cert.NOutRefIdeal.Ctx

open Cert.NOutRefIdeal Cert.NOutRefIdeal.Gen Cert.NOutRefIdeal.Read Cert.Proof.Ffn
open Idealize.ShloMosaic Idealize.ShloMosaic.TcCoe Idealize.SL.Sem
open scoped BigOperators

variable (x0 : S17408x1024.Idx → EReal) (x1 : S17408x1024.Idx → EReal) (x2 : S5x6144.Idx → EReal) (x3 : S1024x1024.Idx → EReal)

/-- An entry of the result. -/
theorem out_apply (b : Fin 4) (n : Fin 256) (j : Fin 1024) :
    val_main_v33 (F := Ideal) x0 x1 x2 x3 (ix3 b n j) = resid (at2 x0) (at2 x1) (at2 x2) (at2 x3) 4 (16384 + 256 * b.val + n.val) j.val := by
  have e0 : at2 x0 (16384 + 256 * b.val + n.val) j.val = val_main_v18 (F := Ideal) x0 (ix3 b n j) := by
    rw [at2_eq _ _ _ (by omega) (by omega)]
    pointwise [val_main_v18, val_main_v17]
    exact congrArg x0 (congrArg₂ ix2 (Fin.ext (by dsimp only; omega)) rfl)
  have e1 : ∀ k : Fin 1024, at2 x1 (16384 + 256 * b.val + n.val) k.val = val_main_v20 (F := Ideal) x1 (ix3 b n k) := by
    intro k
    rw [at2_eq _ _ _ (by omega) (by omega)]
    pointwise [val_main_v20, val_main_v19]
    exact congrArg x1 (congrArg₂ ix2 (Fin.ext (by dsimp only; omega)) rfl)
  have e2 : at2 x2 4 (2048 + j.val) = val_main_v25 (F := Ideal) x2 (ix3 0 0 j) := by
    rw [at2_eq _ _ _ (by omega) (by omega)]
    pointwise [val_main_v25, val_main_v22, val_main_v21]
  unfold resid
  rw [e0, e2]
  pointwise [val_main_v33, val_main_v32, val_main_v31, val_main_v30, val_main_v29]
  refine congrArg (fun z => _ + _ * z) (Finset.sum_congr rfl fun k _ => ?_)
  rw [e1, at2_eq x3 _ _ k.isLt j.isLt]

end Cert.NOutRefIdeal.Ctx

end
-- ==== Proof.NOutEnd.lean ====
/- The attention output projection leaves, on the ideal points, exactly its reference's result: the arrays agree entry by entry. -/
module

public import proofs.«01_k».proof.Defs
public import proofs.«01_k».proof.Proof.NOutValue
public import proofs.«01_k».proof.Proof.NOutRefLat
public import proofs.«01_k».proof.Proof.NOutRefCtx
public import Idealize.ShloMosaic.Lib.Pointwise

@[expose] public section

noncomputable section

namespace Cert.NOutRefIdeal.Hand

open Cert.NOutRefIdeal Cert.NOutRefIdeal.Gen Cert.NOutRefIdeal.Read Cert.Proof.Ffn
open Idealize.ShloMosaic Idealize.ShloMosaic.TcCoe Idealize.SL.Sem

variable (x0 : S17408x1024.Idx → EReal) (x1 : S17408x1024.Idx → EReal) (x2 : S5x6144.Idx → EReal) (x3 : S1024x1024.Idx → EReal)

/-- An entry of the reference's result: the latent rows, then the context rows. -/
theorem result (r : Fin 17408) (j : Fin 1024) : val_main_v36 (F := Ideal) x0 x1 x2 x3 (ix2 r j) = resid (at2 x0) (at2 x1) (at2 x2) (at2 x3) (r.val / 4096) r.val j.val := by
  pointwise [val_main_v36, val_main_v35, val_main_v34]
  split
  · rename_i h
    have e := Lat.out_apply x0 x1 x2 x3 ⟨r.val / 4096, by omega⟩ ⟨r.val % 4096, by omega⟩ j
    simp only [Nat.div_add_mod] at e
    exact e
  · rename_i h
    have hr := r.isLt
    have e := Ctx.out_apply x0 x1 x2 x3 ⟨(r.val - 16384) / 256, by omega⟩ ⟨(r.val - 16384) % 256, by omega⟩ j
    have er : 16384 + 256 * ((r.val - 16384) / 256) + (r.val - 16384) % 256 = r.val := by omega
    simp only [er] at e
    rw [show r.val / 4096 = 4 by omega]
    exact e

end Cert.NOutRefIdeal.Hand

namespace Cert.Proof.NOut

open Idealize.ShloMosaic Idealize.ShloMosaic.TcCoe Idealize.SL.Sem Cert.Proof.Ffn

theorem algebraic : Cert.algebraic_NOutIdeal_NOutRefIdeal (hNOutIdeal := Cert.NOutIdeal.Gen.facts) (hNOutRefIdeal := Cert.NOutRefIdeal.Gen.facts) := by
  intro m g m' g' _ hm
  refine ⟨fun c => Cert.NOutIdeal.Parts.G m c, ?_, ?_⟩
  · refine (θ_run Cert.NOutIdeal.defs _ _).mono (fun r h c => ⟨?_, (h c).2⟩) (Cert.NOutIdeal.Value.run_blocks m g)
    rw [(h c).1]
    exact Cert.NOutIdeal.Parts.result m c
  · refine (θ_run Cert.NOutRefIdeal.defs _ _).mono (fun r h c => ⟨?_, (h c).2⟩) (Cert.NOutRefIdeal.Value.run m' g')
    obtain ⟨h0, h1, h2, h3⟩ := hm c
    rw [(h c).1, Cert.NOutRefIdeal.Read.val_main_v36_eq, h0, h1, h2, h3]
    funext i
    obtain ⟨r, j, rfl⟩ : ∃ (r : Fin 17408) (j : Fin 1024), i = ix2 r j := ⟨i 0, i 1, (ix2_eta i).symm⟩
    exact (Cert.NOutRefIdeal.Hand.result _ _ _ _ r j)

end Cert.Proof.NOut

end
-- ==== Proof.OutValue.lean ====
/- The grouped-query output projection's result array: latent rows are the gated residual with the heads read in the kernel's order; context rows are left as they were. -/
module

public import proofs.«01_k».proof.Proof.ModSpec
public import proofs.«01_k».proof.Proof.Gen.OutIdeal.Value
public import Idealize.ShloMosaic.Lib.Pointwise
public import Idealize.ShloMosaic.Lib.StableHlo.Run

@[expose] public section

noncomputable section

namespace Cert.OutIdeal.Parts

open Cert.OutIdeal Cert.OutIdeal.Gen Cert.OutIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg2)) (s.val / 6) (s.val % 6 * 1024 + k.val) := by
  have e : V m c main_v0 = shapeCast S30x1x1024 (m ((c : Thread nD τ).loc main_arg2)) shapeCasts_S5x6144_S30x1x1024 := by
    show StableHlo.after hostOps0 _ (Proc.devRef .tc main_v0) = _
    after_results_simp <;> rfl
  rw [e]
  exact v0_apply _ s k
/-- The order the kernel's weights list the heads in, head by head and coordinate by coordinate. -/
def head (b : ℕ) : ℕ := b / 8 * 8 + b % 2 * 4 + b % 8 / 2
def perm (j : ℕ) : ℕ := head (j / 64) * 64 + j % 64

/-- The table of heads as the gather reads it. -/
def table : IVec S16x1 32 := broadcastInDim S16x1 ![0] bcast_S16_S16x1_0 (select (constantI S16 1 0#1) (addi (fun i => lit0 (S16.rowMajor i)) (broadcastInDim S16 ![] bcast_S_S16 (constantI S_ 32 16#32))) (fun i => lit0 (S16.rowMajor i)))

theorem table_apply : ∀ b : Fin 16, table (ix2 b 0) = BitVec.ofNat 32 (head b.val) := by
  decide +kernel

theorem head_lt (b : ℕ) (hb : b < 16) : head b < 16 := by unfold head; omega

/-- A row of heads read through the table. -/
theorem gather_apply (x : Vec Ideal S16x64x1024 .f32) (b : Fin 16) (d : Fin 64) (k : Fin 1024) :
    Host.gather gather_S16x64x1024_S16x1_S16x64x1024_12_0_n_n_0_1_1641024 x table (ix3 b d k) = x (ix3 ⟨head b.val, head_lt _ b.isLt⟩ d k) := by
  have hh := head_lt _ b.isLt
  unfold Host.gather
  refine congrArg x (funext fun a => Fin.ext ?_)
  match a with
  | ⟨0, _⟩ =>
    show min (table (ix2 b 0)).toInt.toNat 15 = head b.val
    rw [table_apply, show (BitVec.ofNat 32 (head b.val)).toInt = (head b.val : ℤ) from by
      rw [BitVec.toInt_eq_toNat_of_lt (by rw [BitVec.toNat_ofNat]; omega), BitVec.toNat_ofNat, Nat.mod_eq_of_lt (by omega)]]
    show min (head b.val) 15 = head b.val
    omega
  | ⟨1, _⟩ => exact (Nat.zero_add _).trans rfl
  | ⟨2, _⟩ => exact (Nat.zero_add _).trans rfl

theorem w_apply (A : Vec Ideal S1024x1024 .f32) (j k : Fin 1024) :
    (truncf (F := Ideal) .bf16 (shapeCast S1024x1024 (Host.gather gather_S16x64x1024_S16x1_S16x64x1024_12_0_n_n_0_1_1641024
      (shapeCast S16x64x1024 A shapeCasts_S1024x1024_S16x64x1024) table) shapeCasts_S16x64x1024_S1024x1024) bitsLt_bf16_f32 : _ → EReal) (ix2 j k)
      = at2 A (perm j.val) k.val := by
  have hh := head_lt (j.val / 64) (by omega)
  rw [at2_eq _ _ _ (by unfold perm; omega) k.isLt]
  have e := gather_apply (shapeCast S16x64x1024 A shapeCasts_S1024x1024_S16x64x1024) ⟨j.val / 64, by omega⟩ ⟨j.val % 64, by omega⟩ k
  generalize Host.gather gather_S16x64x1024_S16x1_S16x64x1024_12_0_n_n_0_1_1641024 (shapeCast S16x64x1024 A shapeCasts_S1024x1024_S16x64x1024) table = y at e ⊢
  pointwise []
  refine e.trans ?_
  pointwise []
  rfl

theorem V_w (j k : Fin 1024) : V m c main_v8 (ix2 j k) = at2 (m ((c : Thread nD τ).loc main_arg3)) (perm j.val) k.val := by
  have e : V m c main_v8 = truncf (F := Ideal) .bf16 (shapeCast S1024x1024 (Host.gather gather_S16x64x1024_S16x1_S16x64x1024_12_0_n_n_0_1_1641024
      (shapeCast S16x64x1024 (m ((c : Thread nD τ).loc main_arg3)) shapeCasts_S1024x1024_S16x64x1024) table) shapeCasts_S16x64x1024_S1024x1024) bitsLt_bf16_f32 := by
    show StableHlo.after hostOps0 _ (Proc.devRef .tc main_v8) = _
    after_results_simp <;> rfl
  rw [e]
  exact w_apply _ j k

/-- The result's buffer starts as a copy of the rows. -/
theorem V_v9 : V m c main_v9 = m ((c : Thread nD τ).loc main_arg0) := by
  show StableHlo.after hostOps0 _ (Proc.devRef .tc main_v9) = _
  after_results_simp <;> rfl

/-! ## The blocks read -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 3) = t.val / 4 * 6 + 2 ∧ win0_2.index t (1 : Fin 3) = 0 ∧ win0_2.index t (2 : Fin 3) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem read0 (t : Fin cfg0.N) (r k : Fin 1024) : (iblk m c 0 t : S1024x1024.Idx → EReal) (ix2 r k) = at2 (m ((c : Thread nD τ).loc main_arg0)) (1024 * t.val + r.val) k.val := by
  have ht : t.val < 16 := t.isLt
  obtain ⟨e0, e1⟩ := idx0 t
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = 1024 * t.val + r.val; first | (rw [e0]; done) | (rw [e0]; omega)
  | ⟨1, _⟩ => show win0_0.index t (1 : Fin 2) * 1024 + 1 * k.val = k.val; first | (rw [e1]; done) | (rw [e1]; omega)

theorem read1 (t : Fin cfg0.N) (r k : Fin 1024) : (iblk m c 1 t : S1024x1024.Idx → EReal) (ix2 r k) = at2 (m ((c : Thread nD τ).loc main_arg1)) (1024 * t.val + r.val) k.val := by
  have ht : t.val < 16 := t.isLt
  obtain ⟨e0, e1⟩ := idx1 t
  rw [at2_eq _ _ _ (by omega) (by omega)]
  show V m c main_arg1 (((cfg0.win 1).blk t).view.emb (ix2 r k)) = _
  rw [V_main_arg1]
  refine congrArg _ (funext fun a => Fin.ext ?_)
  match a with
  | ⟨0, _⟩ => show win0_1.index t (0 : Fin 2) * 1024 + 1 * r.val = 1024 * t.val + r.val; first | (rw [e0]; done) | (rw [e0]; omega)
  | ⟨1, _⟩ => show win0_1.index t (1 : Fin 2) * 1024 + 1 * k.val = k.val; first | (rw [e1]; done) | (rw [e1]; omega)

theorem read2 (t : Fin cfg0.N) (k : Fin 1024) : (iblk m c 2 t : S1x1x1024.Idx → EReal) (ix3 0 0 k) = at2 (m ((c : Thread nD τ).loc main_arg2)) (t.val / 4) (2048 + k.val) := by
  have ht : t.val < 16 := t.isLt
  obtain ⟨e0, e1, e2⟩ := idx2 t
  show V m c main_v0 (((cfg0.win 2).blk t).view.emb (ix3 0 0 k)) = _
  refine Eq.trans (congrArg _ ?_) ((V_v0 m c ⟨t.val / 4 * 6 + 2, by omega⟩ k).trans (by dsimp only; congr 1 <;> omega))
  funext a
  refine Fin.ext ?_
  match a with
  | ⟨0, _⟩ => show win0_2.index t (0 : Fin 3) * 1 + 1 * 0 = t.val / 4 * 6 + 2; first | (rw [e0]; done) | (rw [e0]; omega)
  | ⟨1, _⟩ => show win0_2.index t (1 : Fin 3) * 1 + 1 * 0 = 0; first | (rw [e1]; done) | (rw [e1]; omega)
  | ⟨2, _⟩ => show win0_2.index t (2 : Fin 3) * 1024 + 1 * k.val = k.val; first | (rw [e2]; done) | (rw [e2]; omega)

theorem read3 (t : Fin cfg0.N) (k j : Fin 1024) : (iblk m c 3 t : S1024x1024.Idx → EReal) (ix2 k j) = at2 (m ((c : Thread nD τ).loc main_arg3)) (perm k.val) j.val := by
  have ht : t.val < 16 := t.isLt
  obtain ⟨e0, e1⟩ := idx3 t
  show V m c main_v8 (((cfg0.win 3).blk t).view.emb (ix2 k j)) = _
  refine Eq.trans (congrArg _ ?_) (V_w m c k j)
  funext a
  refine Fin.ext ?_
  match a with
  | ⟨0, _⟩ => show win0_3.index t (0 : Fin 2) * 1024 + 1 * k.val = k.val; first | (rw [e0]; done) | (rw [e0]; omega)
  | ⟨1, _⟩ => show win0_3.index t (1 : Fin 2) * 1024 + 1 * j.val = j.val; first | (rw [e1]; done) | (rw [e1]; omega)

/-! ## One block -/

section
variable {h o mm w : ℕ → ℕ → EReal} {t s : ℕ}
    {x0 : Vec Ideal S1024x1024 .f32} {x1 : Vec Ideal S1024x1024 .bf16} {x2 : Vec Ideal S1x1x1024 .f32} {x3 : Vec Ideal S1024x1024 .bf16}

theorem block_apply (h0 : ∀ r k : Fin 1024, x0 (ix2 r k) = h (1024 * t + r.val) k.val) (h1 : ∀ r k : Fin 1024, x1 (ix2 r k) = o (1024 * t + r.val) k.val)
    (h2 : ∀ k : Fin 1024, x2 (ix3 0 0 k) = mm s (2048 + k.val)) (h3 : ∀ k j : Fin 1024, x3 (ix2 k j) = w k.val j.val) (r k : Fin 1024) :
    out0_4 x0 x1 x2 x3 (ix2 r k) = resid h o mm w s (1024 * t + r.val) k.val := by
  unfold out0_4
  rw [ld2 x0, ld2 x1, ld3 x2, ld2 x3]
  refine View.canon_apply_of_pieces (Val := Elt Ideal) (S := S1024x1024) (e := .f32)
    (fun y => resid h o mm w s (1024 * t + (y (0 : Fin 2)).val) (y (1 : Fin 2)).val) _ (fun pc hq y => ?_) (ix2 r k) (cover0_4 _ (ix2 r k))
  simp only [List.mem_cons, List.mem_nil_iff, or_false] at hq
  subst hq
  obtain ⟨r, x, rfl⟩ : ∃ (r : Fin 1024) (x : Fin 1024), y = ix2 r x := ⟨y 0, y 1, (ix2_eta y).symm⟩
  show k0_pay1 x0 x2 x1 x3 (ix2 r x) = resid h o mm w s (1024 * t + (0 + 1 * r.val)) (0 + 1 * x.val)
  rw [Nat.zero_add, Nat.zero_add, Nat.one_mul, Nat.one_mul]
  pointwise [k0_pay1]
  simp only [h0, h1, h2, h3]
  rfl

end

/-! ## The whole array -/

/-- The array the call leaves. -/
def G : S17408x1024.Idx → EReal := fun i =>
  if (i 0).val < 16384 then
    resid (at2 (m ((c : Thread nD τ).loc main_arg0))) (at2 (m ((c : Thread nD τ).loc main_arg1))) (at2 (m ((c : Thread nD τ).loc main_arg2))) (fun j k => at2 (m ((c : Thread nD τ).loc main_arg3)) (perm j) k) ((i 0).val / 4096) (i 0).val (i 1).val
  else at2 (m ((c : Thread nD τ).loc main_arg0)) (i 0).val (i 1).val

theorem emb4_0 (t : Fin cfg0.N) (j : S1024x1024.Idx) : (((cfg0.win 4).blk t).view.emb j (0 : Fin 2)).val = 1024 * t.val + (j 0).val := by
  show win0_4.index t (0 : Fin 2) * 1024 + 1 * (j 0).val = _
  rw [(idx4 t).1]; omega

theorem emb4_1 (t : Fin cfg0.N) (j : S1024x1024.Idx) : (((cfg0.win 4).blk t).view.emb j (1 : Fin 2)).val = (j 1).val := by
  show win0_4.index t (1 : Fin 2) * 1024 + 1 * (j 1).val = _
  rw [(idx4 t).2]; omega

/-- What a point writes back is its block of `G`. -/
theorem flushed4_eq (t : Fin cfg0.N) : (dats m 0 c).flushed 4 t = ((cfg0.win 4).blk t).view.read (Elt Ideal) (G m c) := by
  rw [flushed4]
  funext j
  have ht : t.val < 16 := t.isLt
  have h0 : (j 0).val < 1024 := (j 0).isLt
  have key := block_apply (read0 m c t) (read1 m c t) (read2 m c t) (w := fun j k => at2 (m ((c : Thread nD τ).loc main_arg3)) (perm j) k) (read3 m c t) (j 0) (j 1)
  refine Eq.trans (congrArg _ (ix2_eta j).symm) (key.trans ?_)
  show _ = G m c (((cfg0.win 4).blk t).view.emb j)
  unfold G
  rw [emb4_0, emb4_1, if_pos (by omega), show (1024 * t.val + (j 0).val) / 4096 = t.val / 4 by omega]

/-- Every latent row is written by the point of its block. -/
theorem covered4 (i : S17408x1024.Idx) (hb : (i 0).val < 16384) : ∃ t : Fin cfg0.N, (cfg0.win 4).flush t = true ∧ i ∈ ((cfg0.win 4).blk t).view.set := by
  have h0 : (i 0).val < 17408 := (i 0).isLt
  have h1 : (i 1).val < 1024 := (i 1).isLt
  have hN : cfg0.N = 16 := by decide
  obtain ⟨t, ht⟩ : ∃ t : Fin cfg0.N, t.val = (i 0).val / 1024 := ⟨⟨(i 0).val / 1024, by rw [hN]; omega⟩, rfl⟩
  refine ⟨t, flush0_4 t, ?_⟩
  have e := ((cfg0.win 4).blk t).view.emb_mem_set (ix2 ⟨(i 0).val % 1024, by omega⟩ ⟨(i 1).val, h1⟩ : S1024x1024.Idx)
  have hi : ((cfg0.win 4).blk t).view.emb (ix2 ⟨(i 0).val % 1024, by omega⟩ ⟨(i 1).val, h1⟩ : S1024x1024.Idx) = i := by
    funext a
    match a with
    | ⟨0, _⟩ => exact Fin.ext ((emb4_0 t _).trans (by rw [ht]; show 1024 * ((i 0).val / 1024) + (i 0).val % 1024 = (i 0).val; omega))
    | ⟨1, _⟩ => exact Fin.ext (emb4_1 t _)
  rwa [hi] at e

/-- The result array. -/
theorem result : (dats m 0 c).arrAt 4 cfg0.N = G m c := by
  funext i
  by_cases hb : (i 0).val < 16384
  · obtain ⟨t, hf, hm⟩ := covered4 i hb
    exact (dats m 0 c).arrAt_apply_of_mem 4 (G m c) (fun t _ => flushed4_eq m c t) cfg0.N t i t.isLt hf hm
  · rw [entry4 m c i (fun t _ hm => ?_)]
    · show V m c main_v9 i = _
      rw [V_v9]
      unfold G
      rw [if_neg hb]
      refine Eq.trans (congrArg _ (ix2_eta i).symm) (at2_eq _ _ _ (i 0).isLt (i 1).isLt).symm
    · rw [View.set, Finset.mem_map] at hm
      obtain ⟨j, -, hj⟩ := hm
      have ht : t.val < 16 := t.isLt
      have h0 : ((j : S1024x1024.Idx) 0).val < 1024 := ((j : S1024x1024.Idx) 0).isLt
      have e := emb4_0 t j
      rw [hj] at e
      omega

end Cert.OutIdeal.Parts

end
-- ==== Proof.OutRef.lean ====
/- The reference of the grouped-query output projection, entry by entry. -/
module

public import proofs.«01_k».proof.Proof.ModSpec
public import proofs.«01_k».proof.Proof.Gen.OutRefIdeal.Read
public import Idealize.ShloMosaic.Lib.Pointwise

@[expose] public section

noncomputable section

namespace Cert.OutRefIdeal.Hand

open Cert.OutRefIdeal Cert.OutRefIdeal.Gen Cert.OutRefIdeal.Read Cert.Proof.Ffn
open Idealize.ShloMosaic Idealize.ShloMosaic.TcCoe Idealize.SL.Sem
open scoped BigOperators

variable (x0 : S17408x1024.Idx → EReal) (x1 : S17408x1024.Idx → EReal) (x2 : S5x6144.Idx → EReal) (x3 : S1024x1024.Idx → EReal)

/-- The column of the attended rows that meets weight row `j`. -/
def col (j : ℕ) : ℕ := (j / 64 / 8 * 8 + j / 64 % 4 * 2 + j / 64 % 8 / 4) * 64 + j % 64

theorem heads_apply (b : Fin 4) (n : Fin 4096) (k : Fin 1024) :
    val_main_v3 (F := Ideal) x1 (ix3 b n k) = at2 x1 (4096 * b.val + n.val) (col k.val) := by
  rw [at2_eq _ _ _ (by omega) (by unfold col; omega)]
  pointwise [val_main_v3, val_main_v2, val_main_v1, val_main_v0]
  exact congrArg x1 (congrArg₂ ix2 (Fin.ext (by dsimp only; omega)) (Fin.ext (by unfold col; dsimp only; omega)))

/-- A latent entry of the result. -/
theorem out_apply (b : Fin 4) (n : Fin 4096) (j : Fin 1024) :
    val_main_v18 (F := Ideal) x0 x1 x2 x3 (ix3 b n j)
      = resid (at2 x0) (fun r j => at2 x1 r (col j)) (at2 x2) (at2 x3) b.val (4096 * b.val + n.val) j.val := by
  have e0 : at2 x0 (4096 * b.val + n.val) j.val = val_main_v5 (F := Ideal) x0 (ix3 b n j) := by
    rw [at2_eq _ _ _ (by omega) (by omega)]
    pointwise [val_main_v5, val_main_v4]
    exact congrArg x0 (congrArg₂ ix2 (Fin.ext (by dsimp only; omega)) rfl)
  have e2 : at2 x2 b.val (2048 + j.val) = val_main_v10 (F := Ideal) x2 (ix3 b 0 j) := by
    rw [at2_eq _ _ _ (by omega) (by omega)]
    pointwise [val_main_v10, val_main_v7, val_main_v6]
  unfold resid
  rw [e0, e2]
  pointwise [val_main_v18, val_main_v17, val_main_v16, val_main_v15, val_main_v14]
  refine congrArg (fun z => _ + _ * z) (Finset.sum_congr rfl fun k _ => ?_)
  rw [heads_apply, at2_eq x3 _ _ k.isLt j.isLt]

/-- An entry of the reference's result: the latent rows, then the context rows, which stay. -/
theorem result (r : Fin 17408) (j : Fin 1024) : val_main_v21 (F := Ideal) x0 x1 x2 x3 (ix2 r j)
    = if r.val < 16384 then resid (at2 x0) (fun r j => at2 x1 r (col j)) (at2 x2) (at2 x3) (r.val / 4096) r.val j.val
      else at2 x0 r.val j.val := by
  pointwise [val_main_v21, val_main_v20, val_main_v19]
  split
  · rename_i h
    have e := out_apply x0 x1 x2 x3 ⟨r.val / 4096, by omega⟩ ⟨r.val % 4096, by omega⟩ j
    simp only [Nat.div_add_mod] at e
    exact e
  · rename_i h
    rw [at2_eq _ _ _ r.isLt j.isLt]
    exact congrArg x0 (congrArg₂ ix2 (Fin.ext (by dsimp only; omega)) rfl)

end Cert.OutRefIdeal.Hand

end
-- ==== Proof.OutEnd.lean ====
/- The grouped-query output projection leaves, on the ideal points, exactly its reference's result: the arrays agree entry by entry. -/
module

public import proofs.«01_k».proof.Defs
public import proofs.«01_k».proof.Proof.OutValue
public import proofs.«01_k».proof.Proof.OutRef
public import Idealize.ShloMosaic.Lib.Pointwise

@[expose] public section

noncomputable section

namespace Cert.Proof.Out

open Idealize.ShloMosaic Idealize.ShloMosaic.TcCoe Idealize.SL.Sem Cert.Proof.Ffn Cert.OutIdeal.Parts Cert.OutRefIdeal.Hand
open scoped BigOperators

theorem plain_head : ∀ b : Fin 16, Cert.OutIdeal.Parts.head b.val / 8 * 8 + Cert.OutIdeal.Parts.head b.val % 4 * 2 + Cert.OutIdeal.Parts.head b.val % 8 / 4 = b.val := by
  decide

theorem head_plain : ∀ b : Fin 16, Cert.OutIdeal.Parts.head (b.val / 8 * 8 + b.val % 4 * 2 + b.val % 8 / 4) = b.val := by
  decide

/-- The heads in the kernel's order, matched with the heads in the plain order. -/
def heads : Fin 1024 ≃ Fin 1024 where
  toFun j := ⟨perm j.val, by unfold perm Cert.OutIdeal.Parts.head; omega⟩
  invFun j := ⟨col j.val, by unfold col; omega⟩
  left_inv j := Fin.ext (by
    have e := plain_head ⟨j.val / 64, by omega⟩
    dsimp only at e ⊢
    unfold perm col
    rw [show (Cert.OutIdeal.Parts.head (j.val / 64) * 64 + j.val % 64) / 64 = Cert.OutIdeal.Parts.head (j.val / 64) by omega, e]
    omega)
  right_inv j := Fin.ext (by
    have e := head_plain ⟨j.val / 64, by omega⟩
    dsimp only at e ⊢
    unfold perm col
    rw [show ((j.val / 64 / 8 * 8 + j.val / 64 % 4 * 2 + j.val / 64 % 8 / 4) * 64 + j.val % 64) / 64 = j.val / 64 / 8 * 8 + j.val / 64 % 4 * 2 + j.val / 64 % 8 / 4 by omega, e]
    omega)

/-- Summing the heads in either order is the same. -/
theorem resid_heads (h o m w : ℕ → ℕ → EReal) (s r k : ℕ) :
    resid h (fun r j => o r (col j)) m w s r k = resid h o m (fun j k => w (perm j) k) s r k := by
  unfold resid
  refine congrArg (fun z : EReal => h r k + m s (2048 + k) * z) ?_
  rw [← Equiv.sum_comp heads (fun j : Fin 1024 => o r (col j.val) * w j.val k)]
  refine Finset.sum_congr rfl fun j _ => ?_
  show o r (col (heads j).val) * w (perm j.val) k = _
  rw [show col (heads j).val = j.val from congrArg Fin.val (heads.left_inv j)]

theorem algebraic : Cert.algebraic_OutIdeal_OutRefIdeal (hOutIdeal := Cert.OutIdeal.Gen.facts) (hOutRefIdeal := Cert.OutRefIdeal.Gen.facts) := by
  intro m g m' g' _ hm
  refine ⟨fun c => Cert.OutIdeal.Parts.G m c, ?_, ?_⟩
  · refine (θ_run Cert.OutIdeal.defs _ _).mono (fun r h c => ⟨?_, (h c).2⟩) (Cert.OutIdeal.Value.run_blocks m g)
    rw [(h c).1]
    exact Cert.OutIdeal.Parts.result m c
  · refine (θ_run Cert.OutRefIdeal.defs _ _).mono (fun r h c => ⟨?_, (h c).2⟩) (Cert.OutRefIdeal.Value.run m' g')
    obtain ⟨h0, h1, h2, h3⟩ := hm c
    rw [(h c).1, Cert.OutRefIdeal.Read.val_main_v21_eq, h0, h1, h2, h3]
    funext i
    obtain ⟨r, j, rfl⟩ : ∃ (r : Fin 17408) (j : Fin 1024), i = ix2 r j := ⟨i 0, i 1, (ix2_eta i).symm⟩
    rw [Cert.OutRefIdeal.Hand.result]
    simp only [resid_heads]
    rfl

end Cert.Proof.Out

end
-- ==== Proof.GqkvSpec.lean ====
/- The rotary projection of grouped-query attention as functions of natural-number coordinates, and the arithmetic that
   joins a 128-lane tile of two heads to the heads themselves. -/
module

public import proofs.«01_k».proof.Proof.GateSpec

@[expose] public section

noncomputable section

namespace Cert.Proof.Ffn

open Idealize.ShloMosaic

/-- The reciprocal root mean square of a head's 64 coordinates. -/
def hinv (f : ℕ → EReal) : EReal :=
  Ideal.rsqrt (Ideal.div (∑ d : Fin 64, f d.val * f d.val) (Ideal.ofBits .f32 0x42800000#32) + Ideal.ofBits .f32 0x358637BD#32)

/-- A normalized head. -/
def hnorm (f g : ℕ → EReal) (d : ℕ) : EReal := f d * hinv f * g d

/-- A head whose two halves are turned by the angles with cosines `c` and sines `s`. -/
def rot (f c s : ℕ → EReal) (d : ℕ) : EReal :=
  if d < 32 then f d * c d - f (d + 32) * s d else f (d - 32) * s (d - 32) + f d * c (d - 32)

/-- The layer's arrays: token rows, modulation vectors, the gains, the weights, and the tables of cosines and sines by row. -/
structure QArgs where
  h : ℕ → ℕ → EReal
  m : ℕ → ℕ → EReal
  g : ℕ → EReal
  w : ℕ → ℕ → EReal
  q : ℕ → EReal
  k : ℕ → EReal
  c : ℕ → ℕ → EReal
  s : ℕ → ℕ → EReal

/-- The head that the packed array lists at place `b`. -/
def qhead (b : ℕ) : ℕ := b / 8 * 8 + b % 2 * 4 + b % 8 / 2
def qperm (j : ℕ) : ℕ := qhead (j / 64) * 64 + j % 64

theorem qhead_lt (b : ℕ) (hb : b < 16) : qhead b < 16 := by unfold qhead; omega

/-- The weights as the kernel lists them. -/
def packw (w : ℕ → ℕ → EReal) (k j : ℕ) : EReal := if j < 1024 then w k (qperm j) else w k j

/-- A table of 32 angles per row, latent rows taking the row's place in its frame, context rows a constant. -/
def tab (C : ℕ → ℕ → EReal) (z : EReal) (r d : ℕ) : EReal := if r < 16384 then C (r % 4096) d else z

/-- An entry of the packed queries, keys and values. -/
def qout (p : QArgs) (s r j : ℕ) : EReal :=
  if j < 1024 then rot (hnorm (fun d => mproj p.h p.m p.g p.w s r (qhead (j / 64) * 64 + d)) p.q) (p.c r) (p.s r) (j % 64) * Ideal.ofBits .f32 0x3E000000#32
  else if j < 1280 then rot (hnorm (fun d => mproj p.h p.m p.g p.w s r (j / 64 * 64 + d)) p.k) (p.c r) (p.s r) (j % 64)
  else mproj p.h p.m p.g p.w s r j

theorem sixtyfour : Ideal.ofBits .f32 0x42800000#32 = ((64 : ℝ) : EReal) := by
  simp [Ideal.ofBits, Ideal.ieee]
  norm_num
  exact (EReal.coe_mul 8388608 (1 / 131072)).symm.trans (congrArg _ (by norm_num))

theorem sixtyfourth : Ideal.ofBits .f32 0x3C800000#32 = ((1 / 64 : ℝ) : EReal) := by
  simp [Ideal.ofBits, Ideal.ieee]
  norm_num
  exact (EReal.coe_mul 8388608 (1 / 536870912)).symm.trans (congrArg _ (by norm_num))

theorem eighth : Ideal.ofBits .f32 0x3E000000#32 = ((1 / 8 : ℝ) : EReal) := by
  simp [Ideal.ofBits, Ideal.ieee]
  norm_num
  exact (EReal.coe_mul 8388608 (1 / 67108864)).symm.trans (congrArg _ (by norm_num))

/-- One lane of the tile's normalized rows: the mask sums the squares of the lane's own head. -/
def lnorm (y g : ℕ → EReal) (x : ℕ) : EReal :=
  y x * Ideal.rsqrt (∑ k : Fin 128, y k.val * y k.val * (if k.val / 64 = x / 64 then Ideal.ofBits .f32 0x3C800000#32 else 0) + Ideal.ofBits .f32 0x358637BD#32) * g x

/-- One lane of the tile: its value and its partner's, weighted by the two tables. -/
def lane (y g c s : ℕ → EReal) (x : ℕ) : EReal :=
  lnorm y g x * c x + (if x % 64 < 32 then lnorm y g (x + 32) else lnorm y g (x - 32)) * s x

theorem masked_sum (y : ℕ → EReal) (x : ℕ) (hx : x < 128) :
    ∑ k : Fin 128, y k.val * y k.val * (if k.val / 64 = x / 64 then Ideal.ofBits .f32 0x3C800000#32 else 0)
      = Ideal.div (∑ d : Fin 64, y (x / 64 * 64 + d.val) * y (x / 64 * 64 + d.val)) (Ideal.ofBits .f32 0x42800000#32) := by
  have e : ∀ F : ℕ → EReal, ∑ k : Fin 128, F k.val = ∑ k : Fin 64, F k.val + ∑ k : Fin 64, F (64 + k.val) := fun F =>
    Fin.sum_univ_add (a := 64) (b := 64) (fun k : Fin (64 + 64) => F k.val)
  rw [e (fun k => y k * y k * (if k / 64 = x / 64 then Ideal.ofBits .f32 0x3C800000#32 else 0))]
  unfold Ideal.div
  rw [if_neg (by rw [sixtyfour]; exact_mod_cast (by norm_num : (64 : ℝ) ≠ 0)), sixtyfour, sixtyfourth, ← EReal.coe_inv]
  have d : ∀ (a : Fin 64 → EReal), ∑ k, a k * ((1 / 64 : ℝ) : EReal) = (∑ k, a k) * (((64 : ℝ)⁻¹ : ℝ) : EReal) := by
    intro a
    have := sum_scale a (fun _ => 1) (((64 : ℝ)⁻¹ : ℝ) : EReal) (by exact_mod_cast (by norm_num : (0 : ℝ) ≤ (64 : ℝ)⁻¹)) (EReal.coe_ne_top _)
    simpa only [one_mul, mul_one, one_div] using this
  by_cases h : x < 64
  · have hx0 : x / 64 = 0 := by omega
    rw [hx0, ← d]
    have z : ∑ k : Fin 64, y (64 + k.val) * y (64 + k.val) * (if (64 + k.val) / 64 = 0 then ((1 / 64 : ℝ) : EReal) else 0) = 0 :=
      Finset.sum_eq_zero fun k _ => by rw [if_neg (by omega), mul_zero]
    rw [z, add_zero]
    refine Finset.sum_congr rfl fun k _ => ?_
    rw [if_pos (by omega), Nat.zero_mul, Nat.zero_add]
  · have hx0 : x / 64 = 1 := by omega
    rw [hx0, ← d]
    have z : ∑ k : Fin 64, y k.val * y k.val * (if k.val / 64 = 1 then ((1 / 64 : ℝ) : EReal) else 0) = 0 :=
      Finset.sum_eq_zero fun k _ => by rw [if_neg (by omega), mul_zero]
    rw [z, zero_add]
    refine Finset.sum_congr rfl fun k _ => ?_
    rw [if_pos (by omega), Nat.one_mul]

/-- A lane of the normalized tile is a coordinate of its head. -/
theorem lnorm_eq (y g : ℕ → EReal) (x : ℕ) (hx : x < 128) (g' : ℕ → EReal) (hg : ∀ x < 128, g x = g' (x % 64)) :
    lnorm y g x = hnorm (fun d => y (x / 64 * 64 + d)) g' (x % 64) := by
  unfold lnorm hnorm hinv
  rw [masked_sum y x hx, hg x hx]
  dsimp only
  rw [show x / 64 * 64 + x % 64 = x by omega]

/-- A lane of the tile is a coordinate of its head, turned. -/
theorem lane_eq (y g c s g' c' s' : ℕ → EReal) (x : ℕ) (hx : x < 128) (hg : ∀ x < 128, g x = g' (x % 64))
    (hc : c x = c' (x % 32)) (hs : s x = if x % 64 < 32 then -(s' (x % 32)) else s' (x % 32)) :
    lane y g c s x = rot (hnorm (fun d => y (x / 64 * 64 + d)) g') c' s' (x % 64) := by
  unfold lane rot
  rw [hc, hs, lnorm_eq y g x hx g' hg]
  by_cases h : x % 64 < 32
  · rw [if_pos h, if_pos h, if_pos h, lnorm_eq y g (x + 32) (by omega) g' hg, show (x + 32) / 64 = x / 64 by omega, show (x + 32) % 64 = x % 64 + 32 by omega,
      show x % 32 = x % 64 by omega, mul_neg, sub_eq_add_neg]
  · rw [if_neg h, if_neg h, if_neg h, lnorm_eq y g (x - 32) (by omega) g' hg, show (x - 32) / 64 = x / 64 by omega, show (x - 32) % 64 = x % 64 - 32 by omega,
      show x % 32 = x % 64 - 32 by omega, add_comm]

theorem eighth_mul_sub (a b : EReal) : (a - b) * Ideal.ofBits .f32 0x3E000000#32 = a * Ideal.ofBits .f32 0x3E000000#32 - b * Ideal.ofBits .f32 0x3E000000#32 := by
  have h0 : 0 ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  rw [sub_eq_add_neg, EReal.right_distrib_of_nonneg_of_ne_top h0 ht, neg_mul, ← sub_eq_add_neg]

theorem eighth_mul_add (a b : EReal) : (a + b) * Ideal.ofBits .f32 0x3E000000#32 = a * Ideal.ofBits .f32 0x3E000000#32 + b * Ideal.ofBits .f32 0x3E000000#32 := by
  have h0 : 0 ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  rw [EReal.right_distrib_of_nonneg_of_ne_top h0 ht]

/-- A power of two in the gain scales the turned head. -/
theorem rot_scale (f g c s : ℕ → EReal) (d : ℕ) :
    rot (hnorm f (fun d => g d * Ideal.ofBits .f32 0x3E000000#32)) c s d = rot (hnorm f g) c s d * Ideal.ofBits .f32 0x3E000000#32 := by
  unfold rot hnorm
  split
  · rw [eighth_mul_sub, ← mul_assoc, ← mul_assoc, mul_right_comm _ _ (c _), mul_right_comm _ _ (s _)]
  · rw [eighth_mul_add, ← mul_assoc, ← mul_assoc, mul_right_comm _ _ (c _), mul_right_comm _ _ (s _)]

/-- An unturned head. -/
theorem rot_id (f : ℕ → EReal) (d : ℕ) : rot f (fun _ => 1) (fun _ => 0) d = f d := by
  unfold rot
  split
  · rw [mul_one, mul_zero, sub_zero]
  · rw [mul_one, mul_zero, zero_add]

theorem mproj_congr (h m : ℕ → ℕ → EReal) (g : ℕ → EReal) (w w' : ℕ → ℕ → EReal) (s r j j' : ℕ) (e : ∀ k, w k j = w' k j') :
    mproj h m g w s r j = mproj h m g w' s r j' := by
  unfold mproj
  simp only [e]

/-- A packed entry, from the weights as the kernel lists them. -/
theorem qout_of_pack (p : QArgs) (s r j : ℕ) (hj : j < 1536) :
    qout p s r j = if j < 1024 then rot (hnorm (fun d => mproj p.h p.m p.g (packw p.w) s r (j / 64 * 64 + d)) (fun d => p.q d * Ideal.ofBits .f32 0x3E000000#32)) (p.c r) (p.s r) (j % 64)
      else if j < 1280 then rot (hnorm (fun d => mproj p.h p.m p.g (packw p.w) s r (j / 64 * 64 + d)) p.k) (p.c r) (p.s r) (j % 64)
      else mproj p.h p.m p.g (packw p.w) s r j := by
  have cong : ∀ (f f' g c t : ℕ → EReal) (d : ℕ), d < 64 → (∀ d < 64, f d = f' d) → rot (hnorm f g) c t d = rot (hnorm f' g) c t d := by
    intro f f' g c t d hd e
    have ei : hinv f = hinv f' := by
      unfold hinv
      rw [Finset.sum_congr rfl fun k _ => by rw [e k.val k.isLt]]
    unfold rot hnorm
    rw [ei, e d hd]
    split
    · rw [e _ (by omega)]
    · rw [e _ (by omega)]
  unfold qout
  split
  · rw [rot_scale]
    refine congrArg (· * _) (cong _ _ _ _ _ _ (by omega) fun d hd => mproj_congr _ _ _ _ _ _ _ _ _ fun k => ?_)
    unfold packw qperm
    rw [if_pos (by omega), show (j / 64 * 64 + d) / 64 = j / 64 by omega, show (j / 64 * 64 + d) % 64 = d by omega]
  · split
    · refine cong _ _ _ _ _ _ (by omega) fun d hd => mproj_congr _ _ _ _ _ _ _ _ _ fun k => ?_
      unfold packw
      rw [if_neg (by omega)]
    · refine mproj_congr _ _ _ _ _ _ _ _ _ fun k => ?_
      unfold packw
      rw [if_neg (by omega)]

end Cert.Proof.Ffn

end
-- ==== Proof.GqkvTables.lean ====
/- The arrays the rotary projection call is entered with: the packed weights, the gains over two heads, the tables of cosines and sines. -/
module

public import proofs.«01_k».proof.Proof.GqkvSpec
public import proofs.«01_k».proof.Proof.Gen.GqkvIdeal.Value
public import proofs.«01_k».proof.Proof.Gen.GqkvRefIdeal.Read
public import Idealize.ShloMosaic.Lib.Pointwise
public import Idealize.ShloMosaic.Lib.StableHlo.RunRead

@[expose] public section

noncomputable section

namespace Cert.GqkvIdeal.Parts

open Cert.GqkvIdeal Cert.GqkvIdeal.Gen Cert.GqkvIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []
theorem V_v0 (s : Fin 30) (k : Fin 1024) : V m c main_v0 (ix3 s 0 k) = at2 (m ((c : Thread nD τ).loc main_arg1)) (s.val / 6) (s.val % 6 * 1024 + k.val) := by
  have e : V m c main_v0 = shapeCast S30x1x1024 (m ((c : Thread nD τ).loc main_arg1)) shapeCasts_S5x6144_S30x1x1024 := by
    show StableHlo.after (List.flatten _) _ (Proc.devRef .tc main_v0) = _
    simp only [hostOps0, hostOps0_1, hostOps0_2, hostOps0_3, hostOps0_4, List.flatten_cons, List.flatten_nil, List.append_nil, List.cons_append, List.nil_append]
    after_results_simp <;> rfl
  rw [e]
  exact v0_apply _ s k
theorem v54_apply (A : Vec Ideal S1024 .f32) (k : Fin 1024) : (broadcastInDim S1x1024 ![1] bcast_S1024_S1x1024_1 A : _ → EReal) (ix2 0 k) = at1 A k.val := by
  rw [at1_eq _ _ (by omega)]
  pointwise []
theorem V_v54 (k : Fin 1024) : V m c main_v54 (ix2 0 k) = at1 (m ((c : Thread nD τ).loc main_arg2)) k.val := by
  have e : V m c main_v54 = broadcastInDim S1x1024 ![1] bcast_S1024_S1x1024_1 (m ((c : Thread nD τ).loc main_arg2)) := by
    show StableHlo.after (List.flatten _) _ (Proc.devRef .tc main_v54) = _
    simp only [hostOps0, hostOps0_1, hostOps0_2, hostOps0_3, hostOps0_4, List.flatten_cons, List.flatten_nil, List.append_nil, List.cons_append, List.nil_append]
    after_results_simp <;> rfl
  rw [e]
  exact v54_apply _ k
theorem v17_apply (A : Vec Ideal S64 .f32) (x : Fin 128) : (broadcastInDim S1x128 ![1] bcast_S128_S1x128_1 (shapeCast S128 (broadcastInDim S2x64 ![0, 1] bcast_S1x64_S2x64_0_1 (shapeCast S1x64 (mulf (F := Ideal) (φ := .f32) A (broadcastInDim S64 ![] bcast_S_S64 (constant (F := Ideal) S_ .f32 0x3E000000#32))) shapeCasts_S64_S1x64)) shapeCasts_S2x64_S128) : _ → EReal) (ix2 0 x) = at1 A (x.val % 64) * Ideal.ofBits .f32 0x3E000000#32 := by
  rw [at1_eq _ _ (by omega)]
  pointwise []
theorem V_v17 (x : Fin 128) : V m c main_v17 (ix2 0 x) = at1 (m ((c : Thread nD τ).loc main_arg4)) (x.val % 64) * Ideal.ofBits .f32 0x3E000000#32 := by
  have e : V m c main_v17 = broadcastInDim S1x128 ![1] bcast_S128_S1x128_1 (shapeCast S128 (broadcastInDim S2x64 ![0, 1] bcast_S1x64_S2x64_0_1 (shapeCast S1x64 (mulf (F := Ideal) (φ := .f32) (m ((c : Thread nD τ).loc main_arg4)) (broadcastInDim S64 ![] bcast_S_S64 (constant (F := Ideal) S_ .f32 0x3E000000#32))) shapeCasts_S64_S1x64)) shapeCasts_S2x64_S128) := by
    show StableHlo.after (List.flatten _) _ (Proc.devRef .tc main_v17) = _
    simp only [hostOps0, hostOps0_1, hostOps0_2, hostOps0_3, hostOps0_4, List.flatten_cons, List.flatten_nil, List.append_nil, List.cons_append, List.nil_append]
    after_results_simp <;> rfl
  rw [e]
  exact v17_apply _ x
theorem v21_apply (A : Vec Ideal S64 .f32) (x : Fin 128) : (broadcastInDim S1x128 ![1] bcast_S128_S1x128_1 (shapeCast S128 (broadcastInDim S2x64 ![0, 1] bcast_S1x64_S2x64_0_1 (shapeCast S1x64 A shapeCasts_S64_S1x64)) shapeCasts_S2x64_S128) : _ → EReal) (ix2 0 x) = at1 A (x.val % 64) := by
  rw [at1_eq _ _ (by omega)]
  pointwise []
theorem V_v21 (x : Fin 128) : V m c main_v21 (ix2 0 x) = at1 (m ((c : Thread nD τ).loc main_arg5)) (x.val % 64) := by
  have e : V m c main_v21 = broadcastInDim S1x128 ![1] bcast_S128_S1x128_1 (shapeCast S128 (broadcastInDim S2x64 ![0, 1] bcast_S1x64_S2x64_0_1 (shapeCast S1x64 (m ((c : Thread nD τ).loc main_arg5)) shapeCasts_S64_S1x64)) shapeCasts_S2x64_S128) := by
    show StableHlo.after (List.flatten _) _ (Proc.devRef .tc main_v21) = _
    simp only [hostOps0, hostOps0_1, hostOps0_2, hostOps0_3, hostOps0_4, List.flatten_cons, List.flatten_nil, List.append_nil, List.cons_append, List.nil_append]
    after_results_simp <;> rfl
  rw [e]
  exact v21_apply _ x
/-! ## The packed weights -/

/-- The table of heads as the gather reads it. -/
def table : IVec S16x1 32 := broadcastInDim S16x1 ![0] bcast_S16_S16x1_0 (select (constantI S16 1 0#1) (addi (fun i => lit0 (S16.rowMajor i)) (broadcastInDim S16 ![] bcast_S_S16 (constantI S_ 32 16#32))) (fun i => lit0 (S16.rowMajor i)))

theorem table_apply : ∀ b : Fin 16, table (ix2 b 0) = BitVec.ofNat 32 (qhead b.val) := by
  decide +kernel

/-- The heads of a row of weights read through the table. -/
theorem gather_apply (x : Vec Ideal S1024x16x64 .f32) (k : Fin 1024) (b : Fin 16) (d : Fin 64) :
    Host.gather gather_S1024x16x64_S16x1_S1024x16x64_02_1_n_n_1_1_1024164 x table (ix3 k b d) = x (ix3 k ⟨qhead b.val, qhead_lt _ b.isLt⟩ d) := by
  have hh := qhead_lt _ b.isLt
  unfold Host.gather
  refine congrArg x (funext fun a => Fin.ext ?_)
  match a with
  | ⟨0, _⟩ => exact (Nat.zero_add _).trans rfl
  | ⟨1, _⟩ =>
    show min (table (ix2 b 0)).toInt.toNat 15 = qhead b.val
    rw [table_apply, show (BitVec.ofNat 32 (qhead b.val)).toInt = (qhead b.val : ℤ) from by
      rw [BitVec.toInt_eq_toNat_of_lt (by rw [BitVec.toNat_ofNat]; omega), BitVec.toNat_ofNat, Nat.mod_eq_of_lt (by omega)]]
    show min (qhead b.val) 15 = qhead b.val
    omega
  | ⟨2, _⟩ => exact (Nat.zero_add _).trans rfl

theorem w_apply (A : Vec Ideal S1024x1536 .f32) (k : Fin 1024) (j : Fin 1536) :
    (truncf (F := Ideal) .bf16 (concatenate S1024x1536 1 [⟨S1024x1024, shapeCast S1024x1024 (Host.gather gather_S1024x16x64_S16x1_S1024x16x64_02_1_n_n_1_1_1024164
      (shapeCast S1024x16x64 (extractStridedSlice S1024x1024 ![0, 0] A slices_S1024x1536_S1024x1024_0_0) shapeCasts_S1024x1024_S1024x16x64) table) shapeCasts_S1024x16x64_S1024x1024⟩,
      ⟨S1024x512, extractStridedSlice S1024x512 ![0, 1024] A slices_S1024x1536_S1024x512_0_1024⟩] concatenates_S1024x1024_S1024x512_S1024x1536_d1) bitsLt_bf16_f32 : _ → EReal) (ix2 k j)
      = packw (at2 A) k.val j.val := by
  have e := gather_apply (shapeCast S1024x16x64 (extractStridedSlice S1024x1024 ![0, 0] A slices_S1024x1536_S1024x1024_0_0) shapeCasts_S1024x1024_S1024x16x64) k
  generalize Host.gather gather_S1024x16x64_S16x1_S1024x16x64_02_1_n_n_1_1_1024164 (shapeCast S1024x16x64 (extractStridedSlice S1024x1024 ![0, 0] A slices_S1024x1536_S1024x1024_0_0) shapeCasts_S1024x1024_S1024x16x64) table = y at e ⊢
  unfold packw
  by_cases h : j.val < 1024
  · have hh := qhead_lt (j.val / 64) (by omega)
    rw [if_pos h, at2_eq _ _ _ k.isLt (by unfold qperm; omega)]
    pointwise []
    rw [dif_pos h]
    refine (e ⟨j.val / 64, by omega⟩ ⟨j.val % 64, by omega⟩).trans ?_
    pointwise []
    rfl
  · rw [if_neg h, at2_eq _ _ _ k.isLt j.isLt]
    pointwise []
    rw [dif_neg h]
    refine congrArg A (congrArg₂ ix2 rfl (Fin.ext ?_))
    show 1024 + (j.val - 1024) = j.val
    omega

theorem V_w (k : Fin 1024) (j : Fin 1536) : V m c main_v11 (ix2 k j) = packw (at2 (m ((c : Thread nD τ).loc main_arg3))) k.val j.val := by
  have e : V m c main_v11 = truncf (F := Ideal) .bf16 (concatenate S1024x1536 1 [⟨S1024x1024, shapeCast S1024x1024 (Host.gather gather_S1024x16x64_S16x1_S1024x16x64_02_1_n_n_1_1_1024164
      (shapeCast S1024x16x64 (extractStridedSlice S1024x1024 ![0, 0] (m ((c : Thread nD τ).loc main_arg3)) slices_S1024x1536_S1024x1024_0_0) shapeCasts_S1024x1024_S1024x16x64) table) shapeCasts_S1024x16x64_S1024x1024⟩,
      ⟨S1024x512, extractStridedSlice S1024x512 ![0, 1024] (m ((c : Thread nD τ).loc main_arg3)) slices_S1024x1536_S1024x512_0_1024⟩] concatenates_S1024x1024_S1024x512_S1024x1536_d1) bitsLt_bf16_f32 := by
    show StableHlo.after (List.flatten _) _ (Proc.devRef .tc main_v11) = _
    simp only [hostOps0, hostOps0_1, hostOps0_2, hostOps0_3, hostOps0_4, List.flatten_cons, List.flatten_nil, List.append_nil, List.cons_append, List.nil_append]
    after_results_simp <;> rfl
  rw [e]
  exact w_apply _ k j

/-! ## The tables -/

/-- The tables of cosines and sines by place in the frame and coordinate, as both programs make them. -/
def cosT : S4096x32.Idx → EReal := Cert.GqkvRefIdeal.Read.val_main_v22 (F := Ideal)
def sinT : S4096x32.Idx → EReal := Cert.GqkvRefIdeal.Read.val_main_v23 (F := Ideal)

/-- The host operations before the call, and what the buffers hold before them. -/
abbrev L : List (HloOp τ sig (Elt Ideal)) := List.flatten [hostOps0, hostOps0_1, hostOps0_2, hostOps0_3, hostOps0_4]
abbrev M : Valuation τ sig (Elt Ideal) := fun b => m (c, b)

theorem cat_congr {sh : Shape} {s₁ s₂ : Shape} {d : Fin sh.rank} {a a' : FVec Ideal s₁ .f32} {b b' : FVec Ideal s₂ .f32} (h) (ea : a = a') (eb : b = b') :
    (concatenate sh d [⟨s₁, a⟩, ⟨s₂, b⟩] h : FVec Ideal sh .f32) = concatenate sh d [⟨s₁, a'⟩, ⟨s₂, b'⟩] h := by
  subst ea eb
  rfl

theorem cat4_congr {sh s : Shape} {d : Fin sh.rank} {a a' b b' e e' f f' : FVec Ideal s .f32} (h) (ha : a = a') (hb : b = b') (he : e = e') (hf : f = f') :
    (concatenate sh d [⟨s, a⟩, ⟨s, b⟩, ⟨s, e⟩, ⟨s, f⟩] h : FVec Ideal sh .f32) = concatenate sh d [⟨s, a'⟩, ⟨s, b'⟩, ⟨s, e'⟩, ⟨s, f'⟩] h := by
  subst ha hb he hf
  rfl

theorem u37 : StableHlo.upto L (M m c) 87 (Proc.devRef .tc main_v37) = Cert.GqkvRefIdeal.Read.val_main_v15 (F := Ideal) := by
  after_reads_simp
  rfl

theorem u42 : StableHlo.upto L (M m c) 87 (Proc.devRef .tc main_v42) = Cert.GqkvRefIdeal.Read.val_main_v20 (F := Ideal) := by
  after_reads_simp
  rfl

theorem u43 : StableHlo.upto L (M m c) 88 (Proc.devRef .tc main_v43) = Cert.GqkvRefIdeal.Read.val_main_v21 (F := Ideal) := by
  refine (StableHlo.upto_last_write (i := 87) [] rfl rfl (by decide) _).trans ?_
  refine (StableHlo.binary_result' ..).trans ?_
  exact cat_congr _ (u37 m c) (u42 m c)

theorem u43' : StableHlo.upto L (M m c) 89 (Proc.devRef .tc main_v43) = Cert.GqkvRefIdeal.Read.val_main_v21 (F := Ideal) := by
  refine (StableHlo.upto_last_write (i := 87) [main_v44] rfl rfl (by decide) _).trans ?_
  refine (StableHlo.binary_result' ..).trans ?_
  exact cat_congr _ (u37 m c) (u42 m c)

theorem u44 : StableHlo.upto L (M m c) 90 (Proc.devRef .tc main_v44) = cosT := by
  refine (StableHlo.upto_last_write (i := 88) [main_v45] rfl rfl (by decide) _).trans ?_
  refine (StableHlo.unary_result' ..).trans ?_
  exact congrArg Host.cos (u43 m c)

theorem u45 : StableHlo.upto L (M m c) 91 (Proc.devRef .tc main_v45) = sinT := by
  refine (StableHlo.upto_last_write (i := 89) [main_v46] rfl rfl (by decide) _).trans ?_
  refine (StableHlo.unary_result' ..).trans ?_
  exact congrArg Host.sin (u43' m c)

theorem u45' : StableHlo.upto L (M m c) 92 (Proc.devRef .tc main_v45) = sinT := by
  refine (StableHlo.upto_last_write (i := 89) [main_v46, main_v47] rfl rfl (by decide) _).trans ?_
  refine (StableHlo.unary_result' ..).trans ?_
  exact congrArg Host.sin (u43' m c)

theorem u45'' : StableHlo.upto L (M m c) 93 (Proc.devRef .tc main_v45) = sinT := by
  refine (StableHlo.upto_last_write (i := 89) [main_v46, main_v47, main_v48] rfl rfl (by decide) _).trans ?_
  refine (StableHlo.unary_result' ..).trans ?_
  exact congrArg Host.sin (u43' m c)

theorem u47 : StableHlo.upto L (M m c) 93 (Proc.devRef .tc main_v47) = (Host.negf (F := Ideal) (φ := .f32) sinT : S4096x32.Idx → EReal) := by
  refine (StableHlo.upto_last_write (i := 91) [main_v48] rfl rfl (by decide) _).trans ?_
  refine (StableHlo.unary_result' ..).trans ?_
  exact congrArg Host.negf (u45 m c)

theorem u48 : StableHlo.upto L (M m c) 93 (Proc.devRef .tc main_v48) = (Host.negf (F := Ideal) (φ := .f32) sinT : S4096x32.Idx → EReal) := by
  refine (StableHlo.upto_last_write (i := 92) [] rfl rfl (by decide) _).trans ?_
  refine (StableHlo.unary_result' ..).trans ?_
  exact congrArg Host.negf (u45' m c)

theorem u46 : StableHlo.upto L (M m c) 96 (Proc.devRef .tc main_v46) = (concatenate S4096x128 1 [⟨S4096x32, cosT⟩, ⟨S4096x32, cosT⟩, ⟨S4096x32, cosT⟩, ⟨S4096x32, cosT⟩] concatenates_S4096x32_S4096x32_S4096x32_S4096x32_S4096x128_d1 : S4096x128.Idx → EReal) := by
  refine (StableHlo.upto_last_write (i := 90) [main_v47, main_v48, main_v49, main_cst_6, main_v50] rfl rfl (by decide) _).trans ?_
  refine (StableHlo.nary_result' ..).trans ?_
  exact cat4_congr _ (u44 m c) (u44 m c) (u44 m c) (u44 m c)

theorem u49 : StableHlo.upto L (M m c) 99 (Proc.devRef .tc main_v49) = (concatenate S4096x128 1 [⟨S4096x32, Host.negf (F := Ideal) (φ := .f32) sinT⟩, ⟨S4096x32, sinT⟩, ⟨S4096x32, Host.negf (F := Ideal) (φ := .f32) sinT⟩, ⟨S4096x32, sinT⟩] concatenates_S4096x32_S4096x32_S4096x32_S4096x32_S4096x128_d1 : S4096x128.Idx → EReal) := by
  refine (StableHlo.upto_last_write (i := 93) [main_cst_6, main_v50, main_v51, main_cst_7, main_v52] rfl rfl (by decide) _).trans ?_
  refine (StableHlo.nary_result' ..).trans ?_
  exact cat4_congr _ (u47 m c) (u45'' m c) (u48 m c) (u45'' m c)

theorem u50 : StableHlo.upto L (M m c) 96 (Proc.devRef .tc main_v50) = (broadcastInDim S1024x128 ![] bcast_S_S1024x128 (constant (F := Ideal) S_ .f32 0x3F800000#32) : S1024x128.Idx → EReal) := by
  after_reads_simp

theorem u52 : StableHlo.upto L (M m c) 99 (Proc.devRef .tc main_v52) = (broadcastInDim S1024x128 ![] bcast_S_S1024x128 (constant (F := Ideal) S_ .f32 0x00000000#32) : S1024x128.Idx → EReal) := by
  after_reads_simp

theorem cos_apply (X : Vec Ideal S4096x32 .f32) (n : Fin 5120) (x : Fin 128) :
    (concatenate S5120x128 0 [⟨S4096x128, concatenate S4096x128 1 [⟨S4096x32, X⟩, ⟨S4096x32, X⟩, ⟨S4096x32, X⟩, ⟨S4096x32, X⟩] concatenates_S4096x32_S4096x32_S4096x32_S4096x32_S4096x128_d1⟩,
      ⟨S1024x128, broadcastInDim S1024x128 ![] bcast_S_S1024x128 (constant (F := Ideal) S_ .f32 0x3F800000#32)⟩] concatenates_S4096x128_S1024x128_S5120x128_d0 : _ → EReal) (ix2 n x)
      = if n.val < 4096 then at2 X n.val (x.val % 32) else 1 := by
  pointwise []
  by_cases hn : n.val < 4096
  · rw [dif_pos hn, if_pos hn, at2_eq X _ _ hn (by omega)]
    split_ifs <;> (refine congrArg X (congrArg₂ ix2 rfl (Fin.ext ?_)); dsimp only; omega)
  · rw [dif_neg hn, if_neg hn]

theorem sin_apply (X : Vec Ideal S4096x32 .f32) (n : Fin 5120) (x : Fin 128) :
    (concatenate S5120x128 0 [⟨S4096x128, concatenate S4096x128 1 [⟨S4096x32, Host.negf (F := Ideal) (φ := .f32) X⟩, ⟨S4096x32, X⟩, ⟨S4096x32, Host.negf (F := Ideal) (φ := .f32) X⟩, ⟨S4096x32, X⟩] concatenates_S4096x32_S4096x32_S4096x32_S4096x32_S4096x128_d1⟩,
      ⟨S1024x128, broadcastInDim S1024x128 ![] bcast_S_S1024x128 (constant (F := Ideal) S_ .f32 0x00000000#32)⟩] concatenates_S4096x128_S1024x128_S5120x128_d0 : _ → EReal) (ix2 n x)
      = if n.val < 4096 then (if x.val % 64 < 32 then -(at2 X n.val (x.val % 32)) else at2 X n.val (x.val % 32)) else 0 := by
  pointwise []
  by_cases hn : n.val < 4096
  · rw [dif_pos hn, if_pos hn, at2_eq X _ _ hn (by omega)]
    by_cases h : x.val % 64 < 32
    · rw [if_pos h]
      split_ifs <;> first
        | omega
        | (refine congrArg X (congrArg₂ ix2 rfl (Fin.ext ?_)); dsimp only; omega)
        | (refine congrArg (fun z : EReal => -z) (congrArg X (congrArg₂ ix2 rfl (Fin.ext ?_))); dsimp only; omega)
    · rw [if_neg h]
      split_ifs <;> first
        | omega
        | (refine congrArg X (congrArg₂ ix2 rfl (Fin.ext ?_)); dsimp only; omega)
        | (refine congrArg (fun z : EReal => -z) (congrArg X (congrArg₂ ix2 rfl (Fin.ext ?_))); dsimp only; omega)
  · rw [dif_neg hn, if_neg hn]

theorem V_cos (n : Fin 5120) (x : Fin 128) : V m c main_v51 (ix2 n x) = if n.val < 4096 then at2 cosT n.val (x.val % 32) else 1 := by
  refine Eq.trans (congrFun ?_ _) (cos_apply cosT n x)
  refine (StableHlo.after_last_write (i := 96) [main_cst_7, main_v52, main_v53, main_v54] rfl rfl (by decide) _).trans ?_
  refine (StableHlo.binary_result' ..).trans ?_
  exact cat_congr _ (u46 m c) (u50 m c)

theorem V_sin (n : Fin 5120) (x : Fin 128) : V m c main_v53 (ix2 n x) = if n.val < 4096 then (if x.val % 64 < 32 then -(at2 sinT n.val (x.val % 32)) else at2 sinT n.val (x.val % 32)) else 0 := by
  refine Eq.trans (congrFun ?_ _) (sin_apply sinT n x)
  refine (StableHlo.after_last_write (i := 99) [main_v54] rfl rfl (by decide) _).trans ?_
  refine (StableHlo.binary_result' ..).trans ?_
  exact cat_congr _ (u49 m c) (u52 m c)

end Cert.GqkvIdeal.Parts

end
-- ==== Proof.GqkvBlock.lean ====
/- One tile of the rotary projection call: two heads over 128 lanes, normalized through the mask of equal heads, each lane
   combined with its partner half a head away. -/
module

public import proofs.«01_k».proof.Proof.GqkvSpec
public import proofs.«01_k».proof.Proof.Gen.GqkvIdeal.Value
public import Idealize.ShloMosaic.Lib.Pointwise

@[expose] public section

noncomputable section

namespace Cert.GqkvIdeal.Parts

open Cert.GqkvIdeal Cert.GqkvIdeal.Gen Cert.GqkvIdeal.Value Cert.Proof.Ffn
open Idealize.ShloMosaic Idealize.ShloMosaic.TcCoe Idealize.SL.Sem

/-- The lanes of a head's first half. -/
def firstHalf : IVec S1x128 1 := k0_pay10 (Scalar.select (Scalar.cmpi .eq 64#32 0#32) 1#32 64#32) k0_pay8 k0_pay9 0#32

theorem firstHalf_apply : ∀ x : Fin 128, firstHalf (ix2 0 x) = if x.val % 64 < 32 then 1#1 else 0#1 := by
  decide +kernel

/-- The mask of equal heads. -/
def sameHead : FVec Ideal S128x128 .bf16 := k0_pay14 (F := Ideal) k0_pay11 (iota .tc S128x128 32 [1] iota_S128x128_d1_w32) 64#32 k0_pay12 k0_pay13 0#32

theorem row_apply (k x : Fin 128) : k0_pay11 (ix2 k x) = BitVec.ofNat 32 (k.val / 64) :=
  (rfl : k0_pay11 (ix2 k x) = k0_pay11 (ix2 k 0)).trans ((by decide +kernel : ∀ k : Fin 128, k0_pay11 (ix2 k 0) = BitVec.ofNat 32 (k.val / 64)) k)

/-- Each column's head. -/
def colHead : IVec S128x128 32 :=
  select (andi (cmpi .ne k0_pay13 (broadcast S128x128 (Scalar.subi (Scalar.extui (Scalar.cmpi .sgt 64#32 0#32)) (Scalar.extui (Scalar.cmpi .slt 64#32 0#32)))))
    (cmpi .ne (remsi (iota .tc S128x128 32 [1] iota_S128x128_d1_w32) (broadcast S128x128 64#32)) (broadcast S128x128 0#32)))
    (subi k0_pay12 (broadcast S128x128 1#32)) k0_pay12

theorem col_apply (k x : Fin 128) : colHead (ix2 k x) = BitVec.ofNat 32 (x.val / 64) :=
  (rfl : colHead (ix2 k x) = colHead (ix2 0 x)).trans ((by decide +kernel : ∀ x : Fin 128, colHead (ix2 0 x) = BitVec.ofNat 32 (x.val / 64)) x)

theorem eq_apply : ∀ a b : Fin 2, IntOp.cmpi .eq (BitVec.ofNat 32 a.val) (BitVec.ofNat 32 b.val) = if a.val = b.val then 1#1 else 0#1 := by
  decide

theorem sameHead_apply (k x : Fin 128) : sameHead (ix2 k x) = if k.val / 64 = x.val / 64 then Ideal.ofBits .f32 0x3C800000#32 else 0 := by
  have e : sameHead = truncf .bf16 (select (cmpi .eq k0_pay11 colHead) (broadcast S128x128 (Scalar.ofBits (F := Ideal) .f32 0x3C800000#32)) (broadcast S128x128 (Scalar.ofBits (F := Ideal) .f32 0x00000000#32))) bitsLt_bf16_f32 := rfl
  have e1 := row_apply k x
  have e2 := col_apply k x
  rw [e]
  generalize k0_pay11 = a at e1 ⊢
  generalize colHead = b at e2 ⊢
  pointwise []
  rw [e1, e2, eq_apply ⟨k.val / 64, by omega⟩ ⟨x.val / 64, by omega⟩]
  split <;> rfl

/-- A tile's rows, normalized. -/
def tnorm (H : FVec Ideal S128x128 .bf16) (y : FVec Ideal S1024x128 .f32) (g : Vec Ideal S1x128 .f32) : FVec Ideal S1024x128 .f32 :=
  mulf (mulf y (rsqrt (addf (matmul dot_S1024x128_S128x128_S1024x128_1_0_0_1_n_n none (truncf .bf16 (mulf y y) bitsLt_bf16_f32) H (constant S1024x128 .f32 0x00000000#32)) (broadcast S1024x128 (Scalar.ofBits .f32 0x358637BD#32)))))
    (broadcastTo S1024x128 (shapeCast S1x128 g shapeCasts_S1x128_S1x128) broadcasts_S1x128_S1024x128)

/-- A tile, turned. -/
def tile (C S : FVec Ideal S1024x128 .f32) (M : IVec S1x128 1) (H : FVec Ideal S128x128 .bf16) (y : FVec Ideal S1024x128 .f32) (g : Vec Ideal S1x128 .f32) : FVec Ideal S1024x128 .bf16 :=
  truncf .bf16 (addf (mulf (tnorm H y g) C) (mulf (select (broadcastTo S1024x128 (shapeCast S1x128 M shapeCasts_S1x128_S1x128) broadcasts_S1x128_S1024x128)
    (dynamicRotate 1 96#32 none (tnorm H y g) rotates_S1024x128_d1) (dynamicRotate 1 32#32 none (tnorm H y g) rotates_S1024x128_d1)) S)) bitsLt_bf16_f32

theorem tnorm_apply (H : FVec Ideal S128x128 .bf16) (hH : ∀ k x : Fin 128, H (ix2 k x) = if k.val / 64 = x.val / 64 then Ideal.ofBits .f32 0x3C800000#32 else 0)
    (y : FVec Ideal S1024x128 .f32) (g : Vec Ideal S1x128 .f32) (r : Fin 1024) (yn gn : ℕ → EReal)
    (hy : ∀ x : Fin 128, y (ix2 r x) = yn x.val) (hg : ∀ x : Fin 128, g (ix2 0 x) = gn x.val) (x : Fin 128) :
    tnorm H y g (ix2 r x) = lnorm yn gn x.val := by
  pointwise [tnorm]
  simp only [hy, hg, hH]
  rfl

theorem tile_apply (C S : FVec Ideal S1024x128 .f32) (H : FVec Ideal S128x128 .bf16) (hH : ∀ k x : Fin 128, H (ix2 k x) = if k.val / 64 = x.val / 64 then Ideal.ofBits .f32 0x3C800000#32 else 0)
    (M : IVec S1x128 1) (hM : ∀ x : Fin 128, M (ix2 0 x) = if x.val % 64 < 32 then 1#1 else 0#1)
    (y : FVec Ideal S1024x128 .f32) (g : Vec Ideal S1x128 .f32) (r : Fin 1024) (yn gn cn sn : ℕ → EReal)
    (hy : ∀ x : Fin 128, y (ix2 r x) = yn x.val) (hg : ∀ x : Fin 128, g (ix2 0 x) = gn x.val)
    (hC : ∀ x : Fin 128, C (ix2 r x) = cn x.val) (hS : ∀ x : Fin 128, S (ix2 r x) = sn x.val) (x : Fin 128) :
    tile C S M H y g (ix2 r x) = lane yn gn cn sn x.val := by
  have e := tnorm_apply H hH y g r yn gn hy hg
  unfold tile
  generalize tnorm H y g = n at e ⊢
  pointwise []
  rw [hM, hC, hS, e, e, e]
  unfold lane
  dsimp only
  split
  · rw [show (x.val + 128 - 96) % 128 = x.val + 32 by omega]
    rfl
  · rw [show (x.val + 128 - 32) % 128 = x.val - 32 by omega]
    rfl

end Cert.GqkvIdeal.Parts

end
-- ==== Proof.GqkvValue.lean ====
/- The rotary projection call's result array: tile by tile, queries and keys normalized and turned, values as projected. -/
module

public import proofs.«01_k».proof.Proof.GqkvTables
public import proofs.«01_k».proof.Proof.GqkvBlock

@[expose] public section

noncomputable section

namespace Cert.GqkvIdeal.Parts

open Cert.GqkvIdeal Cert.GqkvIdeal.Gen Cert.GqkvIdeal.Value Cert.Proof.Ffn
open Idealize.ShloMosaic Idealize.ShloMosaic.TcCoe Idealize.SL.Sem

variable (m : (ℓ : Loc nD τ sig) → Buf (Elt Ideal) ℓ) (c : Dev nD)

/-! ## The blocks read -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 4 * 6 ∧ win0_2.index t (1 : Fin 3) = 0 ∧ win0_2.index t (2 : Fin 3) = 0 := (by decide +kernel : ∀ t : Fin grid0.N, _)
theorem idx3 : ∀ t : Fin cfg0.N, win0_3.index t (0 : Fin 3) = t.val / 4 * 6 + 1 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = (if 16 ≤ t.val then 4 else t.val % 4) ∧ win0_7.index t (1 : Fin 2) = 0 := (by decide +kernel : ∀ t : Fin grid0.N, _)
theorem idx8 : ∀ t : Fin cfg0.N, win0_8.index t (0 : Fin 2) = (if 16 ≤ t.val then 4 else t.val % 4) ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem read0 (t : Fin cfg0.N) (r k : Fin 1024) : (iblk m c 0 t : S1024x1024.Idx → EReal) (ix2 r k) = at2 (m ((c : Thread nD τ).loc main_arg0)) (1024 * t.val + r.val) k.val := by
  have ht : t.val < 17 := t.isLt
  obtain ⟨e0, e1⟩ := idx0 t
  rw [at2_eq _ _ _ (by omega) (by omega)]
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = 1024 * t.val + r.val; first | (rw [e0]; done) | (rw [e0]; omega)
  | ⟨1, _⟩ => show win0_0.index t (1 : Fin 2) * 1024 + 1 * k.val = k.val; first | (rw [e1]; done) | (rw [e1]; omega)

theorem read1 (t : Fin cfg0.N) (k : Fin 1024) : (iblk m c 1 t : S1x1024.Idx → EReal) (ix2 0 k) = at1 (m ((c : Thread nD τ).loc main_arg2)) k.val := by
  have ht : t.val < 17 := t.isLt
  obtain ⟨e0, e1⟩ := idx1 t
  show V m c main_v54 (((cfg0.win 1).blk t).view.emb (ix2 0 k)) = _
  refine Eq.trans (congrArg _ ?_) (V_v54 m c k)
  funext a
  refine Fin.ext ?_
  match a with
  | ⟨0, _⟩ => show win0_1.index t (0 : Fin 2) * 1 + 1 * 0 = 0; first | (rw [e0]; done) | (rw [e0]; omega)
  | ⟨1, _⟩ => show win0_1.index t (1 : Fin 2) * 1024 + 1 * k.val = k.val; first | (rw [e1]; done) | (rw [e1]; omega)

theorem read2 (t : Fin cfg0.N) (k : Fin 1024) : (iblk m c 2 t : S1x1x1024.Idx → EReal) (ix3 0 0 k) = at2 (m ((c : Thread nD τ).loc main_arg1)) (t.val / 4) k.val := by
  have ht : t.val < 17 := t.isLt
  obtain ⟨e0, e1, e2⟩ := idx2 t
  show V m c main_v0 (((cfg0.win 2).blk t).view.emb (ix3 0 0 k)) = _
  refine Eq.trans (congrArg _ ?_) ((V_v0 m c ⟨t.val / 4 * 6, by omega⟩ k).trans (by dsimp only; congr 1 <;> omega))
  funext a
  refine Fin.ext ?_
  match a with
  | ⟨0, _⟩ => show win0_2.index t (0 : Fin 3) * 1 + 1 * 0 = t.val / 4 * 6; first | (rw [e0]; done) | (rw [e0]; omega)
  | ⟨1, _⟩ => show win0_2.index t (1 : Fin 3) * 1 + 1 * 0 = 0; first | (rw [e1]; done) | (rw [e1]; omega)
  | ⟨2, _⟩ => show win0_2.index t (2 : Fin 3) * 1024 + 1 * k.val = k.val; first | (rw [e2]; done) | (rw [e2]; omega)

theorem read3 (t : Fin cfg0.N) (k : Fin 1024) : (iblk m c 3 t : S1x1x1024.Idx → EReal) (ix3 0 0 k) = at2 (m ((c : Thread nD τ).loc main_arg1)) (t.val / 4) (1024 + k.val) := by
  have ht : t.val < 17 := t.isLt
  obtain ⟨e0, e1, e2⟩ := idx3 t
  show V m c main_v0 (((cfg0.win 3).blk t).view.emb (ix3 0 0 k)) = _
  refine Eq.trans (congrArg _ ?_) ((V_v0 m c ⟨t.val / 4 * 6 + 1, by omega⟩ k).trans (by dsimp only; congr 1 <;> omega))
  funext a
  refine Fin.ext ?_
  match a with
  | ⟨0, _⟩ => show win0_3.index t (0 : Fin 3) * 1 + 1 * 0 = t.val / 4 * 6 + 1; first | (rw [e0]; done) | (rw [e0]; omega)
  | ⟨1, _⟩ => show win0_3.index t (1 : Fin 3) * 1 + 1 * 0 = 0; first | (rw [e1]; done) | (rw [e1]; omega)
  | ⟨2, _⟩ => show win0_3.index t (2 : Fin 3) * 1024 + 1 * k.val = k.val; first | (rw [e2]; done) | (rw [e2]; omega)

theorem read4 (t : Fin cfg0.N) (k : Fin 1024) (j : Fin 1536) : (iblk m c 4 t : S1024x1536.Idx → EReal) (ix2 k j) = packw (at2 (m ((c : Thread nD τ).loc main_arg3))) k.val j.val := by
  have ht : t.val < 17 := t.isLt
  obtain ⟨e0, e1⟩ := idx4 t
  show V m c main_v11 (((cfg0.win 4).blk t).view.emb (ix2 k j)) = _
  refine Eq.trans (congrArg _ ?_) (V_w m c k j)
  funext a
  refine Fin.ext ?_
  match a with
  | ⟨0, _⟩ => show win0_4.index t (0 : Fin 2) * 1024 + 1 * k.val = k.val; first | (rw [e0]; done) | (rw [e0]; omega)
  | ⟨1, _⟩ => show win0_4.index t (1 : Fin 2) * 1536 + 1 * j.val = j.val; first | (rw [e1]; done) | (rw [e1]; omega)

theorem read5 (t : Fin cfg0.N) (x : Fin 128) : (iblk m c 5 t : S1x128.Idx → EReal) (ix2 0 x) = at1 (m ((c : Thread nD τ).loc main_arg4)) (x.val % 64) * Ideal.ofBits .f32 0x3E000000#32 := by
  have ht : t.val < 17 := t.isLt
  obtain ⟨e0, e1⟩ := idx5 t
  show V m c main_v17 (((cfg0.win 5).blk t).view.emb (ix2 0 x)) = _
  refine Eq.trans (congrArg _ ?_) (V_v17 m c x)
  funext a
  refine Fin.ext ?_
  match a with
  | ⟨0, _⟩ => show win0_5.index t (0 : Fin 2) * 1 + 1 * 0 = 0; first | (rw [e0]; done) | (rw [e0]; omega)
  | ⟨1, _⟩ => show win0_5.index t (1 : Fin 2) * 128 + 1 * x.val = x.val; first | (rw [e1]; done) | (rw [e1]; omega)

theorem read6 (t : Fin cfg0.N) (x : Fin 128) : (iblk m c 6 t : S1x128.Idx → EReal) (ix2 0 x) = at1 (m ((c : Thread nD τ).loc main_arg5)) (x.val % 64) := by
  have ht : t.val < 17 := t.isLt
  obtain ⟨e0, e1⟩ := idx6 t
  show V m c main_v21 (((cfg0.win 6).blk t).view.emb (ix2 0 x)) = _
  refine Eq.trans (congrArg _ ?_) (V_v21 m c x)
  funext a
  refine Fin.ext ?_
  match a with
  | ⟨0, _⟩ => show win0_6.index t (0 : Fin 2) * 1 + 1 * 0 = 0; first | (rw [e0]; done) | (rw [e0]; omega)
  | ⟨1, _⟩ => show win0_6.index t (1 : Fin 2) * 128 + 1 * x.val = x.val; first | (rw [e1]; done) | (rw [e1]; omega)

theorem read7 (t : Fin cfg0.N) (r : Fin 1024) (x : Fin 128) : (iblk m c 7 t : S1024x128.Idx → EReal) (ix2 r x) = tab (at2 cosT) 1 (1024 * t.val + r.val) (x.val % 32) := by
  have ht : t.val < 17 := t.isLt
  obtain ⟨e0, e1⟩ := idx7 t
  show V m c main_v51 (((cfg0.win 7).blk t).view.emb (ix2 r x)) = _
  refine Eq.trans (congrArg _ ?_) ((V_cos m c ⟨(if 16 ≤ t.val then 4 else t.val % 4) * 1024 + r.val, by split <;> omega⟩ x).trans ?_)
  swap
  · dsimp only
    unfold tab
    by_cases h : t.val < 16
    · simp only [if_neg (show ¬ 16 ≤ t.val by omega), if_pos (show t.val % 4 * 1024 + r.val < 4096 by omega), if_pos (show 1024 * t.val + r.val < 16384 by omega),
        show (1024 * t.val + r.val) % 4096 = t.val % 4 * 1024 + r.val by omega]
    · simp only [if_pos (show 16 ≤ t.val by omega), if_neg (show ¬ 4 * 1024 + r.val < 4096 by omega), if_neg (show ¬ 1024 * t.val + r.val < 16384 by omega)]
  funext a
  refine Fin.ext ?_
  match a with
  | ⟨0, _⟩ => show win0_7.index t (0 : Fin 2) * 1024 + 1 * r.val = (if 16 ≤ t.val then 4 else t.val % 4) * 1024 + r.val; first | (rw [e0]; done) | (rw [e0]; omega)
  | ⟨1, _⟩ => show win0_7.index t (1 : Fin 2) * 128 + 1 * x.val = x.val; first | (rw [e1]; done) | (rw [e1]; omega)

theorem read8 (t : Fin cfg0.N) (r : Fin 1024) (x : Fin 128) : (iblk m c 8 t : S1024x128.Idx → EReal) (ix2 r x) = if x.val % 64 < 32 then -(tab (at2 sinT) 0 (1024 * t.val + r.val) (x.val % 32)) else tab (at2 sinT) 0 (1024 * t.val + r.val) (x.val % 32) := by
  have ht : t.val < 17 := t.isLt
  obtain ⟨e0, e1⟩ := idx8 t
  show V m c main_v53 (((cfg0.win 8).blk t).view.emb (ix2 r x)) = _
  refine Eq.trans (congrArg _ ?_) ((V_sin m c ⟨(if 16 ≤ t.val then 4 else t.val % 4) * 1024 + r.val, by split <;> omega⟩ x).trans ?_)
  swap
  · dsimp only
    unfold tab
    by_cases h : t.val < 16
    · simp only [if_neg (show ¬ 16 ≤ t.val by omega), if_pos (show t.val % 4 * 1024 + r.val < 4096 by omega), if_pos (show 1024 * t.val + r.val < 16384 by omega),
        show (1024 * t.val + r.val) % 4096 = t.val % 4 * 1024 + r.val by omega]
    · simp only [if_pos (show 16 ≤ t.val by omega), if_neg (show ¬ 4 * 1024 + r.val < 4096 by omega), if_neg (show ¬ 1024 * t.val + r.val < 16384 by omega), neg_zero, ite_self]
  funext a
  refine Fin.ext ?_
  match a with
  | ⟨0, _⟩ => show win0_8.index t (0 : Fin 2) * 1024 + 1 * r.val = (if 16 ≤ t.val then 4 else t.val % 4) * 1024 + r.val; first | (rw [e0]; done) | (rw [e0]; omega)
  | ⟨1, _⟩ => show win0_8.index t (1 : Fin 2) * 128 + 1 * x.val = x.val; first | (rw [e1]; done) | (rw [e1]; omega)

/-! ## One block -/

section
variable {p : QArgs} {t s : ℕ}
    {x0 : Vec Ideal S1024x1024 .f32} {x1 : Vec Ideal S1x1024 .f32} {x2 x3 : Vec Ideal S1x1x1024 .f32} {x4 : Vec Ideal S1024x1536 .bf16}
    {x5 x6 : Vec Ideal S1x128 .f32} {x7 x8 : Vec Ideal S1024x128 .f32}

theorem act_apply (h0 : ∀ r k : Fin 1024, x0 (ix2 r k) = p.h (1024 * t + r.val) k.val) (h1 : ∀ k : Fin 1024, x1 (ix2 0 k) = p.g k.val)
    (h2 : ∀ k : Fin 1024, x2 (ix3 0 0 k) = p.m s k.val) (h3 : ∀ k : Fin 1024, x3 (ix3 0 0 k) = p.m s (1024 + k.val)) (r k : Fin 1024) :
    k0_pay5 x0 x1 x2 x3 (ix2 r k) = mact p.h p.m p.g s (1024 * t + r.val) k.val := by
  pointwise [k0_pay5]
  simp only [h0, h1, h2, h3]
  rfl

/-- The left and right halves of a slab of 256 columns. -/
theorem slab0 (a : FVec Ideal S1024x1024 .bf16) (w : Vec Ideal S1024x256 .bf16) (r : Fin 1024) (x : Fin 128) :
    extractStridedSlice S1024x128 ![0, 0] (k0_pay15 a w) slices_S1024x256_o0_0_S1024x128 (ix2 r x) = ∑ k : Fin 1024, a (ix2 r k) * w (ix2 k ⟨0 + x.val, by omega⟩) := by
  pointwise [k0_pay15]
theorem slab1 (a : FVec Ideal S1024x1024 .bf16) (w : Vec Ideal S1024x256 .bf16) (r : Fin 1024) (x : Fin 128) :
    extractStridedSlice S1024x128 ![0, 128] (k0_pay15 a w) slices_S1024x256_o0_128_S1024x128 (ix2 r x) = ∑ k : Fin 1024, a (ix2 r k) * w (ix2 k ⟨128 + x.val, by omega⟩) := by
  pointwise [k0_pay15]

theorem table_cast (x : Vec Ideal S1024x128 .f32) : k0_pay6 x = x := by
  funext i
  obtain ⟨r, k, rfl⟩ : ∃ (r : Fin 1024) (k : Fin 128), i = ix2 r k := ⟨i 0, i 1, (ix2_eta i).symm⟩
  pointwise [k0_pay6]

theorem block_apply (h0 : ∀ r k : Fin 1024, x0 (ix2 r k) = p.h (1024 * t + r.val) k.val) (h1 : ∀ k : Fin 1024, x1 (ix2 0 k) = p.g k.val)
    (h2 : ∀ k : Fin 1024, x2 (ix3 0 0 k) = p.m s k.val) (h3 : ∀ k : Fin 1024, x3 (ix3 0 0 k) = p.m s (1024 + k.val))
    (h4 : ∀ (k : Fin 1024) (j : Fin 1536), x4 (ix2 k j) = packw p.w k.val j.val)
    (h5 : ∀ x : Fin 128, x5 (ix2 0 x) = p.q (x.val % 64) * Ideal.ofBits .f32 0x3E000000#32) (h6 : ∀ x : Fin 128, x6 (ix2 0 x) = p.k (x.val % 64))
    (h7 : ∀ (r : Fin 1024) (x : Fin 128), x7 (ix2 r x) = p.c (1024 * t + r.val) (x.val % 32))
    (h8 : ∀ (r : Fin 1024) (x : Fin 128), x8 (ix2 r x) = if x.val % 64 < 32 then -(p.s (1024 * t + r.val) (x.val % 32)) else p.s (1024 * t + r.val) (x.val % 32))
    (r : Fin 1024) (j : Fin 1536) :
    out0_9 x0 x1 x2 x3 x4 x5 x6 x7 x8 (ix2 r j) = qout p s (1024 * t + r.val) j.val := by
  have ea := act_apply h0 h1 h2 h3
  unfold_out out0_9
  rw [ld2 x0, ld2 x1, ld3 x2, ld3 x3, ld2 x5, ld2 x6, ld2 x7, ld2 x8]
  generalize k0_pay5 x0 x1 x2 x3 = A at ea ⊢
  have y0 : ∀ (o : ℕ) (ho : o + 256 ≤ 1536) (inb) (r : Fin 1024) (x : Fin 128),
      extractStridedSlice S1024x128 ![0, 0] (k0_pay15 A (View.ld x4 (Rect.unit (s := S1024x1536) ![0, o] S1024x256.size inb))) slices_S1024x256_o0_0_S1024x128 (ix2 r x)
        = mproj p.h p.m p.g (packw p.w) s (1024 * t + r.val) (o + x.val) := by
    intro o ho inb r x
    refine (slab0 _ _ r x).trans (Finset.sum_congr rfl fun k _ => ?_)
    rw [ea, show View.ld x4 (Rect.unit (s := S1024x1536) ![0, o] S1024x256.size inb) (ix2 k ⟨0 + x.val, by omega⟩) = _ from ldr x4 0 o inb k ⟨0 + x.val, by omega⟩ (by omega) (by dsimp only; omega), h4]
    simp only [Nat.zero_add]
  have y1 : ∀ (o : ℕ) (ho : o + 256 ≤ 1536) (inb) (r : Fin 1024) (x : Fin 128),
      extractStridedSlice S1024x128 ![0, 128] (k0_pay15 A (View.ld x4 (Rect.unit (s := S1024x1536) ![0, o] S1024x256.size inb))) slices_S1024x256_o0_128_S1024x128 (ix2 r x)
        = mproj p.h p.m p.g (packw p.w) s (1024 * t + r.val) (o + 128 + x.val) := by
    intro o ho inb r x
    refine (slab1 _ _ r x).trans (Finset.sum_congr rfl fun k _ => ?_)
    rw [ea, show View.ld x4 (Rect.unit (s := S1024x1536) ![0, o] S1024x256.size inb) (ix2 k ⟨128 + x.val, by omega⟩) = _ from ldr x4 0 o inb k ⟨128 + x.val, by omega⟩ (by omega) (by dsimp only; omega), h4]
    simp only [Nat.zero_add, Nat.add_assoc]
  have qk : ∀ (o : ℕ) (ho : o % 64 = 0) (g : ℕ → EReal) (xg : Vec Ideal S1x128 .f32) (hg : ∀ x : Fin 128, xg (ix2 0 x) = g (x.val % 64))
      (y : FVec Ideal S1024x128 .f32) (hy : ∀ (r : Fin 1024) (x : Fin 128), y (ix2 r x) = mproj p.h p.m p.g (packw p.w) s (1024 * t + r.val) (o + x.val))
      (r : Fin 1024) (x : Fin 128), tile (k0_pay6 x7) (k0_pay7 x8) firstHalf sameHead y xg (ix2 r x)
        = rot (hnorm (fun d => mproj p.h p.m p.g (packw p.w) s (1024 * t + r.val) ((o + x.val) / 64 * 64 + d)) g) (p.c (1024 * t + r.val)) (p.s (1024 * t + r.val)) ((o + x.val) % 64) := by
    intro o ho g xg hg y hy r x
    rw [table_cast, show k0_pay7 x8 = x8 from table_cast x8]
    refine (tile_apply x7 x8 sameHead sameHead_apply firstHalf firstHalf_apply y xg r (fun x => mproj p.h p.m p.g (packw p.w) s (1024 * t + r.val) (o + x)) (fun x => g (x % 64))
      (fun x => p.c (1024 * t + r.val) (x % 32)) (fun x => if x % 64 < 32 then -(p.s (1024 * t + r.val) (x % 32)) else p.s (1024 * t + r.val) (x % 32))
      (hy r) hg (h7 r) (h8 r) x).trans ?_
    refine (lane_eq _ _ _ _ g (p.c (1024 * t + r.val)) (p.s (1024 * t + r.val)) x.val x.isLt (fun _ _ => rfl) rfl rfl).trans ?_
    rw [show (o + x.val) % 64 = x.val % 64 by omega, show (o + x.val) / 64 * 64 = o + x.val / 64 * 64 by omega]
    simp only [Nat.add_assoc]
  have keyq : ∀ (o : ℕ) (ho : o + 128 ≤ 1024) (ho' : o % 64 = 0) (y : FVec Ideal S1024x128 .f32)
      (hy : ∀ (r : Fin 1024) (x : Fin 128), y (ix2 r x) = mproj p.h p.m p.g (packw p.w) s (1024 * t + r.val) (o + x.val))
      (v : FVec Ideal S1024x128 .bf16) (hv : v = tile (k0_pay6 x7) (k0_pay7 x8) firstHalf sameHead y x5)
      (z : S1024x128.Idx), v z = qout p s (1024 * t + (0 + 1 * (z (0 : Fin 2)).val)) (o + 1 * (z (1 : Fin 2)).val) := by
    intro o ho ho' y hy v hv z
    obtain ⟨r, x, rfl⟩ : ∃ (r : Fin 1024) (x : Fin 128), z = ix2 r x := ⟨z 0, z 1, (ix2_eta z).symm⟩
    show v (ix2 r x) = qout p s (1024 * t + (0 + 1 * r.val)) (o + 1 * x.val)
    rw [hv, Nat.zero_add, Nat.one_mul, Nat.one_mul, qk o ho' (fun d => p.q d * Ideal.ofBits .f32 0x3E000000#32) x5 h5 y hy r x, qout_of_pack _ _ _ _ (by omega), if_pos (by omega)]
  have keyk : ∀ (o : ℕ) (ho : o + 128 ≤ 1280) (ho' : o % 64 = 0) (ho'' : 1024 ≤ o) (y : FVec Ideal S1024x128 .f32)
      (hy : ∀ (r : Fin 1024) (x : Fin 128), y (ix2 r x) = mproj p.h p.m p.g (packw p.w) s (1024 * t + r.val) (o + x.val))
      (v : FVec Ideal S1024x128 .bf16) (hv : v = tile (k0_pay6 x7) (k0_pay7 x8) firstHalf sameHead y x6)
      (z : S1024x128.Idx), v z = qout p s (1024 * t + (0 + 1 * (z (0 : Fin 2)).val)) (o + 1 * (z (1 : Fin 2)).val) := by
    intro o ho ho' ho'' y hy v hv z
    obtain ⟨r, x, rfl⟩ : ∃ (r : Fin 1024) (x : Fin 128), z = ix2 r x := ⟨z 0, z 1, (ix2_eta z).symm⟩
    show v (ix2 r x) = qout p s (1024 * t + (0 + 1 * r.val)) (o + 1 * x.val)
    rw [hv, Nat.zero_add, Nat.one_mul, Nat.one_mul, qk o ho' p.k x6 h6 y hy r x, qout_of_pack _ _ _ _ (by omega), if_neg (by omega), if_pos (by omega)]
  have keyv : ∀ (o : ℕ) (ho : o + 128 ≤ 1536) (ho'' : 1280 ≤ o) (y : FVec Ideal S1024x128 .f32)
      (hy : ∀ (r : Fin 1024) (x : Fin 128), y (ix2 r x) = mproj p.h p.m p.g (packw p.w) s (1024 * t + r.val) (o + x.val))
      (v : FVec Ideal S1024x128 .bf16) (hv : v = truncf .bf16 y bitsLt_bf16_f32)
      (z : S1024x128.Idx), v z = qout p s (1024 * t + (0 + 1 * (z (0 : Fin 2)).val)) (o + 1 * (z (1 : Fin 2)).val) := by
    intro o ho ho'' y hy v hv z
    obtain ⟨r, x, rfl⟩ : ∃ (r : Fin 1024) (x : Fin 128), z = ix2 r x := ⟨z 0, z 1, (ix2_eta z).symm⟩
    show v (ix2 r x) = qout p s (1024 * t + (0 + 1 * r.val)) (o + 1 * x.val)
    rw [hv, Nat.zero_add, Nat.one_mul, Nat.one_mul, qout_of_pack _ _ _ _ (by omega), if_neg (by omega), if_neg (by omega)]
    exact hy r x
  refine View.canon_apply_of_pieces (Val := Elt Ideal) (S := S1024x1536) (e := .bf16)
    (fun y => qout p s (1024 * t + (y (0 : Fin 2)).val) (y (1 : Fin 2)).val) _ (fun pc hq y => ?_) (ix2 r j) (cover0_9 _ _ _ _ _ _ _ _ _ _ _ _ (ix2 r j))
  simp only [List.mem_cons, List.mem_nil_iff, or_false] at hq
  rcases hq with rfl | rfl | rfl | rfl | rfl | rfl | rfl | rfl | rfl | rfl | rfl | rfl
  · exact keyv 1408 (by omega) (by omega) _ (y1 1280 (by omega) inb_S1024x1536_S1024x256_0_1280) _ rfl y
  · exact keyv 1280 (by omega) (by omega) _ (y0 1280 (by omega) inb_S1024x1536_S1024x256_0_1280) _ rfl y
  · exact keyk 1152 (by omega) (by omega) (by omega) _ (y1 1024 (by omega) inb_S1024x1536_S1024x256_0_1024) _ rfl y
  · exact keyk 1024 (by omega) (by omega) (by omega) _ (y0 1024 (by omega) inb_S1024x1536_S1024x256_0_1024) _ rfl y
  · exact keyq 896 (by omega) (by omega) _ (y1 768 (by omega) inb_S1024x1536_S1024x256_0_768) _ rfl y
  · exact keyq 768 (by omega) (by omega) _ (y0 768 (by omega) inb_S1024x1536_S1024x256_0_768) _ rfl y
  · exact keyq 640 (by omega) (by omega) _ (y1 512 (by omega) inb_S1024x1536_S1024x256_0_512) _ rfl y
  · exact keyq 512 (by omega) (by omega) _ (y0 512 (by omega) inb_S1024x1536_S1024x256_0_512) _ rfl y
  · exact keyq 384 (by omega) (by omega) _ (y1 256 (by omega) inb_S1024x1536_S1024x256_0_256) _ rfl y
  · exact keyq 256 (by omega) (by omega) _ (y0 256 (by omega) inb_S1024x1536_S1024x256_0_256) _ rfl y
  · exact keyq 128 (by omega) (by omega) _ (y1 0 (by omega) inb_S1024x1536_S1024x256_0_0) _ rfl y
  · exact keyq 0 (by omega) (by omega) _ (y0 0 (by omega) inb_S1024x1536_S1024x256_0_0) _ rfl y

end

/-! ## The whole array -/

/-- The call's arrays. -/
def args : QArgs := ⟨at2 (m ((c : Thread nD τ).loc main_arg0)), at2 (m ((c : Thread nD τ).loc main_arg1)), at1 (m ((c : Thread nD τ).loc main_arg2)), at2 (m ((c : Thread nD τ).loc main_arg3)), at1 (m ((c : Thread nD τ).loc main_arg4)), at1 (m ((c : Thread nD τ).loc main_arg5)), tab (at2 cosT) 1, tab (at2 sinT) 0⟩

/-- The array the call leaves. -/
def G : S17408x1536.Idx → EReal := fun i => qout (args m c) ((i 0).val / 4096) (i 0).val (i 1).val

theorem emb9_0 (t : Fin cfg0.N) (j : S1024x1536.Idx) : (((cfg0.win 9).blk t).view.emb j (0 : Fin 2)).val = 1024 * t.val + (j 0).val := by
  show win0_9.index t (0 : Fin 2) * 1024 + 1 * (j 0).val = _
  rw [(idx9 t).1]; omega

theorem emb9_1 (t : Fin cfg0.N) (j : S1024x1536.Idx) : (((cfg0.win 9).blk t).view.emb j (1 : Fin 2)).val = (j 1).val := by
  show win0_9.index t (1 : Fin 2) * 1536 + 1 * (j 1).val = _
  rw [(idx9 t).2]; omega

/-- What a point writes back is its block of `G`. -/
theorem flushed9_eq (t : Fin cfg0.N) : (dats m 0 c).flushed 9 t = ((cfg0.win 9).blk t).view.read (Elt Ideal) (G m c) := by
  rw [flushed9]
  funext j
  have h0 : (j 0).val < 1024 := (j 0).isLt
  have key := block_apply (p := args m c) (s := t.val / 4) (read0 m c t) (read1 m c t) (read2 m c t) (read3 m c t) (read4 m c t) (read5 m c t) (read6 m c t) (read7 m c t) (read8 m c t) (j 0) (j 1)
  refine Eq.trans (congrArg _ (ix2_eta j).symm) (key.trans ?_)
  show _ = G m c (((cfg0.win 9).blk t).view.emb j)
  unfold G
  rw [emb9_0, emb9_1, show (1024 * t.val + (j 0).val) / 4096 = t.val / 4 by omega]

/-- Every row is written by the point of its block. -/
theorem covered9 (i : S17408x1536.Idx) : ∃ t : Fin cfg0.N, (cfg0.win 9).flush t = true ∧ i ∈ ((cfg0.win 9).blk t).view.set := by
  have h0 : (i 0).val < 17408 := (i 0).isLt
  have h1 : (i 1).val < 1536 := (i 1).isLt
  have hN : cfg0.N = 17 := by decide
  obtain ⟨t, ht⟩ : ∃ t : Fin cfg0.N, t.val = (i 0).val / 1024 := ⟨⟨(i 0).val / 1024, by rw [hN]; omega⟩, rfl⟩
  refine ⟨t, flush0_9 t, ?_⟩
  have e := ((cfg0.win 9).blk t).view.emb_mem_set (ix2 ⟨(i 0).val % 1024, by omega⟩ ⟨(i 1).val, h1⟩ : S1024x1536.Idx)
  have hi : ((cfg0.win 9).blk t).view.emb (ix2 ⟨(i 0).val % 1024, by omega⟩ ⟨(i 1).val, h1⟩ : S1024x1536.Idx) = i := by
    funext a
    match a with
    | ⟨0, _⟩ => exact Fin.ext ((emb9_0 t _).trans (by rw [ht]; show 1024 * ((i 0).val / 1024) + (i 0).val % 1024 = (i 0).val; omega))
    | ⟨1, _⟩ => exact Fin.ext (emb9_1 t _)
  rwa [hi] at e

/-- The result array. -/
theorem result : (dats m 0 c).arrAt 9 cfg0.N = G m c := by
  funext i
  obtain ⟨t, hf, hm⟩ := covered9 i
  exact (dats m 0 c).arrAt_apply_of_mem 9 (G m c) (fun t _ => flushed9_eq m c t) cfg0.N t i t.isLt hf hm

end Cert.GqkvIdeal.Parts

end
-- ==== Proof.GqkvRefLat.lean ====
/- The reference of the rotary projection call, entry by entry: its latent rows. -/
module

public import proofs.«01_k».proof.Proof.GqkvSpec
public import proofs.«01_k».proof.Proof.Gen.GqkvRefIdeal.Read
public import Idealize.ShloMosaic.Lib.Pointwise

@[expose] public section

noncomputable section

namespace Cert.GqkvRefIdeal.Lat

open Cert.GqkvRefIdeal Cert.GqkvRefIdeal.Gen Cert.GqkvRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x1536.Idx → EReal)
    (x4 x5 : S64.Idx → EReal)

/-- The layer's arrays. -/
def par : QArgs :=
  ⟨at2 x0, at2 x1, at1 x2, at2 x3, at1 x4, at1 x5, tab (at2 (val_main_v22 (F := Ideal))) 1, tab (at2 (val_main_v23 (F := Ideal))) 0⟩

theorem rows_apply (b : Fin 4) (n : Fin 4096) (k : Fin 1024) : val_main_v25 (F := Ideal) x0 (ix3 b n k) = at2 x0 (4096 * b.val + n.val) k.val := by
  rw [at2_eq _ _ _ (by omega) (by omega)]
  pointwise [val_main_v25, val_main_v24]
  exact congrArg x0 (congrArg₂ ix2 (Fin.ext (by dsimp only; omega)) rfl)

theorem shift_apply (b : Fin 4) (k : Fin 1024) : val_main_v28 (F := Ideal) x1 (ix3 b 0 k) = at2 x1 b.val k.val := by
  rw [at2_eq _ _ _ (by omega) (by omega)]
  pointwise [val_main_v28, val_main_v27, val_main_v26]

theorem scale_apply (b : Fin 4) (k : Fin 1024) : val_main_v29 (F := Ideal) x1 (ix3 b 0 k) = at2 x1 b.val (1024 + k.val) := by
  rw [at2_eq _ _ _ (by omega) (by omega)]
  pointwise [val_main_v29, val_main_v27, val_main_v26]

theorem act_apply (b : Fin 4) (n : Fin 4096) (k : Fin 1024) :
    val_main_v52 (F := Ideal) x0 x1 x2 (ix3 b n k) = mact (at2 x0) (at2 x1) (at1 x2) b.val (4096 * b.val + n.val) k.val := by
  have e0 := rows_apply x0
  have e1 := shift_apply x1
  have e2 := scale_apply x1
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_2, val_main_cst_3, val_main_cst_4, val_main_cst_5]
  simp only [e0, e1, e2]
  rw [mul_assoc (_ * _) (x2 (ix1 k)), show x2 (ix1 k) = at1 x2 k.val from (at1_eq _ _ k.isLt).symm]
  rfl

theorem up_apply (b : Fin 4) (n : Fin 4096) (j : Fin 1536) :
    val_main_v53 (F := Ideal) x0 x1 x2 x3 (ix3 b n j) = mproj (at2 x0) (at2 x1) (at1 x2) (at2 x3) b.val (4096 * b.val + n.val) j.val := by
  have e := act_apply x0 x1 x2
  pointwise [val_main_v53]
  refine Finset.sum_congr rfl fun k _ => ?_
  rw [e, show x3 (ix2 k j) = at2 x3 k.val j.val from (at2_eq _ _ _ k.isLt j.isLt).symm]

/-- A normalized head of the queries. -/
theorem nq_apply (b : Fin 4) (n : Fin 4096) (h : Fin 16) (d : Fin 64) :
    val_main_v70 (F := Ideal) x0 x1 x2 x3 x4 (ix4 b n h d) = hnorm (fun d => mproj (at2 x0) (at2 x1) (at1 x2) (at2 x3) b.val (4096 * b.val + n.val) ((h.val * 64 + d))) (at1 x4) d.val := by
  have e := up_apply x0 x1 x2 x3 b n
  have e' := fun d : Fin 64 => e ⟨(h.val * 64 + d.val), by omega⟩
  pointwise [val_main_v70, val_main_v69, val_main_v68, val_main_v67, val_main_v66, val_main_v65, val_main_v64, val_main_v63, val_main_v62, val_main_v61, val_main_v60, val_main_v59, val_main_v58, val_main_v57, val_main_v54, val_main_cst_6, val_main_cst_7, val_main_cst_8]
  simp only [e]
  unfold hnorm hinv
  rw [show x4 (ix1 d) = at1 x4 d.val from (at1_eq _ _ d.isLt).symm]

/-- A normalized head of the keys. -/
theorem nk_apply (b : Fin 4) (n : Fin 4096) (h : Fin 4) (d : Fin 64) :
    val_main_v99 (F := Ideal) x0 x1 x2 x3 x5 (ix4 b n h d) = hnorm (fun d => mproj (at2 x0) (at2 x1) (at1 x2) (at2 x3) b.val (4096 * b.val + n.val) (1024 + (h.val * 64 + d))) (at1 x5) d.val := by
  have e := up_apply x0 x1 x2 x3 b n
  have e' := fun d : Fin 64 => e ⟨1024 + (h.val * 64 + d.val), by omega⟩
  pointwise [val_main_v99, val_main_v98, val_main_v97, val_main_v96, val_main_v95, val_main_v94, val_main_v93, val_main_v92, val_main_v91, val_main_v90, val_main_v89, val_main_v88, val_main_v87, val_main_v86, val_main_v55, val_main_cst_9, val_main_cst_10, val_main_cst_11]
  simp only [e]
  unfold hnorm hinv
  rw [show x5 (ix1 d) = at1 x5 d.val from (at1_eq _ _ d.isLt).symm]

/-- A turned head of the queries. -/
theorem rq_apply (b : Fin 4) (n : Fin 4096) (h : Fin 16) (d : Fin 64) :
    val_main_v85 (F := Ideal) x0 x1 x2 x3 x4 (ix4 b n h d) = rot (hnorm (fun d => mproj (at2 x0) (at2 x1) (at1 x2) (at2 x3) b.val (4096 * b.val + n.val) ((h.val * 64 + d))) (at1 x4))
      (at2 (val_main_v22 (F := Ideal)) n.val) (at2 (val_main_v23 (F := Ideal)) n.val) d.val := by
  have e := nq_apply x0 x1 x2 x3 x4 b n h
  generalize hnorm (fun d => mproj (at2 x0) (at2 x1) (at1 x2) (at2 x3) b.val (4096 * b.val + n.val) ((h.val * 64 + d))) (at1 x4) = f at e ⊢
  have ec : ∀ y : Fin 32, val_main_v22 (F := Ideal) (ix2 n y) = at2 (val_main_v22 (F := Ideal)) n.val y.val := fun y => (at2_eq _ _ _ n.isLt y.isLt).symm
  have es : ∀ y : Fin 32, val_main_v23 (F := Ideal) (ix2 n y) = at2 (val_main_v23 (F := Ideal)) n.val y.val := fun y => (at2_eq _ _ _ n.isLt y.isLt).symm
  pointwise [val_main_v85, val_main_v84, val_main_v83, val_main_v82, val_main_v81, val_main_v80, val_main_v79, val_main_v78, val_main_v77, val_main_v76, val_main_v75, val_main_v74, val_main_v73, val_main_v72, val_main_v71]
  simp only [e, es]
  unfold rot
  by_cases hd : d.val < 32
  · rw [dif_pos hd, if_pos hd, ec, Nat.add_comm 32]
  · rw [dif_neg hd, if_neg hd, ec, show 32 + (d.val - 32) = d.val by omega]

/-- A turned head of the keys. -/
theorem rk_apply (b : Fin 4) (n : Fin 4096) (h : Fin 4) (d : Fin 64) :
    val_main_v114 (F := Ideal) x0 x1 x2 x3 x5 (ix4 b n h d) = rot (hnorm (fun d => mproj (at2 x0) (at2 x1) (at1 x2) (at2 x3) b.val (4096 * b.val + n.val) (1024 + (h.val * 64 + d))) (at1 x5))
      (at2 (val_main_v22 (F := Ideal)) n.val) (at2 (val_main_v23 (F := Ideal)) n.val) d.val := by
  have e := nk_apply x0 x1 x2 x3 x5 b n h
  generalize hnorm (fun d => mproj (at2 x0) (at2 x1) (at1 x2) (at2 x3) b.val (4096 * b.val + n.val) (1024 + (h.val * 64 + d))) (at1 x5) = f at e ⊢
  have ec : ∀ y : Fin 32, val_main_v22 (F := Ideal) (ix2 n y) = at2 (val_main_v22 (F := Ideal)) n.val y.val := fun y => (at2_eq _ _ _ n.isLt y.isLt).symm
  have es : ∀ y : Fin 32, val_main_v23 (F := Ideal) (ix2 n y) = at2 (val_main_v23 (F := Ideal)) n.val y.val := fun y => (at2_eq _ _ _ n.isLt y.isLt).symm
  pointwise [val_main_v114, val_main_v113, val_main_v112, val_main_v111, val_main_v110, val_main_v109, val_main_v108, val_main_v107, val_main_v106, val_main_v105, val_main_v104, val_main_v103, val_main_v102, val_main_v101, val_main_v100]
  simp only [e, es]
  unfold rot
  by_cases hd : d.val < 32
  · rw [dif_pos hd, if_pos hd, ec, Nat.add_comm 32]
  · rw [dif_neg hd, if_neg hd, ec, show 32 + (d.val - 32) = d.val by omega]

/-- The packed queries: the heads of a group in the order the result lists them, scaled. -/
theorem pack_apply (r : Fin 16384) (j : Fin 1024) :
    val_main_v119 (F := Ideal) x0 x1 x2 x3 x4 (ix2 r j)
      = val_main_v85 (F := Ideal) x0 x1 x2 x3 x4 (ix4 ⟨r.val / 4096, by omega⟩ ⟨r.val % 4096, by omega⟩ ⟨qhead (j.val / 64), qhead_lt _ (by omega)⟩ ⟨j.val % 64, by omega⟩) * Ideal.ofBits .f32 0x3E000000#32 := by
  pointwise [val_main_v119, val_main_v118, val_main_v117, val_main_v116, val_main_v115, val_main_cst_12]
  have e : (⟨j.val / 512 * 8 + j.val / 64 % 2 * 4 + j.val / 128 % 4, by omega⟩ : Fin 16) = ⟨qhead (j.val / 64), qhead_lt _ (by omega)⟩ := by
    refine Fin.ext ?_
    unfold qhead
    dsimp only
    omega
  rw [e]

/-- An entry of the result. -/
theorem out_apply (r : Fin 16384) (j : Fin 1536) :
    val_main_v122 (F := Ideal) x0 x1 x2 x3 x4 x5 (ix2 r j) = qout (par x0 x1 x2 x3 x4 x5) (r.val / 4096) (r.val) j.val := by
  have er : 4096 * (r.val / 4096) + r.val % 4096 = r.val := by omega
  have e0 := pack_apply x0 x1 x2 x3 x4
  have e1 := rq_apply x0 x1 x2 x3 x4
  have e2 := rk_apply x0 x1 x2 x3 x5
  have e3 := up_apply x0 x1 x2 x3
  have ec : (par x0 x1 x2 x3 x4 x5).c r.val = at2 (val_main_v22 (F := Ideal)) (r.val % 4096) := funext fun d => if_pos r.isLt
  have es : (par x0 x1 x2 x3 x4 x5).s r.val = at2 (val_main_v23 (F := Ideal)) (r.val % 4096) := funext fun d => if_pos r.isLt
  pointwise [val_main_v122, val_main_v121, val_main_v120, val_main_v56]
  simp only [e0, e1, e2, e3, er]
  unfold qout
  rw [ec, es]
  by_cases h0 : j.val < 1024
  · simp only [h0, if_true, dif_pos]
    rfl
  · by_cases h1 : j.val < 1280
    · rw [dif_neg h0, dif_pos (by omega), if_neg h0, if_pos h1]
      have ef : ∀ d, 1024 + ((j.val - 1024) / 64 * 64 + d) = j.val / 64 * 64 + d := fun d => by omega
      simp only [ef, show (j.val - 1024) % 64 = j.val % 64 by omega]
      rfl
    · rw [dif_neg h0, dif_neg (by omega), if_neg h0, if_neg h1]
      rw [show 1280 + (j.val - 1024 - 256) = j.val by omega]
      rfl

end Cert.GqkvRefIdeal.Lat

end
-- ==== Proof.GqkvRefCtx.lean ====
/- The reference of the rotary projection call, entry by entry: its context rows. -/
module

public import proofs.«01_k».proof.Proof.GqkvSpec
public import proofs.«01_k».proof.Proof.Gen.GqkvRefIdeal.Read
public import Idealize.ShloMosaic.Lib.Pointwise

@[expose] public section

noncomputable section

namespace Cert.GqkvRefIdeal.Ctx

open Cert.GqkvRefIdeal Cert.GqkvRefIdeal.Gen Cert.GqkvRefIdeal.Read Cert.Proof.Ffn
open Idealize.ShloMosaic Idealize.ShloMosaic.TcCoe Idealize.SL.Sem
open scoped BigOperators

variable (x0 : S17408x1024.Idx → EReal) (x1 : S5x6144.Idx → EReal) (x2 : S1024.Idx → EReal) (x3 : S1024x1536.Idx → EReal)
    (x4 x5 : S64.Idx → EReal)

/-- The layer's arrays. -/
def par : QArgs :=
  ⟨at2 x0, at2 x1, at1 x2, at2 x3, at1 x4, at1 x5, tab (at2 (val_main_v22 (F := Ideal))) 1, tab (at2 (val_main_v23 (F := Ideal))) 0⟩

theorem rows_apply (b : Fin 4) (n : Fin 256) (k : Fin 1024) : val_main_v124 (F := Ideal) x0 (ix3 b n k) = at2 x0 (16384 + 256 * b.val + n.val) k.val := by
  rw [at2_eq _ _ _ (by omega) (by omega)]
  pointwise [val_main_v124, val_main_v123]
  exact congrArg x0 (congrArg₂ ix2 (Fin.ext (by dsimp only; omega)) rfl)

theorem shift_apply (k : Fin 1024) : val_main_v127 (F := Ideal) x1 (ix3 0 0 k) = at2 x1 4 k.val := by
  rw [at2_eq _ _ _ (by omega) (by omega)]
  pointwise [val_main_v127, val_main_v126, val_main_v125]

theorem scale_apply (k : Fin 1024) : val_main_v128 (F := Ideal) x1 (ix3 0 0 k) = at2 x1 4 (1024 + k.val) := by
  rw [at2_eq _ _ _ (by omega) (by omega)]
  pointwise [val_main_v128, val_main_v126, val_main_v125]

theorem act_apply (b : Fin 4) (n : Fin 256) (k : Fin 1024) :
    val_main_v151 (F := Ideal) x0 x1 x2 (ix3 b n k) = mact (at2 x0) (at2 x1) (at1 x2) 4 (16384 + 256 * b.val + n.val) k.val := by
  have e0 := rows_apply x0
  have e1 := shift_apply x1
  have e2 := scale_apply x1
  pointwise [val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_cst_13, val_main_cst_14, val_main_cst_15, val_main_cst_16]
  simp only [e0, e1, e2]
  rw [mul_assoc (_ * _) (x2 (ix1 k)), show x2 (ix1 k) = at1 x2 k.val from (at1_eq _ _ k.isLt).symm]
  rfl

theorem up_apply (b : Fin 4) (n : Fin 256) (j : Fin 1536) :
    val_main_v152 (F := Ideal) x0 x1 x2 x3 (ix3 b n j) = mproj (at2 x0) (at2 x1) (at1 x2) (at2 x3) 4 (16384 + 256 * b.val + n.val) j.val := by
  have e := act_apply x0 x1 x2
  pointwise [val_main_v152]
  refine Finset.sum_congr rfl fun k _ => ?_
  rw [e, show x3 (ix2 k j) = at2 x3 k.val j.val from (at2_eq _ _ _ k.isLt j.isLt).symm]

/-- A normalized head of the queries. -/
theorem nq_apply (b : Fin 4) (n : Fin 256) (h : Fin 16) (d : Fin 64) :
    val_main_v169 (F := Ideal) x0 x1 x2 x3 x4 (ix4 b n h d) = hnorm (fun d => mproj (at2 x0) (at2 x1) (at1 x2) (at2 x3) 4 (16384 + 256 * b.val + n.val) ((h.val * 64 + d))) (at1 x4) d.val := by
  have e := up_apply x0 x1 x2 x3 b n
  have e' := fun d : Fin 64 => e ⟨(h.val * 64 + d.val), by omega⟩
  pointwise [val_main_v169, val_main_v168, val_main_v167, val_main_v166, val_main_v165, val_main_v164, val_main_v163, val_main_v162, val_main_v161, val_main_v160, val_main_v159, val_main_v158, val_main_v157, val_main_v156, val_main_v153, val_main_cst_17, val_main_cst_18, val_main_cst_19]
  simp only [e]
  unfold hnorm hinv
  rw [show x4 (ix1 d) = at1 x4 d.val from (at1_eq _ _ d.isLt).symm]

/-- A normalized head of the keys. -/
theorem nk_apply (b : Fin 4) (n : Fin 256) (h : Fin 4) (d : Fin 64) :
    val_main_v183 (F := Ideal) x0 x1 x2 x3 x5 (ix4 b n h d) = hnorm (fun d => mproj (at2 x0) (at2 x1) (at1 x2) (at2 x3) 4 (16384 + 256 * b.val + n.val) (1024 + (h.val * 64 + d))) (at1 x5) d.val := by
  have e := up_apply x0 x1 x2 x3 b n
  have e' := fun d : Fin 64 => e ⟨1024 + (h.val * 64 + d.val), by omega⟩
  pointwise [val_main_v183, val_main_v182, val_main_v181, val_main_v180, val_main_v179, val_main_v178, val_main_v177, val_main_v176, val_main_v175, val_main_v174, val_main_v173, val_main_v172, val_main_v171, val_main_v170, val_main_v154, val_main_cst_20, val_main_cst_21, val_main_cst_22]
  simp only [e]
  unfold hnorm hinv
  rw [show x5 (ix1 d) = at1 x5 d.val from (at1_eq _ _ d.isLt).symm]

/-- The packed queries: the heads of a group in the order the result lists them, scaled. -/
theorem pack_apply (r : Fin 1024) (j : Fin 1024) :
    val_main_v188 (F := Ideal) x0 x1 x2 x3 x4 (ix2 r j)
      = val_main_v169 (F := Ideal) x0 x1 x2 x3 x4 (ix4 ⟨r.val / 256, by omega⟩ ⟨r.val % 256, by omega⟩ ⟨qhead (j.val / 64), qhead_lt _ (by omega)⟩ ⟨j.val % 64, by omega⟩) * Ideal.ofBits .f32 0x3E000000#32 := by
  pointwise [val_main_v188, val_main_v187, val_main_v186, val_main_v185, val_main_v184, val_main_cst_23]
  have e : (⟨j.val / 512 * 8 + j.val / 64 % 2 * 4 + j.val / 128 % 4, by omega⟩ : Fin 16) = ⟨qhead (j.val / 64), qhead_lt _ (by omega)⟩ := by
    refine Fin.ext ?_
    unfold qhead
    dsimp only
    omega
  rw [e]

/-- An entry of the result. -/
theorem out_apply (r : Fin 1024) (j : Fin 1536) :
    val_main_v191 (F := Ideal) x0 x1 x2 x3 x4 x5 (ix2 r j) = qout (par x0 x1 x2 x3 x4 x5) (4) (16384 + r.val) j.val := by
  have er : 16384 + 256 * (r.val / 256) + r.val % 256 = 16384 + r.val := by omega
  have e0 := pack_apply x0 x1 x2 x3 x4
  have e1 := nq_apply x0 x1 x2 x3 x4
  have e2 := nk_apply x0 x1 x2 x3 x5
  have e3 := up_apply x0 x1 x2 x3
  have ec : (par x0 x1 x2 x3 x4 x5).c (16384 + r.val) = fun _ => 1 := funext fun d => if_neg (by omega)
  have es : (par x0 x1 x2 x3 x4 x5).s (16384 + r.val) = fun _ => 0 := funext fun d => if_neg (by omega)
  pointwise [val_main_v191, val_main_v190, val_main_v189, val_main_v155]
  simp only [e0, e1, e2, e3, er]
  unfold qout
  rw [ec, es]
  by_cases h0 : j.val < 1024
  · simp only [h0, if_true, dif_pos, rot_id]
    rfl
  · by_cases h1 : j.val < 1280
    · rw [dif_neg h0, dif_pos (by omega), if_neg h0, if_pos h1]
      rw [rot_id]
      have ef : ∀ d, 1024 + ((j.val - 1024) / 64 * 64 + d) = j.val / 64 * 64 + d := fun d => by omega
      simp only [ef, show (j.val - 1024) % 64 = j.val % 64 by omega]
      rfl
    · rw [dif_neg h0, dif_neg (by omega), if_neg h0, if_neg h1]
      rw [show 1280 + (j.val - 1024 - 256) = j.val by omega]
      rfl

end Cert.GqkvRefIdeal.Ctx

end
-- ==== Proof.GqkvEnd.lean ====
/- The rotary projection leaves, on the ideal points, exactly its reference's result: the arrays agree entry by entry. -/
module

public import proofs.«01_k».proof.Defs
public import proofs.«01_k».proof.Proof.GqkvValue
public import proofs.«01_k».proof.Proof.GqkvRefLat
public import proofs.«01_k».proof.Proof.GqkvRefCtx
public import Idealize.ShloMosaic.Lib.Pointwise

@[expose] public section

noncomputable section

namespace Cert.GqkvRefIdeal.Hand

open Cert.GqkvRefIdeal Cert.GqkvRefIdeal.Gen Cert.GqkvRefIdeal.Read Cert.Proof.Ffn
open Idealize.ShloMosaic Idealize.ShloMosaic.TcCoe Idealize.SL.Sem

variable (x0 : S17408x1024.Idx → EReal) (x1 : S5x6144.Idx → EReal) (x2 : S1024.Idx → EReal) (x3 : S1024x1536.Idx → EReal)
    (x4 x5 : S64.Idx → EReal)

/-- An entry of the reference's result: the latent rows, then the context rows. -/
theorem result (r : Fin 17408) (j : Fin 1536) : val_main_v193 (F := Ideal) x0 x1 x2 x3 x4 x5 (ix2 r j) = qout (Lat.par x0 x1 x2 x3 x4 x5) (r.val / 4096) r.val j.val := by
  pointwise [val_main_v193, val_main_v192]
  split
  · rename_i h
    exact Lat.out_apply x0 x1 x2 x3 x4 x5 ⟨r.val, h⟩ j
  · rename_i h
    have hr := r.isLt
    have e := Ctx.out_apply x0 x1 x2 x3 x4 x5 ⟨r.val - 16384, by omega⟩ j
    have er : 16384 + (r.val - 16384) = r.val := by omega
    simp only [er] at e
    rw [show r.val / 4096 = 4 by omega]
    exact e

end Cert.GqkvRefIdeal.Hand

namespace Cert.Proof.Gqkv

open Idealize.ShloMosaic Idealize.ShloMosaic.TcCoe Idealize.SL.Sem Cert.Proof.Ffn

theorem algebraic : Cert.algebraic_GqkvIdeal_GqkvRefIdeal (hGqkvIdeal := Cert.GqkvIdeal.Gen.facts) (hGqkvRefIdeal := Cert.GqkvRefIdeal.Gen.facts) := by
  intro m g m' g' _ hm
  refine ⟨fun c => Cert.GqkvIdeal.Parts.G m c, ?_, ?_⟩
  · refine (θ_run Cert.GqkvIdeal.defs _ _).mono (fun r h c => ⟨?_, (h c).2⟩) (Cert.GqkvIdeal.Value.run_blocks m g)
    rw [(h c).1]
    exact Cert.GqkvIdeal.Parts.result m c
  · refine (θ_run Cert.GqkvRefIdeal.defs _ _).mono (fun r h c => ⟨?_, (h c).2⟩) (Cert.GqkvRefIdeal.Value.run m' g')
    obtain ⟨h0, h1, h2, h3, h4, h5⟩ := hm c
    rw [(h c).1, Cert.GqkvRefIdeal.Read.val_main_v193_eq]
    show Cert.GqkvRefIdeal.Read.val_main_v193 (F := Ideal)
      (m' (c.tc.loc Cert.GqkvRefIdeal.main_arg0)) (m' (c.tc.loc Cert.GqkvRefIdeal.main_arg1)) (m' (c.tc.loc Cert.GqkvRefIdeal.main_arg2)) (m' (c.tc.loc Cert.GqkvRefIdeal.main_arg3)) (m' (c.tc.loc Cert.GqkvRefIdeal.main_arg4)) (m' (c.tc.loc Cert.GqkvRefIdeal.main_arg5)) = _
    rw [h0, h1, h2, h3, h4, h5]
    funext i
    obtain ⟨r, j, rfl⟩ : ∃ (r : Fin 17408) (j : Fin 1536), i = ix2 r j := ⟨i 0, i 1, (ix2_eta i).symm⟩
    exact (Cert.GqkvRefIdeal.Hand.result _ _ _ _ _ _ r j)

end Cert.Proof.Gqkv

end
-- ==== Proof.FseqSpec.lean ====
/- The sequence transform of Fourier mixing, in plain sums: a chunk of 1024 tokens against one table, the eight chunks, and the mean over them. -/
module

public import proofs.«01_k».proof.Proof.GateSpec

@[expose] public section

noncomputable section

namespace Cert.Proof.Ffn

open Idealize.ShloMosaic Idealize.ShloMosaic.TcCoe Idealize.SL.Sem
open scoped BigOperators

/-- Chunk `n` of the transform at token `l`, channel `k` of image `b`: chunks 0 to 3 take the first table, 4 to 7 the second. -/
def chunk (T P : ℕ → ℕ → ℕ → EReal) (b l k n : ℕ) : EReal :=
  ∑ x : Fin 1024, T (n / 4) l (n % 4 * 1024 + x.val) * P (n / 4) (4096 * b + n % 4 * 1024 + x.val) k

/-- The first `n` chunks. -/
def chunks (T P : ℕ → ℕ → ℕ → EReal) (b l k n : ℕ) : EReal := ∑ i ∈ Finset.range n, chunk T P b l k i

/-- The transform of row `r`, divided by the number of channels. -/
def mixed (T P : ℕ → ℕ → ℕ → EReal) (r k : ℕ) : EReal :=
  chunks T P (r / 4096) (r % 4096) k 8 * Ideal.ofBits .f32 0x3A800000#32

theorem chunks_succ (T P : ℕ → ℕ → ℕ → EReal) (b l k n : ℕ) : chunks T P b l k (n + 1) = chunks T P b l k n + chunk T P b l k n :=
  Finset.sum_range_succ _ _

theorem chunks_zero (T P : ℕ → ℕ → ℕ → EReal) (b l k : ℕ) : chunks T P b l k 0 = 0 := Finset.sum_range_zero _

/-- A sum over the tokens is the sum of four chunks. -/
theorem four_chunks (f : ℕ → EReal) : ∑ x : Fin 4096, f x.val
    = ∑ x : Fin 1024, f x.val + ∑ x : Fin 1024, f (1024 + x.val) + ∑ x : Fin 1024, f (2048 + x.val) + ∑ x : Fin 1024, f (3072 + x.val) := by
  have e3 : ∑ x : Fin 4096, f x.val = ∑ x : Fin 3072, f x.val + ∑ x : Fin 1024, f (3072 + x.val) :=
    Fin.sum_univ_add (a := 3072) (b := 1024) (fun x : Fin (3072 + 1024) => f x.val)
  have e2 : ∑ x : Fin 3072, f x.val = ∑ x : Fin 2048, f x.val + ∑ x : Fin 1024, f (2048 + x.val) :=
    Fin.sum_univ_add (a := 2048) (b := 1024) (fun x : Fin (2048 + 1024) => f x.val)
  have e1 : ∑ x : Fin 2048, f x.val = ∑ x : Fin 1024, f x.val + ∑ x : Fin 1024, f (1024 + x.val) :=
    Fin.sum_univ_add (a := 1024) (b := 1024) (fun x : Fin (1024 + 1024) => f x.val)
  rw [e3, e2, e1]

/-- The reference's two sums over the tokens are the eight chunks. -/
theorem two_sums (T P : ℕ → ℕ → ℕ → EReal) (b l k : ℕ) :
    ∑ x : Fin 4096, P 0 (4096 * b + x.val) k * T 0 l x.val + ∑ x : Fin 4096, P 1 (4096 * b + x.val) k * T 1 l x.val = chunks T P b l k 8 := by
  rw [four_chunks (fun x => P 0 (4096 * b + x) k * T 0 l x), four_chunks (fun x => P 1 (4096 * b + x) k * T 1 l x)]
  unfold chunks
  simp only [Finset.sum_range_succ, Finset.sum_range_zero, chunk, zero_add, Nat.zero_mul, Nat.add_zero, Nat.reduceDiv, Nat.reduceMod, Nat.reduceMul, mul_comm (T _ _ _), Nat.add_assoc, add_assoc]

/-- Dividing by 1024 is multiplying by its reciprocal. -/
theorem div_thousand (x : EReal) : Ideal.div x (Ideal.ofBits .f32 1149239296#32) = x * Ideal.ofBits .f32 0x3A800000#32 := by
  unfold Ideal.div
  rw [if_neg (by rw [thousand]; exact_mod_cast (by norm_num : (1024 : ℝ) ≠ 0)), thousand, thousandth, ← EReal.coe_inv]
  norm_num

end Cert.Proof.Ffn

end
-- ==== Proof.FseqValue.lean ====
/- The sequence transform's result array: the carried sums hold the chunks met so far, and latent rows end as the gated residual of the mixed rows; context rows are left as they were. -/
module

public import proofs.«01_k».proof.Proof.FseqSpec
public import proofs.«01_k».proof.Proof.Gen.FseqIdeal.Value
public import Idealize.ShloMosaic.Lib.Pointwise
public import Idealize.ShloMosaic.Lib.StableHlo.Run
public import Idealize.ShloMosaic.Lib.Tactic

@[expose] public section

noncomputable section

namespace Cert.FseqIdeal.Parts

open Cert.FseqIdeal Cert.FseqIdeal.Gen Cert.FseqIdeal.Value Cert.Proof.Ffn
open Idealize.ShloMosaic Idealize.ShloMosaic.TcCoe Idealize.SL.Sem

variable (m : (ℓ : Loc nD τ sig) → Buf (Elt Ideal) ℓ) (c : Dev nD)

/-! ## The arrays the region is entered with -/

theorem v0_apply (A : Vec Ideal S5x6144 .f32) (s : Fin 30) (k : Fin 1024) : (shapeCast S30x1x1024 A shapeCasts_S5x6144_S30x1x1024 : _ → EReal) (ix3 s 0 k) = at2 A (s.val / 6) (s.val % 6 * 1024 + k.val) := by
  rw [at2_eq _ _ _ (by omega) (by omega)]
  pointwise []

theorem V_v0 (s : Fin 30) (k : Fin 1024) : V m c main_v0 (ix3 s 0 k) = at2 (m ((c : Thread nD τ).loc main_arg3)) (s.val / 6) (s.val % 6 * 1024 + k.val) := by
  have e : V m c main_v0 = shapeCast S30x1x1024 (m ((c : Thread nD τ).loc main_arg3)) shapeCasts_S5x6144_S30x1x1024 := by
    show StableHlo.after hostOps0 _ (Proc.devRef .tc main_v0) = _
    after_results_simp <;> rfl
  rw [e]
  exact v0_apply _ s k

theorem V_v1 : V m c main_v1 = (m ((c : Thread nD τ).loc main_arg4) : S1024x1024.Idx → EReal) := by
  show StableHlo.after hostOps0 _ (Proc.devRef .tc main_v1) = _
  after_results_simp <;> rfl

/-- The result's buffer starts as a copy of the rows. -/
theorem V_v2 : V m c main_v2 = m ((c : Thread nD τ).loc main_arg0) := by
  show StableHlo.after hostOps0 _ (Proc.devRef .tc main_v2) = _
  after_results_simp <;> rfl

/-! ## The blocks read -/

theorem idx0 : ∀ t : Fin cfg0.N, win0_0.index t (0 : Fin 3) = t.val % 8 / 4 ∧ win0_0.index t (1 : Fin 3) = t.val % 32 / 8 ∧ win0_0.index t (2 : Fin 3) = t.val % 8 % 4 := (by decide +kernel : ∀ t : Fin grid0.N, _)
theorem idx1 : ∀ t : Fin cfg0.N, win0_1.index t (0 : Fin 3) = t.val % 8 / 4 ∧ win0_1.index t (1 : Fin 3) = t.val / 32 * 4 + t.val % 8 % 4 ∧ win0_1.index t (2 : Fin 3) = 0 := (by decide +kernel : ∀ t : Fin grid0.N, _)
theorem idx2 : ∀ t : Fin cfg0.N, win0_2.index t (0 : Fin 2) = t.val / 8 ∧ win0_2.index t (1 : Fin 2) = 0 := (by decide +kernel : ∀ t : Fin grid0.N, _)
theorem idx3 : ∀ t : Fin cfg0.N, win0_3.index t (0 : Fin 3) = t.val / 32 * 6 + 2 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val / 8 ∧ win0_5.index t (1 : Fin 2) = 0 := (by decide +kernel : ∀ t : Fin grid0.N, _)

theorem read0 (t : Fin cfg0.N) (r k : Fin 1024) : (iblk m c 0 t : S1x1024x1024.Idx → EReal) (ix3 0 r k)
    = at3 (m ((c : Thread nD τ).loc main_arg2)) (t.val % 8 / 4) (1024 * (t.val % 32 / 8) + r.val) (t.val % 8 % 4 * 1024 + k.val) := by
  have ht : t.val < 128 := t.isLt
  obtain ⟨e0, e1, e2⟩ := idx0 t
  rw [at3_eq _ _ _ _ (by omega) (by omega) (by omega)]
  show V m c main_arg2 (((cfg0.win 0).blk t).view.emb (ix3 0 r k)) = _
  rw [V_main_arg2]
  refine congrArg _ (funext fun a => Fin.ext ?_)
  match a with
  | ⟨0, _⟩ => show win0_0.index t (0 : Fin 3) * 1 + 1 * 0 = t.val % 8 / 4; rw [e0]; omega
  | ⟨1, _⟩ => show win0_0.index t (1 : Fin 3) * 1024 + 1 * r.val = 1024 * (t.val % 32 / 8) + r.val; rw [e1]; omega
  | ⟨2, _⟩ => show win0_0.index t (2 : Fin 3) * 1024 + 1 * k.val = t.val % 8 % 4 * 1024 + k.val; rw [e2]; omega

theorem read1 (t : Fin cfg0.N) (r k : Fin 1024) : (iblk m c 1 t : S1x1024x1024.Idx → EReal) (ix3 0 r k)
    = at3 (m ((c : Thread nD τ).loc main_arg1)) (t.val % 8 / 4) (4096 * (t.val / 32) + t.val % 8 % 4 * 1024 + r.val) k.val := by
  have ht : t.val < 128 := t.isLt
  obtain ⟨e0, e1, e2⟩ := idx1 t
  rw [at3_eq _ _ _ _ (by omega) (by omega) (by omega)]
  show V m c main_arg1 (((cfg0.win 1).blk t).view.emb (ix3 0 r k)) = _
  rw [V_main_arg1]
  refine congrArg _ (funext fun a => Fin.ext ?_)
  match a with
  | ⟨0, _⟩ => show win0_1.index t (0 : Fin 3) * 1 + 1 * 0 = t.val % 8 / 4; rw [e0]; omega
  | ⟨1, _⟩ => show win0_1.index t (1 : Fin 3) * 1024 + 1 * r.val = 4096 * (t.val / 32) + t.val % 8 % 4 * 1024 + r.val; rw [e1]; omega
  | ⟨2, _⟩ => show win0_1.index t (2 : Fin 3) * 1024 + 1 * k.val = k.val; rw [e2]; omega

theorem read2 (t : Fin cfg0.N) (r k : Fin 1024) : (iblk m c 2 t : S1024x1024.Idx → EReal) (ix2 r k) = at2 (m ((c : Thread nD τ).loc main_arg0)) (1024 * (t.val / 8) + r.val) k.val := by
  have ht : t.val < 128 := t.isLt
  obtain ⟨e0, e1⟩ := idx2 t
  rw [at2_eq _ _ _ (by omega) (by omega)]
  show V m c main_arg0 (((cfg0.win 2).blk t).view.emb (ix2 r k)) = _
  rw [V_main_arg0]
  refine congrArg _ (funext fun a => Fin.ext ?_)
  match a with
  | ⟨0, _⟩ => show win0_2.index t (0 : Fin 2) * 1024 + 1 * r.val = 1024 * (t.val / 8) + r.val; rw [e0]; omega
  | ⟨1, _⟩ => show win0_2.index t (1 : Fin 2) * 1024 + 1 * k.val = k.val; rw [e1]; omega

theorem read3 (t : Fin cfg0.N) (k : Fin 1024) : (iblk m c 3 t : S1x1x1024.Idx → EReal) (ix3 0 0 k) = at2 (m ((c : Thread nD τ).loc main_arg3)) (t.val / 32) (2048 + k.val) := by
  have ht : t.val < 128 := t.isLt
  obtain ⟨e0, e1, e2⟩ := idx3 t
  show V m c main_v0 (((cfg0.win 3).blk t).view.emb (ix3 0 0 k)) = _
  refine Eq.trans (congrArg _ ?_) ((V_v0 m c ⟨t.val / 32 * 6 + 2, by omega⟩ k).trans (by dsimp only; congr 1 <;> omega))
  funext a
  refine Fin.ext ?_
  match a with
  | ⟨0, _⟩ => show win0_3.index t (0 : Fin 3) * 1 + 1 * 0 = t.val / 32 * 6 + 2; rw [e0]; omega
  | ⟨1, _⟩ => show win0_3.index t (1 : Fin 3) * 1 + 1 * 0 = 0; rw [e1]
  | ⟨2, _⟩ => show win0_3.index t (2 : Fin 3) * 1024 + 1 * k.val = k.val; rw [e2]; omega

theorem read4 (t : Fin cfg0.N) (k j : Fin 1024) : (iblk m c 4 t : S1024x1024.Idx → EReal) (ix2 k j) = at2 (m ((c : Thread nD τ).loc main_arg4)) k.val j.val := by
  obtain ⟨e0, e1⟩ := idx4 t
  rw [at2_eq _ _ _ (by omega) (by omega)]
  show V m c main_v1 (((cfg0.win 4).blk t).view.emb (ix2 k j)) = _
  rw [V_v1]
  refine congrArg _ (funext fun a => Fin.ext ?_)
  match a with
  | ⟨0, _⟩ => show win0_4.index t (0 : Fin 2) * 1024 + 1 * k.val = k.val; rw [e0]; omega
  | ⟨1, _⟩ => show win0_4.index t (1 : Fin 2) * 1024 + 1 * j.val = j.val; rw [e1]; omega

/-! ## What a point leaves, from what it found -/

theorem hz : (![0, 0] : Fin 2 → Nat) = fun _ => 0 := funext fun a => by fin_cases a <;> rfl
theorem hz3 : (![0, 0, 0] : Fin 3 → Nat) = fun _ => 0 := funext fun a => by fin_cases a <;> rfl

section
variable (i : grid0.Coords) (a3 : Memref sig .tc .vmem S1x1024x1024 .bf16) (h3 : a3.IsWhole) (a4 : Memref sig .tc .vmem S1x1024x1024 .bf16) (h4 : a4.IsWhole)
  (a5 : Memref sig .tc .vmem S1024x1024 .f32) (h5 : a5.IsWhole) (a6 : Memref sig .tc .vmem S1x1x1024 .f32) (h6 : a6.IsWhole)
  (a7 : Memref sig .tc .vmem S1024x1024 .bf16) (h7 : a7.IsWhole) (a8 : Memref sig .tc .vmem S1024x1024 .f32) (h8 : a8.IsWhole)
  (a9 : Memref sig .tc .vmem S1024x1024 .f32) (h9 : a9.IsWhole)
  (x0 x1 : Vec Ideal S1x1024x1024 .bf16) (x2 : Vec Ideal S1024x1024 .f32) (x3 : Vec Ideal S1x1x1024 .f32) (x4 : Vec Ideal S1024x1024 .bf16) (xs : Vec Ideal S1024x1024 .f32)

/-- A first chunk is added to zeros. -/
theorem sum_A (hc0 : cond0_0 i) (hc1 : ¬cond0_1 i) :
    sout0_A_0 c i a3 h3 a4 h4 a5 h5 a6 h6 a7 h7 a8 h8 a9 h9 hc0 hc1 x0 x1 x2 x3 x4 = k0_pay2 (F := Ideal) (k0_pay1 (F := Ideal)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1x1024x1024) hz3]

/-- A middle chunk is added to the sums found. -/
theorem sum_B (hc0 : ¬cond0_0 i) (hc1 : ¬cond0_1 i) :
    sout0_B_0 c i a3 h3 a4 h4 a5 h5 a6 h6 a7 h7 a8 h8 a9 h9 hc0 hc1 x0 x1 x2 x3 x4 xs = k0_pay2 (F := Ideal) xs x0 x1 := by
  unfold sout0_B_0
  rw [View.read_writes_eq_canon _ _ _ (scover0_B_0 c i a3 h3 a4 h4 a5 h5 a6 h6 a7 h7 a8 h8 a9 h9 hc0 hc1 x0 x1 x2 x3 x4 xs)]
  unfold kernelRun0_B
  dsimp only
  sl_unfold_words
  rw [View.canon_cons_unit_zero (S := S1024x1024) hz]
  simp only [View.readAt_eq_ld, h3.read_unread, h4.read_unread, h9.read_unread, View.ld_unit_zero (S := S1x1024x1024) hz3, View.ld_unit_zero (S := S1024x1024) hz]

/-- So is a last one. -/
theorem sum_C (hc0 : ¬cond0_0 i) (hc1 : cond0_1 i) :
    sout0_C_0 c i a3 h3 a4 h4 a5 h5 a6 h6 a7 h7 a8 h8 a9 h9 hc0 hc1 x0 x1 x2 x3 x4 xs = k0_pay2 (F := Ideal) xs x0 x1 := by
  unfold sout0_C_0
  rw [View.read_writes_eq_canon _ _ _ (scover0_C_0 c i a3 h3 a4 h4 a5 h5 a6 h6 a7 h7 a8 h8 a9 h9 hc0 hc1 x0 x1 x2 x3 x4 xs)]
  unfold kernelRun0_C
  dsimp only
  sl_unfold_words
  rw [View.canon_cons_unit_zero (S := S1024x1024) hz]
  simp only [View.readAt_eq_ld, h3.read_unread, h4.read_unread, h9.read_unread, View.ld_unit_zero (S := S1x1024x1024) hz3, View.ld_unit_zero (S := S1024x1024) hz]

/-- A last point writes the residual of the finished sums. -/
theorem out_C (hc0 : ¬cond0_0 i) (hc1 : cond0_1 i) :
    out0_C_5 c i a3 h3 a4 h4 a5 h5 a6 h6 a7 h7 a8 h8 a9 h9 hc0 hc1 x0 x1 x2 x3 x4 xs = k0_pay3 (F := Ideal) (k0_pay2 (F := Ideal) xs x0 x1) x2 x3 x4 := by
  unfold out0_C_5
  rw [View.read_writes_eq_canon _ _ _ (cover0_C_5 c i a3 h3 a4 h4 a5 h5 a6 h6 a7 h7 a8 h8 a9 h9 hc0 hc1 x0 x1 x2 x3 x4 xs)]
  unfold kernelRun0_C
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h7.read_unread, h9.read_unread, View.ld_unit_zero (S := S1x1024x1024) hz3,
    View.ld_unit_zero (S := S1x1x1024) hz3, View.ld_unit_zero (S := S1024x1024) hz]

end

/-- One chunk added to a sum. -/
theorem pay2_apply (xs : Vec Ideal S1024x1024 .f32) (t : Fin cfg0.N) (r k : Fin 1024) :
    k0_pay2 (F := Ideal) xs (iblk m c 0 t) (iblk m c 1 t) (ix2 r k)
      = xs (ix2 r k) + chunk (at3 (m ((c : Thread nD τ).loc main_arg2))) (at3 (m ((c : Thread nD τ).loc main_arg1))) (t.val / 32) (1024 * (t.val % 32 / 8) + r.val) k.val (t.val % 8) := by
  unfold chunk
  have e0 := read0 m c t
  have e1 := read1 m c t
  generalize iblk m c 0 t = x0 at e0 ⊢
  generalize iblk m c 1 t = x1 at e1 ⊢
  pointwise [k0_pay2]
  refine congrArg (fun z : EReal => xs (ix2 r k) + z) (Finset.sum_congr rfl fun x _ => ?_)
  exact congrArg₂ (fun y z : EReal => y * z) (e0 r x) (e1 x k)

/-- The residual of finished sums. -/
theorem pay3_apply (xs x2 : Vec Ideal S1024x1024 .f32) (x3 : Vec Ideal S1x1x1024 .f32) (x4 : Vec Ideal S1024x1024 .bf16) (r k : Fin 1024) :
    (k0_pay3 (F := Ideal) xs x2 x3 x4 (ix2 r k) : EReal)
      = (x2 (ix2 r k) : EReal) + (x3 (ix3 0 0 k) : EReal) * ∑ x : Fin 1024, (xs (ix2 r x) : EReal) * Ideal.ofBits .f32 0x3A800000#32 * (x4 (ix2 x k) : EReal) := by
  pointwise [k0_pay3]

/-- The sums carried after a point are the chunks its block has met. -/
theorem carried (r k : Fin 1024) : ∀ (n : ℕ) (h : n < cfg0.N), (outsAt0 m c n h).2 (ix2 r k)
    = chunks (at3 (m ((c : Thread nD τ).loc main_arg2))) (at3 (m ((c : Thread nD τ).loc main_arg1))) (n / 32) (1024 * (n % 32 / 8) + r.val) k.val (n % 8 + 1) := by
  intro n
  induction n with
  | zero =>
    intro h
    rw [outsAt0_A m c ⟨0, h⟩ rfl (by dsimp only; omega)]
    dsimp only
    rw [sum_A, pay2_apply, chunks_succ, Nat.zero_mod, chunks_zero]
    pointwise [k0_pay1]
  | succ n ih =>
    intro h
    by_cases h0 : (n + 1) % 8 = 0
    · rw [outsAt0_A m c ⟨n + 1, h⟩ h0 (by dsimp only; omega)]
      dsimp only
      rw [sum_A, pay2_apply, chunks_succ]
      dsimp only
      rw [h0, chunks_zero]
      pointwise [k0_pay1]
    · have ih' := ih (by omega)
      rw [show n / 32 = (n + 1) / 32 by omega, show n % 32 / 8 = (n + 1) % 32 / 8 by omega, show n % 8 + 1 = (n + 1) % 8 by omega] at ih'
      rw [chunks_succ, ← ih']
      by_cases h1 : (n + 1) % 8 = 7
      · rw [outsAt0_C m c ⟨n + 1, h⟩ h0 h1]
        dsimp only
        rw [sum_C, pay2_apply]
        rfl
      · rw [outsAt0_B m c ⟨n + 1, h⟩ h0 h1]
        dsimp only
        rw [sum_B, pay2_apply]
        rfl

/-- A last point's block. -/
theorem block_apply (t : Fin cfg0.N) (h1 : t.val % 8 = 7) (r k : Fin 1024) : (outsAt0 m c t.val t.isLt).1 (ix2 r k)
    = resid (at2 (m ((c : Thread nD τ).loc main_arg0))) (mixed (at3 (m ((c : Thread nD τ).loc main_arg2))) (at3 (m ((c : Thread nD τ).loc main_arg1))))
        (at2 (m ((c : Thread nD τ).loc main_arg3))) (at2 (m ((c : Thread nD τ).loc main_arg4))) (t.val / 32) (1024 * (t.val / 8) + r.val) k.val := by
  have ht : t.val < 128 := t.isLt
  have h0 : ¬t.val % 8 = 0 := by omega
  have hs := fun x => carried m c r x t.val t.isLt
  rw [outsAt0_C m c t h0 h1] at hs ⊢
  dsimp only at hs ⊢
  simp only [sum_C] at hs
  rw [out_C]
  rw [pay3_apply]
  unfold resid mixed
  refine congrArg₂ (fun y z : EReal => y + z) (read2 m c t r k) (congrArg₂ (fun y z : EReal => y * z) (read3 m c t k) (Finset.sum_congr rfl fun x _ => ?_))
  refine congrArg₂ (fun y z : EReal => y * Ideal.ofBits .f32 0x3A800000#32 * z) ((hs x).trans ?_) (read4 m c t x k)
  rw [h1, show (1024 * (t.val / 8) + r.val) / 4096 = t.val / 32 by omega, show (1024 * (t.val / 8) + r.val) % 4096 = 1024 * (t.val % 32 / 8) + r.val by omega]

/-! ## The whole array -/

/-- The array the call leaves. -/
def G : S17408x1024.Idx → EReal := fun i =>
  if (i 0).val < 16384 then
    resid (at2 (m ((c : Thread nD τ).loc main_arg0))) (mixed (at3 (m ((c : Thread nD τ).loc main_arg2))) (at3 (m ((c : Thread nD τ).loc main_arg1))))
        (at2 (m ((c : Thread nD τ).loc main_arg3))) (at2 (m ((c : Thread nD τ).loc main_arg4))) ((i 0).val / 4096) (i 0).val (i 1).val
  else at2 (m ((c : Thread nD τ).loc main_arg0)) (i 0).val (i 1).val

theorem emb5_0 (t : Fin cfg0.N) (j : S1024x1024.Idx) : (((cfg0.win 5).blk t).view.emb j (0 : Fin 2)).val = 1024 * (t.val / 8) + (j 0).val := by
  show win0_5.index t (0 : Fin 2) * 1024 + 1 * (j 0).val = _
  rw [(idx5 t).1]; omega

theorem emb5_1 (t : Fin cfg0.N) (j : S1024x1024.Idx) : (((cfg0.win 5).blk t).view.emb j (1 : Fin 2)).val = (j 1).val := by
  show win0_5.index t (1 : Fin 2) * 1024 + 1 * (j 1).val = _
  rw [(idx5 t).2]; omega

/-- What a last point writes back is its block of `G`. -/
theorem flushed5_block (t : Fin cfg0.N) (hf : (cfg0.win 5).flush t = true) : (dats m 0 c).flushed 5 t = ((cfg0.win 5).blk t).view.read (Elt Ideal) (G m c) := by
  have h1 : t.val % 8 = 7 := (flush0_5 t).mp hf
  rw [flushed5]
  funext j
  have ht : t.val < 128 := t.isLt
  have h0 : (j 0).val < 1024 := (j 0).isLt
  refine Eq.trans (congrArg _ (ix2_eta j).symm) ((block_apply m c t h1 (j 0) (j 1)).trans ?_)
  show _ = G m c (((cfg0.win 5).blk t).view.emb j)
  unfold G
  rw [emb5_0, emb5_1, if_pos (by omega), show (1024 * (t.val / 8) + (j 0).val) / 4096 = t.val / 32 by omega]

/-- Every latent row is written by the last point of its block. -/
theorem covered5 (i : S17408x1024.Idx) (hb : (i 0).val < 16384) : ∃ t : Fin cfg0.N, (cfg0.win 5).flush t = true ∧ i ∈ ((cfg0.win 5).blk t).view.set := by
  have h0 : (i 0).val < 17408 := (i 0).isLt
  have h1 : (i 1).val < 1024 := (i 1).isLt
  have hN : cfg0.N = 128 := by decide
  obtain ⟨t, ht⟩ : ∃ t : Fin cfg0.N, t.val = (i 0).val / 1024 * 8 + 7 := ⟨⟨(i 0).val / 1024 * 8 + 7, by rw [hN]; omega⟩, rfl⟩
  refine ⟨t, (flush0_5 t).mpr (by omega), ?_⟩
  have e := ((cfg0.win 5).blk t).view.emb_mem_set (ix2 ⟨(i 0).val % 1024, by omega⟩ ⟨(i 1).val, h1⟩ : S1024x1024.Idx)
  have hi : ((cfg0.win 5).blk t).view.emb (ix2 ⟨(i 0).val % 1024, by omega⟩ ⟨(i 1).val, h1⟩ : S1024x1024.Idx) = i := by
    funext a
    match a with
    | ⟨0, _⟩ => exact Fin.ext ((emb5_0 t _).trans (by rw [ht]; show 1024 * (((i 0).val / 1024 * 8 + 7) / 8) + (i 0).val % 1024 = (i 0).val; omega))
    | ⟨1, _⟩ => exact Fin.ext (emb5_1 t _)
  rwa [hi] at e

/-- The result array. -/
theorem result : (dats m 0 c).arrAt 5 cfg0.N = G m c := by
  funext i
  by_cases hb : (i 0).val < 16384
  · obtain ⟨t, hf, hm⟩ := covered5 i hb
    exact (dats m 0 c).arrAt_apply_of_mem 5 (G m c) (fun t ht => flushed5_block m c t ht) cfg0.N t i t.isLt hf hm
  · rw [entry5 m c i (fun t _ hm => ?_)]
    · show V m c main_v2 i = _
      rw [V_v2]
      unfold G
      rw [if_neg hb]
      refine Eq.trans (congrArg _ (ix2_eta i).symm) (at2_eq _ _ _ (i 0).isLt (i 1).isLt).symm
    · rw [View.set, Finset.mem_map] at hm
      obtain ⟨j, -, hj⟩ := hm
      have ht : t.val < 128 := t.isLt
      have h0 : ((j : S1024x1024.Idx) 0).val < 1024 := ((j : S1024x1024.Idx) 0).isLt
      have e := emb5_0 t j
      rw [hj] at e
      omega

end Cert.FseqIdeal.Parts

end
-- ==== Proof.FseqRef.lean ====
/- The reference of the sequence transform with its output projection, entry by entry. -/
module

public import proofs.«01_k».proof.Proof.FseqSpec
public import proofs.«01_k».proof.Proof.Gen.FseqRefIdeal.Read
public import Idealize.ShloMosaic.Lib.Pointwise

@[expose] public section

noncomputable section

namespace Cert.FseqRefIdeal.Hand

open Cert.FseqRefIdeal Cert.FseqRefIdeal.Gen Cert.FseqRefIdeal.Read Cert.Proof.Ffn
open Idealize.ShloMosaic Idealize.ShloMosaic.TcCoe Idealize.SL.Sem
open scoped BigOperators

variable (x0 : S17408x1024.Idx → EReal) (x1 : S2x17408x1024.Idx → EReal) (x2 : S2x4096x4096.Idx → EReal) (x3 : S5x6144.Idx → EReal) (x4 : S1024x1024.Idx → EReal)

/-- The channel transform's two parts, image by image. -/
theorem parts_apply (a : Fin 2) (b : Fin 4) (n : Fin 4096) (k : Fin 1024) :
    val_main_v2 (F := Ideal) x1 (ix4 a b n k) = at3 x1 a.val (4096 * b.val + n.val) k.val := by
  rw [at3_eq _ _ _ _ a.isLt (by omega) k.isLt]
  pointwise [val_main_v2, val_main_v1, val_main_v0]
  exact congrArg x1 (congrArg₂ (fun y z => ix3 a y z) (Fin.ext (by dsimp only; omega)) (Fin.ext (by dsimp only)))

theorem part0_apply (b : Fin 4) (n : Fin 4096) (k : Fin 1024) :
    val_main_v7 (F := Ideal) x1 (ix3 b n k) = at3 x1 0 (4096 * b.val + n.val) k.val := by
  refine Eq.trans ?_ (parts_apply x1 0 b n k)
  pointwise [val_main_v7, val_main_v6]

theorem part1_apply (b : Fin 4) (n : Fin 4096) (k : Fin 1024) :
    val_main_v13 (F := Ideal) x1 (ix3 b n k) = at3 x1 1 (4096 * b.val + n.val) k.val := by
  refine Eq.trans ?_ (parts_apply x1 1 b n k)
  pointwise [val_main_v13, val_main_v12]

theorem table0_apply (l n : Fin 4096) : val_main_v5 (F := Ideal) x2 (ix2 l n) = at3 x2 0 l.val n.val := by
  rw [at3_eq _ _ _ _ (by omega) l.isLt n.isLt]
  pointwise [val_main_v5, val_main_v4, val_main_v3]

theorem table1_apply (l n : Fin 4096) : val_main_v11 (F := Ideal) x2 (ix2 l n) = at3 x2 1 l.val n.val := by
  rw [at3_eq _ _ _ _ (by omega) l.isLt n.isLt]
  pointwise [val_main_v11, val_main_v10, val_main_v3]

/-- The mixed rows. -/
theorem mixed_apply (b : Fin 4) (n : Fin 4096) (k : Fin 1024) :
    val_main_v18 (F := Ideal) x1 x2 (ix3 b n k) = mixed (at3 x2) (at3 x1) (4096 * b.val + n.val) k.val := by
  unfold mixed
  rw [show (4096 * b.val + n.val) / 4096 = b.val by omega, show (4096 * b.val + n.val) % 4096 = n.val by omega, ← two_sums, ← div_thousand]
  pointwise [val_main_v18, val_main_v17, val_main_v16, val_main_v15, val_main_v14, val_main_v9, val_main_v8]
  refine congrArg (fun z => Ideal.div z _) (congrArg₂ (fun y z : EReal => y + z) (Finset.sum_congr rfl fun x _ => ?_) (Finset.sum_congr rfl fun x _ => ?_))
  · exact congrArg₂ (fun y z : EReal => y * z) (part0_apply x1 b x k) (table0_apply x2 n x)
  · exact congrArg₂ (fun y z : EReal => y * z) (part1_apply x1 b x k) (table1_apply x2 n x)

/-- A latent entry of the result. -/
theorem out_apply (b : Fin 4) (n : Fin 4096) (j : Fin 1024) :
    val_main_v32 (F := Ideal) x0 x1 x2 x3 x4 (ix3 b n j)
      = resid (at2 x0) (mixed (at3 x2) (at3 x1)) (at2 x3) (at2 x4) b.val (4096 * b.val + n.val) j.val := by
  have e0 : at2 x0 (4096 * b.val + n.val) j.val = val_main_v20 (F := Ideal) x0 (ix3 b n j) := by
    rw [at2_eq _ _ _ (by omega) (by omega)]
    pointwise [val_main_v20, val_main_v19]
    exact congrArg x0 (congrArg₂ ix2 (Fin.ext (by dsimp only; omega)) rfl)
  have e2 : at2 x3 b.val (2048 + j.val) = val_main_v25 (F := Ideal) x3 (ix3 b 0 j) := by
    rw [at2_eq _ _ _ (by omega) (by omega)]
    pointwise [val_main_v25, val_main_v22, val_main_v21]
  unfold resid
  rw [e0, e2]
  pointwise [val_main_v32, val_main_v31, val_main_v30, val_main_v29]
  refine congrArg (fun z => _ + _ * z) (Finset.sum_congr rfl fun k _ => ?_)
  rw [mixed_apply, at2_eq x4 _ _ k.isLt j.isLt]

/-- An entry of the reference's result: the latent rows, then the context rows, which stay. -/
theorem result (r : Fin 17408) (j : Fin 1024) : val_main_v35 (F := Ideal) x0 x1 x2 x3 x4 (ix2 r j)
    = if r.val < 16384 then resid (at2 x0) (mixed (at3 x2) (at3 x1)) (at2 x3) (at2 x4) (r.val / 4096) r.val j.val
      else at2 x0 r.val j.val := by
  pointwise [val_main_v35, val_main_v34, val_main_v33]
  split
  · rename_i h
    have e := out_apply x0 x1 x2 x3 x4 ⟨r.val / 4096, by omega⟩ ⟨r.val % 4096, by omega⟩ j
    simp only [Nat.div_add_mod] at e
    exact e
  · rename_i h
    rw [at2_eq _ _ _ r.isLt j.isLt]
    exact congrArg x0 (congrArg₂ ix2 (Fin.ext (by dsimp only; omega)) rfl)

end Cert.FseqRefIdeal.Hand

end
-- ==== Proof.FseqEnd.lean ====
/- The sequence transform with its output projection leaves, on the ideal points, exactly its reference's result: the arrays agree entry by entry. -/
module

public import proofs.«01_k».proof.Defs
public import proofs.«01_k».proof.Proof.FseqValue
public import proofs.«01_k».proof.Proof.FseqRef
public import Idealize.ShloMosaic.Lib.Pointwise

@[expose] public section

noncomputable section

namespace Cert.Proof.Fseq

open Idealize.ShloMosaic Idealize.ShloMosaic.TcCoe Idealize.SL.Sem Cert.Proof.Ffn

theorem algebraic : Cert.algebraic_FseqIdeal_FseqRefIdeal (hFseqIdeal := Cert.FseqIdeal.Gen.facts) (hFseqRefIdeal := Cert.FseqRefIdeal.Gen.facts) := by
  intro m g m' g' _ hm
  refine ⟨fun c => Cert.FseqIdeal.Parts.G m c, ?_, ?_⟩
  · refine (θ_run Cert.FseqIdeal.defs _ _).mono (fun r h c => ⟨?_, (h c).2⟩) (Cert.FseqIdeal.Value.run_blocks m g)
    rw [(h c).1]
    exact Cert.FseqIdeal.Parts.result m c
  · refine (θ_run Cert.FseqRefIdeal.defs _ _).mono (fun r h c => ⟨?_, (h c).2⟩) (Cert.FseqRefIdeal.Value.run m' g')
    obtain ⟨h0, h1, h2, h3, h4⟩ := hm c
    rw [(h c).1, Cert.FseqRefIdeal.Read.val_main_v35_eq, h0, h1, h2, h3, h4]
    funext i
    obtain ⟨r, j, rfl⟩ : ∃ (r : Fin 17408) (j : Fin 1024), i = ix2 r j := ⟨i 0, i 1, (ix2_eta i).symm⟩
    rw [Cert.FseqRefIdeal.Hand.result]
    rfl

end Cert.Proof.Fseq

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_qk
public import proofs.«01_k».proof.Proof.Gen.On_latent_rows
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidIdeal.Value
public import proofs.«01_k».proof.Proof.Gen.MidRefIdeal.Run
public import proofs.«01_k».proof.Proof.Gen.MidRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.Gen.NOut
public import proofs.«01_k».proof.Proof.Gen.NOut.Skeleton
public import proofs.«01_k».proof.Proof.Gen.NOut.Launch
public import proofs.«01_k».proof.Proof.Gen.NOut.Points
public import proofs.«01_k».proof.Proof.Gen.NOut.Frame
public import proofs.«01_k».proof.Proof.Gen.NOutIdeal
public import proofs.«01_k».proof.Proof.Gen.NOutIdeal.Skeleton
public import proofs.«01_k».proof.Proof.Gen.NOutIdeal.Launch
public import proofs.«01_k».proof.Proof.Gen.NOutIdeal.Points
public import proofs.«01_k».proof.Proof.Gen.NOutIdeal.Frame
public import proofs.«01_k».proof.Proof.Gen.NOutRefIdeal
public import proofs.«01_k».proof.Proof.Gen.NOutIdeal.Value
public import proofs.«01_k».proof.Proof.Gen.NOutRefIdeal.Run
public import proofs.«01_k».proof.Proof.Gen.NOutRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.OutRefIdeal.Read
public import proofs.«01_k».proof.Proof.Gen.Gqkv
public import proofs.«01_k».proof.Proof.Gen.Gqkv.Skeleton
public import proofs.«01_k».proof.Proof.Gen.Gqkv.Launch
public import proofs.«01_k».proof.Proof.Gen.Gqkv.Points
public import proofs.«01_k».proof.Proof.Gen.Gqkv.Frame
public import proofs.«01_k».proof.Proof.Gen.GqkvIdeal
public import proofs.«01_k».proof.Proof.Gen.GqkvIdeal.Skeleton
public import proofs.«01_k».proof.Proof.Gen.GqkvIdeal.Launch
public import proofs.«01_k».proof.Proof.Gen.GqkvIdeal.Points
public import proofs.«01_k».proof.Proof.Gen.GqkvIdeal.Frame
public import proofs.«01_k».proof.Proof.Gen.GqkvRefIdeal
public import proofs.«01_k».proof.Proof.Gen.GqkvIdeal.Value
public import proofs.«01_k».proof.Proof.Gen.GqkvRefIdeal.Run
public import proofs.«01_k».proof.Proof.Gen.GqkvRefIdeal.Read
public import proofs.«01_k».proof.Proof.Gen.Fseq
public import proofs.«01_k».proof.Proof.Gen.Fseq.Skeleton
public import proofs.«01_k».proof.Proof.Gen.Fseq.Launch
public import proofs.«01_k».proof.Proof.Gen.Fseq.Points
public import proofs.«01_k».proof.Proof.Gen.Fseq.Frame
public import proofs.«01_k».proof.Proof.Gen.FseqIdeal
public import proofs.«01_k».proof.Proof.Gen.FseqIdeal.Skeleton
public import proofs.«01_k».proof.Proof.Gen.FseqIdeal.Launch
public import proofs.«01_k».proof.Proof.Gen.FseqIdeal.Points
public import proofs.«01_k».proof.Proof.Gen.FseqIdeal.Frame
public import proofs.«01_k».proof.Proof.Gen.FseqRefIdeal
public import proofs.«01_k».proof.Proof.Gen.FseqIdeal.Value
public import proofs.«01_k».proof.Proof.Gen.FseqRefIdeal.Run
public import proofs.«01_k».proof.Proof.Gen.FseqRefIdeal.Read
public import proofs.«01_k».proof.Proof.AttnEnd
public import proofs.«01_k».proof.Proof.FfnEnd
public import proofs.«01_k».proof.Proof.MidEnd
public import proofs.«01_k».proof.Proof.ProjEnd
public import proofs.«01_k».proof.Proof.GateEnd
public import proofs.«01_k».proof.Proof.NOutEnd
public import proofs.«01_k».proof.Proof.OutEnd
public import proofs.«01_k».proof.Proof.GqkvEnd
public import proofs.«01_k».proof.Proof.FseqEnd
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The reference's run leaves its argument; it declares no semaphore. -/
theorem attn_ref : Cert.quiescent_AttnRefIdeal (hAttnRefIdeal := Cert.AttnRefIdeal.Gen.facts) := fun m ρ _ =>
  (θ_run _ _ _).mono (fun r h => ⟨fun c => (h c).2, sem_eq_zero_of_no_sems rfl _⟩) (Cert.AttnRefIdeal.Value.run m ρ)

/-- So does the ConvFFN reference's. -/
theorem ffn_ref : Cert.quiescent_FfnRefIdeal (hFfnRefIdeal := Cert.FfnRefIdeal.Gen.facts) := fun m ρ _ =>
  (θ_run _ _ _).mono (fun r h => ⟨fun c => (h c).2, sem_eq_zero_of_no_sems rfl _⟩) (Cert.FfnRefIdeal.Value.run m ρ)

/-- So does the inner ConvFFN reference's. -/
theorem mid_ref : Cert.quiescent_MidRefIdeal (hMidRefIdeal := Cert.MidRefIdeal.Gen.facts) := fun m ρ _ =>
  (θ_run _ _ _).mono (fun r h => ⟨fun c => (h c).2, sem_eq_zero_of_no_sems rfl _⟩) (Cert.MidRefIdeal.Value.run m ρ)

/-- So does the neighbourhood-attention projection reference's. -/
theorem proj_ref : Cert.quiescent_ProjRefIdeal (hProjRefIdeal := Cert.ProjRefIdeal.Gen.facts) := fun m ρ _ =>
  (θ_run _ _ _).mono (fun r h => ⟨fun c => (h c).2, sem_eq_zero_of_no_sems rfl _⟩) (Cert.ProjRefIdeal.Value.run m ρ)

/-- So does the spatial gating reference's. -/
theorem gate_ref : Cert.quiescent_GateRefIdeal (hGateRefIdeal := Cert.GateRefIdeal.Gen.facts) := fun m ρ _ =>
  (θ_run _ _ _).mono (fun r h => ⟨fun c => (h c).2, sem_eq_zero_of_no_sems rfl _⟩) (Cert.GateRefIdeal.Value.run m ρ)

/-- So does the output projection of neighbourhood attention reference's. -/
theorem nout_ref : Cert.quiescent_NOutRefIdeal (hNOutRefIdeal := Cert.NOutRefIdeal.Gen.facts) := fun m ρ _ =>
  (θ_run _ _ _).mono (fun r h => ⟨fun c => (h c).2, sem_eq_zero_of_no_sems rfl _⟩) (Cert.NOutRefIdeal.Value.run m ρ)

/-- So does the attention output projection reference's. -/
theorem out_ref : Cert.quiescent_OutRefIdeal (hOutRefIdeal := Cert.OutRefIdeal.Gen.facts) := fun m ρ _ =>
  (θ_run _ _ _).mono (fun r h => ⟨fun c => (h c).2, sem_eq_zero_of_no_sems rfl _⟩) (Cert.OutRefIdeal.Value.run m ρ)

/-- So does the rotary projection reference's. -/
theorem gqkv_ref : Cert.quiescent_GqkvRefIdeal (hGqkvRefIdeal := Cert.GqkvRefIdeal.Gen.facts) := fun m ρ _ =>
  (θ_run _ _ _).mono (fun r h => ⟨fun c => (h c).2, sem_eq_zero_of_no_sems rfl _⟩) (Cert.GqkvRefIdeal.Value.run m ρ)

/-- So does the Fseq reference's. -/
theorem fseq_ref : Cert.quiescent_FseqRefIdeal (hFseqRefIdeal := Cert.FseqRefIdeal.Gen.facts) := fun m ρ _ =>
  (θ_run _ _ _).mono (fun r h => ⟨fun c => (h c).2, sem_eq_zero_of_no_sems rfl _⟩) (Cert.FseqRefIdeal.Value.run m ρ)

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.Mid.Gen.facts, Cert.MidIdeal.Gen.facts, Cert.MidRefIdeal.Gen.facts,
    Cert.Proj.Gen.facts, Cert.ProjIdeal.Gen.facts, Cert.ProjRefIdeal.Gen.facts,
    Cert.Gate.Gen.facts, Cert.GateIdeal.Gen.facts, Cert.GateRefIdeal.Gen.facts,
    Cert.NOut.Gen.facts, Cert.NOutIdeal.Gen.facts, Cert.NOutRefIdeal.Gen.facts,
    Cert.Out.Gen.facts, Cert.OutIdeal.Gen.facts, Cert.OutRefIdeal.Gen.facts,
    Cert.Gqkv.Gen.facts, Cert.GqkvIdeal.Gen.facts, Cert.GqkvRefIdeal.Gen.facts,
    Cert.Fseq.Gen.facts, Cert.FseqIdeal.Gen.facts, Cert.FseqRefIdeal.Gen.facts,
    Cert.Pre_finite_qk.Gen.facts, Cert.On_latent_rows.Gen.facts,
    fun m ρ _ => Cert.Attn.Gen.frame m ρ, fun m ρ _ => Cert.AttnIdeal.Gen.frame m ρ, fun m ρ _ => Cert.AttnIdeal.Gen.frame m ρ,
    attn_ref, fun m ρ _ => attn_ref m ρ trivial,
    fun m ρ _ => Cert.Ffn.Gen.frame m ρ, fun m ρ _ => Cert.FfnIdeal.Gen.frame m ρ, ffn_ref,
    fun m ρ _ => Cert.Mid.Gen.frame m ρ, fun m ρ _ => Cert.MidIdeal.Gen.frame m ρ, mid_ref,
    fun m ρ _ => Cert.Proj.Gen.frame m ρ, fun m ρ _ => Cert.ProjIdeal.Gen.frame m ρ, proj_ref,
    fun m ρ _ => Cert.Gate.Gen.frame m ρ, fun m ρ _ => Cert.GateIdeal.Gen.frame m ρ, gate_ref,
    fun m ρ _ => Cert.NOut.Gen.frame m ρ, fun m ρ _ => Cert.NOutIdeal.Gen.frame m ρ, nout_ref,
    fun m ρ _ => Cert.Out.Gen.frame m ρ, fun m ρ _ => Cert.OutIdeal.Gen.frame m ρ, out_ref,
    fun m ρ _ => Cert.Gqkv.Gen.frame m ρ, fun m ρ _ => Cert.GqkvIdeal.Gen.frame m ρ, gqkv_ref,
    fun m ρ _ => Cert.Fseq.Gen.frame m ρ, fun m ρ _ => Cert.FseqIdeal.Gen.frame m ρ, fseq_ref,
    trivial, Cert.Proof.Attention.algebraic,
    trivial, Cert.Proof.Ffn.algebraic,
    trivial, Cert.Proof.Mid.algebraic,
    trivial, Cert.Proof.Proj.algebraic,
    trivial, Cert.Proof.Gate.algebraic,
    trivial, Cert.Proof.NOut.algebraic,
    trivial, Cert.Proof.Out.algebraic,
    trivial, Cert.Proof.Gqkv.algebraic,
    trivial, Cert.Proof.Fseq.algebraic⟩

end Cert.Proof

end
